-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearReferenceIdeal (m : (ℓ : Loc Cert.LinearReferenceIdeal.nD Cert.LinearReferenceIdeal.τ Cert.LinearReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ r.2.sem = fun _ => 0)

def quiescent_LinearReferenceIdeal [hLinearReferenceIdeal : Cert.LinearReferenceIdeal.Facts] : Prop :=
  ∀ (m : (ℓ : Loc Cert.LinearReferenceIdeal.nD Cert.LinearReferenceIdeal.τ Cert.LinearReferenceIdeal.sig) → Buf (Elt Ideal) ℓ) (g : Dev Cert.LinearReferenceIdeal.nD → PrngReg), Pre_LinearReferenceIdeal m →
    θ_run (Cert.LinearReferenceIdeal.defs (F := Ideal)) (onTc (τ := Cert.LinearReferenceIdeal.τ) (Cert.LinearReferenceIdeal.main (F := Ideal))) ⟨m, fun _ => 0, g⟩ (fun r => (∀ c : Dev Cert.LinearReferenceIdeal.nD,
      r.2.mem ((c.tc : Thread Cert.LinearReferenceIdeal.nD Cert.LinearReferenceIdeal.τ).loc Cert.LinearReferenceIdeal.main_arg0) = m ((c.tc : Thread Cert.LinearReferenceIdeal.nD Cert.LinearReferenceIdeal.τ).loc Cert.LinearReferenceIdeal.main_arg0)
      ∧ r.2.mem ((c.tc : Thread Cert.LinearReferenceIdeal.nD Cert.LinearReferenceIdeal.τ).loc Cert.LinearReferenceIdeal.main_arg1) = m ((c.tc : Thread Cert.LinearReferenceIdeal.nD Cert.LinearReferenceIdeal.τ).loc Cert.LinearReferenceIdeal.main_arg1)
      ∧ r.2.mem ((c.tc : Thread Cert.LinearReferenceIdeal.nD Cert.LinearReferenceIdeal.τ).loc Cert.LinearReferenceIdeal.main_arg2) = m ((c.tc : Thread Cert.LinearReferenceIdeal.nD Cert.LinearReferenceIdeal.τ).loc Cert.LinearReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v483)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v483) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Linear_LinearIdeal : Prop :=
  True

def algebraic_LinearIdeal_LinearReferenceIdeal [hLinearIdeal : Cert.LinearIdeal.Facts] [hLinearReferenceIdeal : Cert.LinearReferenceIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearReferenceIdeal.nD Cert.LinearReferenceIdeal.τ Cert.LinearReferenceIdeal.sig) → Buf (Elt Ideal) ℓ) (g' : Dev Cert.LinearReferenceIdeal.nD → PrngReg), Pre_LinearIdeal m →
    (∀ c : Dev Cert.LinearIdeal.nD,
      m' ((c.tc : Thread Cert.LinearReferenceIdeal.nD Cert.LinearReferenceIdeal.τ).loc Cert.LinearReferenceIdeal.main_arg0) = m ((c.tc : Thread Cert.LinearIdeal.nD Cert.LinearIdeal.τ).loc Cert.LinearIdeal.main_arg0)
      ∧ m' ((c.tc : Thread Cert.LinearReferenceIdeal.nD Cert.LinearReferenceIdeal.τ).loc Cert.LinearReferenceIdeal.main_arg1) = m ((c.tc : Thread Cert.LinearIdeal.nD Cert.LinearIdeal.τ).loc Cert.LinearIdeal.main_arg1)
      ∧ m' ((c.tc : Thread Cert.LinearReferenceIdeal.nD Cert.LinearReferenceIdeal.τ).loc Cert.LinearReferenceIdeal.main_arg2) = m ((c.tc : Thread Cert.LinearIdeal.nD Cert.LinearIdeal.τ).loc Cert.LinearIdeal.main_arg2)) →
    ∃ (v0 : (c : Dev Cert.LinearIdeal.nD) → Buf (Elt Ideal) ((c.tc : Thread Cert.LinearIdeal.nD Cert.LinearIdeal.τ).loc Cert.LinearIdeal.main_v2)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v2) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ θ_run (Cert.LinearReferenceIdeal.defs (F := Ideal)) (onTc (τ := Cert.LinearReferenceIdeal.τ) (Cert.LinearReferenceIdeal.main (F := Ideal))) ⟨m', fun _ => 0, g'⟩ (fun r => ∀ c : Dev Cert.LinearReferenceIdeal.nD,
          r.2.mem ((c.tc : Thread Cert.LinearReferenceIdeal.nD Cert.LinearReferenceIdeal.τ).loc Cert.LinearReferenceIdeal.main_v6) = v0 c
          ∧ r.2.mem ((c.tc : Thread Cert.LinearReferenceIdeal.nD Cert.LinearReferenceIdeal.τ).loc Cert.LinearReferenceIdeal.main_arg0) = m' ((c.tc : Thread Cert.LinearReferenceIdeal.nD Cert.LinearReferenceIdeal.τ).loc Cert.LinearReferenceIdeal.main_arg0)
          ∧ r.2.mem ((c.tc : Thread Cert.LinearReferenceIdeal.nD Cert.LinearReferenceIdeal.τ).loc Cert.LinearReferenceIdeal.main_arg1) = m' ((c.tc : Thread Cert.LinearReferenceIdeal.nD Cert.LinearReferenceIdeal.τ).loc Cert.LinearReferenceIdeal.main_arg1)
          ∧ r.2.mem ((c.tc : Thread Cert.LinearReferenceIdeal.nD Cert.LinearReferenceIdeal.τ).loc Cert.LinearReferenceIdeal.main_arg2) = m' ((c.tc : Thread Cert.LinearReferenceIdeal.nD Cert.LinearReferenceIdeal.τ).loc Cert.LinearReferenceIdeal.main_arg2))

def Claim : Prop :=
  ∃ (hKernelIdeal : Cert.KernelIdeal.Facts) (hReferenceIdeal : Cert.ReferenceIdeal.Facts) (hLinear : Cert.Linear.Facts) (hLinearIdeal : Cert.LinearIdeal.Facts) (hLinearReferenceIdeal : Cert.LinearReferenceIdeal.Facts),
    quiescent_KernelIdeal (hKernelIdeal := hKernelIdeal)
    ∧ quiescent_ReferenceIdeal (hReferenceIdeal := hReferenceIdeal)
    ∧ quiescent_Linear (hLinear := hLinear)
    ∧ quiescent_LinearIdeal (hLinearIdeal := hLinearIdeal)
    ∧ quiescent_LinearReferenceIdeal (hLinearReferenceIdeal := hLinearReferenceIdeal)
    ∧ algebraic_KernelIdeal_ReferenceIdeal (hKernelIdeal := hKernelIdeal) (hReferenceIdeal := hReferenceIdeal)
    ∧ preserves_Linear_LinearIdeal
    ∧ algebraic_LinearIdeal_LinearReferenceIdeal (hLinearIdeal := hLinearIdeal) (hLinearReferenceIdeal := hLinearReferenceIdeal)
-- ==== KernelIdeal.lean ====
abbrev S64x256x56x56 : Shape := ⟨4, ![64, 256, 56, 56]⟩
abbrev S64x16 : Shape := ⟨2, ![64, 16]⟩
abbrev S4096x2048 : Shape := ⟨2, ![4096, 2048]⟩
abbrev S4096 : Shape := ⟨1, ![4096]⟩
abbrev S64x8 : Shape := ⟨2, ![64, 8]⟩
abbrev S_ : Shape := ⟨0, ![]⟩
abbrev S64x8x1 : Shape := ⟨3, ![64, 8, 1]⟩
abbrev S64x8x4 : Shape := ⟨3, ![64, 8, 4]⟩
abbrev S64x32 : Shape := ⟨2, ![64, 32]⟩
abbrev S8 : Shape := ⟨1, ![8]⟩
abbrev S1x8 : Shape := ⟨2, ![1, 8]⟩
abbrev S64x32x1 : Shape := ⟨3, ![64, 32, 1]⟩
abbrev S32x256x56x56 : Shape := ⟨4, ![32, 256, 56, 56]⟩
abbrev S32x56x56x256 : Shape := ⟨4, ![32, 56, 56, 256]⟩
abbrev S32x3136x256 : Shape := ⟨3, ![32, 3136, 256]⟩
abbrev S32x32 : Shape := ⟨2, ![32, 32]⟩
abbrev S32x32x1 : Shape := ⟨3, ![32, 32, 1]⟩
abbrev S32x8x256 : Shape := ⟨3, ![32, 8, 256]⟩
abbrev S1x32x1 : Shape := ⟨3, ![1, 32, 1]⟩
abbrev S1x8x256 : Shape := ⟨3, ![1, 8, 256]⟩
abbrev S2x768x256 : Shape := ⟨3, ![2, 768, 256]⟩
abbrev S2 : Shape := ⟨1, ![2]⟩
abbrev S1x1 : Shape := ⟨2, ![1, 1]⟩
abbrev S1 : Shape := ⟨1, ![1]⟩
abbrev S1x24x256 : Shape := ⟨3, ![1, 24, 256]⟩
abbrev S24x256 : Shape := ⟨2, ![24, 256]⟩
abbrev S1x768x256 : Shape := ⟨3, ![1, 768, 256]⟩
abbrev S768x256 : Shape := ⟨2, ![768, 256]⟩
abbrev S32x768 : Shape := ⟨2, ![32, 768]⟩
abbrev S32x1 : Shape := ⟨2, ![32, 1]⟩
abbrev S32x256 : Shape := ⟨2, ![32, 256]⟩
abbrev S8x4x256 : Shape := ⟨3, ![8, 4, 256]⟩
abbrev S8x256 : Shape := ⟨2, ![8, 256]⟩
abbrev S64x8x256 : Shape := ⟨3, ![64, 8, 256]⟩
abbrev S64x2048 : Shape := ⟨2, ![64, 2048]⟩
abbrev S1x4096 : Shape := ⟨2, ![1, 4096]⟩
abbrev S64x4096 : Shape := ⟨2, ![64, 4096]⟩
abbrev S512x2048 : Shape := ⟨2, ![512, 2048]⟩
abbrev S1x512 : Shape := ⟨2, ![1, 512]⟩
abbrev S64x512 : Shape := ⟨2, ![64, 512]⟩

abbrev nBuf : Space → Nat
  | .hbm => 728
  | .vmem => 45
  | .smem => 2
  | _ => 0

abbrev hbmTy0_0 (i : Nat) : BufTy := match i % 128 with
  | 0 => ⟨S64x256x56x56, .f32⟩
  | 1 => ⟨S64x16, .f32⟩
  | 2 => ⟨S4096x2048, .f32⟩
  | 3 => ⟨S4096, .f32⟩
  | 4 => ⟨S64x8, .f32⟩
  | 5 => ⟨S64x8, .f32⟩
  | 6 => ⟨S_, .f32⟩
  | 7 => ⟨S64x8, .f32⟩
  | 8 => ⟨S64x8, .f32⟩
  | 9 => ⟨S_, .f32⟩
  | 10 => ⟨S64x8, .f32⟩
  | 11 => ⟨S64x8, .f32⟩
  | 12 => ⟨S_, .f32⟩
  | 13 => ⟨S64x8, .f32⟩
  | 14 => ⟨S64x8, .f32⟩
  | 15 => ⟨S_, .f32⟩
  | 16 => ⟨S64x8, .f32⟩
  | 17 => ⟨S64x8, .f32⟩
  | 18 => ⟨S_, .f32⟩
  | 19 => ⟨S64x8, .f32⟩
  | 20 => ⟨S64x8, .f32⟩
  | 21 => ⟨S_, .f32⟩
  | 22 => ⟨S64x8, .f32⟩
  | 23 => ⟨S64x8, .f32⟩
  | 24 => ⟨S_, .f32⟩
  | 25 => ⟨S64x8, .f32⟩
  | 26 => ⟨S64x8, .f32⟩
  | 27 => ⟨S_, .f32⟩
  | 28 => ⟨S64x8, .f32⟩
  | 29 => ⟨S64x8, .f32⟩
  | 30 => ⟨S_, .f32⟩
  | 31 => ⟨S64x8, .f32⟩
  | 32 => ⟨S64x8, .f32⟩
  | 33 => ⟨S_, .f32⟩
  | 34 => ⟨S64x8, .f32⟩
  | 35 => ⟨S64x8, .f32⟩
  | 36 => ⟨S_, .f32⟩
  | 37 => ⟨S_, .f32⟩
  | 38 => ⟨S_, .f32⟩
  | 39 => ⟨S64x8, .f32⟩
  | 40 => ⟨S64x8, .f32⟩
  | 41 => ⟨S_, .f32⟩
  | 42 => ⟨S64x8, .f32⟩
  | 43 => ⟨S64x8, .f32⟩
  | 44 => ⟨S64x8, .f32⟩
  | 45 => ⟨S64x8, .f32⟩
  | 46 => ⟨S64x8, .i32⟩
  | 47 => ⟨S_, .i32⟩
  | 48 => ⟨S64x8, .i32⟩
  | 49 => ⟨S64x8, .i32⟩
  | 50 => ⟨S_, .i32⟩
  | 51 => ⟨S64x8, .i32⟩
  | 52 => ⟨S64x8, .i32⟩
  | 53 => ⟨S_, .f32⟩
  | 54 => ⟨S64x8, .f32⟩
  | 55 => ⟨S64x8, .f32⟩
  | 56 => ⟨S_, .f32⟩
  | 57 => ⟨S64x8, .f32⟩
  | 58 => ⟨S64x8, .f32⟩
  | 59 => ⟨S_, .f32⟩
  | 60 => ⟨S64x8, .f32⟩
  | 61 => ⟨S64x8, .f32⟩
  | 62 => ⟨S_, .f32⟩
  | 63 => ⟨S64x8, .f32⟩
  | 64 => ⟨S64x8, .f32⟩
  | 65 => ⟨S_, .f32⟩
  | 66 => ⟨S64x8, .f32⟩
  | 67 => ⟨S64x8, .f32⟩
  | 68 => ⟨S_, .f32⟩
  | 69 => ⟨S_, .f32⟩
  | 70 => ⟨S_, .f32⟩
  | 71 => ⟨S64x8, .f32⟩
  | 72 => ⟨S64x8, .f32⟩
  | 73 => ⟨S_, .f32⟩
  | 74 => ⟨S64x8, .f32⟩
  | 75 => ⟨S64x8, .f32⟩
  | 76 => ⟨S64x8, .f32⟩
  | 77 => ⟨S64x8, .f32⟩
  | 78 => ⟨S64x8, .i32⟩
  | 79 => ⟨S_, .i32⟩
  | 80 => ⟨S64x8, .i32⟩
  | 81 => ⟨S64x8, .i32⟩
  | 82 => ⟨S_, .i32⟩
  | 83 => ⟨S64x8, .i32⟩
  | 84 => ⟨S64x8, .i32⟩
  | 85 => ⟨S_, .f32⟩
  | 86 => ⟨S64x8, .f32⟩
  | 87 => ⟨S64x8, .f32⟩
  | 88 => ⟨S_, .f32⟩
  | 89 => ⟨S64x8, .f32⟩
  | 90 => ⟨S64x8, .f32⟩
  | 91 => ⟨S_, .f32⟩
  | 92 => ⟨S64x8, .f32⟩
  | 93 => ⟨S64x8, .f32⟩
  | 94 => ⟨S_, .f32⟩
  | 95 => ⟨S64x8, .f32⟩
  | 96 => ⟨S64x8, .f32⟩
  | 97 => ⟨S_, .f32⟩
  | 98 => ⟨S64x8, .f32⟩
  | 99 => ⟨S64x8, .f32⟩
  | 100 => ⟨S_, .f32⟩
  | 101 => ⟨S64x8, .f32⟩
  | 102 => ⟨S64x8, .f32⟩
  | 103 => ⟨S_, .f32⟩
  | 104 => ⟨S64x8, .f32⟩
  | 105 => ⟨S64x8, .f32⟩
  | 106 => ⟨S_, .f32⟩
  | 107 => ⟨S64x8, .f32⟩
  | 108 => ⟨S64x8, .f32⟩
  | 109 => ⟨S_, .f32⟩
  | 110 => ⟨S64x8, .f32⟩
  | 111 => ⟨S64x8, .f32⟩
  | 112 => ⟨S_, .f32⟩
  | 113 => ⟨S64x8, .f32⟩
  | 114 => ⟨S64x8, .f32⟩
  | 115 => ⟨S_, .f32⟩
  | 116 => ⟨S_, .f32⟩
  | 117 => ⟨S_, .f32⟩
  | 118 => ⟨S64x8, .f32⟩
  | 119 => ⟨S64x8, .f32⟩
  | 120 => ⟨S_, .f32⟩
  | 121 => ⟨S64x8, .f32⟩
  | 122 => ⟨S64x8, .f32⟩
  | 123 => ⟨S64x8, .f32⟩
  | 124 => ⟨S64x8, .f32⟩
  | 125 => ⟨S64x8, .i32⟩
  | 126 => ⟨S_, .i32⟩
  | 127 => ⟨S64x8, .i32⟩
  | _ => ⟨S64x256x56x56, .f32⟩

abbrev hbmTy0_1 (i : Nat) : BufTy := match i % 128 with
  | 0 => ⟨S64x8, .i32⟩
  | 1 => ⟨S_, .i32⟩
  | 2 => ⟨S64x8, .i32⟩
  | 3 => ⟨S64x8, .i32⟩
  | 4 => ⟨S_, .f32⟩
  | 5 => ⟨S64x8, .f32⟩
  | 6 => ⟨S64x8, .f32⟩
  | 7 => ⟨S_, .f32⟩
  | 8 => ⟨S64x8, .f32⟩
  | 9 => ⟨S64x8, .f32⟩
  | 10 => ⟨S_, .f32⟩
  | 11 => ⟨S64x8, .f32⟩
  | 12 => ⟨S64x8, .f32⟩
  | 13 => ⟨S_, .f32⟩
  | 14 => ⟨S64x8, .f32⟩
  | 15 => ⟨S64x8, .f32⟩
  | 16 => ⟨S_, .f32⟩
  | 17 => ⟨S64x8, .f32⟩
  | 18 => ⟨S64x8, .f32⟩
  | 19 => ⟨S_, .f32⟩
  | 20 => ⟨S_, .f32⟩
  | 21 => ⟨S_, .f32⟩
  | 22 => ⟨S64x8, .f32⟩
  | 23 => ⟨S64x8, .f32⟩
  | 24 => ⟨S_, .f32⟩
  | 25 => ⟨S64x8, .f32⟩
  | 26 => ⟨S64x8, .f32⟩
  | 27 => ⟨S64x8, .f32⟩
  | 28 => ⟨S64x8, .f32⟩
  | 29 => ⟨S64x8, .i32⟩
  | 30 => ⟨S_, .i32⟩
  | 31 => ⟨S64x8, .i32⟩
  | 32 => ⟨S64x8, .i32⟩
  | 33 => ⟨S_, .i32⟩
  | 34 => ⟨S64x8, .i32⟩
  | 35 => ⟨S64x8, .i32⟩
  | 36 => ⟨S_, .i32⟩
  | 37 => ⟨S64x8, .i32⟩
  | 38 => ⟨S64x8, .i32⟩
  | 39 => ⟨S64x8, .i32⟩
  | 40 => ⟨S_, .i32⟩
  | 41 => ⟨S_, .i32⟩
  | 42 => ⟨S64x8, .i32⟩
  | 43 => ⟨S64x8, .i32⟩
  | 44 => ⟨S64x8, .i32⟩
  | 45 => ⟨S_, .i32⟩
  | 46 => ⟨S64x8, .i32⟩
  | 47 => ⟨S64x8, .i1⟩
  | 48 => ⟨S64x8, .i32⟩
  | 49 => ⟨S64x8, .i32⟩
  | 50 => ⟨S_, .i32⟩
  | 51 => ⟨S64x8, .i32⟩
  | 52 => ⟨S64x8, .i1⟩
  | 53 => ⟨S64x8, .i1⟩
  | 54 => ⟨S_, .i32⟩
  | 55 => ⟨S64x8, .i32⟩
  | 56 => ⟨S64x8, .i32⟩
  | 57 => ⟨S64x8, .i32⟩
  | 58 => ⟨S_, .i32⟩
  | 59 => ⟨S64x8, .i32⟩
  | 60 => ⟨S64x8, .i32⟩
  | 61 => ⟨S_, .i32⟩
  | 62 => ⟨S64x8, .i32⟩
  | 63 => ⟨S64x8, .i32⟩
  | 64 => ⟨S_, .i32⟩
  | 65 => ⟨S64x8, .i32⟩
  | 66 => ⟨S64x8, .i32⟩
  | 67 => ⟨S64x8, .i32⟩
  | 68 => ⟨S_, .i32⟩
  | 69 => ⟨S_, .i32⟩
  | 70 => ⟨S64x8, .i32⟩
  | 71 => ⟨S64x8, .i32⟩
  | 72 => ⟨S64x8, .i32⟩
  | 73 => ⟨S_, .i32⟩
  | 74 => ⟨S64x8, .i32⟩
  | 75 => ⟨S64x8, .i1⟩
  | 76 => ⟨S64x8, .i32⟩
  | 77 => ⟨S64x8, .i32⟩
  | 78 => ⟨S_, .i32⟩
  | 79 => ⟨S64x8, .i32⟩
  | 80 => ⟨S64x8, .i1⟩
  | 81 => ⟨S64x8, .i1⟩
  | 82 => ⟨S_, .i32⟩
  | 83 => ⟨S64x8, .i32⟩
  | 84 => ⟨S64x8, .i32⟩
  | 85 => ⟨S64x8, .i32⟩
  | 86 => ⟨S_, .i32⟩
  | 87 => ⟨S64x8, .i32⟩
  | 88 => ⟨S64x8, .i32⟩
  | 89 => ⟨S_, .i32⟩
  | 90 => ⟨S64x8, .i32⟩
  | 91 => ⟨S64x8, .i32⟩
  | 92 => ⟨S_, .i32⟩
  | 93 => ⟨S64x8, .i32⟩
  | 94 => ⟨S64x8, .i32⟩
  | 95 => ⟨S64x8, .i32⟩
  | 96 => ⟨S_, .i32⟩
  | 97 => ⟨S_, .i32⟩
  | 98 => ⟨S64x8, .i32⟩
  | 99 => ⟨S64x8, .i32⟩
  | 100 => ⟨S64x8, .i32⟩
  | 101 => ⟨S_, .i32⟩
  | 102 => ⟨S64x8, .i32⟩
  | 103 => ⟨S64x8, .i1⟩
  | 104 => ⟨S64x8, .i32⟩
  | 105 => ⟨S64x8, .i32⟩
  | 106 => ⟨S_, .i32⟩
  | 107 => ⟨S64x8, .i32⟩
  | 108 => ⟨S64x8, .i1⟩
  | 109 => ⟨S64x8, .i1⟩
  | 110 => ⟨S_, .i32⟩
  | 111 => ⟨S64x8, .i32⟩
  | 112 => ⟨S64x8, .i32⟩
  | 113 => ⟨S64x8, .i32⟩
  | 114 => ⟨S_, .i32⟩
  | 115 => ⟨S64x8, .i32⟩
  | 116 => ⟨S64x8, .i32⟩
  | 117 => ⟨S_, .i32⟩
  | 118 => ⟨S64x8, .i32⟩
  | 119 => ⟨S64x8, .i32⟩
  | 120 => ⟨S_, .i32⟩
  | 121 => ⟨S64x8, .i32⟩
  | 122 => ⟨S64x8, .i32⟩
  | 123 => ⟨S64x8, .i32⟩
  | 124 => ⟨S_, .i32⟩
  | 125 => ⟨S_, .i32⟩
  | 126 => ⟨S64x8, .i32⟩
  | 127 => ⟨S64x8, .i32⟩
  | _ => ⟨S64x256x56x56, .f32⟩

abbrev hbmTy0_2 (i : Nat) : BufTy := match i % 128 with
  | 0 => ⟨S64x8, .i32⟩
  | 1 => ⟨S_, .i32⟩
  | 2 => ⟨S64x8, .i32⟩
  | 3 => ⟨S64x8, .i1⟩
  | 4 => ⟨S64x8, .i32⟩
  | 5 => ⟨S64x8, .i32⟩
  | 6 => ⟨S_, .i32⟩
  | 7 => ⟨S64x8, .i32⟩
  | 8 => ⟨S64x8, .i1⟩
  | 9 => ⟨S64x8, .i1⟩
  | 10 => ⟨S_, .i32⟩
  | 11 => ⟨S64x8, .i32⟩
  | 12 => ⟨S64x8, .i32⟩
  | 13 => ⟨S64x8, .i32⟩
  | 14 => ⟨S_, .i32⟩
  | 15 => ⟨S64x8, .i32⟩
  | 16 => ⟨S64x8, .i32⟩
  | 17 => ⟨S_, .i32⟩
  | 18 => ⟨S64x8, .i32⟩
  | 19 => ⟨S64x8, .i32⟩
  | 20 => ⟨S64x8x1, .i32⟩
  | 21 => ⟨S64x8x1, .i32⟩
  | 22 => ⟨S64x8x1, .i32⟩
  | 23 => ⟨S64x8x1, .i32⟩
  | 24 => ⟨S64x8x4, .i32⟩
  | 25 => ⟨S64x32, .i32⟩
  | 26 => ⟨S8, .i32⟩
  | 27 => ⟨S1x8, .i32⟩
  | 28 => ⟨S_, .i32⟩
  | 29 => ⟨S1x8, .i32⟩
  | 30 => ⟨S1x8, .i32⟩
  | 31 => ⟨S_, .i32⟩
  | 32 => ⟨S1x8, .i32⟩
  | 33 => ⟨S1x8, .i32⟩
  | 34 => ⟨S_, .i32⟩
  | 35 => ⟨S1x8, .i32⟩
  | 36 => ⟨S1x8, .i32⟩
  | 37 => ⟨S_, .i32⟩
  | 38 => ⟨S1x8, .i32⟩
  | 39 => ⟨S1x8, .i32⟩
  | 40 => ⟨S_, .i32⟩
  | 41 => ⟨S64x8, .i32⟩
  | 42 => ⟨S64x8, .i32⟩
  | 43 => ⟨S64x8, .i32⟩
  | 44 => ⟨S64x8, .i32⟩
  | 45 => ⟨S64x8, .i32⟩
  | 46 => ⟨S64x8, .i32⟩
  | 47 => ⟨S_, .i32⟩
  | 48 => ⟨S1x8, .i32⟩
  | 49 => ⟨S1x8, .i32⟩
  | 50 => ⟨S_, .i32⟩
  | 51 => ⟨S1x8, .i32⟩
  | 52 => ⟨S1x8, .i32⟩
  | 53 => ⟨S_, .i32⟩
  | 54 => ⟨S1x8, .i32⟩
  | 55 => ⟨S1x8, .i32⟩
  | 56 => ⟨S_, .i32⟩
  | 57 => ⟨S1x8, .i32⟩
  | 58 => ⟨S1x8, .i32⟩
  | 59 => ⟨S_, .i32⟩
  | 60 => ⟨S64x8, .i32⟩
  | 61 => ⟨S64x8, .i32⟩
  | 62 => ⟨S64x8, .i32⟩
  | 63 => ⟨S64x8, .i32⟩
  | 64 => ⟨S64x8, .i32⟩
  | 65 => ⟨S64x8, .i32⟩
  | 66 => ⟨S_, .i32⟩
  | 67 => ⟨S1x8, .i32⟩
  | 68 => ⟨S1x8, .i32⟩
  | 69 => ⟨S_, .i32⟩
  | 70 => ⟨S1x8, .i32⟩
  | 71 => ⟨S1x8, .i32⟩
  | 72 => ⟨S_, .i32⟩
  | 73 => ⟨S1x8, .i32⟩
  | 74 => ⟨S1x8, .i32⟩
  | 75 => ⟨S_, .i32⟩
  | 76 => ⟨S1x8, .i32⟩
  | 77 => ⟨S1x8, .i32⟩
  | 78 => ⟨S_, .i32⟩
  | 79 => ⟨S64x8, .i32⟩
  | 80 => ⟨S64x8, .i32⟩
  | 81 => ⟨S64x8, .i32⟩
  | 82 => ⟨S64x8, .i32⟩
  | 83 => ⟨S64x8, .i32⟩
  | 84 => ⟨S64x8, .i32⟩
  | 85 => ⟨S_, .i32⟩
  | 86 => ⟨S1x8, .i32⟩
  | 87 => ⟨S1x8, .i32⟩
  | 88 => ⟨S_, .i32⟩
  | 89 => ⟨S1x8, .i32⟩
  | 90 => ⟨S1x8, .i32⟩
  | 91 => ⟨S_, .i32⟩
  | 92 => ⟨S1x8, .i32⟩
  | 93 => ⟨S1x8, .i32⟩
  | 94 => ⟨S_, .i32⟩
  | 95 => ⟨S1x8, .i32⟩
  | 96 => ⟨S1x8, .i32⟩
  | 97 => ⟨S_, .i32⟩
  | 98 => ⟨S64x8, .i32⟩
  | 99 => ⟨S64x8, .i32⟩
  | 100 => ⟨S64x8, .i32⟩
  | 101 => ⟨S64x8, .i32⟩
  | 102 => ⟨S64x8, .i32⟩
  | 103 => ⟨S64x8, .i32⟩
  | 104 => ⟨S64x8x1, .i32⟩
  | 105 => ⟨S64x8x1, .i32⟩
  | 106 => ⟨S64x8x1, .i32⟩
  | 107 => ⟨S64x8x1, .i32⟩
  | 108 => ⟨S64x8x4, .i32⟩
  | 109 => ⟨S64x32x1, .i32⟩
  | 110 => ⟨S_, .i32⟩
  | 111 => ⟨S1x8, .i32⟩
  | 112 => ⟨S1x8, .i32⟩
  | 113 => ⟨S_, .i32⟩
  | 114 => ⟨S1x8, .i32⟩
  | 115 => ⟨S1x8, .i32⟩
  | 116 => ⟨S_, .i32⟩
  | 117 => ⟨S1x8, .i32⟩
  | 118 => ⟨S1x8, .i32⟩
  | 119 => ⟨S_, .i32⟩
  | 120 => ⟨S1x8, .i32⟩
  | 121 => ⟨S1x8, .i32⟩
  | 122 => ⟨S_, .i32⟩
  | 123 => ⟨S64x8, .i32⟩
  | 124 => ⟨S64x8, .i32⟩
  | 125 => ⟨S64x8, .i32⟩
  | 126 => ⟨S64x8, .i32⟩
  | 127 => ⟨S64x8, .i32⟩
  | _ => ⟨S64x256x56x56, .f32⟩

abbrev hbmTy0_3 (i : Nat) : BufTy := match i % 128 with
  | 0 => ⟨S64x8, .i32⟩
  | 1 => ⟨S_, .i32⟩
  | 2 => ⟨S1x8, .i32⟩
  | 3 => ⟨S1x8, .i32⟩
  | 4 => ⟨S_, .i32⟩
  | 5 => ⟨S1x8, .i32⟩
  | 6 => ⟨S1x8, .i32⟩
  | 7 => ⟨S_, .i32⟩
  | 8 => ⟨S1x8, .i32⟩
  | 9 => ⟨S1x8, .i32⟩
  | 10 => ⟨S_, .i32⟩
  | 11 => ⟨S1x8, .i32⟩
  | 12 => ⟨S1x8, .i32⟩
  | 13 => ⟨S_, .i32⟩
  | 14 => ⟨S64x8, .i32⟩
  | 15 => ⟨S64x8, .i32⟩
  | 16 => ⟨S64x8, .i32⟩
  | 17 => ⟨S64x8, .i32⟩
  | 18 => ⟨S64x8, .i32⟩
  | 19 => ⟨S64x8, .i32⟩
  | 20 => ⟨S_, .i32⟩
  | 21 => ⟨S1x8, .i32⟩
  | 22 => ⟨S1x8, .i32⟩
  | 23 => ⟨S_, .i32⟩
  | 24 => ⟨S1x8, .i32⟩
  | 25 => ⟨S1x8, .i32⟩
  | 26 => ⟨S_, .i32⟩
  | 27 => ⟨S1x8, .i32⟩
  | 28 => ⟨S1x8, .i32⟩
  | 29 => ⟨S_, .i32⟩
  | 30 => ⟨S1x8, .i32⟩
  | 31 => ⟨S1x8, .i32⟩
  | 32 => ⟨S_, .i32⟩
  | 33 => ⟨S64x8, .i32⟩
  | 34 => ⟨S64x8, .i32⟩
  | 35 => ⟨S64x8, .i32⟩
  | 36 => ⟨S64x8, .i32⟩
  | 37 => ⟨S64x8, .i32⟩
  | 38 => ⟨S64x8, .i32⟩
  | 39 => ⟨S_, .i32⟩
  | 40 => ⟨S1x8, .i32⟩
  | 41 => ⟨S1x8, .i32⟩
  | 42 => ⟨S_, .i32⟩
  | 43 => ⟨S1x8, .i32⟩
  | 44 => ⟨S1x8, .i32⟩
  | 45 => ⟨S_, .i32⟩
  | 46 => ⟨S1x8, .i32⟩
  | 47 => ⟨S1x8, .i32⟩
  | 48 => ⟨S_, .i32⟩
  | 49 => ⟨S1x8, .i32⟩
  | 50 => ⟨S1x8, .i32⟩
  | 51 => ⟨S_, .i32⟩
  | 52 => ⟨S64x8, .i32⟩
  | 53 => ⟨S64x8, .i32⟩
  | 54 => ⟨S64x8, .i32⟩
  | 55 => ⟨S64x8, .i32⟩
  | 56 => ⟨S64x8, .i32⟩
  | 57 => ⟨S64x8, .i32⟩
  | 58 => ⟨S64x8x1, .i32⟩
  | 59 => ⟨S64x8x1, .i32⟩
  | 60 => ⟨S64x8x1, .i32⟩
  | 61 => ⟨S64x8x1, .i32⟩
  | 62 => ⟨S64x8x4, .i32⟩
  | 63 => ⟨S64x32x1, .i32⟩
  | 64 => ⟨S_, .i32⟩
  | 65 => ⟨S1x8, .i32⟩
  | 66 => ⟨S1x8, .i32⟩
  | 67 => ⟨S_, .i32⟩
  | 68 => ⟨S1x8, .i32⟩
  | 69 => ⟨S1x8, .i32⟩
  | 70 => ⟨S_, .i32⟩
  | 71 => ⟨S1x8, .i32⟩
  | 72 => ⟨S1x8, .i32⟩
  | 73 => ⟨S_, .i32⟩
  | 74 => ⟨S1x8, .i32⟩
  | 75 => ⟨S1x8, .i32⟩
  | 76 => ⟨S_, .i32⟩
  | 77 => ⟨S64x8, .i32⟩
  | 78 => ⟨S64x8, .i32⟩
  | 79 => ⟨S64x8, .i32⟩
  | 80 => ⟨S64x8, .i32⟩
  | 81 => ⟨S64x8, .i32⟩
  | 82 => ⟨S64x8, .i32⟩
  | 83 => ⟨S_, .i32⟩
  | 84 => ⟨S1x8, .i32⟩
  | 85 => ⟨S1x8, .i32⟩
  | 86 => ⟨S_, .i32⟩
  | 87 => ⟨S1x8, .i32⟩
  | 88 => ⟨S1x8, .i32⟩
  | 89 => ⟨S_, .i32⟩
  | 90 => ⟨S1x8, .i32⟩
  | 91 => ⟨S1x8, .i32⟩
  | 92 => ⟨S_, .i32⟩
  | 93 => ⟨S1x8, .i32⟩
  | 94 => ⟨S1x8, .i32⟩
  | 95 => ⟨S_, .i32⟩
  | 96 => ⟨S64x8, .i32⟩
  | 97 => ⟨S64x8, .i32⟩
  | 98 => ⟨S64x8, .i32⟩
  | 99 => ⟨S64x8, .i32⟩
  | 100 => ⟨S64x8, .i32⟩
  | 101 => ⟨S64x8, .i32⟩
  | 102 => ⟨S_, .i32⟩
  | 103 => ⟨S1x8, .i32⟩
  | 104 => ⟨S1x8, .i32⟩
  | 105 => ⟨S_, .i32⟩
  | 106 => ⟨S1x8, .i32⟩
  | 107 => ⟨S1x8, .i32⟩
  | 108 => ⟨S_, .i32⟩
  | 109 => ⟨S1x8, .i32⟩
  | 110 => ⟨S1x8, .i32⟩
  | 111 => ⟨S_, .i32⟩
  | 112 => ⟨S1x8, .i32⟩
  | 113 => ⟨S1x8, .i32⟩
  | 114 => ⟨S_, .i32⟩
  | 115 => ⟨S64x8, .i32⟩
  | 116 => ⟨S64x8, .i32⟩
  | 117 => ⟨S64x8, .i32⟩
  | 118 => ⟨S64x8, .i32⟩
  | 119 => ⟨S64x8, .i32⟩
  | 120 => ⟨S64x8, .i32⟩
  | 121 => ⟨S_, .i32⟩
  | 122 => ⟨S1x8, .i32⟩
  | 123 => ⟨S1x8, .i32⟩
  | 124 => ⟨S_, .i32⟩
  | 125 => ⟨S1x8, .i32⟩
  | 126 => ⟨S1x8, .i32⟩
  | 127 => ⟨S_, .i32⟩
  | _ => ⟨S64x256x56x56, .f32⟩

abbrev hbmTy0_4 (i : Nat) : BufTy := match i % 128 with
  | 0 => ⟨S1x8, .i32⟩
  | 1 => ⟨S1x8, .i32⟩
  | 2 => ⟨S_, .i32⟩
  | 3 => ⟨S1x8, .i32⟩
  | 4 => ⟨S1x8, .i32⟩
  | 5 => ⟨S_, .i32⟩
  | 6 => ⟨S64x8, .i32⟩
  | 7 => ⟨S64x8, .i32⟩
  | 8 => ⟨S64x8, .i32⟩
  | 9 => ⟨S64x8, .i32⟩
  | 10 => ⟨S64x8, .i32⟩
  | 11 => ⟨S64x8, .i32⟩
  | 12 => ⟨S64x8x1, .i32⟩
  | 13 => ⟨S64x8x1, .i32⟩
  | 14 => ⟨S64x8x1, .i32⟩
  | 15 => ⟨S64x8x1, .i32⟩
  | 16 => ⟨S64x8x4, .i32⟩
  | 17 => ⟨S64x32x1, .i32⟩
  | 18 => ⟨S_, .i32⟩
  | 19 => ⟨S1x8, .i32⟩
  | 20 => ⟨S1x8, .i32⟩
  | 21 => ⟨S_, .i32⟩
  | 22 => ⟨S1x8, .i32⟩
  | 23 => ⟨S1x8, .i32⟩
  | 24 => ⟨S_, .i32⟩
  | 25 => ⟨S1x8, .i32⟩
  | 26 => ⟨S1x8, .i32⟩
  | 27 => ⟨S_, .i32⟩
  | 28 => ⟨S1x8, .i32⟩
  | 29 => ⟨S1x8, .i32⟩
  | 30 => ⟨S_, .i32⟩
  | 31 => ⟨S64x8, .i32⟩
  | 32 => ⟨S64x8, .i32⟩
  | 33 => ⟨S64x8, .i32⟩
  | 34 => ⟨S64x8, .i32⟩
  | 35 => ⟨S64x8, .i32⟩
  | 36 => ⟨S64x8, .i32⟩
  | 37 => ⟨S_, .i32⟩
  | 38 => ⟨S1x8, .i32⟩
  | 39 => ⟨S1x8, .i32⟩
  | 40 => ⟨S_, .i32⟩
  | 41 => ⟨S1x8, .i32⟩
  | 42 => ⟨S1x8, .i32⟩
  | 43 => ⟨S_, .i32⟩
  | 44 => ⟨S1x8, .i32⟩
  | 45 => ⟨S1x8, .i32⟩
  | 46 => ⟨S_, .i32⟩
  | 47 => ⟨S1x8, .i32⟩
  | 48 => ⟨S1x8, .i32⟩
  | 49 => ⟨S_, .i32⟩
  | 50 => ⟨S64x8, .i32⟩
  | 51 => ⟨S64x8, .i32⟩
  | 52 => ⟨S64x8, .i32⟩
  | 53 => ⟨S64x8, .i32⟩
  | 54 => ⟨S64x8, .i32⟩
  | 55 => ⟨S64x8, .i32⟩
  | 56 => ⟨S_, .i32⟩
  | 57 => ⟨S1x8, .i32⟩
  | 58 => ⟨S1x8, .i32⟩
  | 59 => ⟨S_, .i32⟩
  | 60 => ⟨S1x8, .i32⟩
  | 61 => ⟨S1x8, .i32⟩
  | 62 => ⟨S_, .i32⟩
  | 63 => ⟨S1x8, .i32⟩
  | 64 => ⟨S1x8, .i32⟩
  | 65 => ⟨S_, .i32⟩
  | 66 => ⟨S1x8, .i32⟩
  | 67 => ⟨S1x8, .i32⟩
  | 68 => ⟨S_, .i32⟩
  | 69 => ⟨S64x8, .i32⟩
  | 70 => ⟨S64x8, .i32⟩
  | 71 => ⟨S64x8, .i32⟩
  | 72 => ⟨S64x8, .i32⟩
  | 73 => ⟨S64x8, .i32⟩
  | 74 => ⟨S64x8, .i32⟩
  | 75 => ⟨S_, .i32⟩
  | 76 => ⟨S1x8, .i32⟩
  | 77 => ⟨S1x8, .i32⟩
  | 78 => ⟨S_, .i32⟩
  | 79 => ⟨S1x8, .i32⟩
  | 80 => ⟨S1x8, .i32⟩
  | 81 => ⟨S_, .i32⟩
  | 82 => ⟨S1x8, .i32⟩
  | 83 => ⟨S1x8, .i32⟩
  | 84 => ⟨S_, .i32⟩
  | 85 => ⟨S1x8, .i32⟩
  | 86 => ⟨S1x8, .i32⟩
  | 87 => ⟨S_, .i32⟩
  | 88 => ⟨S64x8, .i32⟩
  | 89 => ⟨S64x8, .i32⟩
  | 90 => ⟨S64x8, .i32⟩
  | 91 => ⟨S64x8, .i32⟩
  | 92 => ⟨S64x8, .i32⟩
  | 93 => ⟨S64x8, .i32⟩
  | 94 => ⟨S64x8x1, .i32⟩
  | 95 => ⟨S64x8x1, .i32⟩
  | 96 => ⟨S64x8x1, .i32⟩
  | 97 => ⟨S64x8x1, .i32⟩
  | 98 => ⟨S64x8x4, .i32⟩
  | 99 => ⟨S64x32x1, .i32⟩
  | 100 => ⟨S_, .f32⟩
  | 101 => ⟨S64x8, .f32⟩
  | 102 => ⟨S64x8, .f32⟩
  | 103 => ⟨S_, .f32⟩
  | 104 => ⟨S64x8, .f32⟩
  | 105 => ⟨S64x8, .f32⟩
  | 106 => ⟨S64x8, .f32⟩
  | 107 => ⟨S_, .f32⟩
  | 108 => ⟨S64x8, .f32⟩
  | 109 => ⟨S64x8, .f32⟩
  | 110 => ⟨S_, .f32⟩
  | 111 => ⟨S64x8, .f32⟩
  | 112 => ⟨S64x8, .f32⟩
  | 113 => ⟨S64x8, .f32⟩
  | 114 => ⟨S_, .f32⟩
  | 115 => ⟨S64x8, .f32⟩
  | 116 => ⟨S64x8, .f32⟩
  | 117 => ⟨S_, .f32⟩
  | 118 => ⟨S64x8, .f32⟩
  | 119 => ⟨S64x8, .f32⟩
  | 120 => ⟨S64x8, .f32⟩
  | 121 => ⟨S_, .f32⟩
  | 122 => ⟨S64x8, .f32⟩
  | 123 => ⟨S64x8, .f32⟩
  | 124 => ⟨S_, .f32⟩
  | 125 => ⟨S64x8, .f32⟩
  | 126 => ⟨S64x8, .f32⟩
  | 127 => ⟨S64x8, .f32⟩
  | _ => ⟨S64x256x56x56, .f32⟩

abbrev hbmTy0_5 (i : Nat) : BufTy := match i % 128 with
  | 0 => ⟨S64x8x1, .f32⟩
  | 1 => ⟨S64x8x1, .f32⟩
  | 2 => ⟨S64x8x1, .f32⟩
  | 3 => ⟨S64x8x1, .f32⟩
  | 4 => ⟨S64x8x4, .f32⟩
  | 5 => ⟨S64x32x1, .f32⟩
  | 6 => ⟨S_, .f32⟩
  | 7 => ⟨S64x8, .f32⟩
  | 8 => ⟨S64x8, .f32⟩
  | 9 => ⟨S64x8, .f32⟩
  | 10 => ⟨S_, .f32⟩
  | 11 => ⟨S64x8, .f32⟩
  | 12 => ⟨S64x8, .f32⟩
  | 13 => ⟨S64x8, .f32⟩
  | 14 => ⟨S_, .f32⟩
  | 15 => ⟨S64x8, .f32⟩
  | 16 => ⟨S64x8, .f32⟩
  | 17 => ⟨S64x8, .f32⟩
  | 18 => ⟨S_, .f32⟩
  | 19 => ⟨S64x8, .f32⟩
  | 20 => ⟨S64x8, .f32⟩
  | 21 => ⟨S64x8, .f32⟩
  | 22 => ⟨S64x8x1, .f32⟩
  | 23 => ⟨S64x8x1, .f32⟩
  | 24 => ⟨S64x8x1, .f32⟩
  | 25 => ⟨S64x8x1, .f32⟩
  | 26 => ⟨S64x8x4, .f32⟩
  | 27 => ⟨S64x32x1, .f32⟩
  | 28 => ⟨S_, .f32⟩
  | 29 => ⟨S64x8, .f32⟩
  | 30 => ⟨S64x8, .f32⟩
  | 31 => ⟨S64x8, .f32⟩
  | 32 => ⟨S_, .f32⟩
  | 33 => ⟨S64x8, .f32⟩
  | 34 => ⟨S64x8, .f32⟩
  | 35 => ⟨S64x8, .f32⟩
  | 36 => ⟨S_, .f32⟩
  | 37 => ⟨S64x8, .f32⟩
  | 38 => ⟨S64x8, .f32⟩
  | 39 => ⟨S64x8, .f32⟩
  | 40 => ⟨S_, .f32⟩
  | 41 => ⟨S64x8, .f32⟩
  | 42 => ⟨S64x8, .f32⟩
  | 43 => ⟨S64x8, .f32⟩
  | 44 => ⟨S64x8x1, .f32⟩
  | 45 => ⟨S64x8x1, .f32⟩
  | 46 => ⟨S64x8x1, .f32⟩
  | 47 => ⟨S64x8x1, .f32⟩
  | 48 => ⟨S64x8x4, .f32⟩
  | 49 => ⟨S64x32x1, .f32⟩
  | 50 => ⟨S64x8, .f32⟩
  | 51 => ⟨S64x8, .f32⟩
  | 52 => ⟨S64x8, .f32⟩
  | 53 => ⟨S64x8, .f32⟩
  | 54 => ⟨S64x8x1, .f32⟩
  | 55 => ⟨S64x8x1, .f32⟩
  | 56 => ⟨S64x8x1, .f32⟩
  | 57 => ⟨S64x8x1, .f32⟩
  | 58 => ⟨S64x8x4, .f32⟩
  | 59 => ⟨S64x32x1, .f32⟩
  | 60 => ⟨S32x256x56x56, .f32⟩
  | 61 => ⟨S32x56x56x256, .f32⟩
  | 62 => ⟨S32x3136x256, .f32⟩
  | 63 => ⟨S32x32x1, .i32⟩
  | 64 => ⟨S32x32x1, .i32⟩
  | 65 => ⟨S32x32x1, .i32⟩
  | 66 => ⟨S32x32x1, .i32⟩
  | 67 => ⟨S32x32x1, .f32⟩
  | 68 => ⟨S32x32x1, .f32⟩
  | 69 => ⟨S32x32x1, .f32⟩
  | 70 => ⟨S32x32x1, .f32⟩
  | 71 => ⟨S32x8x256, .f32⟩
  | 72 => ⟨S32x256x56x56, .f32⟩
  | 73 => ⟨S32x56x56x256, .f32⟩
  | 74 => ⟨S32x3136x256, .f32⟩
  | 75 => ⟨S32x32x1, .i32⟩
  | 76 => ⟨S32x32x1, .i32⟩
  | 77 => ⟨S32x32x1, .i32⟩
  | 78 => ⟨S32x32x1, .i32⟩
  | 79 => ⟨S32x32x1, .f32⟩
  | 80 => ⟨S32x32x1, .f32⟩
  | 81 => ⟨S32x32x1, .f32⟩
  | 82 => ⟨S32x32x1, .f32⟩
  | 83 => ⟨S32x8x256, .f32⟩
  | 84 => ⟨S64x8x256, .f32⟩
  | 85 => ⟨S64x2048, .f32⟩
  | 86 => ⟨S1x4096, .f32⟩
  | 87 => ⟨S64x4096, .f32⟩
  | _ => ⟨S64x256x56x56, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x256x56x56, .f32⟩

abbrev bufTy : (tb : Table) → Fin (tcTables nBuf tb) → BufTy
  | .hbm, ⟨i, _⟩ => hbmTy i
  | .local _ .vmem, ⟨0, _⟩ => ⟨S1x32x1, .i32⟩
  | .local _ .vmem, ⟨1, _⟩ => ⟨S1x32x1, .i32⟩
  | .local _ .vmem, ⟨2, _⟩ => ⟨S1x32x1, .i32⟩
  | .local _ .vmem, ⟨3, _⟩ => ⟨S1x32x1, .i32⟩
  | .local _ .vmem, ⟨4, _⟩ => ⟨S1x32x1, .i32⟩
  | .local _ .vmem, ⟨5, _⟩ => ⟨S1x32x1, .i32⟩
  | .local _ .vmem, ⟨6, _⟩ => ⟨S1x32x1, .i32⟩
  | .local _ .vmem, ⟨7, _⟩ => ⟨S1x32x1, .i32⟩
  | .local _ .vmem, ⟨8, _⟩ => ⟨S1x32x1, .f32⟩
  | .local _ .vmem, ⟨9, _⟩ => ⟨S1x32x1, .f32⟩
  | .local _ .vmem, ⟨10, _⟩ => ⟨S1x32x1, .f32⟩
  | .local _ .vmem, ⟨11, _⟩ => ⟨S1x32x1, .f32⟩
  | .local _ .vmem, ⟨12, _⟩ => ⟨S1x32x1, .f32⟩
  | .local _ .vmem, ⟨13, _⟩ => ⟨S1x32x1, .f32⟩
  | .local _ .vmem, ⟨14, _⟩ => ⟨S1x32x1, .f32⟩
  | .local _ .vmem, ⟨15, _⟩ => ⟨S1x32x1, .f32⟩
  | .local _ .vmem, ⟨16, _⟩ => ⟨S1x8x256, .f32⟩
  | .local _ .vmem, ⟨17, _⟩ => ⟨S1x8x256, .f32⟩
  | .local _ .vmem, ⟨18, _⟩ => ⟨S2x768x256, .f32⟩
  | .local _ .vmem, ⟨19, _⟩ => ⟨S1x32x1, .i32⟩
  | .local _ .vmem, ⟨20, _⟩ => ⟨S1x32x1, .i32⟩
  | .local _ .vmem, ⟨21, _⟩ => ⟨S1x32x1, .i32⟩
  | .local _ .vmem, ⟨22, _⟩ => ⟨S1x32x1, .i32⟩
  | .local _ .vmem, ⟨23, _⟩ => ⟨S1x32x1, .i32⟩
  | .local _ .vmem, ⟨24, _⟩ => ⟨S1x32x1, .i32⟩
  | .local _ .vmem, ⟨25, _⟩ => ⟨S1x32x1, .i32⟩
  | .local _ .vmem, ⟨26, _⟩ => ⟨S1x32x1, .i32⟩
  | .local _ .vmem, ⟨27, _⟩ => ⟨S1x32x1, .f32⟩
  | .local _ .vmem, ⟨28, _⟩ => ⟨S1x32x1, .f32⟩
  | .local _ .vmem, ⟨29, _⟩ => ⟨S1x32x1, .f32⟩
  | .local _ .vmem, ⟨30, _⟩ => ⟨S1x32x1, .f32⟩
  | .local _ .vmem, ⟨31, _⟩ => ⟨S1x32x1, .f32⟩
  | .local _ .vmem, ⟨32, _⟩ => ⟨S1x32x1, .f32⟩
  | .local _ .vmem, ⟨33, _⟩ => ⟨S1x32x1, .f32⟩
  | .local _ .vmem, ⟨34, _⟩ => ⟨S1x32x1, .f32⟩
  | .local _ .vmem, ⟨35, _⟩ => ⟨S1x8x256, .f32⟩
  | .local _ .vmem, ⟨36, _⟩ => ⟨S1x8x256, .f32⟩
  | .local _ .vmem, ⟨37, _⟩ => ⟨S2x768x256, .f32⟩
  | .local _ .vmem, ⟨38, _⟩ => ⟨S64x2048, .f32⟩
  | .local _ .vmem, ⟨39, _⟩ => ⟨S512x2048, .f32⟩
  | .local _ .vmem, ⟨40, _⟩ => ⟨S512x2048, .f32⟩
  | .local _ .vmem, ⟨41, _⟩ => ⟨S1x512, .f32⟩
  | .local _ .vmem, ⟨42, _⟩ => ⟨S1x512, .f32⟩
  | .local _ .vmem, ⟨43, _⟩ => ⟨S64x512, .f32⟩
  | .local _ .vmem, ⟨44, _⟩ => ⟨S64x512, .f32⟩
  | .local _ .smem, ⟨0, _⟩ => ⟨S32x32, .i32⟩
  | .local _ .smem, ⟨1, _⟩ => ⟨S32x32, .i32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_cst_9 : Ref sig .tc := ⟨.hbm, 36, rfl⟩
abbrev main_cst_10 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_11 : Ref sig .tc := ⟨.hbm, 50, rfl⟩
abbrev main_v28 : Ref sig .tc := ⟨.hbm, 51, rfl⟩
abbrev main_v29 : Ref sig .tc := ⟨.hbm, 52, rfl⟩
abbrev main_cst_12 : Ref sig .tc := ⟨.hbm, 53, rfl⟩
abbrev main_v30 : Ref sig .tc := ⟨.hbm, 54, rfl⟩
abbrev main_v31 : Ref sig .tc := ⟨.hbm, 55, rfl⟩
abbrev main_cst_13 : Ref sig .tc := ⟨.hbm, 56, rfl⟩
abbrev main_v32 : Ref sig .tc := ⟨.hbm, 57, rfl⟩
abbrev main_v33 : Ref sig .tc := ⟨.hbm, 58, rfl⟩
abbrev main_cst_14 : Ref sig .tc := ⟨.hbm, 59, rfl⟩
abbrev main_v34 : Ref sig .tc := ⟨.hbm, 60, rfl⟩
abbrev main_v35 : Ref sig .tc := ⟨.hbm, 61, rfl⟩
abbrev main_cst_15 : Ref sig .tc := ⟨.hbm, 62, rfl⟩
abbrev main_v36 : Ref sig .tc := ⟨.hbm, 63, rfl⟩
abbrev main_v37 : Ref sig .tc := ⟨.hbm, 64, rfl⟩
abbrev main_cst_16 : Ref sig .tc := ⟨.hbm, 65, rfl⟩
abbrev main_v38 : Ref sig .tc := ⟨.hbm, 66, rfl⟩
abbrev main_v39 : Ref sig .tc := ⟨.hbm, 67, rfl⟩
abbrev main_cst_17 : Ref sig .tc := ⟨.hbm, 68, rfl⟩
abbrev main_cst_18 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_19 : Ref sig .tc := ⟨.hbm, 79, rfl⟩
abbrev main_v44 : Ref sig .tc := ⟨.hbm, 80, rfl⟩
abbrev main_v45 : Ref sig .tc := ⟨.hbm, 81, rfl⟩
abbrev main_c_20 : Ref sig .tc := ⟨.hbm, 82, rfl⟩
abbrev main_v46 : Ref sig .tc := ⟨.hbm, 83, rfl⟩
abbrev main_v47 : Ref sig .tc := ⟨.hbm, 84, rfl⟩
abbrev main_cst_21 : Ref sig .tc := ⟨.hbm, 85, rfl⟩
abbrev main_v48 : Ref sig .tc := ⟨.hbm, 86, rfl⟩
abbrev main_v49 : Ref sig .tc := ⟨.hbm, 87, rfl⟩
abbrev main_cst_22 : Ref sig .tc := ⟨.hbm, 88, rfl⟩
abbrev main_v50 : Ref sig .tc := ⟨.hbm, 89, rfl⟩
abbrev main_v51 : Ref sig .tc := ⟨.hbm, 90, rfl⟩
abbrev main_cst_23 : Ref sig .tc := ⟨.hbm, 91, rfl⟩
abbrev main_v52 : Ref sig .tc := ⟨.hbm, 92, rfl⟩
abbrev main_v53 : Ref sig .tc := ⟨.hbm, 93, rfl⟩
abbrev main_cst_24 : Ref sig .tc := ⟨.hbm, 94, rfl⟩
abbrev main_v54 : Ref sig .tc := ⟨.hbm, 95, rfl⟩
abbrev main_v55 : Ref sig .tc := ⟨.hbm, 96, rfl⟩
abbrev main_cst_25 : Ref sig .tc := ⟨.hbm, 97, rfl⟩
abbrev main_v56 : Ref sig .tc := ⟨.hbm, 98, rfl⟩
abbrev main_v57 : Ref sig .tc := ⟨.hbm, 99, rfl⟩
abbrev main_cst_26 : Ref sig .tc := ⟨.hbm, 100, rfl⟩
abbrev main_v58 : Ref sig .tc := ⟨.hbm, 101, rfl⟩
abbrev main_v59 : Ref sig .tc := ⟨.hbm, 102, rfl⟩
abbrev main_cst_27 : Ref sig .tc := ⟨.hbm, 103, rfl⟩
abbrev main_v60 : Ref sig .tc := ⟨.hbm, 104, rfl⟩
abbrev main_v61 : Ref sig .tc := ⟨.hbm, 105, rfl⟩
abbrev main_cst_28 : Ref sig .tc := ⟨.hbm, 106, rfl⟩
abbrev main_v62 : Ref sig .tc := ⟨.hbm, 107, rfl⟩
abbrev main_v63 : Ref sig .tc := ⟨.hbm, 108, rfl⟩
abbrev main_cst_29 : Ref sig .tc := ⟨.hbm, 109, rfl⟩
abbrev main_v64 : Ref sig .tc := ⟨.hbm, 110, rfl⟩
abbrev main_v65 : Ref sig .tc := ⟨.hbm, 111, rfl⟩
abbrev main_cst_30 : Ref sig .tc := ⟨.hbm, 112, rfl⟩
abbrev main_v66 : Ref sig .tc := ⟨.hbm, 113, rfl⟩
abbrev main_v67 : Ref sig .tc := ⟨.hbm, 114, rfl⟩
abbrev main_cst_31 : Ref sig .tc := ⟨.hbm, 115, rfl⟩
abbrev main_cst_32 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_c_33 : Ref sig .tc := ⟨.hbm, 126, rfl⟩
abbrev main_v72 : Ref sig .tc := ⟨.hbm, 127, rfl⟩
abbrev main_v73 : Ref sig .tc := ⟨.hbm, 128, rfl⟩
abbrev main_c_34 : Ref sig .tc := ⟨.hbm, 129, rfl⟩
abbrev main_v74 : Ref sig .tc := ⟨.hbm, 130, rfl⟩
abbrev main_v75 : Ref sig .tc := ⟨.hbm, 131, rfl⟩
abbrev main_cst_35 : Ref sig .tc := ⟨.hbm, 132, rfl⟩
abbrev main_v76 : Ref sig .tc := ⟨.hbm, 133, rfl⟩
abbrev main_v77 : Ref sig .tc := ⟨.hbm, 134, rfl⟩
abbrev main_cst_36 : Ref sig .tc := ⟨.hbm, 135, rfl⟩
abbrev main_v78 : Ref sig .tc := ⟨.hbm, 136, rfl⟩
abbrev main_v79 : Ref sig .tc := ⟨.hbm, 137, rfl⟩
abbrev main_cst_37 : Ref sig .tc := ⟨.hbm, 138, rfl⟩
abbrev main_v80 : Ref sig .tc := ⟨.hbm, 139, rfl⟩
abbrev main_v81 : Ref sig .tc := ⟨.hbm, 140, rfl⟩
abbrev main_cst_38 : Ref sig .tc := ⟨.hbm, 141, rfl⟩
abbrev main_v82 : Ref sig .tc := ⟨.hbm, 142, rfl⟩
abbrev main_v83 : Ref sig .tc := ⟨.hbm, 143, rfl⟩
abbrev main_cst_39 : Ref sig .tc := ⟨.hbm, 144, rfl⟩
abbrev main_v84 : Ref sig .tc := ⟨.hbm, 145, rfl⟩
abbrev main_v85 : Ref sig .tc := ⟨.hbm, 146, rfl⟩
abbrev main_cst_40 : Ref sig .tc := ⟨.hbm, 147, rfl⟩
abbrev main_cst_41 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_c_42 : Ref sig .tc := ⟨.hbm, 158, rfl⟩
abbrev main_v90 : Ref sig .tc := ⟨.hbm, 159, rfl⟩
abbrev main_v91 : Ref sig .tc := ⟨.hbm, 160, rfl⟩
abbrev main_c_43 : Ref sig .tc := ⟨.hbm, 161, rfl⟩
abbrev main_v92 : Ref sig .tc := ⟨.hbm, 162, rfl⟩
abbrev main_v93 : Ref sig .tc := ⟨.hbm, 163, rfl⟩
abbrev main_c_44 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_c_45 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_v8 : Ref sig .tc := ⟨.hbm, 177, rfl⟩
abbrev main_call4_c : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_c_0 : Ref sig .tc := ⟨.hbm, 182, rfl⟩
abbrev main_call4_v12 : Ref sig .tc := ⟨.hbm, 183, rfl⟩
abbrev main_call4_v13 : Ref sig .tc := ⟨.hbm, 184, rfl⟩
abbrev main_v97 : Ref sig .tc := ⟨.hbm, 185, rfl⟩
abbrev main_c_46 : Ref sig .tc := ⟨.hbm, 186, rfl⟩
abbrev main_v98 : Ref sig .tc := ⟨.hbm, 187, rfl⟩
abbrev main_v99 : Ref sig .tc := ⟨.hbm, 188, rfl⟩
abbrev main_c_47 : Ref sig .tc := ⟨.hbm, 189, rfl⟩
abbrev main_v100 : Ref sig .tc := ⟨.hbm, 190, rfl⟩
abbrev main_v101 : Ref sig .tc := ⟨.hbm, 191, rfl⟩
abbrev main_c_48 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_c_49 : Ref sig .tc := ⟨.hbm, 196, rfl⟩
abbrev main_call5_v0 : Ref sig .tc := ⟨.hbm, 197, rfl⟩
abbrev main_call5_v1 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_v5 : Ref sig .tc := ⟨.hbm, 202, rfl⟩
abbrev main_call5_v6 : Ref sig .tc := ⟨.hbm, 203, rfl⟩
abbrev main_call5_v7 : Ref sig .tc := ⟨.hbm, 204, rfl⟩
abbrev main_call5_v8 : Ref sig .tc := ⟨.hbm, 205, rfl⟩
abbrev main_call5_c : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_c_0 : Ref sig .tc := ⟨.hbm, 210, rfl⟩
abbrev main_call5_v12 : Ref sig .tc := ⟨.hbm, 211, rfl⟩
abbrev main_call5_v13 : Ref sig .tc := ⟨.hbm, 212, rfl⟩
abbrev main_v105 : Ref sig .tc := ⟨.hbm, 213, rfl⟩
abbrev main_c_50 : Ref sig .tc := ⟨.hbm, 214, rfl⟩
abbrev main_v106 : Ref sig .tc := ⟨.hbm, 215, rfl⟩
abbrev main_v107 : Ref sig .tc := ⟨.hbm, 216, rfl⟩
abbrev main_c_51 : Ref sig .tc := ⟨.hbm, 217, rfl⟩
abbrev main_v108 : Ref sig .tc := ⟨.hbm, 218, rfl⟩
abbrev main_v109 : Ref sig .tc := ⟨.hbm, 219, rfl⟩
abbrev main_c_52 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_c_53 : Ref sig .tc := ⟨.hbm, 224, rfl⟩
abbrev main_call6_v0 : Ref sig .tc := ⟨.hbm, 225, rfl⟩
abbrev main_call6_v1 : Ref sig .tc := ⟨.hbm, 226, rfl⟩
abbrev main_call6_v2 : Ref sig .tc := ⟨.hbm, 227, rfl⟩
abbrev main_call6_v3 : Ref sig .tc := ⟨.hbm, 228, rfl⟩
abbrev main_call6_v4 : Ref sig .tc := ⟨.hbm, 229, rfl⟩
abbrev main_call6_v5 : Ref sig .tc := ⟨.hbm, 230, rfl⟩
abbrev main_call6_v6 : Ref sig .tc := ⟨.hbm, 231, rfl⟩
abbrev main_call6_v7 : Ref sig .tc := ⟨.hbm, 232, rfl⟩
abbrev main_call6_v8 : Ref sig .tc := ⟨.hbm, 233, rfl⟩
abbrev main_call6_c : Ref sig .tc := ⟨.hbm, 234, rfl⟩
abbrev main_call6_v9 : Ref sig .tc := ⟨.hbm, 235, rfl⟩
abbrev main_call6_v10 : Ref sig .tc := ⟨.hbm, 236, rfl⟩
abbrev main_call6_v11 : Ref sig .tc := ⟨.hbm, 237, rfl⟩
abbrev main_call6_c_0 : Ref sig .tc := ⟨.hbm, 238, rfl⟩
abbrev main_call6_v12 : Ref sig .tc := ⟨.hbm, 239, rfl⟩
abbrev main_call6_v13 : Ref sig .tc := ⟨.hbm, 240, rfl⟩
abbrev main_v113 : Ref sig .tc := ⟨.hbm, 241, rfl⟩
abbrev main_c_54 : Ref sig .tc := ⟨.hbm, 242, rfl⟩
abbrev main_v114 : Ref sig .tc := ⟨.hbm, 243, rfl⟩
abbrev main_v115 : Ref sig .tc := ⟨.hbm, 244, rfl⟩
abbrev main_c_55 : Ref sig .tc := ⟨.hbm, 245, rfl⟩
abbrev main_v116 : Ref sig .tc := ⟨.hbm, 246, rfl⟩
abbrev main_v117 : Ref sig .tc := ⟨.hbm, 247, rfl⟩
abbrev main_c_56 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_c_57 : Ref sig .tc := ⟨.hbm, 252, rfl⟩
abbrev main_call7_v0 : Ref sig .tc := ⟨.hbm, 253, rfl⟩
abbrev main_call7_v1 : Ref sig .tc := ⟨.hbm, 254, rfl⟩
abbrev main_call7_v2 : Ref sig .tc := ⟨.hbm, 255, rfl⟩
abbrev main_call7_v3 : Ref sig .tc := ⟨.hbm, 256, rfl⟩
abbrev main_call7_v4 : Ref sig .tc := ⟨.hbm, 257, rfl⟩
abbrev main_call7_v5 : Ref sig .tc := ⟨.hbm, 258, rfl⟩
abbrev main_call7_v6 : Ref sig .tc := ⟨.hbm, 259, rfl⟩
abbrev main_call7_v7 : Ref sig .tc := ⟨.hbm, 260, rfl⟩
abbrev main_call7_v8 : Ref sig .tc := ⟨.hbm, 261, rfl⟩
abbrev main_call7_c : Ref sig .tc := ⟨.hbm, 262, rfl⟩
abbrev main_call7_v9 : Ref sig .tc := ⟨.hbm, 263, rfl⟩
abbrev main_call7_v10 : Ref sig .tc := ⟨.hbm, 264, rfl⟩
abbrev main_call7_v11 : Ref sig .tc := ⟨.hbm, 265, rfl⟩
abbrev main_call7_c_0 : Ref sig .tc := ⟨.hbm, 266, rfl⟩
abbrev main_call7_v12 : Ref sig .tc := ⟨.hbm, 267, rfl⟩
abbrev main_call7_v13 : Ref sig .tc := ⟨.hbm, 268, rfl⟩
abbrev main_v121 : Ref sig .tc := ⟨.hbm, 269, rfl⟩
abbrev main_c_58 : Ref sig .tc := ⟨.hbm, 270, rfl⟩
abbrev main_v122 : Ref sig .tc := ⟨.hbm, 271, rfl⟩
abbrev main_v123 : Ref sig .tc := ⟨.hbm, 272, rfl⟩
abbrev main_c_59 : Ref sig .tc := ⟨.hbm, 273, rfl⟩
abbrev main_v124 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_v129 : Ref sig .tc := ⟨.hbm, 279, rfl⟩
abbrev main_v130 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_c_60 : Ref sig .tc := ⟨.hbm, 284, rfl⟩
abbrev main_v134 : Ref sig .tc := ⟨.hbm, 285, rfl⟩
abbrev main_v135 : Ref sig .tc := ⟨.hbm, 286, rfl⟩
abbrev main_c_61 : Ref sig .tc := ⟨.hbm, 287, rfl⟩
abbrev main_v136 : Ref sig .tc := ⟨.hbm, 288, rfl⟩
abbrev main_v137 : Ref sig .tc := ⟨.hbm, 289, rfl⟩
abbrev main_c_62 : Ref sig .tc := ⟨.hbm, 290, rfl⟩
abbrev main_v138 : Ref sig .tc := ⟨.hbm, 291, rfl⟩
abbrev main_v139 : Ref sig .tc := ⟨.hbm, 292, rfl⟩
abbrev main_c_63 : Ref sig .tc := ⟨.hbm, 293, rfl⟩
abbrev main_v140 : Ref sig .tc := ⟨.hbm, 294, rfl⟩
abbrev main_v141 : Ref sig .tc := ⟨.hbm, 295, rfl⟩
abbrev main_c_64 : Ref sig .tc := ⟨.hbm, 296, rfl⟩
abbrev main_v142 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_c_65 : Ref sig .tc := ⟨.hbm, 303, rfl⟩
abbrev main_v148 : Ref sig .tc := ⟨.hbm, 304, rfl⟩
abbrev main_v149 : Ref sig .tc := ⟨.hbm, 305, rfl⟩
abbrev main_c_66 : Ref sig .tc := ⟨.hbm, 306, rfl⟩
abbrev main_v150 : Ref sig .tc := ⟨.hbm, 307, rfl⟩
abbrev main_v151 : Ref sig .tc := ⟨.hbm, 308, rfl⟩
abbrev main_c_67 : Ref sig .tc := ⟨.hbm, 309, rfl⟩
abbrev main_v152 : Ref sig .tc := ⟨.hbm, 310, rfl⟩
abbrev main_v153 : Ref sig .tc := ⟨.hbm, 311, rfl⟩
abbrev main_c_68 : Ref sig .tc := ⟨.hbm, 312, rfl⟩
abbrev main_v154 : Ref sig .tc := ⟨.hbm, 313, rfl⟩
abbrev main_v155 : Ref sig .tc := ⟨.hbm, 314, rfl⟩
abbrev main_c_69 : Ref sig .tc := ⟨.hbm, 315, rfl⟩
abbrev main_v156 : Ref sig .tc := ⟨.hbm, 316, rfl⟩
abbrev main_v157 : Ref sig .tc := ⟨.hbm, 317, rfl⟩
abbrev main_v158 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_c_70 : Ref sig .tc := ⟨.hbm, 322, rfl⟩
abbrev main_v162 : Ref sig .tc := ⟨.hbm, 323, rfl⟩
abbrev main_v163 : Ref sig .tc := ⟨.hbm, 324, rfl⟩
abbrev main_c_71 : Ref sig .tc := ⟨.hbm, 325, rfl⟩
abbrev main_v164 : Ref sig .tc := ⟨.hbm, 326, rfl⟩
abbrev main_v165 : Ref sig .tc := ⟨.hbm, 327, rfl⟩
abbrev main_c_72 : Ref sig .tc := ⟨.hbm, 328, rfl⟩
abbrev main_v166 : Ref sig .tc := ⟨.hbm, 329, rfl⟩
abbrev main_v167 : Ref sig .tc := ⟨.hbm, 330, rfl⟩
abbrev main_c_73 : Ref sig .tc := ⟨.hbm, 331, rfl⟩
abbrev main_v168 : Ref sig .tc := ⟨.hbm, 332, rfl⟩
abbrev main_v169 : Ref sig .tc := ⟨.hbm, 333, rfl⟩
abbrev main_c_74 : Ref sig .tc := ⟨.hbm, 334, rfl⟩
abbrev main_v170 : Ref sig .tc := ⟨.hbm, 335, rfl⟩
abbrev main_v171 : Ref sig .tc := ⟨.hbm, 336, rfl⟩
abbrev main_v172 : Ref sig .tc := ⟨.hbm, 337, rfl⟩
abbrev main_v173 : Ref sig .tc := ⟨.hbm, 338, rfl⟩
abbrev main_v174 : Ref sig .tc := ⟨.hbm, 339, rfl⟩
abbrev main_v175 : Ref sig .tc := ⟨.hbm, 340, rfl⟩
abbrev main_c_75 : Ref sig .tc := ⟨.hbm, 341, rfl⟩
abbrev main_v176 : Ref sig .tc := ⟨.hbm, 342, rfl⟩
abbrev main_v177 : Ref sig .tc := ⟨.hbm, 343, rfl⟩
abbrev main_c_76 : Ref sig .tc := ⟨.hbm, 344, rfl⟩
abbrev main_v178 : Ref sig .tc := ⟨.hbm, 345, rfl⟩
abbrev main_v179 : Ref sig .tc := ⟨.hbm, 346, rfl⟩
abbrev main_c_77 : Ref sig .tc := ⟨.hbm, 347, rfl⟩
abbrev main_v180 : Ref sig .tc := ⟨.hbm, 348, rfl⟩
abbrev main_v181 : Ref sig .tc := ⟨.hbm, 349, rfl⟩
abbrev main_c_78 : Ref sig .tc := ⟨.hbm, 350, rfl⟩
abbrev main_v182 : Ref sig .tc := ⟨.hbm, 351, rfl⟩
abbrev main_v183 : Ref sig .tc := ⟨.hbm, 352, rfl⟩
abbrev main_c_79 : Ref sig .tc := ⟨.hbm, 353, rfl⟩
abbrev main_v184 : Ref sig .tc := ⟨.hbm, 354, rfl⟩
abbrev main_v185 : Ref sig .tc := ⟨.hbm, 355, rfl⟩
abbrev main_v186 : Ref sig .tc := ⟨.hbm, 356, rfl⟩
abbrev main_v187 : Ref sig .tc := ⟨.hbm, 357, rfl⟩
abbrev main_v188 : Ref sig .tc := ⟨.hbm, 358, rfl⟩
abbrev main_v189 : Ref sig .tc := ⟨.hbm, 359, rfl⟩
abbrev main_v190 : Ref sig .tc := ⟨.hbm, 360, rfl⟩
abbrev main_v191 : Ref sig .tc := ⟨.hbm, 361, rfl⟩
abbrev main_v192 : Ref sig .tc := ⟨.hbm, 362, rfl⟩
abbrev main_v193 : Ref sig .tc := ⟨.hbm, 363, rfl⟩
abbrev main_v194 : Ref sig .tc := ⟨.hbm, 364, rfl⟩
abbrev main_v195 : Ref sig .tc := ⟨.hbm, 365, rfl⟩
abbrev main_c_80 : Ref sig .tc := ⟨.hbm, 366, rfl⟩
abbrev main_v196 : Ref sig .tc := ⟨.hbm, 367, rfl⟩
abbrev main_v197 : Ref sig .tc := ⟨.hbm, 368, rfl⟩
abbrev main_c_81 : Ref sig .tc := ⟨.hbm, 369, rfl⟩
abbrev main_v198 : Ref sig .tc := ⟨.hbm, 370, rfl⟩
abbrev main_v199 : Ref sig .tc := ⟨.hbm, 371, rfl⟩
abbrev main_c_82 : Ref sig .tc := ⟨.hbm, 372, rfl⟩
abbrev main_v200 : Ref sig .tc := ⟨.hbm, 373, rfl⟩
abbrev main_v201 : Ref sig .tc := ⟨.hbm, 374, rfl⟩
abbrev main_c_83 : Ref sig .tc := ⟨.hbm, 375, rfl⟩
abbrev main_v202 : Ref sig .tc := ⟨.hbm, 376, rfl⟩
abbrev main_v203 : Ref sig .tc := ⟨.hbm, 377, rfl⟩
abbrev main_c_84 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_c_85 : Ref sig .tc := ⟨.hbm, 385, rfl⟩
abbrev main_v210 : Ref sig .tc := ⟨.hbm, 386, rfl⟩
abbrev main_v211 : Ref sig .tc := ⟨.hbm, 387, rfl⟩
abbrev main_c_86 : Ref sig .tc := ⟨.hbm, 388, rfl⟩
abbrev main_v212 : Ref sig .tc := ⟨.hbm, 389, rfl⟩
abbrev main_v213 : Ref sig .tc := ⟨.hbm, 390, rfl⟩
abbrev main_c_87 : Ref sig .tc := ⟨.hbm, 391, rfl⟩
abbrev main_v214 : Ref sig .tc := ⟨.hbm, 392, rfl⟩
abbrev main_v215 : Ref sig .tc := ⟨.hbm, 393, rfl⟩
abbrev main_c_88 : Ref sig .tc := ⟨.hbm, 394, rfl⟩
abbrev main_v216 : Ref sig .tc := ⟨.hbm, 395, rfl⟩
abbrev main_v217 : Ref sig .tc := ⟨.hbm, 396, rfl⟩
abbrev main_c_89 : Ref sig .tc := ⟨.hbm, 397, rfl⟩
abbrev main_v218 : Ref sig .tc := ⟨.hbm, 398, rfl⟩
abbrev main_v219 : Ref sig .tc := ⟨.hbm, 399, rfl⟩
abbrev main_v220 : Ref sig .tc := ⟨.hbm, 400, rfl⟩
abbrev main_v221 : Ref sig .tc := ⟨.hbm, 401, rfl⟩
abbrev main_v222 : Ref sig .tc := ⟨.hbm, 402, rfl⟩
abbrev main_v223 : Ref sig .tc := ⟨.hbm, 403, rfl⟩
abbrev main_c_90 : Ref sig .tc := ⟨.hbm, 404, rfl⟩
abbrev main_v224 : Ref sig .tc := ⟨.hbm, 405, rfl⟩
abbrev main_v225 : Ref sig .tc := ⟨.hbm, 406, rfl⟩
abbrev main_c_91 : Ref sig .tc := ⟨.hbm, 407, rfl⟩
abbrev main_v226 : Ref sig .tc := ⟨.hbm, 408, rfl⟩
abbrev main_v227 : Ref sig .tc := ⟨.hbm, 409, rfl⟩
abbrev main_c_92 : Ref sig .tc := ⟨.hbm, 410, rfl⟩
abbrev main_v228 : Ref sig .tc := ⟨.hbm, 411, rfl⟩
abbrev main_v229 : Ref sig .tc := ⟨.hbm, 412, rfl⟩
abbrev main_c_93 : Ref sig .tc := ⟨.hbm, 413, rfl⟩
abbrev main_v230 : Ref sig .tc := ⟨.hbm, 414, rfl⟩
abbrev main_v231 : Ref sig .tc := ⟨.hbm, 415, rfl⟩
abbrev main_c_94 : Ref sig .tc := ⟨.hbm, 416, rfl⟩
abbrev main_v232 : Ref sig .tc := ⟨.hbm, 417, rfl⟩
abbrev main_v233 : Ref sig .tc := ⟨.hbm, 418, rfl⟩
abbrev main_v234 : Ref sig .tc := ⟨.hbm, 419, rfl⟩
abbrev main_v235 : Ref sig .tc := ⟨.hbm, 420, rfl⟩
abbrev main_v236 : Ref sig .tc := ⟨.hbm, 421, rfl⟩
abbrev main_v237 : Ref sig .tc := ⟨.hbm, 422, rfl⟩
abbrev main_c_95 : Ref sig .tc := ⟨.hbm, 423, rfl⟩
abbrev main_v238 : Ref sig .tc := ⟨.hbm, 424, rfl⟩
abbrev main_v239 : Ref sig .tc := ⟨.hbm, 425, rfl⟩
abbrev main_c_96 : Ref sig .tc := ⟨.hbm, 426, rfl⟩
abbrev main_v240 : Ref sig .tc := ⟨.hbm, 427, rfl⟩
abbrev main_v241 : Ref sig .tc := ⟨.hbm, 428, rfl⟩
abbrev main_c_97 : Ref sig .tc := ⟨.hbm, 429, rfl⟩
abbrev main_v242 : Ref sig .tc := ⟨.hbm, 430, rfl⟩
abbrev main_v243 : Ref sig .tc := ⟨.hbm, 431, rfl⟩
abbrev main_c_98 : Ref sig .tc := ⟨.hbm, 432, rfl⟩
abbrev main_v244 : Ref sig .tc := ⟨.hbm, 433, rfl⟩
abbrev main_v245 : Ref sig .tc := ⟨.hbm, 434, rfl⟩
abbrev main_c_99 : Ref sig .tc := ⟨.hbm, 435, rfl⟩
abbrev main_v246 : Ref sig .tc := ⟨.hbm, 436, rfl⟩
abbrev main_v247 : Ref sig .tc := ⟨.hbm, 437, rfl⟩
abbrev main_v248 : Ref sig .tc := ⟨.hbm, 438, rfl⟩
abbrev main_v249 : Ref sig .tc := ⟨.hbm, 439, rfl⟩
abbrev main_v250 : Ref sig .tc := ⟨.hbm, 440, rfl⟩
abbrev main_v251 : Ref sig .tc := ⟨.hbm, 441, rfl⟩
abbrev main_v252 : Ref sig .tc := ⟨.hbm, 442, rfl⟩
abbrev main_v253 : Ref sig .tc := ⟨.hbm, 443, rfl⟩
abbrev main_v254 : Ref sig .tc := ⟨.hbm, 444, rfl⟩
abbrev main_v255 : Ref sig .tc := ⟨.hbm, 445, rfl⟩
abbrev main_v256 : Ref sig .tc := ⟨.hbm, 446, rfl⟩
abbrev main_v257 : Ref sig .tc := ⟨.hbm, 447, rfl⟩
abbrev main_c_100 : Ref sig .tc := ⟨.hbm, 448, rfl⟩
abbrev main_v258 : Ref sig .tc := ⟨.hbm, 449, rfl⟩
abbrev main_v259 : Ref sig .tc := ⟨.hbm, 450, rfl⟩
abbrev main_c_101 : Ref sig .tc := ⟨.hbm, 451, rfl⟩
abbrev main_v260 : Ref sig .tc := ⟨.hbm, 452, rfl⟩
abbrev main_v261 : Ref sig .tc := ⟨.hbm, 453, rfl⟩
abbrev main_c_102 : Ref sig .tc := ⟨.hbm, 454, rfl⟩
abbrev main_v262 : Ref sig .tc := ⟨.hbm, 455, rfl⟩
abbrev main_v263 : Ref sig .tc := ⟨.hbm, 456, rfl⟩
abbrev main_c_103 : Ref sig .tc := ⟨.hbm, 457, rfl⟩
abbrev main_v264 : Ref sig .tc := ⟨.hbm, 458, rfl⟩
abbrev main_v265 : Ref sig .tc := ⟨.hbm, 459, rfl⟩
abbrev main_c_104 : Ref sig .tc := ⟨.hbm, 460, rfl⟩
abbrev main_v266 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_c_105 : Ref sig .tc := ⟨.hbm, 467, rfl⟩
abbrev main_v272 : Ref sig .tc := ⟨.hbm, 468, rfl⟩
abbrev main_v273 : Ref sig .tc := ⟨.hbm, 469, rfl⟩
abbrev main_c_106 : Ref sig .tc := ⟨.hbm, 470, rfl⟩
abbrev main_v274 : Ref sig .tc := ⟨.hbm, 471, rfl⟩
abbrev main_v275 : Ref sig .tc := ⟨.hbm, 472, rfl⟩
abbrev main_c_107 : Ref sig .tc := ⟨.hbm, 473, rfl⟩
abbrev main_v276 : Ref sig .tc := ⟨.hbm, 474, rfl⟩
abbrev main_v277 : Ref sig .tc := ⟨.hbm, 475, rfl⟩
abbrev main_c_108 : Ref sig .tc := ⟨.hbm, 476, rfl⟩
abbrev main_v278 : Ref sig .tc := ⟨.hbm, 477, rfl⟩
abbrev main_v279 : Ref sig .tc := ⟨.hbm, 478, rfl⟩
abbrev main_c_109 : Ref sig .tc := ⟨.hbm, 479, rfl⟩
abbrev main_v280 : Ref sig .tc := ⟨.hbm, 480, rfl⟩
abbrev main_v281 : Ref sig .tc := ⟨.hbm, 481, rfl⟩
abbrev main_v282 : Ref sig .tc := ⟨.hbm, 482, rfl⟩
abbrev main_v283 : Ref sig .tc := ⟨.hbm, 483, rfl⟩
abbrev main_v284 : Ref sig .tc := ⟨.hbm, 484, rfl⟩
abbrev main_v285 : Ref sig .tc := ⟨.hbm, 485, rfl⟩
abbrev main_c_110 : Ref sig .tc := ⟨.hbm, 486, rfl⟩
abbrev main_v286 : Ref sig .tc := ⟨.hbm, 487, rfl⟩
abbrev main_v287 : Ref sig .tc := ⟨.hbm, 488, rfl⟩
abbrev main_c_111 : Ref sig .tc := ⟨.hbm, 489, rfl⟩
abbrev main_v288 : Ref sig .tc := ⟨.hbm, 490, rfl⟩
abbrev main_v289 : Ref sig .tc := ⟨.hbm, 491, rfl⟩
abbrev main_c_112 : Ref sig .tc := ⟨.hbm, 492, rfl⟩
abbrev main_v290 : Ref sig .tc := ⟨.hbm, 493, rfl⟩
abbrev main_v291 : Ref sig .tc := ⟨.hbm, 494, rfl⟩
abbrev main_c_113 : Ref sig .tc := ⟨.hbm, 495, rfl⟩
abbrev main_v292 : Ref sig .tc := ⟨.hbm, 496, rfl⟩
abbrev main_v293 : Ref sig .tc := ⟨.hbm, 497, rfl⟩
abbrev main_c_114 : Ref sig .tc := ⟨.hbm, 498, rfl⟩
abbrev main_v294 : Ref sig .tc := ⟨.hbm, 499, rfl⟩
abbrev main_v295 : Ref sig .tc := ⟨.hbm, 500, rfl⟩
abbrev main_v296 : Ref sig .tc := ⟨.hbm, 501, rfl⟩
abbrev main_v297 : Ref sig .tc := ⟨.hbm, 502, rfl⟩
abbrev main_v298 : Ref sig .tc := ⟨.hbm, 503, rfl⟩
abbrev main_v299 : Ref sig .tc := ⟨.hbm, 504, rfl⟩
abbrev main_c_115 : Ref sig .tc := ⟨.hbm, 505, rfl⟩
abbrev main_v300 : Ref sig .tc := ⟨.hbm, 506, rfl⟩
abbrev main_v301 : Ref sig .tc := ⟨.hbm, 507, rfl⟩
abbrev main_c_116 : Ref sig .tc := ⟨.hbm, 508, rfl⟩
abbrev main_v302 : Ref sig .tc := ⟨.hbm, 509, rfl⟩
abbrev main_v303 : Ref sig .tc := ⟨.hbm, 510, rfl⟩
abbrev main_c_117 : Ref sig .tc := ⟨.hbm, 511, rfl⟩
abbrev main_v304 : Ref sig .tc := ⟨.hbm, 512, rfl⟩
abbrev main_v305 : Ref sig .tc := ⟨.hbm, 513, rfl⟩
abbrev main_c_118 : Ref sig .tc := ⟨.hbm, 514, rfl⟩
abbrev main_v306 : Ref sig .tc := ⟨.hbm, 515, rfl⟩
abbrev main_v307 : Ref sig .tc := ⟨.hbm, 516, rfl⟩
abbrev main_c_119 : Ref sig .tc := ⟨.hbm, 517, rfl⟩
abbrev main_v308 : Ref sig .tc := ⟨.hbm, 518, rfl⟩
abbrev main_v309 : Ref sig .tc := ⟨.hbm, 519, rfl⟩
abbrev main_v310 : Ref sig .tc := ⟨.hbm, 520, rfl⟩
abbrev main_v311 : Ref sig .tc := ⟨.hbm, 521, rfl⟩
abbrev main_v312 : Ref sig .tc := ⟨.hbm, 522, rfl⟩
abbrev main_v313 : Ref sig .tc := ⟨.hbm, 523, rfl⟩
abbrev main_v314 : Ref sig .tc := ⟨.hbm, 524, rfl⟩
abbrev main_v315 : Ref sig .tc := ⟨.hbm, 525, rfl⟩
abbrev main_v316 : Ref sig .tc := ⟨.hbm, 526, rfl⟩
abbrev main_v317 : Ref sig .tc := ⟨.hbm, 527, rfl⟩
abbrev main_v318 : Ref sig .tc := ⟨.hbm, 528, rfl⟩
abbrev main_v319 : Ref sig .tc := ⟨.hbm, 529, rfl⟩
abbrev main_c_120 : Ref sig .tc := ⟨.hbm, 530, rfl⟩
abbrev main_v320 : Ref sig .tc := ⟨.hbm, 531, rfl⟩
abbrev main_v321 : Ref sig .tc := ⟨.hbm, 532, rfl⟩
abbrev main_c_121 : Ref sig .tc := ⟨.hbm, 533, rfl⟩
abbrev main_v322 : Ref sig .tc := ⟨.hbm, 534, rfl⟩
abbrev main_v323 : Ref sig .tc := ⟨.hbm, 535, rfl⟩
abbrev main_c_122 : Ref sig .tc := ⟨.hbm, 536, rfl⟩
abbrev main_v324 : Ref sig .tc := ⟨.hbm, 537, rfl⟩
abbrev main_v325 : Ref sig .tc := ⟨.hbm, 538, rfl⟩
abbrev main_c_123 : Ref sig .tc := ⟨.hbm, 539, rfl⟩
abbrev main_v326 : Ref sig .tc := ⟨.hbm, 540, rfl⟩
abbrev main_v327 : Ref sig .tc := ⟨.hbm, 541, rfl⟩
abbrev main_c_124 : Ref sig .tc := ⟨.hbm, 542, rfl⟩
abbrev main_v328 : Ref sig .tc := ⟨.hbm, 543, rfl⟩
abbrev main_v329 : Ref sig .tc := ⟨.hbm, 544, rfl⟩
abbrev main_v330 : Ref sig .tc := ⟨.hbm, 545, rfl⟩
abbrev main_v331 : Ref sig .tc := ⟨.hbm, 546, rfl⟩
abbrev main_v332 : Ref sig .tc := ⟨.hbm, 547, rfl⟩
abbrev main_v333 : Ref sig .tc := ⟨.hbm, 548, rfl⟩
abbrev main_c_125 : Ref sig .tc := ⟨.hbm, 549, rfl⟩
abbrev main_v334 : Ref sig .tc := ⟨.hbm, 550, rfl⟩
abbrev main_v335 : Ref sig .tc := ⟨.hbm, 551, rfl⟩
abbrev main_c_126 : Ref sig .tc := ⟨.hbm, 552, rfl⟩
abbrev main_v336 : Ref sig .tc := ⟨.hbm, 553, rfl⟩
abbrev main_v337 : Ref sig .tc := ⟨.hbm, 554, rfl⟩
abbrev main_c_127 : Ref sig .tc := ⟨.hbm, 555, rfl⟩
abbrev main_v338 : Ref sig .tc := ⟨.hbm, 556, rfl⟩
abbrev main_v339 : Ref sig .tc := ⟨.hbm, 557, rfl⟩
abbrev main_c_128 : Ref sig .tc := ⟨.hbm, 558, rfl⟩
abbrev main_v340 : Ref sig .tc := ⟨.hbm, 559, rfl⟩
abbrev main_v341 : Ref sig .tc := ⟨.hbm, 560, rfl⟩
abbrev main_c_129 : Ref sig .tc := ⟨.hbm, 561, rfl⟩
abbrev main_v342 : Ref sig .tc := ⟨.hbm, 562, rfl⟩
abbrev main_v343 : Ref sig .tc := ⟨.hbm, 563, rfl⟩
abbrev main_v344 : Ref sig .tc := ⟨.hbm, 564, rfl⟩
abbrev main_v345 : Ref sig .tc := ⟨.hbm, 565, rfl⟩
abbrev main_v346 : Ref sig .tc := ⟨.hbm, 566, rfl⟩
abbrev main_v347 : Ref sig .tc := ⟨.hbm, 567, rfl⟩
abbrev main_c_130 : Ref sig .tc := ⟨.hbm, 568, rfl⟩
abbrev main_v348 : Ref sig .tc := ⟨.hbm, 569, rfl⟩
abbrev main_v349 : Ref sig .tc := ⟨.hbm, 570, rfl⟩
abbrev main_c_131 : Ref sig .tc := ⟨.hbm, 571, rfl⟩
abbrev main_v350 : Ref sig .tc := ⟨.hbm, 572, rfl⟩
abbrev main_v351 : Ref sig .tc := ⟨.hbm, 573, rfl⟩
abbrev main_c_132 : Ref sig .tc := ⟨.hbm, 574, rfl⟩
abbrev main_v352 : Ref sig .tc := ⟨.hbm, 575, rfl⟩
abbrev main_v353 : Ref sig .tc := ⟨.hbm, 576, rfl⟩
abbrev main_c_133 : Ref sig .tc := ⟨.hbm, 577, rfl⟩
abbrev main_v354 : Ref sig .tc := ⟨.hbm, 578, rfl⟩
abbrev main_v355 : Ref sig .tc := ⟨.hbm, 579, rfl⟩
abbrev main_c_134 : Ref sig .tc := ⟨.hbm, 580, rfl⟩
abbrev main_v356 : Ref sig .tc := ⟨.hbm, 581, rfl⟩
abbrev main_v357 : Ref sig .tc := ⟨.hbm, 582, rfl⟩
abbrev main_v358 : Ref sig .tc := ⟨.hbm, 583, rfl⟩
abbrev main_v359 : Ref sig .tc := ⟨.hbm, 584, rfl⟩
abbrev main_v360 : Ref sig .tc := ⟨.hbm, 585, rfl⟩
abbrev main_v361 : Ref sig .tc := ⟨.hbm, 586, rfl⟩
abbrev main_c_135 : Ref sig .tc := ⟨.hbm, 587, rfl⟩
abbrev main_v362 : Ref sig .tc := ⟨.hbm, 588, rfl⟩
abbrev main_v363 : Ref sig .tc := ⟨.hbm, 589, rfl⟩
abbrev main_c_136 : Ref sig .tc := ⟨.hbm, 590, rfl⟩
abbrev main_v364 : Ref sig .tc := ⟨.hbm, 591, rfl⟩
abbrev main_v365 : Ref sig .tc := ⟨.hbm, 592, rfl⟩
abbrev main_c_137 : Ref sig .tc := ⟨.hbm, 593, rfl⟩
abbrev main_v366 : Ref sig .tc := ⟨.hbm, 594, rfl⟩
abbrev main_v367 : Ref sig .tc := ⟨.hbm, 595, rfl⟩
abbrev main_c_138 : Ref sig .tc := ⟨.hbm, 596, rfl⟩
abbrev main_v368 : Ref sig .tc := ⟨.hbm, 597, rfl⟩
abbrev main_v369 : Ref sig .tc := ⟨.hbm, 598, rfl⟩
abbrev main_c_139 : Ref sig .tc := ⟨.hbm, 599, rfl⟩
abbrev main_v370 : Ref sig .tc := ⟨.hbm, 600, rfl⟩
abbrev main_v371 : Ref sig .tc := ⟨.hbm, 601, rfl⟩
abbrev main_v372 : Ref sig .tc := ⟨.hbm, 602, rfl⟩
abbrev main_v373 : Ref sig .tc := ⟨.hbm, 603, rfl⟩
abbrev main_v374 : Ref sig .tc := ⟨.hbm, 604, rfl⟩
abbrev main_v375 : Ref sig .tc := ⟨.hbm, 605, rfl⟩
abbrev main_v376 : Ref sig .tc := ⟨.hbm, 606, rfl⟩
abbrev main_v377 : Ref sig .tc := ⟨.hbm, 607, rfl⟩
abbrev main_v378 : Ref sig .tc := ⟨.hbm, 608, rfl⟩
abbrev main_v379 : Ref sig .tc := ⟨.hbm, 609, rfl⟩
abbrev main_v380 : Ref sig .tc := ⟨.hbm, 610, rfl⟩
abbrev main_v381 : Ref sig .tc := ⟨.hbm, 611, rfl⟩
abbrev main_cst_140 : Ref sig .tc := ⟨.hbm, 612, rfl⟩
abbrev main_v382 : Ref sig .tc := ⟨.hbm, 613, rfl⟩
abbrev main_v383 : Ref sig .tc := ⟨.hbm, 614, rfl⟩
abbrev main_cst_141 : Ref sig .tc := ⟨.hbm, 615, rfl⟩
abbrev main_v384 : Ref sig .tc := ⟨.hbm, 616, rfl⟩
abbrev main_v385 : Ref sig .tc := ⟨.hbm, 617, rfl⟩
abbrev main_v386 : Ref sig .tc := ⟨.hbm, 618, rfl⟩
abbrev main_cst_142 : Ref sig .tc := ⟨.hbm, 619, rfl⟩
abbrev main_v387 : Ref sig .tc := ⟨.hbm, 620, rfl⟩
abbrev main_v388 : Ref sig .tc := ⟨.hbm, 621, rfl⟩
abbrev main_cst_143 : Ref sig .tc := ⟨.hbm, 622, rfl⟩
abbrev main_v389 : Ref sig .tc := ⟨.hbm, 623, rfl⟩
abbrev main_v390 : Ref sig .tc := ⟨.hbm, 624, rfl⟩
abbrev main_v391 : Ref sig .tc := ⟨.hbm, 625, rfl⟩
abbrev main_cst_144 : Ref sig .tc := ⟨.hbm, 626, rfl⟩
abbrev main_v392 : Ref sig .tc := ⟨.hbm, 627, rfl⟩
abbrev main_v393 : Ref sig .tc := ⟨.hbm, 628, rfl⟩
abbrev main_cst_145 : Ref sig .tc := ⟨.hbm, 629, rfl⟩
abbrev main_v394 : Ref sig .tc := ⟨.hbm, 630, rfl⟩
abbrev main_v395 : Ref sig .tc := ⟨.hbm, 631, rfl⟩
abbrev main_v396 : Ref sig .tc := ⟨.hbm, 632, rfl⟩
abbrev main_cst_146 : Ref sig .tc := ⟨.hbm, 633, rfl⟩
abbrev main_v397 : Ref sig .tc := ⟨.hbm, 634, rfl⟩
abbrev main_v398 : Ref sig .tc := ⟨.hbm, 635, rfl⟩
abbrev main_cst_147 : Ref sig .tc := ⟨.hbm, 636, rfl⟩
abbrev main_v399 : Ref sig .tc := ⟨.hbm, 637, rfl⟩
abbrev main_v400 : Ref sig .tc := ⟨.hbm, 638, rfl⟩
abbrev main_v401 : Ref sig .tc := ⟨.hbm, 639, rfl⟩
abbrev main_v402 : Ref sig .tc := ⟨.hbm, 640, rfl⟩
abbrev main_v403 : Ref sig .tc := ⟨.hbm, 641, rfl⟩
abbrev main_v404 : Ref sig .tc := ⟨.hbm, 642, rfl⟩
abbrev main_v405 : Ref sig .tc := ⟨.hbm, 643, rfl⟩
abbrev main_v406 : Ref sig .tc := ⟨.hbm, 644, rfl⟩
abbrev main_v407 : Ref sig .tc := ⟨.hbm, 645, rfl⟩
abbrev main_cst_148 : Ref sig .tc := ⟨.hbm, 646, rfl⟩
abbrev main_v408 : Ref sig .tc := ⟨.hbm, 647, rfl⟩
abbrev main_v409 : Ref sig .tc := ⟨.hbm, 648, rfl⟩
abbrev main_v410 : Ref sig .tc := ⟨.hbm, 649, rfl⟩
abbrev main_cst_149 : Ref sig .tc := ⟨.hbm, 650, rfl⟩
abbrev main_v411 : Ref sig .tc := ⟨.hbm, 651, rfl⟩
abbrev main_v412 : Ref sig .tc := ⟨.hbm, 652, rfl⟩
abbrev main_v413 : Ref sig .tc := ⟨.hbm, 653, rfl⟩
abbrev main_cst_150 : Ref sig .tc := ⟨.hbm, 654, rfl⟩
abbrev main_v414 : Ref sig .tc := ⟨.hbm, 655, rfl⟩
abbrev main_v415 : Ref sig .tc := ⟨.hbm, 656, rfl⟩
abbrev main_v416 : Ref sig .tc := ⟨.hbm, 657, rfl⟩
abbrev main_cst_151 : Ref sig .tc := ⟨.hbm, 658, rfl⟩
abbrev main_v417 : Ref sig .tc := ⟨.hbm, 659, rfl⟩
abbrev main_v418 : Ref sig .tc := ⟨.hbm, 660, rfl⟩
abbrev main_v419 : Ref sig .tc := ⟨.hbm, 661, rfl⟩
abbrev main_v420 : Ref sig .tc := ⟨.hbm, 662, rfl⟩
abbrev main_v421 : Ref sig .tc := ⟨.hbm, 663, rfl⟩
abbrev main_v422 : Ref sig .tc := ⟨.hbm, 664, rfl⟩
abbrev main_v423 : Ref sig .tc := ⟨.hbm, 665, rfl⟩
abbrev main_v424 : Ref sig .tc := ⟨.hbm, 666, rfl⟩
abbrev main_v425 : Ref sig .tc := ⟨.hbm, 667, rfl⟩
abbrev main_cst_152 : Ref sig .tc := ⟨.hbm, 668, rfl⟩
abbrev main_v426 : Ref sig .tc := ⟨.hbm, 669, rfl⟩
abbrev main_v427 : Ref sig .tc := ⟨.hbm, 670, rfl⟩
abbrev main_v428 : Ref sig .tc := ⟨.hbm, 671, rfl⟩
abbrev main_cst_153 : Ref sig .tc := ⟨.hbm, 672, rfl⟩
abbrev main_v429 : Ref sig .tc := ⟨.hbm, 673, rfl⟩
abbrev main_v430 : Ref sig .tc := ⟨.hbm, 674, rfl⟩
abbrev main_v431 : Ref sig .tc := ⟨.hbm, 675, rfl⟩
abbrev main_cst_154 : Ref sig .tc := ⟨.hbm, 676, rfl⟩
abbrev main_v432 : Ref sig .tc := ⟨.hbm, 677, rfl⟩
abbrev main_v433 : Ref sig .tc := ⟨.hbm, 678, rfl⟩
abbrev main_v434 : Ref sig .tc := ⟨.hbm, 679, rfl⟩
abbrev main_cst_155 : Ref sig .tc := ⟨.hbm, 680, rfl⟩
abbrev main_v435 : Ref sig .tc := ⟨.hbm, 681, rfl⟩
abbrev main_v436 : Ref sig .tc := ⟨.hbm, 682, rfl⟩
abbrev main_v437 : Ref sig .tc := ⟨.hbm, 683, rfl⟩
abbrev main_v438 : Ref sig .tc := ⟨.hbm, 684, rfl⟩
abbrev main_v439 : Ref sig .tc := ⟨.hbm, 685, rfl⟩
abbrev main_v440 : Ref sig .tc := ⟨.hbm, 686, rfl⟩
abbrev main_v441 : Ref sig .tc := ⟨.hbm, 687, rfl⟩
abbrev main_v442 : Ref sig .tc := ⟨.hbm, 688, rfl⟩
abbrev main_v443 : Ref sig .tc := ⟨.hbm, 689, rfl⟩
abbrev main_v444 : Ref sig .tc := ⟨.hbm, 690, rfl⟩
abbrev main_v445 : Ref sig .tc := ⟨.hbm, 691, rfl⟩
abbrev main_v446 : Ref sig .tc := ⟨.hbm, 692, rfl⟩
abbrev main_v447 : Ref sig .tc := ⟨.hbm, 693, rfl⟩
abbrev main_v448 : Ref sig .tc := ⟨.hbm, 694, rfl⟩
abbrev main_v449 : Ref sig .tc := ⟨.hbm, 695, rfl⟩
abbrev main_v450 : Ref sig .tc := ⟨.hbm, 696, rfl⟩
abbrev main_v451 : Ref sig .tc := ⟨.hbm, 697, rfl⟩
abbrev main_v452 : Ref sig .tc := ⟨.hbm, 698, rfl⟩
abbrev main_v453 : Ref sig .tc := ⟨.hbm, 699, rfl⟩
abbrev main_v454 : Ref sig .tc := ⟨.hbm, 700, rfl⟩
abbrev main_v455 : Ref sig .tc := ⟨.hbm, 701, rfl⟩
abbrev main_v456 : Ref sig .tc := ⟨.hbm, 702, rfl⟩
abbrev main_v458 : Ref sig .tc := ⟨.hbm, 703, rfl⟩
abbrev main_v459 : Ref sig .tc := ⟨.hbm, 704, rfl⟩
abbrev main_v460 : Ref sig .tc := ⟨.hbm, 705, rfl⟩
abbrev main_v461 : Ref sig .tc := ⟨.hbm, 706, rfl⟩
abbrev main_v462 : Ref sig .tc := ⟨.hbm, 707, rfl⟩
abbrev main_v463 : Ref sig .tc := ⟨.hbm, 708, rfl⟩
abbrev main_v464 : Ref sig .tc := ⟨.hbm, 709, rfl⟩
abbrev main_v465 : Ref sig .tc := ⟨.hbm, 710, rfl⟩
abbrev main_v466 : Ref sig .tc := ⟨.hbm, 711, rfl⟩
abbrev main_v467 : Ref sig .tc := ⟨.hbm, 712, rfl⟩
abbrev main_v468 : Ref sig .tc := ⟨.hbm, 713, rfl⟩
abbrev main_v469 : Ref sig .tc := ⟨.hbm, 714, rfl⟩
abbrev main_v471 : Ref sig .tc := ⟨.hbm, 715, rfl⟩
abbrev main_v472 : Ref sig .tc := ⟨.hbm, 716, rfl⟩
abbrev main_v473 : Ref sig .tc := ⟨.hbm, 717, rfl⟩
abbrev main_v474 : Ref sig .tc := ⟨.hbm, 718, rfl⟩
abbrev main_v475 : Ref sig .tc := ⟨.hbm, 719, rfl⟩
abbrev main_v476 : Ref sig .tc := ⟨.hbm, 720, rfl⟩
abbrev main_v477 : Ref sig .tc := ⟨.hbm, 721, rfl⟩
abbrev main_v478 : Ref sig .tc := ⟨.hbm, 722, rfl⟩
abbrev main_v479 : Ref sig .tc := ⟨.hbm, 723, rfl⟩
abbrev main_v480 : Ref sig .tc := ⟨.hbm, 724, rfl⟩
abbrev main_v481 : Ref sig .tc := ⟨.hbm, 725, rfl⟩
abbrev main_v482 : Ref sig .tc := ⟨.hbm, 726, rfl⟩
abbrev main_v483 : Ref sig .tc := ⟨.hbm, 727, rfl⟩
abbrev main_v457 : Ref sig .tc := ⟨.smem, 0, rfl⟩
abbrev main_v470 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_scratch0 : Ref sig .tc := ⟨.vmem, 37, rfl⟩
abbrev cc2_stg0_0 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg3_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc2_sem0_0 : DmaSem sig := 40
abbrev cc2_sem1_0 : DmaSem sig := 41
abbrev cc2_sem1_1 : DmaSem sig := 42
abbrev cc2_sem2_0 : DmaSem sig := 43
abbrev cc2_sem2_1 : DmaSem sig := 44
abbrev cc2_sem3_0 : DmaSem sig := 45
abbrev cc2_sem3_1 : DmaSem sig := 46

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_v457.idx], fun | 0 => main_v457.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v78 : Index := Scalar.indexCast v77
  let c0_45 : Index := 0#32
  ![v78.toNat, 0]
def k0_mult1 (v79 : BitVec 32) : BitVec 32 :=
  v79

def k0_off2 (i : grid0.Coords) (v79 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v80 : BitVec 32 := v79
  let c0_i32_50 : BitVec 32 := 0#32
  ![v77.toNat, v80.toNat, 0]

def k0_chk1 (i : grid0.Coords) (v79 : BitVec 32) : Prop :=
  (∀ (k0_h1 : k0_cond1 i = 1#1), 8 ∣ (k0_mult1 v79).toNat) ∧
  (∀ (k0_h1 : k0_cond1 i = 1#1), ∀ a, (k0_off2 i v79) a + S1x24x256.size a ≤ S32x3136x256.size a)
theorem k0_mult1_dvd : ∀ (i : grid0.Coords) (v79 : BitVec 32) (k0_hw1 : k0_chk1 i v79), ∀ (k0_h1 : k0_cond1 i = 1#1), 8 ∣ (k0_mult1 v79).toNat := fun i v79 k0_hw1 k0_h1 => k0_hw1.1 k0_h1
theorem k0_off2_inb : ∀ (i : grid0.Coords) (v79 : BitVec 32) (k0_hw1 : k0_chk1 i v79), ∀ (k0_h1 : k0_cond1 i = 1#1), ∀ a, (k0_off2 i v79) a + S1x24x256.size a ≤ S32x3136x256.size a := fun i v79 k0_hw1 k0_h1 => k0_hw1.2 k0_h1

def k0_off3 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v87 : Index := Scalar.indexCast v77
  let c1 : Index := 1#32
  ![v87.toNat, 1]
def k0_mult2 (v88 : BitVec 32) : BitVec 32 :=
  v88

def k0_off4 (i : grid0.Coords) (v88 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v89 : BitVec 32 := v88
  let c0_i32_54 : BitVec 32 := 0#32
  ![v77.toNat, v89.toNat, 0]

def k0_chk2 (i : grid0.Coords) (v88 : BitVec 32) : Prop :=
  (∀ (k0_h1 : k0_cond1 i = 1#1), 8 ∣ (k0_mult2 v88).toNat) ∧
  (∀ (k0_h1 : k0_cond1 i = 1#1), ∀ a, (k0_off4 i v88) a + S1x24x256.size a ≤ S32x3136x256.size a)
theorem k0_mult2_dvd : ∀ (i : grid0.Coords) (v88 : BitVec 32) (k0_hw2 : k0_chk2 i v88), ∀ (k0_h1 : k0_cond1 i = 1#1), 8 ∣ (k0_mult2 v88).toNat := fun i v88 k0_hw2 k0_h1 => k0_hw2.1 k0_h1
theorem k0_off4_inb : ∀ (i : grid0.Coords) (v88 : BitVec 32) (k0_hw2 : k0_chk2 i v88), ∀ (k0_h1 : k0_cond1 i = 1#1), ∀ a, (k0_off4 i v88) a + S1x24x256.size a ≤ S32x3136x256.size a := fun i v88 k0_hw2 k0_h1 => k0_hw2.2 k0_h1

def k0_off5 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v96 : Index := Scalar.indexCast v77
  let c2 : Index := 2#32
  ![v96.toNat, 2]
def k0_mult3 (v97 : BitVec 32) : BitVec 32 :=
  v97

def k0_off6 (i : grid0.Coords) (v97 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v98 : BitVec 32 := v97
  let c0_i32_58 : BitVec 32 := 0#32
  ![v77.toNat, v98.toNat, 0]

def k0_chk3 (i : grid0.Coords) (v97 : BitVec 32) : Prop :=
  (∀ (k0_h1 : k0_cond1 i = 1#1), 8 ∣ (k0_mult3 v97).toNat) ∧
  (∀ (k0_h1 : k0_cond1 i = 1#1), ∀ a, (k0_off6 i v97) a + S1x24x256.size a ≤ S32x3136x256.size a)
theorem k0_mult3_dvd : ∀ (i : grid0.Coords) (v97 : BitVec 32) (k0_hw3 : k0_chk3 i v97), ∀ (k0_h1 : k0_cond1 i = 1#1), 8 ∣ (k0_mult3 v97).toNat := fun i v97 k0_hw3 k0_h1 => k0_hw3.1 k0_h1
theorem k0_off6_inb : ∀ (i : grid0.Coords) (v97 : BitVec 32) (k0_hw3 : k0_chk3 i v97), ∀ (k0_h1 : k0_cond1 i = 1#1), ∀ a, (k0_off6 i v97) a + S1x24x256.size a ≤ S32x3136x256.size a := fun i v97 k0_hw3 k0_h1 => k0_hw3.2 k0_h1

def k0_off7 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v105 : Index := Scalar.indexCast v77
  let c3 : Index := 3#32
  ![v105.toNat, 3]
def k0_mult4 (v106 : BitVec 32) : BitVec 32 :=
  v106

def k0_off8 (i : grid0.Coords) (v106 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v107 : BitVec 32 := v106
  let c0_i32_62 : BitVec 32 := 0#32
  ![v77.toNat, v107.toNat, 0]

def k0_chk4 (i : grid0.Coords) (v106 : BitVec 32) : Prop :=
  (∀ (k0_h1 : k0_cond1 i = 1#1), 8 ∣ (k0_mult4 v106).toNat) ∧
  (∀ (k0_h1 : k0_cond1 i = 1#1), ∀ a, (k0_off8 i v106) a + S1x24x256.size a ≤ S32x3136x256.size a)
theorem k0_mult4_dvd : ∀ (i : grid0.Coords) (v106 : BitVec 32) (k0_hw4 : k0_chk4 i v106), ∀ (k0_h1 : k0_cond1 i = 1#1), 8 ∣ (k0_mult4 v106).toNat := fun i v106 k0_hw4 k0_h1 => k0_hw4.1 k0_h1
theorem k0_off8_inb : ∀ (i : grid0.Coords) (v106 : BitVec 32) (k0_hw4 : k0_chk4 i v106), ∀ (k0_h1 : k0_cond1 i = 1#1), ∀ a, (k0_off8 i v106) a + S1x24x256.size a ≤ S32x3136x256.size a := fun i v106 k0_hw4 k0_h1 => k0_hw4.2 k0_h1

def k0_off9 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v114 : Index := Scalar.indexCast v77
  let c4 : Index := 4#32
  ![v114.toNat, 4]
def k0_mult5 (v115 : BitVec 32) : BitVec 32 :=
  v115

def k0_off10 (i : grid0.Coords) (v115 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v116 : BitVec 32 := v115
  let c0_i32_66 : BitVec 32 := 0#32
  ![v77.toNat, v116.toNat, 0]

def k0_chk5 (i : grid0.Coords) (v115 : BitVec 32) : Prop :=
  (∀ (k0_h1 : k0_cond1 i = 1#1), 8 ∣ (k0_mult5 v115).toNat) ∧
  (∀ (k0_h1 : k0_cond1 i = 1#1), ∀ a, (k0_off10 i v115) a + S1x24x256.size a ≤ S32x3136x256.size a)
theorem k0_mult5_dvd : ∀ (i : grid0.Coords) (v115 : BitVec 32) (k0_hw5 : k0_chk5 i v115), ∀ (k0_h1 : k0_cond1 i = 1#1), 8 ∣ (k0_mult5 v115).toNat := fun i v115 k0_hw5 k0_h1 => k0_hw5.1 k0_h1
theorem k0_off10_inb : ∀ (i : grid0.Coords) (v115 : BitVec 32) (k0_hw5 : k0_chk5 i v115), ∀ (k0_h1 : k0_cond1 i = 1#1), ∀ a, (k0_off10 i v115) a + S1x24x256.size a ≤ S32x3136x256.size a := fun i v115 k0_hw5 k0_h1 => k0_hw5.2 k0_h1

def k0_off11 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v123 : Index := Scalar.indexCast v77
  let c5 : Index := 5#32
  ![v123.toNat, 5]
def k0_mult6 (v124 : BitVec 32) : BitVec 32 :=
  v124

def k0_off12 (i : grid0.Coords) (v124 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v125 : BitVec 32 := v124
  let c0_i32_70 : BitVec 32 := 0#32
  ![v77.toNat, v125.toNat, 0]

def k0_chk6 (i : grid0.Coords) (v124 : BitVec 32) : Prop :=
  (∀ (k0_h1 : k0_cond1 i = 1#1), 8 ∣ (k0_mult6 v124).toNat) ∧
  (∀ (k0_h1 : k0_cond1 i = 1#1), ∀ a, (k0_off12 i v124) a + S1x24x256.size a ≤ S32x3136x256.size a)
theorem k0_mult6_dvd : ∀ (i : grid0.Coords) (v124 : BitVec 32) (k0_hw6 : k0_chk6 i v124), ∀ (k0_h1 : k0_cond1 i = 1#1), 8 ∣ (k0_mult6 v124).toNat := fun i v124 k0_hw6 k0_h1 => k0_hw6.1 k0_h1
theorem k0_off12_inb : ∀ (i : grid0.Coords) (v124 : BitVec 32) (k0_hw6 : k0_chk6 i v124), ∀ (k0_h1 : k0_cond1 i = 1#1), ∀ a, (k0_off12 i v124) a + S1x24x256.size a ≤ S32x3136x256.size a := fun i v124 k0_hw6 k0_h1 => k0_hw6.2 k0_h1

def k0_off13 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v132 : Index := Scalar.indexCast v77
  let c6 : Index := 6#32
  ![v132.toNat, 6]
def k0_mult7 (v133 : BitVec 32) : BitVec 32 :=
  v133

def k0_off14 (i : grid0.Coords) (v133 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v134 : BitVec 32 := v133
  let c0_i32_74 : BitVec 32 := 0#32
  ![v77.toNat, v134.toNat, 0]

def k0_chk7 (i : grid0.Coords) (v133 : BitVec 32) : Prop :=
  (∀ (k0_h1 : k0_cond1 i = 1#1), 8 ∣ (k0_mult7 v133).toNat) ∧
  (∀ (k0_h1 : k0_cond1 i = 1#1), ∀ a, (k0_off14 i v133) a + S1x24x256.size a ≤ S32x3136x256.size a)
theorem k0_mult7_dvd : ∀ (i : grid0.Coords) (v133 : BitVec 32) (k0_hw7 : k0_chk7 i v133), ∀ (k0_h1 : k0_cond1 i = 1#1), 8 ∣ (k0_mult7 v133).toNat := fun i v133 k0_hw7 k0_h1 => k0_hw7.1 k0_h1
theorem k0_off14_inb : ∀ (i : grid0.Coords) (v133 : BitVec 32) (k0_hw7 : k0_chk7 i v133), ∀ (k0_h1 : k0_cond1 i = 1#1), ∀ a, (k0_off14 i v133) a + S1x24x256.size a ≤ S32x3136x256.size a := fun i v133 k0_hw7 k0_h1 => k0_hw7.2 k0_h1

def k0_off15 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v141 : Index := Scalar.indexCast v77
  let c7 : Index := 7#32
  ![v141.toNat, 7]
def k0_mult8 (v142 : BitVec 32) : BitVec 32 :=
  v142

def k0_off16 (i : grid0.Coords) (v142 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v143 : BitVec 32 := v142
  let c0_i32_78 : BitVec 32 := 0#32
  ![v77.toNat, v143.toNat, 0]

def k0_chk8 (i : grid0.Coords) (v142 : BitVec 32) : Prop :=
  (∀ (k0_h1 : k0_cond1 i = 1#1), 8 ∣ (k0_mult8 v142).toNat) ∧
  (∀ (k0_h1 : k0_cond1 i = 1#1), ∀ a, (k0_off16 i v142) a + S1x24x256.size a ≤ S32x3136x256.size a)
theorem k0_mult8_dvd : ∀ (i : grid0.Coords) (v142 : BitVec 32) (k0_hw8 : k0_chk8 i v142), ∀ (k0_h1 : k0_cond1 i = 1#1), 8 ∣ (k0_mult8 v142).toNat := fun i v142 k0_hw8 k0_h1 => k0_hw8.1 k0_h1
theorem k0_off16_inb : ∀ (i : grid0.Coords) (v142 : BitVec 32) (k0_hw8 : k0_chk8 i v142), ∀ (k0_h1 : k0_cond1 i = 1#1), ∀ a, (k0_off16 i v142) a + S1x24x256.size a ≤ S32x3136x256.size a := fun i v142 k0_hw8 k0_h1 => k0_hw8.2 k0_h1

def k0_off17 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v150 : Index := Scalar.indexCast v77
  let c8 : Index := 8#32
  ![v150.toNat, 8]
def k0_mult9 (v151 : BitVec 32) : BitVec 32 :=
  v151

def k0_off18 (i : grid0.Coords) (v151 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v152 : BitVec 32 := v151
  let c0_i32_82 : BitVec 32 := 0#32
  ![v77.toNat, v152.toNat, 0]

def k0_chk9 (i : grid0.Coords) (v151 : BitVec 32) : Prop :=
  (∀ (k0_h1 : k0_cond1 i = 1#1), 8 ∣ (k0_mult9 v151).toNat) ∧
  (∀ (k0_h1 : k0_cond1 i = 1#1), ∀ a, (k0_off18 i v151) a + S1x24x256.size a ≤ S32x3136x256.size a)
theorem k0_mult9_dvd : ∀ (i : grid0.Coords) (v151 : BitVec 32) (k0_hw9 : k0_chk9 i v151), ∀ (k0_h1 : k0_cond1 i = 1#1), 8 ∣ (k0_mult9 v151).toNat := fun i v151 k0_hw9 k0_h1 => k0_hw9.1 k0_h1
theorem k0_off18_inb : ∀ (i : grid0.Coords) (v151 : BitVec 32) (k0_hw9 : k0_chk9 i v151), ∀ (k0_h1 : k0_cond1 i = 1#1), ∀ a, (k0_off18 i v151) a + S1x24x256.size a ≤ S32x3136x256.size a := fun i v151 k0_hw9 k0_h1 => k0_hw9.2 k0_h1

def k0_off19 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v159 : Index := Scalar.indexCast v77
  let c9 : Index := 9#32
  ![v159.toNat, 9]
def k0_mult10 (v160 : BitVec 32) : BitVec 32 :=
  v160

def k0_off20 (i : grid0.Coords) (v160 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v161 : BitVec 32 := v160
  let c0_i32_86 : BitVec 32 := 0#32
  ![v77.toNat, v161.toNat, 0]

def k0_chk10 (i : grid0.Coords) (v160 : BitVec 32) : Prop :=
  (∀ (k0_h1 : k0_cond1 i = 1#1), 8 ∣ (k0_mult10 v160).toNat) ∧
  (∀ (k0_h1 : k0_cond1 i = 1#1), ∀ a, (k0_off20 i v160) a + S1x24x256.size a ≤ S32x3136x256.size a)
theorem k0_mult10_dvd : ∀ (i : grid0.Coords) (v160 : BitVec 32) (k0_hw10 : k0_chk10 i v160), ∀ (k0_h1 : k0_cond1 i = 1#1), 8 ∣ (k0_mult10 v160).toNat := fun i v160 k0_hw10 k0_h1 => k0_hw10.1 k0_h1
theorem k0_off20_inb : ∀ (i : grid0.Coords) (v160 : BitVec 32) (k0_hw10 : k0_chk10 i v160), ∀ (k0_h1 : k0_cond1 i = 1#1), ∀ a, (k0_off20 i v160) a + S1x24x256.size a ≤ S32x3136x256.size a := fun i v160 k0_hw10 k0_h1 => k0_hw10.2 k0_h1

def k0_off21 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v168 : Index := Scalar.indexCast v77
  let c10 : Index := 10#32
  ![v168.toNat, 10]
def k0_mult11 (v169 : BitVec 32) : BitVec 32 :=
  v169

def k0_off22 (i : grid0.Coords) (v169 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v170 : BitVec 32 := v169
  let c0_i32_90 : BitVec 32 := 0#32
  ![v77.toNat, v170.toNat, 0]

def k0_chk11 (i : grid0.Coords) (v169 : BitVec 32) : Prop :=
  (∀ (k0_h1 : k0_cond1 i = 1#1), 8 ∣ (k0_mult11 v169).toNat) ∧
  (∀ (k0_h1 : k0_cond1 i = 1#1), ∀ a, (k0_off22 i v169) a + S1x24x256.size a ≤ S32x3136x256.size a)
theorem k0_mult11_dvd : ∀ (i : grid0.Coords) (v169 : BitVec 32) (k0_hw11 : k0_chk11 i v169), ∀ (k0_h1 : k0_cond1 i = 1#1), 8 ∣ (k0_mult11 v169).toNat := fun i v169 k0_hw11 k0_h1 => k0_hw11.1 k0_h1
theorem k0_off22_inb : ∀ (i : grid0.Coords) (v169 : BitVec 32) (k0_hw11 : k0_chk11 i v169), ∀ (k0_h1 : k0_cond1 i = 1#1), ∀ a, (k0_off22 i v169) a + S1x24x256.size a ≤ S32x3136x256.size a := fun i v169 k0_hw11 k0_h1 => k0_hw11.2 k0_h1

def k0_off23 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v177 : Index := Scalar.indexCast v77
  let c11 : Index := 11#32
  ![v177.toNat, 11]
def k0_mult12 (v178 : BitVec 32) : BitVec 32 :=
  v178

def k0_off24 (i : grid0.Coords) (v178 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v179 : BitVec 32 := v178
  let c0_i32_94 : BitVec 32 := 0#32
  ![v77.toNat, v179.toNat, 0]

def k0_chk12 (i : grid0.Coords) (v178 : BitVec 32) : Prop :=
  (∀ (k0_h1 : k0_cond1 i = 1#1), 8 ∣ (k0_mult12 v178).toNat) ∧
  (∀ (k0_h1 : k0_cond1 i = 1#1), ∀ a, (k0_off24 i v178) a + S1x24x256.size a ≤ S32x3136x256.size a)
theorem k0_mult12_dvd : ∀ (i : grid0.Coords) (v178 : BitVec 32) (k0_hw12 : k0_chk12 i v178), ∀ (k0_h1 : k0_cond1 i = 1#1), 8 ∣ (k0_mult12 v178).toNat := fun i v178 k0_hw12 k0_h1 => k0_hw12.1 k0_h1
theorem k0_off24_inb : ∀ (i : grid0.Coords) (v178 : BitVec 32) (k0_hw12 : k0_chk12 i v178), ∀ (k0_h1 : k0_cond1 i = 1#1), ∀ a, (k0_off24 i v178) a + S1x24x256.size a ≤ S32x3136x256.size a := fun i v178 k0_hw12 k0_h1 => k0_hw12.2 k0_h1

def k0_off25 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v186 : Index := Scalar.indexCast v77
  let c12 : Index := 12#32
  ![v186.toNat, 12]
def k0_mult13 (v187 : BitVec 32) : BitVec 32 :=
  v187

def k0_off26 (i : grid0.Coords) (v187 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v188 : BitVec 32 := v187
  let c0_i32_98 : BitVec 32 := 0#32
  ![v77.toNat, v188.toNat, 0]

def k0_chk13 (i : grid0.Coords) (v187 : BitVec 32) : Prop :=
  (∀ (k0_h1 : k0_cond1 i = 1#1), 8 ∣ (k0_mult13 v187).toNat) ∧
  (∀ (k0_h1 : k0_cond1 i = 1#1), ∀ a, (k0_off26 i v187) a + S1x24x256.size a ≤ S32x3136x256.size a)
theorem k0_mult13_dvd : ∀ (i : grid0.Coords) (v187 : BitVec 32) (k0_hw13 : k0_chk13 i v187), ∀ (k0_h1 : k0_cond1 i = 1#1), 8 ∣ (k0_mult13 v187).toNat := fun i v187 k0_hw13 k0_h1 => k0_hw13.1 k0_h1
theorem k0_off26_inb : ∀ (i : grid0.Coords) (v187 : BitVec 32) (k0_hw13 : k0_chk13 i v187), ∀ (k0_h1 : k0_cond1 i = 1#1), ∀ a, (k0_off26 i v187) a + S1x24x256.size a ≤ S32x3136x256.size a := fun i v187 k0_hw13 k0_h1 => k0_hw13.2 k0_h1

def k0_off27 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v195 : Index := Scalar.indexCast v77
  let c13 : Index := 13#32
  ![v195.toNat, 13]
def k0_mult14 (v196 : BitVec 32) : BitVec 32 :=
  v196

def k0_off28 (i : grid0.Coords) (v196 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v197 : BitVec 32 := v196
  let c0_i32_102 : BitVec 32 := 0#32
  ![v77.toNat, v197.toNat, 0]

def k0_chk14 (i : grid0.Coords) (v196 : BitVec 32) : Prop :=
  (∀ (k0_h1 : k0_cond1 i = 1#1), 8 ∣ (k0_mult14 v196).toNat) ∧
  (∀ (k0_h1 : k0_cond1 i = 1#1), ∀ a, (k0_off28 i v196) a + S1x24x256.size a ≤ S32x3136x256.size a)
theorem k0_mult14_dvd : ∀ (i : grid0.Coords) (v196 : BitVec 32) (k0_hw14 : k0_chk14 i v196), ∀ (k0_h1 : k0_cond1 i = 1#1), 8 ∣ (k0_mult14 v196).toNat := fun i v196 k0_hw14 k0_h1 => k0_hw14.1 k0_h1
theorem k0_off28_inb : ∀ (i : grid0.Coords) (v196 : BitVec 32) (k0_hw14 : k0_chk14 i v196), ∀ (k0_h1 : k0_cond1 i = 1#1), ∀ a, (k0_off28 i v196) a + S1x24x256.size a ≤ S32x3136x256.size a := fun i v196 k0_hw14 k0_h1 => k0_hw14.2 k0_h1

def k0_off29 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v204 : Index := Scalar.indexCast v77
  let c14 : Index := 14#32
  ![v204.toNat, 14]
def k0_mult15 (v205 : BitVec 32) : BitVec 32 :=
  v205

def k0_off30 (i : grid0.Coords) (v205 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v206 : BitVec 32 := v205
  let c0_i32_106 : BitVec 32 := 0#32
  ![v77.toNat, v206.toNat, 0]

def k0_chk15 (i : grid0.Coords) (v205 : BitVec 32) : Prop :=
  (∀ (k0_h1 : k0_cond1 i = 1#1), 8 ∣ (k0_mult15 v205).toNat) ∧
  (∀ (k0_h1 : k0_cond1 i = 1#1), ∀ a, (k0_off30 i v205) a + S1x24x256.size a ≤ S32x3136x256.size a)
theorem k0_mult15_dvd : ∀ (i : grid0.Coords) (v205 : BitVec 32) (k0_hw15 : k0_chk15 i v205), ∀ (k0_h1 : k0_cond1 i = 1#1), 8 ∣ (k0_mult15 v205).toNat := fun i v205 k0_hw15 k0_h1 => k0_hw15.1 k0_h1
theorem k0_off30_inb : ∀ (i : grid0.Coords) (v205 : BitVec 32) (k0_hw15 : k0_chk15 i v205), ∀ (k0_h1 : k0_cond1 i = 1#1), ∀ a, (k0_off30 i v205) a + S1x24x256.size a ≤ S32x3136x256.size a := fun i v205 k0_hw15 k0_h1 => k0_hw15.2 k0_h1

def k0_off31 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v213 : Index := Scalar.indexCast v77
  let c15 : Index := 15#32
  ![v213.toNat, 15]
def k0_mult16 (v214 : BitVec 32) : BitVec 32 :=
  v214

def k0_off32 (i : grid0.Coords) (v214 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v215 : BitVec 32 := v214
  let c0_i32_110 : BitVec 32 := 0#32
  ![v77.toNat, v215.toNat, 0]

def k0_chk16 (i : grid0.Coords) (v214 : BitVec 32) : Prop :=
  (∀ (k0_h1 : k0_cond1 i = 1#1), 8 ∣ (k0_mult16 v214).toNat) ∧
  (∀ (k0_h1 : k0_cond1 i = 1#1), ∀ a, (k0_off32 i v214) a + S1x24x256.size a ≤ S32x3136x256.size a)
theorem k0_mult16_dvd : ∀ (i : grid0.Coords) (v214 : BitVec 32) (k0_hw16 : k0_chk16 i v214), ∀ (k0_h1 : k0_cond1 i = 1#1), 8 ∣ (k0_mult16 v214).toNat := fun i v214 k0_hw16 k0_h1 => k0_hw16.1 k0_h1
theorem k0_off32_inb : ∀ (i : grid0.Coords) (v214 : BitVec 32) (k0_hw16 : k0_chk16 i v214), ∀ (k0_h1 : k0_cond1 i = 1#1), ∀ a, (k0_off32 i v214) a + S1x24x256.size a ≤ S32x3136x256.size a := fun i v214 k0_hw16 k0_h1 => k0_hw16.2 k0_h1

def k0_off33 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v222 : Index := Scalar.indexCast v77
  let c16 : Index := 16#32
  ![v222.toNat, 16]
def k0_mult17 (v223 : BitVec 32) : BitVec 32 :=
  v223

def k0_off34 (i : grid0.Coords) (v223 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v224 : BitVec 32 := v223
  let c0_i32_114 : BitVec 32 := 0#32
  ![v77.toNat, v224.toNat, 0]

def k0_chk17 (i : grid0.Coords) (v223 : BitVec 32) : Prop :=
  (∀ (k0_h1 : k0_cond1 i = 1#1), 8 ∣ (k0_mult17 v223).toNat) ∧
  (∀ (k0_h1 : k0_cond1 i = 1#1), ∀ a, (k0_off34 i v223) a + S1x24x256.size a ≤ S32x3136x256.size a)
theorem k0_mult17_dvd : ∀ (i : grid0.Coords) (v223 : BitVec 32) (k0_hw17 : k0_chk17 i v223), ∀ (k0_h1 : k0_cond1 i = 1#1), 8 ∣ (k0_mult17 v223).toNat := fun i v223 k0_hw17 k0_h1 => k0_hw17.1 k0_h1
theorem k0_off34_inb : ∀ (i : grid0.Coords) (v223 : BitVec 32) (k0_hw17 : k0_chk17 i v223), ∀ (k0_h1 : k0_cond1 i = 1#1), ∀ a, (k0_off34 i v223) a + S1x24x256.size a ≤ S32x3136x256.size a := fun i v223 k0_hw17 k0_h1 => k0_hw17.2 k0_h1

def k0_off35 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v231 : Index := Scalar.indexCast v77
  let c17 : Index := 17#32
  ![v231.toNat, 17]
def k0_mult18 (v232 : BitVec 32) : BitVec 32 :=
  v232

def k0_off36 (i : grid0.Coords) (v232 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v233 : BitVec 32 := v232
  let c0_i32_118 : BitVec 32 := 0#32
  ![v77.toNat, v233.toNat, 0]

def k0_chk18 (i : grid0.Coords) (v232 : BitVec 32) : Prop :=
  (∀ (k0_h1 : k0_cond1 i = 1#1), 8 ∣ (k0_mult18 v232).toNat) ∧
  (∀ (k0_h1 : k0_cond1 i = 1#1), ∀ a, (k0_off36 i v232) a + S1x24x256.size a ≤ S32x3136x256.size a)
theorem k0_mult18_dvd : ∀ (i : grid0.Coords) (v232 : BitVec 32) (k0_hw18 : k0_chk18 i v232), ∀ (k0_h1 : k0_cond1 i = 1#1), 8 ∣ (k0_mult18 v232).toNat := fun i v232 k0_hw18 k0_h1 => k0_hw18.1 k0_h1
theorem k0_off36_inb : ∀ (i : grid0.Coords) (v232 : BitVec 32) (k0_hw18 : k0_chk18 i v232), ∀ (k0_h1 : k0_cond1 i = 1#1), ∀ a, (k0_off36 i v232) a + S1x24x256.size a ≤ S32x3136x256.size a := fun i v232 k0_hw18 k0_h1 => k0_hw18.2 k0_h1

def k0_off37 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v240 : Index := Scalar.indexCast v77
  let c18 : Index := 18#32
  ![v240.toNat, 18]
def k0_mult19 (v241 : BitVec 32) : BitVec 32 :=
  v241

def k0_off38 (i : grid0.Coords) (v241 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v242 : BitVec 32 := v241
  let c0_i32_122 : BitVec 32 := 0#32
  ![v77.toNat, v242.toNat, 0]

def k0_chk19 (i : grid0.Coords) (v241 : BitVec 32) : Prop :=
  (∀ (k0_h1 : k0_cond1 i = 1#1), 8 ∣ (k0_mult19 v241).toNat) ∧
  (∀ (k0_h1 : k0_cond1 i = 1#1), ∀ a, (k0_off38 i v241) a + S1x24x256.size a ≤ S32x3136x256.size a)
theorem k0_mult19_dvd : ∀ (i : grid0.Coords) (v241 : BitVec 32) (k0_hw19 : k0_chk19 i v241), ∀ (k0_h1 : k0_cond1 i = 1#1), 8 ∣ (k0_mult19 v241).toNat := fun i v241 k0_hw19 k0_h1 => k0_hw19.1 k0_h1
theorem k0_off38_inb : ∀ (i : grid0.Coords) (v241 : BitVec 32) (k0_hw19 : k0_chk19 i v241), ∀ (k0_h1 : k0_cond1 i = 1#1), ∀ a, (k0_off38 i v241) a + S1x24x256.size a ≤ S32x3136x256.size a := fun i v241 k0_hw19 k0_h1 => k0_hw19.2 k0_h1

def k0_off39 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v249 : Index := Scalar.indexCast v77
  let c19 : Index := 19#32
  ![v249.toNat, 19]
def k0_mult20 (v250 : BitVec 32) : BitVec 32 :=
  v250

def k0_off40 (i : grid0.Coords) (v250 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v251 : BitVec 32 := v250
  let c0_i32_126 : BitVec 32 := 0#32
  ![v77.toNat, v251.toNat, 0]

def k0_chk20 (i : grid0.Coords) (v250 : BitVec 32) : Prop :=
  (∀ (k0_h1 : k0_cond1 i = 1#1), 8 ∣ (k0_mult20 v250).toNat) ∧
  (∀ (k0_h1 : k0_cond1 i = 1#1), ∀ a, (k0_off40 i v250) a + S1x24x256.size a ≤ S32x3136x256.size a)
theorem k0_mult20_dvd : ∀ (i : grid0.Coords) (v250 : BitVec 32) (k0_hw20 : k0_chk20 i v250), ∀ (k0_h1 : k0_cond1 i = 1#1), 8 ∣ (k0_mult20 v250).toNat := fun i v250 k0_hw20 k0_h1 => k0_hw20.1 k0_h1
theorem k0_off40_inb : ∀ (i : grid0.Coords) (v250 : BitVec 32) (k0_hw20 : k0_chk20 i v250), ∀ (k0_h1 : k0_cond1 i = 1#1), ∀ a, (k0_off40 i v250) a + S1x24x256.size a ≤ S32x3136x256.size a := fun i v250 k0_hw20 k0_h1 => k0_hw20.2 k0_h1

def k0_off41 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v258 : Index := Scalar.indexCast v77
  let c20 : Index := 20#32
  ![v258.toNat, 20]
def k0_mult21 (v259 : BitVec 32) : BitVec 32 :=
  v259

def k0_off42 (i : grid0.Coords) (v259 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v260 : BitVec 32 := v259
  let c0_i32_130 : BitVec 32 := 0#32
  ![v77.toNat, v260.toNat, 0]

def k0_chk21 (i : grid0.Coords) (v259 : BitVec 32) : Prop :=
  (∀ (k0_h1 : k0_cond1 i = 1#1), 8 ∣ (k0_mult21 v259).toNat) ∧
  (∀ (k0_h1 : k0_cond1 i = 1#1), ∀ a, (k0_off42 i v259) a + S1x24x256.size a ≤ S32x3136x256.size a)
theorem k0_mult21_dvd : ∀ (i : grid0.Coords) (v259 : BitVec 32) (k0_hw21 : k0_chk21 i v259), ∀ (k0_h1 : k0_cond1 i = 1#1), 8 ∣ (k0_mult21 v259).toNat := fun i v259 k0_hw21 k0_h1 => k0_hw21.1 k0_h1
theorem k0_off42_inb : ∀ (i : grid0.Coords) (v259 : BitVec 32) (k0_hw21 : k0_chk21 i v259), ∀ (k0_h1 : k0_cond1 i = 1#1), ∀ a, (k0_off42 i v259) a + S1x24x256.size a ≤ S32x3136x256.size a := fun i v259 k0_hw21 k0_h1 => k0_hw21.2 k0_h1

def k0_off43 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v267 : Index := Scalar.indexCast v77
  let c21 : Index := 21#32
  ![v267.toNat, 21]
def k0_mult22 (v268 : BitVec 32) : BitVec 32 :=
  v268

def k0_off44 (i : grid0.Coords) (v268 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v269 : BitVec 32 := v268
  let c0_i32_134 : BitVec 32 := 0#32
  ![v77.toNat, v269.toNat, 0]

def k0_chk22 (i : grid0.Coords) (v268 : BitVec 32) : Prop :=
  (∀ (k0_h1 : k0_cond1 i = 1#1), 8 ∣ (k0_mult22 v268).toNat) ∧
  (∀ (k0_h1 : k0_cond1 i = 1#1), ∀ a, (k0_off44 i v268) a + S1x24x256.size a ≤ S32x3136x256.size a)
theorem k0_mult22_dvd : ∀ (i : grid0.Coords) (v268 : BitVec 32) (k0_hw22 : k0_chk22 i v268), ∀ (k0_h1 : k0_cond1 i = 1#1), 8 ∣ (k0_mult22 v268).toNat := fun i v268 k0_hw22 k0_h1 => k0_hw22.1 k0_h1
theorem k0_off44_inb : ∀ (i : grid0.Coords) (v268 : BitVec 32) (k0_hw22 : k0_chk22 i v268), ∀ (k0_h1 : k0_cond1 i = 1#1), ∀ a, (k0_off44 i v268) a + S1x24x256.size a ≤ S32x3136x256.size a := fun i v268 k0_hw22 k0_h1 => k0_hw22.2 k0_h1

def k0_off45 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v276 : Index := Scalar.indexCast v77
  let c22 : Index := 22#32
  ![v276.toNat, 22]
def k0_mult23 (v277 : BitVec 32) : BitVec 32 :=
  v277

def k0_off46 (i : grid0.Coords) (v277 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v278 : BitVec 32 := v277
  let c0_i32_138 : BitVec 32 := 0#32
  ![v77.toNat, v278.toNat, 0]

def k0_chk23 (i : grid0.Coords) (v277 : BitVec 32) : Prop :=
  (∀ (k0_h1 : k0_cond1 i = 1#1), 8 ∣ (k0_mult23 v277).toNat) ∧
  (∀ (k0_h1 : k0_cond1 i = 1#1), ∀ a, (k0_off46 i v277) a + S1x24x256.size a ≤ S32x3136x256.size a)
theorem k0_mult23_dvd : ∀ (i : grid0.Coords) (v277 : BitVec 32) (k0_hw23 : k0_chk23 i v277), ∀ (k0_h1 : k0_cond1 i = 1#1), 8 ∣ (k0_mult23 v277).toNat := fun i v277 k0_hw23 k0_h1 => k0_hw23.1 k0_h1
theorem k0_off46_inb : ∀ (i : grid0.Coords) (v277 : BitVec 32) (k0_hw23 : k0_chk23 i v277), ∀ (k0_h1 : k0_cond1 i = 1#1), ∀ a, (k0_off46 i v277) a + S1x24x256.size a ≤ S32x3136x256.size a := fun i v277 k0_hw23 k0_h1 => k0_hw23.2 k0_h1

def k0_off47 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v285 : Index := Scalar.indexCast v77
  let c23 : Index := 23#32
  ![v285.toNat, 23]
def k0_mult24 (v286 : BitVec 32) : BitVec 32 :=
  v286

def k0_off48 (i : grid0.Coords) (v286 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v287 : BitVec 32 := v286
  let c0_i32_142 : BitVec 32 := 0#32
  ![v77.toNat, v287.toNat, 0]

def k0_chk24 (i : grid0.Coords) (v286 : BitVec 32) : Prop :=
  (∀ (k0_h1 : k0_cond1 i = 1#1), 8 ∣ (k0_mult24 v286).toNat) ∧
  (∀ (k0_h1 : k0_cond1 i = 1#1), ∀ a, (k0_off48 i v286) a + S1x24x256.size a ≤ S32x3136x256.size a)
theorem k0_mult24_dvd : ∀ (i : grid0.Coords) (v286 : BitVec 32) (k0_hw24 : k0_chk24 i v286), ∀ (k0_h1 : k0_cond1 i = 1#1), 8 ∣ (k0_mult24 v286).toNat := fun i v286 k0_hw24 k0_h1 => k0_hw24.1 k0_h1
theorem k0_off48_inb : ∀ (i : grid0.Coords) (v286 : BitVec 32) (k0_hw24 : k0_chk24 i v286), ∀ (k0_h1 : k0_cond1 i = 1#1), ∀ a, (k0_off48 i v286) a + S1x24x256.size a ≤ S32x3136x256.size a := fun i v286 k0_hw24 k0_h1 => k0_hw24.2 k0_h1

def k0_off49 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v294 : Index := Scalar.indexCast v77
  let c24 : Index := 24#32
  ![v294.toNat, 24]
def k0_mult25 (v295 : BitVec 32) : BitVec 32 :=
  v295

def k0_off50 (i : grid0.Coords) (v295 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v296 : BitVec 32 := v295
  let c0_i32_146 : BitVec 32 := 0#32
  ![v77.toNat, v296.toNat, 0]

def k0_chk25 (i : grid0.Coords) (v295 : BitVec 32) : Prop :=
  (∀ (k0_h1 : k0_cond1 i = 1#1), 8 ∣ (k0_mult25 v295).toNat) ∧
  (∀ (k0_h1 : k0_cond1 i = 1#1), ∀ a, (k0_off50 i v295) a + S1x24x256.size a ≤ S32x3136x256.size a)
theorem k0_mult25_dvd : ∀ (i : grid0.Coords) (v295 : BitVec 32) (k0_hw25 : k0_chk25 i v295), ∀ (k0_h1 : k0_cond1 i = 1#1), 8 ∣ (k0_mult25 v295).toNat := fun i v295 k0_hw25 k0_h1 => k0_hw25.1 k0_h1
theorem k0_off50_inb : ∀ (i : grid0.Coords) (v295 : BitVec 32) (k0_hw25 : k0_chk25 i v295), ∀ (k0_h1 : k0_cond1 i = 1#1), ∀ a, (k0_off50 i v295) a + S1x24x256.size a ≤ S32x3136x256.size a := fun i v295 k0_hw25 k0_h1 => k0_hw25.2 k0_h1

def k0_off51 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v303 : Index := Scalar.indexCast v77
  let c25 : Index := 25#32
  ![v303.toNat, 25]
def k0_mult26 (v304 : BitVec 32) : BitVec 32 :=
  v304

def k0_off52 (i : grid0.Coords) (v304 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v305 : BitVec 32 := v304
  let c0_i32_150 : BitVec 32 := 0#32
  ![v77.toNat, v305.toNat, 0]

def k0_chk26 (i : grid0.Coords) (v304 : BitVec 32) : Prop :=
  (∀ (k0_h1 : k0_cond1 i = 1#1), 8 ∣ (k0_mult26 v304).toNat) ∧
  (∀ (k0_h1 : k0_cond1 i = 1#1), ∀ a, (k0_off52 i v304) a + S1x24x256.size a ≤ S32x3136x256.size a)
theorem k0_mult26_dvd : ∀ (i : grid0.Coords) (v304 : BitVec 32) (k0_hw26 : k0_chk26 i v304), ∀ (k0_h1 : k0_cond1 i = 1#1), 8 ∣ (k0_mult26 v304).toNat := fun i v304 k0_hw26 k0_h1 => k0_hw26.1 k0_h1
theorem k0_off52_inb : ∀ (i : grid0.Coords) (v304 : BitVec 32) (k0_hw26 : k0_chk26 i v304), ∀ (k0_h1 : k0_cond1 i = 1#1), ∀ a, (k0_off52 i v304) a + S1x24x256.size a ≤ S32x3136x256.size a := fun i v304 k0_hw26 k0_h1 => k0_hw26.2 k0_h1

def k0_off53 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v312 : Index := Scalar.indexCast v77
  let c26 : Index := 26#32
  ![v312.toNat, 26]
def k0_mult27 (v313 : BitVec 32) : BitVec 32 :=
  v313

def k0_off54 (i : grid0.Coords) (v313 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v314 : BitVec 32 := v313
  let c0_i32_154 : BitVec 32 := 0#32
  ![v77.toNat, v314.toNat, 0]

def k0_chk27 (i : grid0.Coords) (v313 : BitVec 32) : Prop :=
  (∀ (k0_h1 : k0_cond1 i = 1#1), 8 ∣ (k0_mult27 v313).toNat) ∧
  (∀ (k0_h1 : k0_cond1 i = 1#1), ∀ a, (k0_off54 i v313) a + S1x24x256.size a ≤ S32x3136x256.size a)
theorem k0_mult27_dvd : ∀ (i : grid0.Coords) (v313 : BitVec 32) (k0_hw27 : k0_chk27 i v313), ∀ (k0_h1 : k0_cond1 i = 1#1), 8 ∣ (k0_mult27 v313).toNat := fun i v313 k0_hw27 k0_h1 => k0_hw27.1 k0_h1
theorem k0_off54_inb : ∀ (i : grid0.Coords) (v313 : BitVec 32) (k0_hw27 : k0_chk27 i v313), ∀ (k0_h1 : k0_cond1 i = 1#1), ∀ a, (k0_off54 i v313) a + S1x24x256.size a ≤ S32x3136x256.size a := fun i v313 k0_hw27 k0_h1 => k0_hw27.2 k0_h1

def k0_off55 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v321 : Index := Scalar.indexCast v77
  let c27 : Index := 27#32
  ![v321.toNat, 27]
def k0_mult28 (v322 : BitVec 32) : BitVec 32 :=
  v322

def k0_off56 (i : grid0.Coords) (v322 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v323 : BitVec 32 := v322
  let c0_i32_158 : BitVec 32 := 0#32
  ![v77.toNat, v323.toNat, 0]

def k0_chk28 (i : grid0.Coords) (v322 : BitVec 32) : Prop :=
  (∀ (k0_h1 : k0_cond1 i = 1#1), 8 ∣ (k0_mult28 v322).toNat) ∧
  (∀ (k0_h1 : k0_cond1 i = 1#1), ∀ a, (k0_off56 i v322) a + S1x24x256.size a ≤ S32x3136x256.size a)
theorem k0_mult28_dvd : ∀ (i : grid0.Coords) (v322 : BitVec 32) (k0_hw28 : k0_chk28 i v322), ∀ (k0_h1 : k0_cond1 i = 1#1), 8 ∣ (k0_mult28 v322).toNat := fun i v322 k0_hw28 k0_h1 => k0_hw28.1 k0_h1
theorem k0_off56_inb : ∀ (i : grid0.Coords) (v322 : BitVec 32) (k0_hw28 : k0_chk28 i v322), ∀ (k0_h1 : k0_cond1 i = 1#1), ∀ a, (k0_off56 i v322) a + S1x24x256.size a ≤ S32x3136x256.size a := fun i v322 k0_hw28 k0_h1 => k0_hw28.2 k0_h1

def k0_off57 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v330 : Index := Scalar.indexCast v77
  let c28 : Index := 28#32
  ![v330.toNat, 28]
def k0_mult29 (v331 : BitVec 32) : BitVec 32 :=
  v331

def k0_off58 (i : grid0.Coords) (v331 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v332 : BitVec 32 := v331
  let c0_i32_162 : BitVec 32 := 0#32
  ![v77.toNat, v332.toNat, 0]

def k0_chk29 (i : grid0.Coords) (v331 : BitVec 32) : Prop :=
  (∀ (k0_h1 : k0_cond1 i = 1#1), 8 ∣ (k0_mult29 v331).toNat) ∧
  (∀ (k0_h1 : k0_cond1 i = 1#1), ∀ a, (k0_off58 i v331) a + S1x24x256.size a ≤ S32x3136x256.size a)
theorem k0_mult29_dvd : ∀ (i : grid0.Coords) (v331 : BitVec 32) (k0_hw29 : k0_chk29 i v331), ∀ (k0_h1 : k0_cond1 i = 1#1), 8 ∣ (k0_mult29 v331).toNat := fun i v331 k0_hw29 k0_h1 => k0_hw29.1 k0_h1
theorem k0_off58_inb : ∀ (i : grid0.Coords) (v331 : BitVec 32) (k0_hw29 : k0_chk29 i v331), ∀ (k0_h1 : k0_cond1 i = 1#1), ∀ a, (k0_off58 i v331) a + S1x24x256.size a ≤ S32x3136x256.size a := fun i v331 k0_hw29 k0_h1 => k0_hw29.2 k0_h1

def k0_off59 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v339 : Index := Scalar.indexCast v77
  let c29 : Index := 29#32
  ![v339.toNat, 29]
def k0_mult30 (v340 : BitVec 32) : BitVec 32 :=
  v340

def k0_off60 (i : grid0.Coords) (v340 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v341 : BitVec 32 := v340
  let c0_i32_166 : BitVec 32 := 0#32
  ![v77.toNat, v341.toNat, 0]

def k0_chk30 (i : grid0.Coords) (v340 : BitVec 32) : Prop :=
  (∀ (k0_h1 : k0_cond1 i = 1#1), 8 ∣ (k0_mult30 v340).toNat) ∧
  (∀ (k0_h1 : k0_cond1 i = 1#1), ∀ a, (k0_off60 i v340) a + S1x24x256.size a ≤ S32x3136x256.size a)
theorem k0_mult30_dvd : ∀ (i : grid0.Coords) (v340 : BitVec 32) (k0_hw30 : k0_chk30 i v340), ∀ (k0_h1 : k0_cond1 i = 1#1), 8 ∣ (k0_mult30 v340).toNat := fun i v340 k0_hw30 k0_h1 => k0_hw30.1 k0_h1
theorem k0_off60_inb : ∀ (i : grid0.Coords) (v340 : BitVec 32) (k0_hw30 : k0_chk30 i v340), ∀ (k0_h1 : k0_cond1 i = 1#1), ∀ a, (k0_off60 i v340) a + S1x24x256.size a ≤ S32x3136x256.size a := fun i v340 k0_hw30 k0_h1 => k0_hw30.2 k0_h1

def k0_off61 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v348 : Index := Scalar.indexCast v77
  let c30 : Index := 30#32
  ![v348.toNat, 30]
def k0_mult31 (v349 : BitVec 32) : BitVec 32 :=
  v349

def k0_off62 (i : grid0.Coords) (v349 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v350 : BitVec 32 := v349
  let c0_i32_170 : BitVec 32 := 0#32
  ![v77.toNat, v350.toNat, 0]

def k0_chk31 (i : grid0.Coords) (v349 : BitVec 32) : Prop :=
  (∀ (k0_h1 : k0_cond1 i = 1#1), 8 ∣ (k0_mult31 v349).toNat) ∧
  (∀ (k0_h1 : k0_cond1 i = 1#1), ∀ a, (k0_off62 i v349) a + S1x24x256.size a ≤ S32x3136x256.size a)
theorem k0_mult31_dvd : ∀ (i : grid0.Coords) (v349 : BitVec 32) (k0_hw31 : k0_chk31 i v349), ∀ (k0_h1 : k0_cond1 i = 1#1), 8 ∣ (k0_mult31 v349).toNat := fun i v349 k0_hw31 k0_h1 => k0_hw31.1 k0_h1
theorem k0_off62_inb : ∀ (i : grid0.Coords) (v349 : BitVec 32) (k0_hw31 : k0_chk31 i v349), ∀ (k0_h1 : k0_cond1 i = 1#1), ∀ a, (k0_off62 i v349) a + S1x24x256.size a ≤ S32x3136x256.size a := fun i v349 k0_hw31 k0_h1 => k0_hw31.2 k0_h1

def k0_off63 (i : grid0.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v357 : Index := Scalar.indexCast v77
  let c31 : Index := 31#32
  ![v357.toNat, 31]
def k0_mult32 (v358 : BitVec 32) : BitVec 32 :=
  v358

def k0_off64 (i : grid0.Coords) (v358 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v359 : BitVec 32 := v358
  let c0_i32_174 : BitVec 32 := 0#32
  ![v77.toNat, v359.toNat, 0]

def k0_chk32 (i : grid0.Coords) (v358 : BitVec 32) : Prop :=
  (∀ (k0_h1 : k0_cond1 i = 1#1), 8 ∣ (k0_mult32 v358).toNat) ∧
  (∀ (k0_h1 : k0_cond1 i = 1#1), ∀ a, (k0_off64 i v358) a + S1x24x256.size a ≤ S32x3136x256.size a)
theorem k0_mult32_dvd : ∀ (i : grid0.Coords) (v358 : BitVec 32) (k0_hw32 : k0_chk32 i v358), ∀ (k0_h1 : k0_cond1 i = 1#1), 8 ∣ (k0_mult32 v358).toNat := fun i v358 k0_hw32 k0_h1 => k0_hw32.1 k0_h1
theorem k0_off64_inb : ∀ (i : grid0.Coords) (v358 : BitVec 32) (k0_hw32 : k0_chk32 i v358), ∀ (k0_h1 : k0_cond1 i = 1#1), ∀ a, (k0_off64 i v358) a + S1x24x256.size a ≤ S32x3136x256.size a := fun i v358 k0_hw32 k0_h1 => k0_hw32.2 k0_h1

def k0_cond2 (i : grid0.Coords) : BitVec 1 :=
  let arg1 : BitVec 32 := BitVec.ofNat 32 (i 1).val
  let c1_i32 : BitVec 32 := 1#32
  let v3 : BitVec 32 := Scalar.addi arg1 c1_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off65 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v90 : Index := Scalar.indexCast v89
  let c0_53 : Index := 0#32
  ![v90.toNat, 0]
def k0_mult33 (v91 : BitVec 32) : BitVec 32 :=
  v91

def k0_off66 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off67 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c0_i32_54 : BitVec 32 := 0#32
  let c0_i32_55 : BitVec 32 := 0#32
  ![v87.toNat, 0, 0]
def k0_off68 (i : grid0.Coords) (v91 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v92 : BitVec 32 := v91
  let c0_i32_56 : BitVec 32 := 0#32
  ![v89.toNat, v92.toNat, 0]

def k0_chk33 (i : grid0.Coords) (v91 : BitVec 32) : Prop :=
  (∀ (k0_h2 : k0_cond2 i = 1#1), 8 ∣ (k0_mult33 v91).toNat) ∧
  (∀ (k0_h2 : k0_cond2 i = 1#1), ∀ a, (k0_off68 i v91) a + S1x24x256.size a ≤ S32x3136x256.size a)
theorem k0_mult33_dvd : ∀ (i : grid0.Coords) (v91 : BitVec 32) (k0_hw33 : k0_chk33 i v91), ∀ (k0_h2 : k0_cond2 i = 1#1), 8 ∣ (k0_mult33 v91).toNat := fun i v91 k0_hw33 k0_h2 => k0_hw33.1 k0_h2
theorem k0_off68_inb : ∀ (i : grid0.Coords) (v91 : BitVec 32) (k0_hw33 : k0_chk33 i v91), ∀ (k0_h2 : k0_cond2 i = 1#1), ∀ a, (k0_off68 i v91) a + S1x24x256.size a ≤ S32x3136x256.size a := fun i v91 k0_hw33 k0_h2 => k0_hw33.2 k0_h2

def k0_off69 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v99 : Index := Scalar.indexCast v89
  let c1 : Index := 1#32
  ![v99.toNat, 1]
def k0_mult34 (v100 : BitVec 32) : BitVec 32 :=
  v100

def k0_off70 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off71 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c24_i32 : BitVec 32 := 24#32
  let c0_i32_57 : BitVec 32 := 0#32
  ![v87.toNat, 24, 0]
def k0_off72 (i : grid0.Coords) (v100 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v101 : BitVec 32 := v100
  let c0_i32_58 : BitVec 32 := 0#32
  ![v89.toNat, v101.toNat, 0]

def k0_chk34 (i : grid0.Coords) (v100 : BitVec 32) : Prop :=
  (∀ (k0_h2 : k0_cond2 i = 1#1), 8 ∣ (k0_mult34 v100).toNat) ∧
  (∀ (k0_h2 : k0_cond2 i = 1#1), ∀ a, (k0_off72 i v100) a + S1x24x256.size a ≤ S32x3136x256.size a)
theorem k0_mult34_dvd : ∀ (i : grid0.Coords) (v100 : BitVec 32) (k0_hw34 : k0_chk34 i v100), ∀ (k0_h2 : k0_cond2 i = 1#1), 8 ∣ (k0_mult34 v100).toNat := fun i v100 k0_hw34 k0_h2 => k0_hw34.1 k0_h2
theorem k0_off72_inb : ∀ (i : grid0.Coords) (v100 : BitVec 32) (k0_hw34 : k0_chk34 i v100), ∀ (k0_h2 : k0_cond2 i = 1#1), ∀ a, (k0_off72 i v100) a + S1x24x256.size a ≤ S32x3136x256.size a := fun i v100 k0_hw34 k0_h2 => k0_hw34.2 k0_h2

def k0_off73 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v108 : Index := Scalar.indexCast v89
  let c2 : Index := 2#32
  ![v108.toNat, 2]
def k0_mult35 (v109 : BitVec 32) : BitVec 32 :=
  v109

def k0_off74 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off75 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c48_i32 : BitVec 32 := 48#32
  let c0_i32_59 : BitVec 32 := 0#32
  ![v87.toNat, 48, 0]
def k0_off76 (i : grid0.Coords) (v109 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v110 : BitVec 32 := v109
  let c0_i32_60 : BitVec 32 := 0#32
  ![v89.toNat, v110.toNat, 0]

def k0_chk35 (i : grid0.Coords) (v109 : BitVec 32) : Prop :=
  (∀ (k0_h2 : k0_cond2 i = 1#1), 8 ∣ (k0_mult35 v109).toNat) ∧
  (∀ (k0_h2 : k0_cond2 i = 1#1), ∀ a, (k0_off76 i v109) a + S1x24x256.size a ≤ S32x3136x256.size a)
theorem k0_mult35_dvd : ∀ (i : grid0.Coords) (v109 : BitVec 32) (k0_hw35 : k0_chk35 i v109), ∀ (k0_h2 : k0_cond2 i = 1#1), 8 ∣ (k0_mult35 v109).toNat := fun i v109 k0_hw35 k0_h2 => k0_hw35.1 k0_h2
theorem k0_off76_inb : ∀ (i : grid0.Coords) (v109 : BitVec 32) (k0_hw35 : k0_chk35 i v109), ∀ (k0_h2 : k0_cond2 i = 1#1), ∀ a, (k0_off76 i v109) a + S1x24x256.size a ≤ S32x3136x256.size a := fun i v109 k0_hw35 k0_h2 => k0_hw35.2 k0_h2

def k0_off77 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v117 : Index := Scalar.indexCast v89
  let c3 : Index := 3#32
  ![v117.toNat, 3]
def k0_mult36 (v118 : BitVec 32) : BitVec 32 :=
  v118

def k0_off78 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off79 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c72_i32 : BitVec 32 := 72#32
  let c0_i32_61 : BitVec 32 := 0#32
  ![v87.toNat, 72, 0]
def k0_off80 (i : grid0.Coords) (v118 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v119 : BitVec 32 := v118
  let c0_i32_62 : BitVec 32 := 0#32
  ![v89.toNat, v119.toNat, 0]

def k0_chk36 (i : grid0.Coords) (v118 : BitVec 32) : Prop :=
  (∀ (k0_h2 : k0_cond2 i = 1#1), 8 ∣ (k0_mult36 v118).toNat) ∧
  (∀ (k0_h2 : k0_cond2 i = 1#1), ∀ a, (k0_off80 i v118) a + S1x24x256.size a ≤ S32x3136x256.size a)
theorem k0_mult36_dvd : ∀ (i : grid0.Coords) (v118 : BitVec 32) (k0_hw36 : k0_chk36 i v118), ∀ (k0_h2 : k0_cond2 i = 1#1), 8 ∣ (k0_mult36 v118).toNat := fun i v118 k0_hw36 k0_h2 => k0_hw36.1 k0_h2
theorem k0_off80_inb : ∀ (i : grid0.Coords) (v118 : BitVec 32) (k0_hw36 : k0_chk36 i v118), ∀ (k0_h2 : k0_cond2 i = 1#1), ∀ a, (k0_off80 i v118) a + S1x24x256.size a ≤ S32x3136x256.size a := fun i v118 k0_hw36 k0_h2 => k0_hw36.2 k0_h2

def k0_off81 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v126 : Index := Scalar.indexCast v89
  let c4 : Index := 4#32
  ![v126.toNat, 4]
def k0_mult37 (v127 : BitVec 32) : BitVec 32 :=
  v127

def k0_off82 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off83 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c96_i32 : BitVec 32 := 96#32
  let c0_i32_63 : BitVec 32 := 0#32
  ![v87.toNat, 96, 0]
def k0_off84 (i : grid0.Coords) (v127 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v128 : BitVec 32 := v127
  let c0_i32_64 : BitVec 32 := 0#32
  ![v89.toNat, v128.toNat, 0]

def k0_chk37 (i : grid0.Coords) (v127 : BitVec 32) : Prop :=
  (∀ (k0_h2 : k0_cond2 i = 1#1), 8 ∣ (k0_mult37 v127).toNat) ∧
  (∀ (k0_h2 : k0_cond2 i = 1#1), ∀ a, (k0_off84 i v127) a + S1x24x256.size a ≤ S32x3136x256.size a)
theorem k0_mult37_dvd : ∀ (i : grid0.Coords) (v127 : BitVec 32) (k0_hw37 : k0_chk37 i v127), ∀ (k0_h2 : k0_cond2 i = 1#1), 8 ∣ (k0_mult37 v127).toNat := fun i v127 k0_hw37 k0_h2 => k0_hw37.1 k0_h2
theorem k0_off84_inb : ∀ (i : grid0.Coords) (v127 : BitVec 32) (k0_hw37 : k0_chk37 i v127), ∀ (k0_h2 : k0_cond2 i = 1#1), ∀ a, (k0_off84 i v127) a + S1x24x256.size a ≤ S32x3136x256.size a := fun i v127 k0_hw37 k0_h2 => k0_hw37.2 k0_h2

def k0_off85 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v135 : Index := Scalar.indexCast v89
  let c5 : Index := 5#32
  ![v135.toNat, 5]
def k0_mult38 (v136 : BitVec 32) : BitVec 32 :=
  v136

def k0_off86 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off87 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c120_i32 : BitVec 32 := 120#32
  let c0_i32_65 : BitVec 32 := 0#32
  ![v87.toNat, 120, 0]
def k0_off88 (i : grid0.Coords) (v136 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v137 : BitVec 32 := v136
  let c0_i32_66 : BitVec 32 := 0#32
  ![v89.toNat, v137.toNat, 0]

def k0_chk38 (i : grid0.Coords) (v136 : BitVec 32) : Prop :=
  (∀ (k0_h2 : k0_cond2 i = 1#1), 8 ∣ (k0_mult38 v136).toNat) ∧
  (∀ (k0_h2 : k0_cond2 i = 1#1), ∀ a, (k0_off88 i v136) a + S1x24x256.size a ≤ S32x3136x256.size a)
theorem k0_mult38_dvd : ∀ (i : grid0.Coords) (v136 : BitVec 32) (k0_hw38 : k0_chk38 i v136), ∀ (k0_h2 : k0_cond2 i = 1#1), 8 ∣ (k0_mult38 v136).toNat := fun i v136 k0_hw38 k0_h2 => k0_hw38.1 k0_h2
theorem k0_off88_inb : ∀ (i : grid0.Coords) (v136 : BitVec 32) (k0_hw38 : k0_chk38 i v136), ∀ (k0_h2 : k0_cond2 i = 1#1), ∀ a, (k0_off88 i v136) a + S1x24x256.size a ≤ S32x3136x256.size a := fun i v136 k0_hw38 k0_h2 => k0_hw38.2 k0_h2

def k0_off89 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v144 : Index := Scalar.indexCast v89
  let c6 : Index := 6#32
  ![v144.toNat, 6]
def k0_mult39 (v145 : BitVec 32) : BitVec 32 :=
  v145

def k0_off90 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off91 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c144_i32 : BitVec 32 := 144#32
  let c0_i32_67 : BitVec 32 := 0#32
  ![v87.toNat, 144, 0]
def k0_off92 (i : grid0.Coords) (v145 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v146 : BitVec 32 := v145
  let c0_i32_68 : BitVec 32 := 0#32
  ![v89.toNat, v146.toNat, 0]

def k0_chk39 (i : grid0.Coords) (v145 : BitVec 32) : Prop :=
  (∀ (k0_h2 : k0_cond2 i = 1#1), 8 ∣ (k0_mult39 v145).toNat) ∧
  (∀ (k0_h2 : k0_cond2 i = 1#1), ∀ a, (k0_off92 i v145) a + S1x24x256.size a ≤ S32x3136x256.size a)
theorem k0_mult39_dvd : ∀ (i : grid0.Coords) (v145 : BitVec 32) (k0_hw39 : k0_chk39 i v145), ∀ (k0_h2 : k0_cond2 i = 1#1), 8 ∣ (k0_mult39 v145).toNat := fun i v145 k0_hw39 k0_h2 => k0_hw39.1 k0_h2
theorem k0_off92_inb : ∀ (i : grid0.Coords) (v145 : BitVec 32) (k0_hw39 : k0_chk39 i v145), ∀ (k0_h2 : k0_cond2 i = 1#1), ∀ a, (k0_off92 i v145) a + S1x24x256.size a ≤ S32x3136x256.size a := fun i v145 k0_hw39 k0_h2 => k0_hw39.2 k0_h2

def k0_off93 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v153 : Index := Scalar.indexCast v89
  let c7 : Index := 7#32
  ![v153.toNat, 7]
def k0_mult40 (v154 : BitVec 32) : BitVec 32 :=
  v154

def k0_off94 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off95 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c168_i32 : BitVec 32 := 168#32
  let c0_i32_69 : BitVec 32 := 0#32
  ![v87.toNat, 168, 0]
def k0_off96 (i : grid0.Coords) (v154 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v155 : BitVec 32 := v154
  let c0_i32_70 : BitVec 32 := 0#32
  ![v89.toNat, v155.toNat, 0]

def k0_chk40 (i : grid0.Coords) (v154 : BitVec 32) : Prop :=
  (∀ (k0_h2 : k0_cond2 i = 1#1), 8 ∣ (k0_mult40 v154).toNat) ∧
  (∀ (k0_h2 : k0_cond2 i = 1#1), ∀ a, (k0_off96 i v154) a + S1x24x256.size a ≤ S32x3136x256.size a)
theorem k0_mult40_dvd : ∀ (i : grid0.Coords) (v154 : BitVec 32) (k0_hw40 : k0_chk40 i v154), ∀ (k0_h2 : k0_cond2 i = 1#1), 8 ∣ (k0_mult40 v154).toNat := fun i v154 k0_hw40 k0_h2 => k0_hw40.1 k0_h2
theorem k0_off96_inb : ∀ (i : grid0.Coords) (v154 : BitVec 32) (k0_hw40 : k0_chk40 i v154), ∀ (k0_h2 : k0_cond2 i = 1#1), ∀ a, (k0_off96 i v154) a + S1x24x256.size a ≤ S32x3136x256.size a := fun i v154 k0_hw40 k0_h2 => k0_hw40.2 k0_h2

def k0_off97 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v162 : Index := Scalar.indexCast v89
  let c8 : Index := 8#32
  ![v162.toNat, 8]
def k0_mult41 (v163 : BitVec 32) : BitVec 32 :=
  v163

def k0_off98 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off99 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c192_i32 : BitVec 32 := 192#32
  let c0_i32_71 : BitVec 32 := 0#32
  ![v87.toNat, 192, 0]
def k0_off100 (i : grid0.Coords) (v163 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v164 : BitVec 32 := v163
  let c0_i32_72 : BitVec 32 := 0#32
  ![v89.toNat, v164.toNat, 0]

def k0_chk41 (i : grid0.Coords) (v163 : BitVec 32) : Prop :=
  (∀ (k0_h2 : k0_cond2 i = 1#1), 8 ∣ (k0_mult41 v163).toNat) ∧
  (∀ (k0_h2 : k0_cond2 i = 1#1), ∀ a, (k0_off100 i v163) a + S1x24x256.size a ≤ S32x3136x256.size a)
theorem k0_mult41_dvd : ∀ (i : grid0.Coords) (v163 : BitVec 32) (k0_hw41 : k0_chk41 i v163), ∀ (k0_h2 : k0_cond2 i = 1#1), 8 ∣ (k0_mult41 v163).toNat := fun i v163 k0_hw41 k0_h2 => k0_hw41.1 k0_h2
theorem k0_off100_inb : ∀ (i : grid0.Coords) (v163 : BitVec 32) (k0_hw41 : k0_chk41 i v163), ∀ (k0_h2 : k0_cond2 i = 1#1), ∀ a, (k0_off100 i v163) a + S1x24x256.size a ≤ S32x3136x256.size a := fun i v163 k0_hw41 k0_h2 => k0_hw41.2 k0_h2

def k0_off101 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v171 : Index := Scalar.indexCast v89
  let c9 : Index := 9#32
  ![v171.toNat, 9]
def k0_mult42 (v172 : BitVec 32) : BitVec 32 :=
  v172

def k0_off102 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off103 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c216_i32 : BitVec 32 := 216#32
  let c0_i32_73 : BitVec 32 := 0#32
  ![v87.toNat, 216, 0]
def k0_off104 (i : grid0.Coords) (v172 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v173 : BitVec 32 := v172
  let c0_i32_74 : BitVec 32 := 0#32
  ![v89.toNat, v173.toNat, 0]

def k0_chk42 (i : grid0.Coords) (v172 : BitVec 32) : Prop :=
  (∀ (k0_h2 : k0_cond2 i = 1#1), 8 ∣ (k0_mult42 v172).toNat) ∧
  (∀ (k0_h2 : k0_cond2 i = 1#1), ∀ a, (k0_off104 i v172) a + S1x24x256.size a ≤ S32x3136x256.size a)
theorem k0_mult42_dvd : ∀ (i : grid0.Coords) (v172 : BitVec 32) (k0_hw42 : k0_chk42 i v172), ∀ (k0_h2 : k0_cond2 i = 1#1), 8 ∣ (k0_mult42 v172).toNat := fun i v172 k0_hw42 k0_h2 => k0_hw42.1 k0_h2
theorem k0_off104_inb : ∀ (i : grid0.Coords) (v172 : BitVec 32) (k0_hw42 : k0_chk42 i v172), ∀ (k0_h2 : k0_cond2 i = 1#1), ∀ a, (k0_off104 i v172) a + S1x24x256.size a ≤ S32x3136x256.size a := fun i v172 k0_hw42 k0_h2 => k0_hw42.2 k0_h2

def k0_off105 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v180 : Index := Scalar.indexCast v89
  let c10 : Index := 10#32
  ![v180.toNat, 10]
def k0_mult43 (v181 : BitVec 32) : BitVec 32 :=
  v181

def k0_off106 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off107 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c240_i32 : BitVec 32 := 240#32
  let c0_i32_75 : BitVec 32 := 0#32
  ![v87.toNat, 240, 0]
def k0_off108 (i : grid0.Coords) (v181 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v182 : BitVec 32 := v181
  let c0_i32_76 : BitVec 32 := 0#32
  ![v89.toNat, v182.toNat, 0]

def k0_chk43 (i : grid0.Coords) (v181 : BitVec 32) : Prop :=
  (∀ (k0_h2 : k0_cond2 i = 1#1), 8 ∣ (k0_mult43 v181).toNat) ∧
  (∀ (k0_h2 : k0_cond2 i = 1#1), ∀ a, (k0_off108 i v181) a + S1x24x256.size a ≤ S32x3136x256.size a)
theorem k0_mult43_dvd : ∀ (i : grid0.Coords) (v181 : BitVec 32) (k0_hw43 : k0_chk43 i v181), ∀ (k0_h2 : k0_cond2 i = 1#1), 8 ∣ (k0_mult43 v181).toNat := fun i v181 k0_hw43 k0_h2 => k0_hw43.1 k0_h2
theorem k0_off108_inb : ∀ (i : grid0.Coords) (v181 : BitVec 32) (k0_hw43 : k0_chk43 i v181), ∀ (k0_h2 : k0_cond2 i = 1#1), ∀ a, (k0_off108 i v181) a + S1x24x256.size a ≤ S32x3136x256.size a := fun i v181 k0_hw43 k0_h2 => k0_hw43.2 k0_h2

def k0_off109 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v189 : Index := Scalar.indexCast v89
  let c11 : Index := 11#32
  ![v189.toNat, 11]
def k0_mult44 (v190 : BitVec 32) : BitVec 32 :=
  v190

def k0_off110 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off111 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c264_i32 : BitVec 32 := 264#32
  let c0_i32_77 : BitVec 32 := 0#32
  ![v87.toNat, 264, 0]
def k0_off112 (i : grid0.Coords) (v190 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v191 : BitVec 32 := v190
  let c0_i32_78 : BitVec 32 := 0#32
  ![v89.toNat, v191.toNat, 0]

def k0_chk44 (i : grid0.Coords) (v190 : BitVec 32) : Prop :=
  (∀ (k0_h2 : k0_cond2 i = 1#1), 8 ∣ (k0_mult44 v190).toNat) ∧
  (∀ (k0_h2 : k0_cond2 i = 1#1), ∀ a, (k0_off112 i v190) a + S1x24x256.size a ≤ S32x3136x256.size a)
theorem k0_mult44_dvd : ∀ (i : grid0.Coords) (v190 : BitVec 32) (k0_hw44 : k0_chk44 i v190), ∀ (k0_h2 : k0_cond2 i = 1#1), 8 ∣ (k0_mult44 v190).toNat := fun i v190 k0_hw44 k0_h2 => k0_hw44.1 k0_h2
theorem k0_off112_inb : ∀ (i : grid0.Coords) (v190 : BitVec 32) (k0_hw44 : k0_chk44 i v190), ∀ (k0_h2 : k0_cond2 i = 1#1), ∀ a, (k0_off112 i v190) a + S1x24x256.size a ≤ S32x3136x256.size a := fun i v190 k0_hw44 k0_h2 => k0_hw44.2 k0_h2

def k0_off113 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v198 : Index := Scalar.indexCast v89
  let c12 : Index := 12#32
  ![v198.toNat, 12]
def k0_mult45 (v199 : BitVec 32) : BitVec 32 :=
  v199

def k0_off114 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off115 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c288_i32 : BitVec 32 := 288#32
  let c0_i32_79 : BitVec 32 := 0#32
  ![v87.toNat, 288, 0]
def k0_off116 (i : grid0.Coords) (v199 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v200 : BitVec 32 := v199
  let c0_i32_80 : BitVec 32 := 0#32
  ![v89.toNat, v200.toNat, 0]

def k0_chk45 (i : grid0.Coords) (v199 : BitVec 32) : Prop :=
  (∀ (k0_h2 : k0_cond2 i = 1#1), 8 ∣ (k0_mult45 v199).toNat) ∧
  (∀ (k0_h2 : k0_cond2 i = 1#1), ∀ a, (k0_off116 i v199) a + S1x24x256.size a ≤ S32x3136x256.size a)
theorem k0_mult45_dvd : ∀ (i : grid0.Coords) (v199 : BitVec 32) (k0_hw45 : k0_chk45 i v199), ∀ (k0_h2 : k0_cond2 i = 1#1), 8 ∣ (k0_mult45 v199).toNat := fun i v199 k0_hw45 k0_h2 => k0_hw45.1 k0_h2
theorem k0_off116_inb : ∀ (i : grid0.Coords) (v199 : BitVec 32) (k0_hw45 : k0_chk45 i v199), ∀ (k0_h2 : k0_cond2 i = 1#1), ∀ a, (k0_off116 i v199) a + S1x24x256.size a ≤ S32x3136x256.size a := fun i v199 k0_hw45 k0_h2 => k0_hw45.2 k0_h2

def k0_off117 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v207 : Index := Scalar.indexCast v89
  let c13 : Index := 13#32
  ![v207.toNat, 13]
def k0_mult46 (v208 : BitVec 32) : BitVec 32 :=
  v208

def k0_off118 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off119 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c312_i32 : BitVec 32 := 312#32
  let c0_i32_81 : BitVec 32 := 0#32
  ![v87.toNat, 312, 0]
def k0_off120 (i : grid0.Coords) (v208 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v209 : BitVec 32 := v208
  let c0_i32_82 : BitVec 32 := 0#32
  ![v89.toNat, v209.toNat, 0]

def k0_chk46 (i : grid0.Coords) (v208 : BitVec 32) : Prop :=
  (∀ (k0_h2 : k0_cond2 i = 1#1), 8 ∣ (k0_mult46 v208).toNat) ∧
  (∀ (k0_h2 : k0_cond2 i = 1#1), ∀ a, (k0_off120 i v208) a + S1x24x256.size a ≤ S32x3136x256.size a)
theorem k0_mult46_dvd : ∀ (i : grid0.Coords) (v208 : BitVec 32) (k0_hw46 : k0_chk46 i v208), ∀ (k0_h2 : k0_cond2 i = 1#1), 8 ∣ (k0_mult46 v208).toNat := fun i v208 k0_hw46 k0_h2 => k0_hw46.1 k0_h2
theorem k0_off120_inb : ∀ (i : grid0.Coords) (v208 : BitVec 32) (k0_hw46 : k0_chk46 i v208), ∀ (k0_h2 : k0_cond2 i = 1#1), ∀ a, (k0_off120 i v208) a + S1x24x256.size a ≤ S32x3136x256.size a := fun i v208 k0_hw46 k0_h2 => k0_hw46.2 k0_h2

def k0_off121 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v216 : Index := Scalar.indexCast v89
  let c14 : Index := 14#32
  ![v216.toNat, 14]
def k0_mult47 (v217 : BitVec 32) : BitVec 32 :=
  v217

def k0_off122 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off123 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c336_i32 : BitVec 32 := 336#32
  let c0_i32_83 : BitVec 32 := 0#32
  ![v87.toNat, 336, 0]
def k0_off124 (i : grid0.Coords) (v217 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v218 : BitVec 32 := v217
  let c0_i32_84 : BitVec 32 := 0#32
  ![v89.toNat, v218.toNat, 0]

def k0_chk47 (i : grid0.Coords) (v217 : BitVec 32) : Prop :=
  (∀ (k0_h2 : k0_cond2 i = 1#1), 8 ∣ (k0_mult47 v217).toNat) ∧
  (∀ (k0_h2 : k0_cond2 i = 1#1), ∀ a, (k0_off124 i v217) a + S1x24x256.size a ≤ S32x3136x256.size a)
theorem k0_mult47_dvd : ∀ (i : grid0.Coords) (v217 : BitVec 32) (k0_hw47 : k0_chk47 i v217), ∀ (k0_h2 : k0_cond2 i = 1#1), 8 ∣ (k0_mult47 v217).toNat := fun i v217 k0_hw47 k0_h2 => k0_hw47.1 k0_h2
theorem k0_off124_inb : ∀ (i : grid0.Coords) (v217 : BitVec 32) (k0_hw47 : k0_chk47 i v217), ∀ (k0_h2 : k0_cond2 i = 1#1), ∀ a, (k0_off124 i v217) a + S1x24x256.size a ≤ S32x3136x256.size a := fun i v217 k0_hw47 k0_h2 => k0_hw47.2 k0_h2

def k0_off125 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v225 : Index := Scalar.indexCast v89
  let c15 : Index := 15#32
  ![v225.toNat, 15]
def k0_mult48 (v226 : BitVec 32) : BitVec 32 :=
  v226

def k0_off126 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off127 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c360_i32 : BitVec 32 := 360#32
  let c0_i32_85 : BitVec 32 := 0#32
  ![v87.toNat, 360, 0]
def k0_off128 (i : grid0.Coords) (v226 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v227 : BitVec 32 := v226
  let c0_i32_86 : BitVec 32 := 0#32
  ![v89.toNat, v227.toNat, 0]

def k0_chk48 (i : grid0.Coords) (v226 : BitVec 32) : Prop :=
  (∀ (k0_h2 : k0_cond2 i = 1#1), 8 ∣ (k0_mult48 v226).toNat) ∧
  (∀ (k0_h2 : k0_cond2 i = 1#1), ∀ a, (k0_off128 i v226) a + S1x24x256.size a ≤ S32x3136x256.size a)
theorem k0_mult48_dvd : ∀ (i : grid0.Coords) (v226 : BitVec 32) (k0_hw48 : k0_chk48 i v226), ∀ (k0_h2 : k0_cond2 i = 1#1), 8 ∣ (k0_mult48 v226).toNat := fun i v226 k0_hw48 k0_h2 => k0_hw48.1 k0_h2
theorem k0_off128_inb : ∀ (i : grid0.Coords) (v226 : BitVec 32) (k0_hw48 : k0_chk48 i v226), ∀ (k0_h2 : k0_cond2 i = 1#1), ∀ a, (k0_off128 i v226) a + S1x24x256.size a ≤ S32x3136x256.size a := fun i v226 k0_hw48 k0_h2 => k0_hw48.2 k0_h2

def k0_off129 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v234 : Index := Scalar.indexCast v89
  let c16 : Index := 16#32
  ![v234.toNat, 16]
def k0_mult49 (v235 : BitVec 32) : BitVec 32 :=
  v235

def k0_off130 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off131 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c384_i32 : BitVec 32 := 384#32
  let c0_i32_87 : BitVec 32 := 0#32
  ![v87.toNat, 384, 0]
def k0_off132 (i : grid0.Coords) (v235 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v236 : BitVec 32 := v235
  let c0_i32_88 : BitVec 32 := 0#32
  ![v89.toNat, v236.toNat, 0]

def k0_chk49 (i : grid0.Coords) (v235 : BitVec 32) : Prop :=
  (∀ (k0_h2 : k0_cond2 i = 1#1), 8 ∣ (k0_mult49 v235).toNat) ∧
  (∀ (k0_h2 : k0_cond2 i = 1#1), ∀ a, (k0_off132 i v235) a + S1x24x256.size a ≤ S32x3136x256.size a)
theorem k0_mult49_dvd : ∀ (i : grid0.Coords) (v235 : BitVec 32) (k0_hw49 : k0_chk49 i v235), ∀ (k0_h2 : k0_cond2 i = 1#1), 8 ∣ (k0_mult49 v235).toNat := fun i v235 k0_hw49 k0_h2 => k0_hw49.1 k0_h2
theorem k0_off132_inb : ∀ (i : grid0.Coords) (v235 : BitVec 32) (k0_hw49 : k0_chk49 i v235), ∀ (k0_h2 : k0_cond2 i = 1#1), ∀ a, (k0_off132 i v235) a + S1x24x256.size a ≤ S32x3136x256.size a := fun i v235 k0_hw49 k0_h2 => k0_hw49.2 k0_h2

def k0_off133 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v243 : Index := Scalar.indexCast v89
  let c17 : Index := 17#32
  ![v243.toNat, 17]
def k0_mult50 (v244 : BitVec 32) : BitVec 32 :=
  v244

def k0_off134 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off135 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c408_i32 : BitVec 32 := 408#32
  let c0_i32_89 : BitVec 32 := 0#32
  ![v87.toNat, 408, 0]
def k0_off136 (i : grid0.Coords) (v244 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v245 : BitVec 32 := v244
  let c0_i32_90 : BitVec 32 := 0#32
  ![v89.toNat, v245.toNat, 0]

def k0_chk50 (i : grid0.Coords) (v244 : BitVec 32) : Prop :=
  (∀ (k0_h2 : k0_cond2 i = 1#1), 8 ∣ (k0_mult50 v244).toNat) ∧
  (∀ (k0_h2 : k0_cond2 i = 1#1), ∀ a, (k0_off136 i v244) a + S1x24x256.size a ≤ S32x3136x256.size a)
theorem k0_mult50_dvd : ∀ (i : grid0.Coords) (v244 : BitVec 32) (k0_hw50 : k0_chk50 i v244), ∀ (k0_h2 : k0_cond2 i = 1#1), 8 ∣ (k0_mult50 v244).toNat := fun i v244 k0_hw50 k0_h2 => k0_hw50.1 k0_h2
theorem k0_off136_inb : ∀ (i : grid0.Coords) (v244 : BitVec 32) (k0_hw50 : k0_chk50 i v244), ∀ (k0_h2 : k0_cond2 i = 1#1), ∀ a, (k0_off136 i v244) a + S1x24x256.size a ≤ S32x3136x256.size a := fun i v244 k0_hw50 k0_h2 => k0_hw50.2 k0_h2

def k0_off137 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v252 : Index := Scalar.indexCast v89
  let c18 : Index := 18#32
  ![v252.toNat, 18]
def k0_mult51 (v253 : BitVec 32) : BitVec 32 :=
  v253

def k0_off138 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off139 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c432_i32 : BitVec 32 := 432#32
  let c0_i32_91 : BitVec 32 := 0#32
  ![v87.toNat, 432, 0]
def k0_off140 (i : grid0.Coords) (v253 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v254 : BitVec 32 := v253
  let c0_i32_92 : BitVec 32 := 0#32
  ![v89.toNat, v254.toNat, 0]

def k0_chk51 (i : grid0.Coords) (v253 : BitVec 32) : Prop :=
  (∀ (k0_h2 : k0_cond2 i = 1#1), 8 ∣ (k0_mult51 v253).toNat) ∧
  (∀ (k0_h2 : k0_cond2 i = 1#1), ∀ a, (k0_off140 i v253) a + S1x24x256.size a ≤ S32x3136x256.size a)
theorem k0_mult51_dvd : ∀ (i : grid0.Coords) (v253 : BitVec 32) (k0_hw51 : k0_chk51 i v253), ∀ (k0_h2 : k0_cond2 i = 1#1), 8 ∣ (k0_mult51 v253).toNat := fun i v253 k0_hw51 k0_h2 => k0_hw51.1 k0_h2
theorem k0_off140_inb : ∀ (i : grid0.Coords) (v253 : BitVec 32) (k0_hw51 : k0_chk51 i v253), ∀ (k0_h2 : k0_cond2 i = 1#1), ∀ a, (k0_off140 i v253) a + S1x24x256.size a ≤ S32x3136x256.size a := fun i v253 k0_hw51 k0_h2 => k0_hw51.2 k0_h2

def k0_off141 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v261 : Index := Scalar.indexCast v89
  let c19 : Index := 19#32
  ![v261.toNat, 19]
def k0_mult52 (v262 : BitVec 32) : BitVec 32 :=
  v262

def k0_off142 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off143 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c456_i32 : BitVec 32 := 456#32
  let c0_i32_93 : BitVec 32 := 0#32
  ![v87.toNat, 456, 0]
def k0_off144 (i : grid0.Coords) (v262 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v263 : BitVec 32 := v262
  let c0_i32_94 : BitVec 32 := 0#32
  ![v89.toNat, v263.toNat, 0]

def k0_chk52 (i : grid0.Coords) (v262 : BitVec 32) : Prop :=
  (∀ (k0_h2 : k0_cond2 i = 1#1), 8 ∣ (k0_mult52 v262).toNat) ∧
  (∀ (k0_h2 : k0_cond2 i = 1#1), ∀ a, (k0_off144 i v262) a + S1x24x256.size a ≤ S32x3136x256.size a)
theorem k0_mult52_dvd : ∀ (i : grid0.Coords) (v262 : BitVec 32) (k0_hw52 : k0_chk52 i v262), ∀ (k0_h2 : k0_cond2 i = 1#1), 8 ∣ (k0_mult52 v262).toNat := fun i v262 k0_hw52 k0_h2 => k0_hw52.1 k0_h2
theorem k0_off144_inb : ∀ (i : grid0.Coords) (v262 : BitVec 32) (k0_hw52 : k0_chk52 i v262), ∀ (k0_h2 : k0_cond2 i = 1#1), ∀ a, (k0_off144 i v262) a + S1x24x256.size a ≤ S32x3136x256.size a := fun i v262 k0_hw52 k0_h2 => k0_hw52.2 k0_h2

def k0_off145 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v270 : Index := Scalar.indexCast v89
  let c20 : Index := 20#32
  ![v270.toNat, 20]
def k0_mult53 (v271 : BitVec 32) : BitVec 32 :=
  v271

def k0_off146 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off147 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c480_i32 : BitVec 32 := 480#32
  let c0_i32_95 : BitVec 32 := 0#32
  ![v87.toNat, 480, 0]
def k0_off148 (i : grid0.Coords) (v271 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v272 : BitVec 32 := v271
  let c0_i32_96 : BitVec 32 := 0#32
  ![v89.toNat, v272.toNat, 0]

def k0_chk53 (i : grid0.Coords) (v271 : BitVec 32) : Prop :=
  (∀ (k0_h2 : k0_cond2 i = 1#1), 8 ∣ (k0_mult53 v271).toNat) ∧
  (∀ (k0_h2 : k0_cond2 i = 1#1), ∀ a, (k0_off148 i v271) a + S1x24x256.size a ≤ S32x3136x256.size a)
theorem k0_mult53_dvd : ∀ (i : grid0.Coords) (v271 : BitVec 32) (k0_hw53 : k0_chk53 i v271), ∀ (k0_h2 : k0_cond2 i = 1#1), 8 ∣ (k0_mult53 v271).toNat := fun i v271 k0_hw53 k0_h2 => k0_hw53.1 k0_h2
theorem k0_off148_inb : ∀ (i : grid0.Coords) (v271 : BitVec 32) (k0_hw53 : k0_chk53 i v271), ∀ (k0_h2 : k0_cond2 i = 1#1), ∀ a, (k0_off148 i v271) a + S1x24x256.size a ≤ S32x3136x256.size a := fun i v271 k0_hw53 k0_h2 => k0_hw53.2 k0_h2

def k0_off149 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v279 : Index := Scalar.indexCast v89
  let c21 : Index := 21#32
  ![v279.toNat, 21]
def k0_mult54 (v280 : BitVec 32) : BitVec 32 :=
  v280

def k0_off150 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off151 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c504_i32 : BitVec 32 := 504#32
  let c0_i32_97 : BitVec 32 := 0#32
  ![v87.toNat, 504, 0]
def k0_off152 (i : grid0.Coords) (v280 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v281 : BitVec 32 := v280
  let c0_i32_98 : BitVec 32 := 0#32
  ![v89.toNat, v281.toNat, 0]

def k0_chk54 (i : grid0.Coords) (v280 : BitVec 32) : Prop :=
  (∀ (k0_h2 : k0_cond2 i = 1#1), 8 ∣ (k0_mult54 v280).toNat) ∧
  (∀ (k0_h2 : k0_cond2 i = 1#1), ∀ a, (k0_off152 i v280) a + S1x24x256.size a ≤ S32x3136x256.size a)
theorem k0_mult54_dvd : ∀ (i : grid0.Coords) (v280 : BitVec 32) (k0_hw54 : k0_chk54 i v280), ∀ (k0_h2 : k0_cond2 i = 1#1), 8 ∣ (k0_mult54 v280).toNat := fun i v280 k0_hw54 k0_h2 => k0_hw54.1 k0_h2
theorem k0_off152_inb : ∀ (i : grid0.Coords) (v280 : BitVec 32) (k0_hw54 : k0_chk54 i v280), ∀ (k0_h2 : k0_cond2 i = 1#1), ∀ a, (k0_off152 i v280) a + S1x24x256.size a ≤ S32x3136x256.size a := fun i v280 k0_hw54 k0_h2 => k0_hw54.2 k0_h2

def k0_off153 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v288 : Index := Scalar.indexCast v89
  let c22 : Index := 22#32
  ![v288.toNat, 22]
def k0_mult55 (v289 : BitVec 32) : BitVec 32 :=
  v289

def k0_off154 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off155 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c528_i32 : BitVec 32 := 528#32
  let c0_i32_99 : BitVec 32 := 0#32
  ![v87.toNat, 528, 0]
def k0_off156 (i : grid0.Coords) (v289 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v290 : BitVec 32 := v289
  let c0_i32_100 : BitVec 32 := 0#32
  ![v89.toNat, v290.toNat, 0]

def k0_chk55 (i : grid0.Coords) (v289 : BitVec 32) : Prop :=
  (∀ (k0_h2 : k0_cond2 i = 1#1), 8 ∣ (k0_mult55 v289).toNat) ∧
  (∀ (k0_h2 : k0_cond2 i = 1#1), ∀ a, (k0_off156 i v289) a + S1x24x256.size a ≤ S32x3136x256.size a)
theorem k0_mult55_dvd : ∀ (i : grid0.Coords) (v289 : BitVec 32) (k0_hw55 : k0_chk55 i v289), ∀ (k0_h2 : k0_cond2 i = 1#1), 8 ∣ (k0_mult55 v289).toNat := fun i v289 k0_hw55 k0_h2 => k0_hw55.1 k0_h2
theorem k0_off156_inb : ∀ (i : grid0.Coords) (v289 : BitVec 32) (k0_hw55 : k0_chk55 i v289), ∀ (k0_h2 : k0_cond2 i = 1#1), ∀ a, (k0_off156 i v289) a + S1x24x256.size a ≤ S32x3136x256.size a := fun i v289 k0_hw55 k0_h2 => k0_hw55.2 k0_h2

def k0_off157 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v297 : Index := Scalar.indexCast v89
  let c23 : Index := 23#32
  ![v297.toNat, 23]
def k0_mult56 (v298 : BitVec 32) : BitVec 32 :=
  v298

def k0_off158 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off159 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c552_i32 : BitVec 32 := 552#32
  let c0_i32_101 : BitVec 32 := 0#32
  ![v87.toNat, 552, 0]
def k0_off160 (i : grid0.Coords) (v298 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v299 : BitVec 32 := v298
  let c0_i32_102 : BitVec 32 := 0#32
  ![v89.toNat, v299.toNat, 0]

def k0_chk56 (i : grid0.Coords) (v298 : BitVec 32) : Prop :=
  (∀ (k0_h2 : k0_cond2 i = 1#1), 8 ∣ (k0_mult56 v298).toNat) ∧
  (∀ (k0_h2 : k0_cond2 i = 1#1), ∀ a, (k0_off160 i v298) a + S1x24x256.size a ≤ S32x3136x256.size a)
theorem k0_mult56_dvd : ∀ (i : grid0.Coords) (v298 : BitVec 32) (k0_hw56 : k0_chk56 i v298), ∀ (k0_h2 : k0_cond2 i = 1#1), 8 ∣ (k0_mult56 v298).toNat := fun i v298 k0_hw56 k0_h2 => k0_hw56.1 k0_h2
theorem k0_off160_inb : ∀ (i : grid0.Coords) (v298 : BitVec 32) (k0_hw56 : k0_chk56 i v298), ∀ (k0_h2 : k0_cond2 i = 1#1), ∀ a, (k0_off160 i v298) a + S1x24x256.size a ≤ S32x3136x256.size a := fun i v298 k0_hw56 k0_h2 => k0_hw56.2 k0_h2

def k0_off161 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v306 : Index := Scalar.indexCast v89
  let c24 : Index := 24#32
  ![v306.toNat, 24]
def k0_mult57 (v307 : BitVec 32) : BitVec 32 :=
  v307

def k0_off162 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off163 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c576_i32 : BitVec 32 := 576#32
  let c0_i32_103 : BitVec 32 := 0#32
  ![v87.toNat, 576, 0]
def k0_off164 (i : grid0.Coords) (v307 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v308 : BitVec 32 := v307
  let c0_i32_104 : BitVec 32 := 0#32
  ![v89.toNat, v308.toNat, 0]

def k0_chk57 (i : grid0.Coords) (v307 : BitVec 32) : Prop :=
  (∀ (k0_h2 : k0_cond2 i = 1#1), 8 ∣ (k0_mult57 v307).toNat) ∧
  (∀ (k0_h2 : k0_cond2 i = 1#1), ∀ a, (k0_off164 i v307) a + S1x24x256.size a ≤ S32x3136x256.size a)
theorem k0_mult57_dvd : ∀ (i : grid0.Coords) (v307 : BitVec 32) (k0_hw57 : k0_chk57 i v307), ∀ (k0_h2 : k0_cond2 i = 1#1), 8 ∣ (k0_mult57 v307).toNat := fun i v307 k0_hw57 k0_h2 => k0_hw57.1 k0_h2
theorem k0_off164_inb : ∀ (i : grid0.Coords) (v307 : BitVec 32) (k0_hw57 : k0_chk57 i v307), ∀ (k0_h2 : k0_cond2 i = 1#1), ∀ a, (k0_off164 i v307) a + S1x24x256.size a ≤ S32x3136x256.size a := fun i v307 k0_hw57 k0_h2 => k0_hw57.2 k0_h2

def k0_off165 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v315 : Index := Scalar.indexCast v89
  let c25 : Index := 25#32
  ![v315.toNat, 25]
def k0_mult58 (v316 : BitVec 32) : BitVec 32 :=
  v316

def k0_off166 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off167 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c600_i32 : BitVec 32 := 600#32
  let c0_i32_105 : BitVec 32 := 0#32
  ![v87.toNat, 600, 0]
def k0_off168 (i : grid0.Coords) (v316 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v317 : BitVec 32 := v316
  let c0_i32_106 : BitVec 32 := 0#32
  ![v89.toNat, v317.toNat, 0]

def k0_chk58 (i : grid0.Coords) (v316 : BitVec 32) : Prop :=
  (∀ (k0_h2 : k0_cond2 i = 1#1), 8 ∣ (k0_mult58 v316).toNat) ∧
  (∀ (k0_h2 : k0_cond2 i = 1#1), ∀ a, (k0_off168 i v316) a + S1x24x256.size a ≤ S32x3136x256.size a)
theorem k0_mult58_dvd : ∀ (i : grid0.Coords) (v316 : BitVec 32) (k0_hw58 : k0_chk58 i v316), ∀ (k0_h2 : k0_cond2 i = 1#1), 8 ∣ (k0_mult58 v316).toNat := fun i v316 k0_hw58 k0_h2 => k0_hw58.1 k0_h2
theorem k0_off168_inb : ∀ (i : grid0.Coords) (v316 : BitVec 32) (k0_hw58 : k0_chk58 i v316), ∀ (k0_h2 : k0_cond2 i = 1#1), ∀ a, (k0_off168 i v316) a + S1x24x256.size a ≤ S32x3136x256.size a := fun i v316 k0_hw58 k0_h2 => k0_hw58.2 k0_h2

def k0_off169 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v324 : Index := Scalar.indexCast v89
  let c26 : Index := 26#32
  ![v324.toNat, 26]
def k0_mult59 (v325 : BitVec 32) : BitVec 32 :=
  v325

def k0_off170 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off171 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c624_i32 : BitVec 32 := 624#32
  let c0_i32_107 : BitVec 32 := 0#32
  ![v87.toNat, 624, 0]
def k0_off172 (i : grid0.Coords) (v325 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v326 : BitVec 32 := v325
  let c0_i32_108 : BitVec 32 := 0#32
  ![v89.toNat, v326.toNat, 0]

def k0_chk59 (i : grid0.Coords) (v325 : BitVec 32) : Prop :=
  (∀ (k0_h2 : k0_cond2 i = 1#1), 8 ∣ (k0_mult59 v325).toNat) ∧
  (∀ (k0_h2 : k0_cond2 i = 1#1), ∀ a, (k0_off172 i v325) a + S1x24x256.size a ≤ S32x3136x256.size a)
theorem k0_mult59_dvd : ∀ (i : grid0.Coords) (v325 : BitVec 32) (k0_hw59 : k0_chk59 i v325), ∀ (k0_h2 : k0_cond2 i = 1#1), 8 ∣ (k0_mult59 v325).toNat := fun i v325 k0_hw59 k0_h2 => k0_hw59.1 k0_h2
theorem k0_off172_inb : ∀ (i : grid0.Coords) (v325 : BitVec 32) (k0_hw59 : k0_chk59 i v325), ∀ (k0_h2 : k0_cond2 i = 1#1), ∀ a, (k0_off172 i v325) a + S1x24x256.size a ≤ S32x3136x256.size a := fun i v325 k0_hw59 k0_h2 => k0_hw59.2 k0_h2

def k0_off173 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v333 : Index := Scalar.indexCast v89
  let c27 : Index := 27#32
  ![v333.toNat, 27]
def k0_mult60 (v334 : BitVec 32) : BitVec 32 :=
  v334

def k0_off174 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off175 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c648_i32 : BitVec 32 := 648#32
  let c0_i32_109 : BitVec 32 := 0#32
  ![v87.toNat, 648, 0]
def k0_off176 (i : grid0.Coords) (v334 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v335 : BitVec 32 := v334
  let c0_i32_110 : BitVec 32 := 0#32
  ![v89.toNat, v335.toNat, 0]

def k0_chk60 (i : grid0.Coords) (v334 : BitVec 32) : Prop :=
  (∀ (k0_h2 : k0_cond2 i = 1#1), 8 ∣ (k0_mult60 v334).toNat) ∧
  (∀ (k0_h2 : k0_cond2 i = 1#1), ∀ a, (k0_off176 i v334) a + S1x24x256.size a ≤ S32x3136x256.size a)
theorem k0_mult60_dvd : ∀ (i : grid0.Coords) (v334 : BitVec 32) (k0_hw60 : k0_chk60 i v334), ∀ (k0_h2 : k0_cond2 i = 1#1), 8 ∣ (k0_mult60 v334).toNat := fun i v334 k0_hw60 k0_h2 => k0_hw60.1 k0_h2
theorem k0_off176_inb : ∀ (i : grid0.Coords) (v334 : BitVec 32) (k0_hw60 : k0_chk60 i v334), ∀ (k0_h2 : k0_cond2 i = 1#1), ∀ a, (k0_off176 i v334) a + S1x24x256.size a ≤ S32x3136x256.size a := fun i v334 k0_hw60 k0_h2 => k0_hw60.2 k0_h2

def k0_off177 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v342 : Index := Scalar.indexCast v89
  let c28 : Index := 28#32
  ![v342.toNat, 28]
def k0_mult61 (v343 : BitVec 32) : BitVec 32 :=
  v343

def k0_off178 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off179 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c672_i32 : BitVec 32 := 672#32
  let c0_i32_111 : BitVec 32 := 0#32
  ![v87.toNat, 672, 0]
def k0_off180 (i : grid0.Coords) (v343 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v344 : BitVec 32 := v343
  let c0_i32_112 : BitVec 32 := 0#32
  ![v89.toNat, v344.toNat, 0]

def k0_chk61 (i : grid0.Coords) (v343 : BitVec 32) : Prop :=
  (∀ (k0_h2 : k0_cond2 i = 1#1), 8 ∣ (k0_mult61 v343).toNat) ∧
  (∀ (k0_h2 : k0_cond2 i = 1#1), ∀ a, (k0_off180 i v343) a + S1x24x256.size a ≤ S32x3136x256.size a)
theorem k0_mult61_dvd : ∀ (i : grid0.Coords) (v343 : BitVec 32) (k0_hw61 : k0_chk61 i v343), ∀ (k0_h2 : k0_cond2 i = 1#1), 8 ∣ (k0_mult61 v343).toNat := fun i v343 k0_hw61 k0_h2 => k0_hw61.1 k0_h2
theorem k0_off180_inb : ∀ (i : grid0.Coords) (v343 : BitVec 32) (k0_hw61 : k0_chk61 i v343), ∀ (k0_h2 : k0_cond2 i = 1#1), ∀ a, (k0_off180 i v343) a + S1x24x256.size a ≤ S32x3136x256.size a := fun i v343 k0_hw61 k0_h2 => k0_hw61.2 k0_h2

def k0_off181 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v351 : Index := Scalar.indexCast v89
  let c29 : Index := 29#32
  ![v351.toNat, 29]
def k0_mult62 (v352 : BitVec 32) : BitVec 32 :=
  v352

def k0_off182 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off183 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c696_i32 : BitVec 32 := 696#32
  let c0_i32_113 : BitVec 32 := 0#32
  ![v87.toNat, 696, 0]
def k0_off184 (i : grid0.Coords) (v352 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v353 : BitVec 32 := v352
  let c0_i32_114 : BitVec 32 := 0#32
  ![v89.toNat, v353.toNat, 0]

def k0_chk62 (i : grid0.Coords) (v352 : BitVec 32) : Prop :=
  (∀ (k0_h2 : k0_cond2 i = 1#1), 8 ∣ (k0_mult62 v352).toNat) ∧
  (∀ (k0_h2 : k0_cond2 i = 1#1), ∀ a, (k0_off184 i v352) a + S1x24x256.size a ≤ S32x3136x256.size a)
theorem k0_mult62_dvd : ∀ (i : grid0.Coords) (v352 : BitVec 32) (k0_hw62 : k0_chk62 i v352), ∀ (k0_h2 : k0_cond2 i = 1#1), 8 ∣ (k0_mult62 v352).toNat := fun i v352 k0_hw62 k0_h2 => k0_hw62.1 k0_h2
theorem k0_off184_inb : ∀ (i : grid0.Coords) (v352 : BitVec 32) (k0_hw62 : k0_chk62 i v352), ∀ (k0_h2 : k0_cond2 i = 1#1), ∀ a, (k0_off184 i v352) a + S1x24x256.size a ≤ S32x3136x256.size a := fun i v352 k0_hw62 k0_h2 => k0_hw62.2 k0_h2

def k0_off185 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v360 : Index := Scalar.indexCast v89
  let c30 : Index := 30#32
  ![v360.toNat, 30]
def k0_mult63 (v361 : BitVec 32) : BitVec 32 :=
  v361

def k0_off186 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off187 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c720_i32 : BitVec 32 := 720#32
  let c0_i32_115 : BitVec 32 := 0#32
  ![v87.toNat, 720, 0]
def k0_off188 (i : grid0.Coords) (v361 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v362 : BitVec 32 := v361
  let c0_i32_116 : BitVec 32 := 0#32
  ![v89.toNat, v362.toNat, 0]

def k0_chk63 (i : grid0.Coords) (v361 : BitVec 32) : Prop :=
  (∀ (k0_h2 : k0_cond2 i = 1#1), 8 ∣ (k0_mult63 v361).toNat) ∧
  (∀ (k0_h2 : k0_cond2 i = 1#1), ∀ a, (k0_off188 i v361) a + S1x24x256.size a ≤ S32x3136x256.size a)
theorem k0_mult63_dvd : ∀ (i : grid0.Coords) (v361 : BitVec 32) (k0_hw63 : k0_chk63 i v361), ∀ (k0_h2 : k0_cond2 i = 1#1), 8 ∣ (k0_mult63 v361).toNat := fun i v361 k0_hw63 k0_h2 => k0_hw63.1 k0_h2
theorem k0_off188_inb : ∀ (i : grid0.Coords) (v361 : BitVec 32) (k0_hw63 : k0_chk63 i v361), ∀ (k0_h2 : k0_cond2 i = 1#1), ∀ a, (k0_off188 i v361) a + S1x24x256.size a ≤ S32x3136x256.size a := fun i v361 k0_hw63 k0_h2 => k0_hw63.2 k0_h2

def k0_off189 (i : grid0.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v369 : Index := Scalar.indexCast v89
  let c31 : Index := 31#32
  ![v369.toNat, 31]
def k0_mult64 (v370 : BitVec 32) : BitVec 32 :=
  v370

def k0_off190 (i : grid0.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k0_off191 (i : grid0.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c744_i32 : BitVec 32 := 744#32
  let c0_i32_117 : BitVec 32 := 0#32
  ![v87.toNat, 744, 0]
def k0_off192 (i : grid0.Coords) (v370 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v371 : BitVec 32 := v370
  let c0_i32_118 : BitVec 32 := 0#32
  ![v89.toNat, v371.toNat, 0]

def k0_chk64 (i : grid0.Coords) (v370 : BitVec 32) : Prop :=
  (∀ (k0_h2 : k0_cond2 i = 1#1), 8 ∣ (k0_mult64 v370).toNat) ∧
  (∀ (k0_h2 : k0_cond2 i = 1#1), ∀ a, (k0_off192 i v370) a + S1x24x256.size a ≤ S32x3136x256.size a)
theorem k0_mult64_dvd : ∀ (i : grid0.Coords) (v370 : BitVec 32) (k0_hw64 : k0_chk64 i v370), ∀ (k0_h2 : k0_cond2 i = 1#1), 8 ∣ (k0_mult64 v370).toNat := fun i v370 k0_hw64 k0_h2 => k0_hw64.1 k0_h2
theorem k0_off192_inb : ∀ (i : grid0.Coords) (v370 : BitVec 32) (k0_hw64 : k0_chk64 i v370), ∀ (k0_h2 : k0_cond2 i = 1#1), ∀ a, (k0_off192 i v370) a + S1x24x256.size a ≤ S32x3136x256.size a := fun i v370 k0_hw64 k0_h2 => k0_hw64.2 k0_h2

def k0_off193 (i : grid0.Coords) : Fin 1 → Nat :=
  let arg1 : BitVec 32 := BitVec.ofNat 32 (i 1).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off194 (i : grid0.Coords) : Fin 3 → Nat :=
  let arg1 : BitVec 32 := BitVec.ofNat 32 (i 1).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def k0_off195 (i : grid0.Coords) : Fin 3 → Nat :=
  let arg1 : BitVec 32 := BitVec.ofNat 32 (i 1).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v67 : Index := Scalar.indexCast v16
  let c0_37 : Index := 0#32
  let c0_38 : Index := 0#32
  ![v67.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 16], ![false, false]⟩

abbrev pre1 : Pipeline.Prefetch sig := ⟨1, ![main_v470.idx], fun | 0 => main_v470.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v78 : Index := Scalar.indexCast v77
  let c0_45 : Index := 0#32
  ![v78.toNat, 0]
def k1_mult1 (v79 : BitVec 32) : BitVec 32 :=
  v79

def k1_off2 (i : grid1.Coords) (v79 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v80 : BitVec 32 := v79
  let c0_i32_50 : BitVec 32 := 0#32
  ![v77.toNat, v80.toNat, 0]

def k1_chk1 (i : grid1.Coords) (v79 : BitVec 32) : Prop :=
  (∀ (k1_h1 : k1_cond1 i = 1#1), 8 ∣ (k1_mult1 v79).toNat) ∧
  (∀ (k1_h1 : k1_cond1 i = 1#1), ∀ a, (k1_off2 i v79) a + S1x24x256.size a ≤ S32x3136x256.size a)
theorem k1_mult1_dvd : ∀ (i : grid1.Coords) (v79 : BitVec 32) (k1_hw1 : k1_chk1 i v79), ∀ (k1_h1 : k1_cond1 i = 1#1), 8 ∣ (k1_mult1 v79).toNat := fun i v79 k1_hw1 k1_h1 => k1_hw1.1 k1_h1
theorem k1_off2_inb : ∀ (i : grid1.Coords) (v79 : BitVec 32) (k1_hw1 : k1_chk1 i v79), ∀ (k1_h1 : k1_cond1 i = 1#1), ∀ a, (k1_off2 i v79) a + S1x24x256.size a ≤ S32x3136x256.size a := fun i v79 k1_hw1 k1_h1 => k1_hw1.2 k1_h1

def k1_off3 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v87 : Index := Scalar.indexCast v77
  let c1 : Index := 1#32
  ![v87.toNat, 1]
def k1_mult2 (v88 : BitVec 32) : BitVec 32 :=
  v88

def k1_off4 (i : grid1.Coords) (v88 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v89 : BitVec 32 := v88
  let c0_i32_54 : BitVec 32 := 0#32
  ![v77.toNat, v89.toNat, 0]

def k1_chk2 (i : grid1.Coords) (v88 : BitVec 32) : Prop :=
  (∀ (k1_h1 : k1_cond1 i = 1#1), 8 ∣ (k1_mult2 v88).toNat) ∧
  (∀ (k1_h1 : k1_cond1 i = 1#1), ∀ a, (k1_off4 i v88) a + S1x24x256.size a ≤ S32x3136x256.size a)
theorem k1_mult2_dvd : ∀ (i : grid1.Coords) (v88 : BitVec 32) (k1_hw2 : k1_chk2 i v88), ∀ (k1_h1 : k1_cond1 i = 1#1), 8 ∣ (k1_mult2 v88).toNat := fun i v88 k1_hw2 k1_h1 => k1_hw2.1 k1_h1
theorem k1_off4_inb : ∀ (i : grid1.Coords) (v88 : BitVec 32) (k1_hw2 : k1_chk2 i v88), ∀ (k1_h1 : k1_cond1 i = 1#1), ∀ a, (k1_off4 i v88) a + S1x24x256.size a ≤ S32x3136x256.size a := fun i v88 k1_hw2 k1_h1 => k1_hw2.2 k1_h1

def k1_off5 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v96 : Index := Scalar.indexCast v77
  let c2 : Index := 2#32
  ![v96.toNat, 2]
def k1_mult3 (v97 : BitVec 32) : BitVec 32 :=
  v97

def k1_off6 (i : grid1.Coords) (v97 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v98 : BitVec 32 := v97
  let c0_i32_58 : BitVec 32 := 0#32
  ![v77.toNat, v98.toNat, 0]

def k1_chk3 (i : grid1.Coords) (v97 : BitVec 32) : Prop :=
  (∀ (k1_h1 : k1_cond1 i = 1#1), 8 ∣ (k1_mult3 v97).toNat) ∧
  (∀ (k1_h1 : k1_cond1 i = 1#1), ∀ a, (k1_off6 i v97) a + S1x24x256.size a ≤ S32x3136x256.size a)
theorem k1_mult3_dvd : ∀ (i : grid1.Coords) (v97 : BitVec 32) (k1_hw3 : k1_chk3 i v97), ∀ (k1_h1 : k1_cond1 i = 1#1), 8 ∣ (k1_mult3 v97).toNat := fun i v97 k1_hw3 k1_h1 => k1_hw3.1 k1_h1
theorem k1_off6_inb : ∀ (i : grid1.Coords) (v97 : BitVec 32) (k1_hw3 : k1_chk3 i v97), ∀ (k1_h1 : k1_cond1 i = 1#1), ∀ a, (k1_off6 i v97) a + S1x24x256.size a ≤ S32x3136x256.size a := fun i v97 k1_hw3 k1_h1 => k1_hw3.2 k1_h1

def k1_off7 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v105 : Index := Scalar.indexCast v77
  let c3 : Index := 3#32
  ![v105.toNat, 3]
def k1_mult4 (v106 : BitVec 32) : BitVec 32 :=
  v106

def k1_off8 (i : grid1.Coords) (v106 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v107 : BitVec 32 := v106
  let c0_i32_62 : BitVec 32 := 0#32
  ![v77.toNat, v107.toNat, 0]

def k1_chk4 (i : grid1.Coords) (v106 : BitVec 32) : Prop :=
  (∀ (k1_h1 : k1_cond1 i = 1#1), 8 ∣ (k1_mult4 v106).toNat) ∧
  (∀ (k1_h1 : k1_cond1 i = 1#1), ∀ a, (k1_off8 i v106) a + S1x24x256.size a ≤ S32x3136x256.size a)
theorem k1_mult4_dvd : ∀ (i : grid1.Coords) (v106 : BitVec 32) (k1_hw4 : k1_chk4 i v106), ∀ (k1_h1 : k1_cond1 i = 1#1), 8 ∣ (k1_mult4 v106).toNat := fun i v106 k1_hw4 k1_h1 => k1_hw4.1 k1_h1
theorem k1_off8_inb : ∀ (i : grid1.Coords) (v106 : BitVec 32) (k1_hw4 : k1_chk4 i v106), ∀ (k1_h1 : k1_cond1 i = 1#1), ∀ a, (k1_off8 i v106) a + S1x24x256.size a ≤ S32x3136x256.size a := fun i v106 k1_hw4 k1_h1 => k1_hw4.2 k1_h1

def k1_off9 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v114 : Index := Scalar.indexCast v77
  let c4 : Index := 4#32
  ![v114.toNat, 4]
def k1_mult5 (v115 : BitVec 32) : BitVec 32 :=
  v115

def k1_off10 (i : grid1.Coords) (v115 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v116 : BitVec 32 := v115
  let c0_i32_66 : BitVec 32 := 0#32
  ![v77.toNat, v116.toNat, 0]

def k1_chk5 (i : grid1.Coords) (v115 : BitVec 32) : Prop :=
  (∀ (k1_h1 : k1_cond1 i = 1#1), 8 ∣ (k1_mult5 v115).toNat) ∧
  (∀ (k1_h1 : k1_cond1 i = 1#1), ∀ a, (k1_off10 i v115) a + S1x24x256.size a ≤ S32x3136x256.size a)
theorem k1_mult5_dvd : ∀ (i : grid1.Coords) (v115 : BitVec 32) (k1_hw5 : k1_chk5 i v115), ∀ (k1_h1 : k1_cond1 i = 1#1), 8 ∣ (k1_mult5 v115).toNat := fun i v115 k1_hw5 k1_h1 => k1_hw5.1 k1_h1
theorem k1_off10_inb : ∀ (i : grid1.Coords) (v115 : BitVec 32) (k1_hw5 : k1_chk5 i v115), ∀ (k1_h1 : k1_cond1 i = 1#1), ∀ a, (k1_off10 i v115) a + S1x24x256.size a ≤ S32x3136x256.size a := fun i v115 k1_hw5 k1_h1 => k1_hw5.2 k1_h1

def k1_off11 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v123 : Index := Scalar.indexCast v77
  let c5 : Index := 5#32
  ![v123.toNat, 5]
def k1_mult6 (v124 : BitVec 32) : BitVec 32 :=
  v124

def k1_off12 (i : grid1.Coords) (v124 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v125 : BitVec 32 := v124
  let c0_i32_70 : BitVec 32 := 0#32
  ![v77.toNat, v125.toNat, 0]

def k1_chk6 (i : grid1.Coords) (v124 : BitVec 32) : Prop :=
  (∀ (k1_h1 : k1_cond1 i = 1#1), 8 ∣ (k1_mult6 v124).toNat) ∧
  (∀ (k1_h1 : k1_cond1 i = 1#1), ∀ a, (k1_off12 i v124) a + S1x24x256.size a ≤ S32x3136x256.size a)
theorem k1_mult6_dvd : ∀ (i : grid1.Coords) (v124 : BitVec 32) (k1_hw6 : k1_chk6 i v124), ∀ (k1_h1 : k1_cond1 i = 1#1), 8 ∣ (k1_mult6 v124).toNat := fun i v124 k1_hw6 k1_h1 => k1_hw6.1 k1_h1
theorem k1_off12_inb : ∀ (i : grid1.Coords) (v124 : BitVec 32) (k1_hw6 : k1_chk6 i v124), ∀ (k1_h1 : k1_cond1 i = 1#1), ∀ a, (k1_off12 i v124) a + S1x24x256.size a ≤ S32x3136x256.size a := fun i v124 k1_hw6 k1_h1 => k1_hw6.2 k1_h1

def k1_off13 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v132 : Index := Scalar.indexCast v77
  let c6 : Index := 6#32
  ![v132.toNat, 6]
def k1_mult7 (v133 : BitVec 32) : BitVec 32 :=
  v133

def k1_off14 (i : grid1.Coords) (v133 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v134 : BitVec 32 := v133
  let c0_i32_74 : BitVec 32 := 0#32
  ![v77.toNat, v134.toNat, 0]

def k1_chk7 (i : grid1.Coords) (v133 : BitVec 32) : Prop :=
  (∀ (k1_h1 : k1_cond1 i = 1#1), 8 ∣ (k1_mult7 v133).toNat) ∧
  (∀ (k1_h1 : k1_cond1 i = 1#1), ∀ a, (k1_off14 i v133) a + S1x24x256.size a ≤ S32x3136x256.size a)
theorem k1_mult7_dvd : ∀ (i : grid1.Coords) (v133 : BitVec 32) (k1_hw7 : k1_chk7 i v133), ∀ (k1_h1 : k1_cond1 i = 1#1), 8 ∣ (k1_mult7 v133).toNat := fun i v133 k1_hw7 k1_h1 => k1_hw7.1 k1_h1
theorem k1_off14_inb : ∀ (i : grid1.Coords) (v133 : BitVec 32) (k1_hw7 : k1_chk7 i v133), ∀ (k1_h1 : k1_cond1 i = 1#1), ∀ a, (k1_off14 i v133) a + S1x24x256.size a ≤ S32x3136x256.size a := fun i v133 k1_hw7 k1_h1 => k1_hw7.2 k1_h1

def k1_off15 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v141 : Index := Scalar.indexCast v77
  let c7 : Index := 7#32
  ![v141.toNat, 7]
def k1_mult8 (v142 : BitVec 32) : BitVec 32 :=
  v142

def k1_off16 (i : grid1.Coords) (v142 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v143 : BitVec 32 := v142
  let c0_i32_78 : BitVec 32 := 0#32
  ![v77.toNat, v143.toNat, 0]

def k1_chk8 (i : grid1.Coords) (v142 : BitVec 32) : Prop :=
  (∀ (k1_h1 : k1_cond1 i = 1#1), 8 ∣ (k1_mult8 v142).toNat) ∧
  (∀ (k1_h1 : k1_cond1 i = 1#1), ∀ a, (k1_off16 i v142) a + S1x24x256.size a ≤ S32x3136x256.size a)
theorem k1_mult8_dvd : ∀ (i : grid1.Coords) (v142 : BitVec 32) (k1_hw8 : k1_chk8 i v142), ∀ (k1_h1 : k1_cond1 i = 1#1), 8 ∣ (k1_mult8 v142).toNat := fun i v142 k1_hw8 k1_h1 => k1_hw8.1 k1_h1
theorem k1_off16_inb : ∀ (i : grid1.Coords) (v142 : BitVec 32) (k1_hw8 : k1_chk8 i v142), ∀ (k1_h1 : k1_cond1 i = 1#1), ∀ a, (k1_off16 i v142) a + S1x24x256.size a ≤ S32x3136x256.size a := fun i v142 k1_hw8 k1_h1 => k1_hw8.2 k1_h1

def k1_off17 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v150 : Index := Scalar.indexCast v77
  let c8 : Index := 8#32
  ![v150.toNat, 8]
def k1_mult9 (v151 : BitVec 32) : BitVec 32 :=
  v151

def k1_off18 (i : grid1.Coords) (v151 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v152 : BitVec 32 := v151
  let c0_i32_82 : BitVec 32 := 0#32
  ![v77.toNat, v152.toNat, 0]

def k1_chk9 (i : grid1.Coords) (v151 : BitVec 32) : Prop :=
  (∀ (k1_h1 : k1_cond1 i = 1#1), 8 ∣ (k1_mult9 v151).toNat) ∧
  (∀ (k1_h1 : k1_cond1 i = 1#1), ∀ a, (k1_off18 i v151) a + S1x24x256.size a ≤ S32x3136x256.size a)
theorem k1_mult9_dvd : ∀ (i : grid1.Coords) (v151 : BitVec 32) (k1_hw9 : k1_chk9 i v151), ∀ (k1_h1 : k1_cond1 i = 1#1), 8 ∣ (k1_mult9 v151).toNat := fun i v151 k1_hw9 k1_h1 => k1_hw9.1 k1_h1
theorem k1_off18_inb : ∀ (i : grid1.Coords) (v151 : BitVec 32) (k1_hw9 : k1_chk9 i v151), ∀ (k1_h1 : k1_cond1 i = 1#1), ∀ a, (k1_off18 i v151) a + S1x24x256.size a ≤ S32x3136x256.size a := fun i v151 k1_hw9 k1_h1 => k1_hw9.2 k1_h1

def k1_off19 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v159 : Index := Scalar.indexCast v77
  let c9 : Index := 9#32
  ![v159.toNat, 9]
def k1_mult10 (v160 : BitVec 32) : BitVec 32 :=
  v160

def k1_off20 (i : grid1.Coords) (v160 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v161 : BitVec 32 := v160
  let c0_i32_86 : BitVec 32 := 0#32
  ![v77.toNat, v161.toNat, 0]

def k1_chk10 (i : grid1.Coords) (v160 : BitVec 32) : Prop :=
  (∀ (k1_h1 : k1_cond1 i = 1#1), 8 ∣ (k1_mult10 v160).toNat) ∧
  (∀ (k1_h1 : k1_cond1 i = 1#1), ∀ a, (k1_off20 i v160) a + S1x24x256.size a ≤ S32x3136x256.size a)
theorem k1_mult10_dvd : ∀ (i : grid1.Coords) (v160 : BitVec 32) (k1_hw10 : k1_chk10 i v160), ∀ (k1_h1 : k1_cond1 i = 1#1), 8 ∣ (k1_mult10 v160).toNat := fun i v160 k1_hw10 k1_h1 => k1_hw10.1 k1_h1
theorem k1_off20_inb : ∀ (i : grid1.Coords) (v160 : BitVec 32) (k1_hw10 : k1_chk10 i v160), ∀ (k1_h1 : k1_cond1 i = 1#1), ∀ a, (k1_off20 i v160) a + S1x24x256.size a ≤ S32x3136x256.size a := fun i v160 k1_hw10 k1_h1 => k1_hw10.2 k1_h1

def k1_off21 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v168 : Index := Scalar.indexCast v77
  let c10 : Index := 10#32
  ![v168.toNat, 10]
def k1_mult11 (v169 : BitVec 32) : BitVec 32 :=
  v169

def k1_off22 (i : grid1.Coords) (v169 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v170 : BitVec 32 := v169
  let c0_i32_90 : BitVec 32 := 0#32
  ![v77.toNat, v170.toNat, 0]

def k1_chk11 (i : grid1.Coords) (v169 : BitVec 32) : Prop :=
  (∀ (k1_h1 : k1_cond1 i = 1#1), 8 ∣ (k1_mult11 v169).toNat) ∧
  (∀ (k1_h1 : k1_cond1 i = 1#1), ∀ a, (k1_off22 i v169) a + S1x24x256.size a ≤ S32x3136x256.size a)
theorem k1_mult11_dvd : ∀ (i : grid1.Coords) (v169 : BitVec 32) (k1_hw11 : k1_chk11 i v169), ∀ (k1_h1 : k1_cond1 i = 1#1), 8 ∣ (k1_mult11 v169).toNat := fun i v169 k1_hw11 k1_h1 => k1_hw11.1 k1_h1
theorem k1_off22_inb : ∀ (i : grid1.Coords) (v169 : BitVec 32) (k1_hw11 : k1_chk11 i v169), ∀ (k1_h1 : k1_cond1 i = 1#1), ∀ a, (k1_off22 i v169) a + S1x24x256.size a ≤ S32x3136x256.size a := fun i v169 k1_hw11 k1_h1 => k1_hw11.2 k1_h1

def k1_off23 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v177 : Index := Scalar.indexCast v77
  let c11 : Index := 11#32
  ![v177.toNat, 11]
def k1_mult12 (v178 : BitVec 32) : BitVec 32 :=
  v178

def k1_off24 (i : grid1.Coords) (v178 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v179 : BitVec 32 := v178
  let c0_i32_94 : BitVec 32 := 0#32
  ![v77.toNat, v179.toNat, 0]

def k1_chk12 (i : grid1.Coords) (v178 : BitVec 32) : Prop :=
  (∀ (k1_h1 : k1_cond1 i = 1#1), 8 ∣ (k1_mult12 v178).toNat) ∧
  (∀ (k1_h1 : k1_cond1 i = 1#1), ∀ a, (k1_off24 i v178) a + S1x24x256.size a ≤ S32x3136x256.size a)
theorem k1_mult12_dvd : ∀ (i : grid1.Coords) (v178 : BitVec 32) (k1_hw12 : k1_chk12 i v178), ∀ (k1_h1 : k1_cond1 i = 1#1), 8 ∣ (k1_mult12 v178).toNat := fun i v178 k1_hw12 k1_h1 => k1_hw12.1 k1_h1
theorem k1_off24_inb : ∀ (i : grid1.Coords) (v178 : BitVec 32) (k1_hw12 : k1_chk12 i v178), ∀ (k1_h1 : k1_cond1 i = 1#1), ∀ a, (k1_off24 i v178) a + S1x24x256.size a ≤ S32x3136x256.size a := fun i v178 k1_hw12 k1_h1 => k1_hw12.2 k1_h1

def k1_off25 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v186 : Index := Scalar.indexCast v77
  let c12 : Index := 12#32
  ![v186.toNat, 12]
def k1_mult13 (v187 : BitVec 32) : BitVec 32 :=
  v187

def k1_off26 (i : grid1.Coords) (v187 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v188 : BitVec 32 := v187
  let c0_i32_98 : BitVec 32 := 0#32
  ![v77.toNat, v188.toNat, 0]

def k1_chk13 (i : grid1.Coords) (v187 : BitVec 32) : Prop :=
  (∀ (k1_h1 : k1_cond1 i = 1#1), 8 ∣ (k1_mult13 v187).toNat) ∧
  (∀ (k1_h1 : k1_cond1 i = 1#1), ∀ a, (k1_off26 i v187) a + S1x24x256.size a ≤ S32x3136x256.size a)
theorem k1_mult13_dvd : ∀ (i : grid1.Coords) (v187 : BitVec 32) (k1_hw13 : k1_chk13 i v187), ∀ (k1_h1 : k1_cond1 i = 1#1), 8 ∣ (k1_mult13 v187).toNat := fun i v187 k1_hw13 k1_h1 => k1_hw13.1 k1_h1
theorem k1_off26_inb : ∀ (i : grid1.Coords) (v187 : BitVec 32) (k1_hw13 : k1_chk13 i v187), ∀ (k1_h1 : k1_cond1 i = 1#1), ∀ a, (k1_off26 i v187) a + S1x24x256.size a ≤ S32x3136x256.size a := fun i v187 k1_hw13 k1_h1 => k1_hw13.2 k1_h1

def k1_off27 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v195 : Index := Scalar.indexCast v77
  let c13 : Index := 13#32
  ![v195.toNat, 13]
def k1_mult14 (v196 : BitVec 32) : BitVec 32 :=
  v196

def k1_off28 (i : grid1.Coords) (v196 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v197 : BitVec 32 := v196
  let c0_i32_102 : BitVec 32 := 0#32
  ![v77.toNat, v197.toNat, 0]

def k1_chk14 (i : grid1.Coords) (v196 : BitVec 32) : Prop :=
  (∀ (k1_h1 : k1_cond1 i = 1#1), 8 ∣ (k1_mult14 v196).toNat) ∧
  (∀ (k1_h1 : k1_cond1 i = 1#1), ∀ a, (k1_off28 i v196) a + S1x24x256.size a ≤ S32x3136x256.size a)
theorem k1_mult14_dvd : ∀ (i : grid1.Coords) (v196 : BitVec 32) (k1_hw14 : k1_chk14 i v196), ∀ (k1_h1 : k1_cond1 i = 1#1), 8 ∣ (k1_mult14 v196).toNat := fun i v196 k1_hw14 k1_h1 => k1_hw14.1 k1_h1
theorem k1_off28_inb : ∀ (i : grid1.Coords) (v196 : BitVec 32) (k1_hw14 : k1_chk14 i v196), ∀ (k1_h1 : k1_cond1 i = 1#1), ∀ a, (k1_off28 i v196) a + S1x24x256.size a ≤ S32x3136x256.size a := fun i v196 k1_hw14 k1_h1 => k1_hw14.2 k1_h1

def k1_off29 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v204 : Index := Scalar.indexCast v77
  let c14 : Index := 14#32
  ![v204.toNat, 14]
def k1_mult15 (v205 : BitVec 32) : BitVec 32 :=
  v205

def k1_off30 (i : grid1.Coords) (v205 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v206 : BitVec 32 := v205
  let c0_i32_106 : BitVec 32 := 0#32
  ![v77.toNat, v206.toNat, 0]

def k1_chk15 (i : grid1.Coords) (v205 : BitVec 32) : Prop :=
  (∀ (k1_h1 : k1_cond1 i = 1#1), 8 ∣ (k1_mult15 v205).toNat) ∧
  (∀ (k1_h1 : k1_cond1 i = 1#1), ∀ a, (k1_off30 i v205) a + S1x24x256.size a ≤ S32x3136x256.size a)
theorem k1_mult15_dvd : ∀ (i : grid1.Coords) (v205 : BitVec 32) (k1_hw15 : k1_chk15 i v205), ∀ (k1_h1 : k1_cond1 i = 1#1), 8 ∣ (k1_mult15 v205).toNat := fun i v205 k1_hw15 k1_h1 => k1_hw15.1 k1_h1
theorem k1_off30_inb : ∀ (i : grid1.Coords) (v205 : BitVec 32) (k1_hw15 : k1_chk15 i v205), ∀ (k1_h1 : k1_cond1 i = 1#1), ∀ a, (k1_off30 i v205) a + S1x24x256.size a ≤ S32x3136x256.size a := fun i v205 k1_hw15 k1_h1 => k1_hw15.2 k1_h1

def k1_off31 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v213 : Index := Scalar.indexCast v77
  let c15 : Index := 15#32
  ![v213.toNat, 15]
def k1_mult16 (v214 : BitVec 32) : BitVec 32 :=
  v214

def k1_off32 (i : grid1.Coords) (v214 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v215 : BitVec 32 := v214
  let c0_i32_110 : BitVec 32 := 0#32
  ![v77.toNat, v215.toNat, 0]

def k1_chk16 (i : grid1.Coords) (v214 : BitVec 32) : Prop :=
  (∀ (k1_h1 : k1_cond1 i = 1#1), 8 ∣ (k1_mult16 v214).toNat) ∧
  (∀ (k1_h1 : k1_cond1 i = 1#1), ∀ a, (k1_off32 i v214) a + S1x24x256.size a ≤ S32x3136x256.size a)
theorem k1_mult16_dvd : ∀ (i : grid1.Coords) (v214 : BitVec 32) (k1_hw16 : k1_chk16 i v214), ∀ (k1_h1 : k1_cond1 i = 1#1), 8 ∣ (k1_mult16 v214).toNat := fun i v214 k1_hw16 k1_h1 => k1_hw16.1 k1_h1
theorem k1_off32_inb : ∀ (i : grid1.Coords) (v214 : BitVec 32) (k1_hw16 : k1_chk16 i v214), ∀ (k1_h1 : k1_cond1 i = 1#1), ∀ a, (k1_off32 i v214) a + S1x24x256.size a ≤ S32x3136x256.size a := fun i v214 k1_hw16 k1_h1 => k1_hw16.2 k1_h1

def k1_off33 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v222 : Index := Scalar.indexCast v77
  let c16 : Index := 16#32
  ![v222.toNat, 16]
def k1_mult17 (v223 : BitVec 32) : BitVec 32 :=
  v223

def k1_off34 (i : grid1.Coords) (v223 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v224 : BitVec 32 := v223
  let c0_i32_114 : BitVec 32 := 0#32
  ![v77.toNat, v224.toNat, 0]

def k1_chk17 (i : grid1.Coords) (v223 : BitVec 32) : Prop :=
  (∀ (k1_h1 : k1_cond1 i = 1#1), 8 ∣ (k1_mult17 v223).toNat) ∧
  (∀ (k1_h1 : k1_cond1 i = 1#1), ∀ a, (k1_off34 i v223) a + S1x24x256.size a ≤ S32x3136x256.size a)
theorem k1_mult17_dvd : ∀ (i : grid1.Coords) (v223 : BitVec 32) (k1_hw17 : k1_chk17 i v223), ∀ (k1_h1 : k1_cond1 i = 1#1), 8 ∣ (k1_mult17 v223).toNat := fun i v223 k1_hw17 k1_h1 => k1_hw17.1 k1_h1
theorem k1_off34_inb : ∀ (i : grid1.Coords) (v223 : BitVec 32) (k1_hw17 : k1_chk17 i v223), ∀ (k1_h1 : k1_cond1 i = 1#1), ∀ a, (k1_off34 i v223) a + S1x24x256.size a ≤ S32x3136x256.size a := fun i v223 k1_hw17 k1_h1 => k1_hw17.2 k1_h1

def k1_off35 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v231 : Index := Scalar.indexCast v77
  let c17 : Index := 17#32
  ![v231.toNat, 17]
def k1_mult18 (v232 : BitVec 32) : BitVec 32 :=
  v232

def k1_off36 (i : grid1.Coords) (v232 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v233 : BitVec 32 := v232
  let c0_i32_118 : BitVec 32 := 0#32
  ![v77.toNat, v233.toNat, 0]

def k1_chk18 (i : grid1.Coords) (v232 : BitVec 32) : Prop :=
  (∀ (k1_h1 : k1_cond1 i = 1#1), 8 ∣ (k1_mult18 v232).toNat) ∧
  (∀ (k1_h1 : k1_cond1 i = 1#1), ∀ a, (k1_off36 i v232) a + S1x24x256.size a ≤ S32x3136x256.size a)
theorem k1_mult18_dvd : ∀ (i : grid1.Coords) (v232 : BitVec 32) (k1_hw18 : k1_chk18 i v232), ∀ (k1_h1 : k1_cond1 i = 1#1), 8 ∣ (k1_mult18 v232).toNat := fun i v232 k1_hw18 k1_h1 => k1_hw18.1 k1_h1
theorem k1_off36_inb : ∀ (i : grid1.Coords) (v232 : BitVec 32) (k1_hw18 : k1_chk18 i v232), ∀ (k1_h1 : k1_cond1 i = 1#1), ∀ a, (k1_off36 i v232) a + S1x24x256.size a ≤ S32x3136x256.size a := fun i v232 k1_hw18 k1_h1 => k1_hw18.2 k1_h1

def k1_off37 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v240 : Index := Scalar.indexCast v77
  let c18 : Index := 18#32
  ![v240.toNat, 18]
def k1_mult19 (v241 : BitVec 32) : BitVec 32 :=
  v241

def k1_off38 (i : grid1.Coords) (v241 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v242 : BitVec 32 := v241
  let c0_i32_122 : BitVec 32 := 0#32
  ![v77.toNat, v242.toNat, 0]

def k1_chk19 (i : grid1.Coords) (v241 : BitVec 32) : Prop :=
  (∀ (k1_h1 : k1_cond1 i = 1#1), 8 ∣ (k1_mult19 v241).toNat) ∧
  (∀ (k1_h1 : k1_cond1 i = 1#1), ∀ a, (k1_off38 i v241) a + S1x24x256.size a ≤ S32x3136x256.size a)
theorem k1_mult19_dvd : ∀ (i : grid1.Coords) (v241 : BitVec 32) (k1_hw19 : k1_chk19 i v241), ∀ (k1_h1 : k1_cond1 i = 1#1), 8 ∣ (k1_mult19 v241).toNat := fun i v241 k1_hw19 k1_h1 => k1_hw19.1 k1_h1
theorem k1_off38_inb : ∀ (i : grid1.Coords) (v241 : BitVec 32) (k1_hw19 : k1_chk19 i v241), ∀ (k1_h1 : k1_cond1 i = 1#1), ∀ a, (k1_off38 i v241) a + S1x24x256.size a ≤ S32x3136x256.size a := fun i v241 k1_hw19 k1_h1 => k1_hw19.2 k1_h1

def k1_off39 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v249 : Index := Scalar.indexCast v77
  let c19 : Index := 19#32
  ![v249.toNat, 19]
def k1_mult20 (v250 : BitVec 32) : BitVec 32 :=
  v250

def k1_off40 (i : grid1.Coords) (v250 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v251 : BitVec 32 := v250
  let c0_i32_126 : BitVec 32 := 0#32
  ![v77.toNat, v251.toNat, 0]

def k1_chk20 (i : grid1.Coords) (v250 : BitVec 32) : Prop :=
  (∀ (k1_h1 : k1_cond1 i = 1#1), 8 ∣ (k1_mult20 v250).toNat) ∧
  (∀ (k1_h1 : k1_cond1 i = 1#1), ∀ a, (k1_off40 i v250) a + S1x24x256.size a ≤ S32x3136x256.size a)
theorem k1_mult20_dvd : ∀ (i : grid1.Coords) (v250 : BitVec 32) (k1_hw20 : k1_chk20 i v250), ∀ (k1_h1 : k1_cond1 i = 1#1), 8 ∣ (k1_mult20 v250).toNat := fun i v250 k1_hw20 k1_h1 => k1_hw20.1 k1_h1
theorem k1_off40_inb : ∀ (i : grid1.Coords) (v250 : BitVec 32) (k1_hw20 : k1_chk20 i v250), ∀ (k1_h1 : k1_cond1 i = 1#1), ∀ a, (k1_off40 i v250) a + S1x24x256.size a ≤ S32x3136x256.size a := fun i v250 k1_hw20 k1_h1 => k1_hw20.2 k1_h1

def k1_off41 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v258 : Index := Scalar.indexCast v77
  let c20 : Index := 20#32
  ![v258.toNat, 20]
def k1_mult21 (v259 : BitVec 32) : BitVec 32 :=
  v259

def k1_off42 (i : grid1.Coords) (v259 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v260 : BitVec 32 := v259
  let c0_i32_130 : BitVec 32 := 0#32
  ![v77.toNat, v260.toNat, 0]

def k1_chk21 (i : grid1.Coords) (v259 : BitVec 32) : Prop :=
  (∀ (k1_h1 : k1_cond1 i = 1#1), 8 ∣ (k1_mult21 v259).toNat) ∧
  (∀ (k1_h1 : k1_cond1 i = 1#1), ∀ a, (k1_off42 i v259) a + S1x24x256.size a ≤ S32x3136x256.size a)
theorem k1_mult21_dvd : ∀ (i : grid1.Coords) (v259 : BitVec 32) (k1_hw21 : k1_chk21 i v259), ∀ (k1_h1 : k1_cond1 i = 1#1), 8 ∣ (k1_mult21 v259).toNat := fun i v259 k1_hw21 k1_h1 => k1_hw21.1 k1_h1
theorem k1_off42_inb : ∀ (i : grid1.Coords) (v259 : BitVec 32) (k1_hw21 : k1_chk21 i v259), ∀ (k1_h1 : k1_cond1 i = 1#1), ∀ a, (k1_off42 i v259) a + S1x24x256.size a ≤ S32x3136x256.size a := fun i v259 k1_hw21 k1_h1 => k1_hw21.2 k1_h1

def k1_off43 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v267 : Index := Scalar.indexCast v77
  let c21 : Index := 21#32
  ![v267.toNat, 21]
def k1_mult22 (v268 : BitVec 32) : BitVec 32 :=
  v268

def k1_off44 (i : grid1.Coords) (v268 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v269 : BitVec 32 := v268
  let c0_i32_134 : BitVec 32 := 0#32
  ![v77.toNat, v269.toNat, 0]

def k1_chk22 (i : grid1.Coords) (v268 : BitVec 32) : Prop :=
  (∀ (k1_h1 : k1_cond1 i = 1#1), 8 ∣ (k1_mult22 v268).toNat) ∧
  (∀ (k1_h1 : k1_cond1 i = 1#1), ∀ a, (k1_off44 i v268) a + S1x24x256.size a ≤ S32x3136x256.size a)
theorem k1_mult22_dvd : ∀ (i : grid1.Coords) (v268 : BitVec 32) (k1_hw22 : k1_chk22 i v268), ∀ (k1_h1 : k1_cond1 i = 1#1), 8 ∣ (k1_mult22 v268).toNat := fun i v268 k1_hw22 k1_h1 => k1_hw22.1 k1_h1
theorem k1_off44_inb : ∀ (i : grid1.Coords) (v268 : BitVec 32) (k1_hw22 : k1_chk22 i v268), ∀ (k1_h1 : k1_cond1 i = 1#1), ∀ a, (k1_off44 i v268) a + S1x24x256.size a ≤ S32x3136x256.size a := fun i v268 k1_hw22 k1_h1 => k1_hw22.2 k1_h1

def k1_off45 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v276 : Index := Scalar.indexCast v77
  let c22 : Index := 22#32
  ![v276.toNat, 22]
def k1_mult23 (v277 : BitVec 32) : BitVec 32 :=
  v277

def k1_off46 (i : grid1.Coords) (v277 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v278 : BitVec 32 := v277
  let c0_i32_138 : BitVec 32 := 0#32
  ![v77.toNat, v278.toNat, 0]

def k1_chk23 (i : grid1.Coords) (v277 : BitVec 32) : Prop :=
  (∀ (k1_h1 : k1_cond1 i = 1#1), 8 ∣ (k1_mult23 v277).toNat) ∧
  (∀ (k1_h1 : k1_cond1 i = 1#1), ∀ a, (k1_off46 i v277) a + S1x24x256.size a ≤ S32x3136x256.size a)
theorem k1_mult23_dvd : ∀ (i : grid1.Coords) (v277 : BitVec 32) (k1_hw23 : k1_chk23 i v277), ∀ (k1_h1 : k1_cond1 i = 1#1), 8 ∣ (k1_mult23 v277).toNat := fun i v277 k1_hw23 k1_h1 => k1_hw23.1 k1_h1
theorem k1_off46_inb : ∀ (i : grid1.Coords) (v277 : BitVec 32) (k1_hw23 : k1_chk23 i v277), ∀ (k1_h1 : k1_cond1 i = 1#1), ∀ a, (k1_off46 i v277) a + S1x24x256.size a ≤ S32x3136x256.size a := fun i v277 k1_hw23 k1_h1 => k1_hw23.2 k1_h1

def k1_off47 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v285 : Index := Scalar.indexCast v77
  let c23 : Index := 23#32
  ![v285.toNat, 23]
def k1_mult24 (v286 : BitVec 32) : BitVec 32 :=
  v286

def k1_off48 (i : grid1.Coords) (v286 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v287 : BitVec 32 := v286
  let c0_i32_142 : BitVec 32 := 0#32
  ![v77.toNat, v287.toNat, 0]

def k1_chk24 (i : grid1.Coords) (v286 : BitVec 32) : Prop :=
  (∀ (k1_h1 : k1_cond1 i = 1#1), 8 ∣ (k1_mult24 v286).toNat) ∧
  (∀ (k1_h1 : k1_cond1 i = 1#1), ∀ a, (k1_off48 i v286) a + S1x24x256.size a ≤ S32x3136x256.size a)
theorem k1_mult24_dvd : ∀ (i : grid1.Coords) (v286 : BitVec 32) (k1_hw24 : k1_chk24 i v286), ∀ (k1_h1 : k1_cond1 i = 1#1), 8 ∣ (k1_mult24 v286).toNat := fun i v286 k1_hw24 k1_h1 => k1_hw24.1 k1_h1
theorem k1_off48_inb : ∀ (i : grid1.Coords) (v286 : BitVec 32) (k1_hw24 : k1_chk24 i v286), ∀ (k1_h1 : k1_cond1 i = 1#1), ∀ a, (k1_off48 i v286) a + S1x24x256.size a ≤ S32x3136x256.size a := fun i v286 k1_hw24 k1_h1 => k1_hw24.2 k1_h1

def k1_off49 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v294 : Index := Scalar.indexCast v77
  let c24 : Index := 24#32
  ![v294.toNat, 24]
def k1_mult25 (v295 : BitVec 32) : BitVec 32 :=
  v295

def k1_off50 (i : grid1.Coords) (v295 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v296 : BitVec 32 := v295
  let c0_i32_146 : BitVec 32 := 0#32
  ![v77.toNat, v296.toNat, 0]

def k1_chk25 (i : grid1.Coords) (v295 : BitVec 32) : Prop :=
  (∀ (k1_h1 : k1_cond1 i = 1#1), 8 ∣ (k1_mult25 v295).toNat) ∧
  (∀ (k1_h1 : k1_cond1 i = 1#1), ∀ a, (k1_off50 i v295) a + S1x24x256.size a ≤ S32x3136x256.size a)
theorem k1_mult25_dvd : ∀ (i : grid1.Coords) (v295 : BitVec 32) (k1_hw25 : k1_chk25 i v295), ∀ (k1_h1 : k1_cond1 i = 1#1), 8 ∣ (k1_mult25 v295).toNat := fun i v295 k1_hw25 k1_h1 => k1_hw25.1 k1_h1
theorem k1_off50_inb : ∀ (i : grid1.Coords) (v295 : BitVec 32) (k1_hw25 : k1_chk25 i v295), ∀ (k1_h1 : k1_cond1 i = 1#1), ∀ a, (k1_off50 i v295) a + S1x24x256.size a ≤ S32x3136x256.size a := fun i v295 k1_hw25 k1_h1 => k1_hw25.2 k1_h1

def k1_off51 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v303 : Index := Scalar.indexCast v77
  let c25 : Index := 25#32
  ![v303.toNat, 25]
def k1_mult26 (v304 : BitVec 32) : BitVec 32 :=
  v304

def k1_off52 (i : grid1.Coords) (v304 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v305 : BitVec 32 := v304
  let c0_i32_150 : BitVec 32 := 0#32
  ![v77.toNat, v305.toNat, 0]

def k1_chk26 (i : grid1.Coords) (v304 : BitVec 32) : Prop :=
  (∀ (k1_h1 : k1_cond1 i = 1#1), 8 ∣ (k1_mult26 v304).toNat) ∧
  (∀ (k1_h1 : k1_cond1 i = 1#1), ∀ a, (k1_off52 i v304) a + S1x24x256.size a ≤ S32x3136x256.size a)
theorem k1_mult26_dvd : ∀ (i : grid1.Coords) (v304 : BitVec 32) (k1_hw26 : k1_chk26 i v304), ∀ (k1_h1 : k1_cond1 i = 1#1), 8 ∣ (k1_mult26 v304).toNat := fun i v304 k1_hw26 k1_h1 => k1_hw26.1 k1_h1
theorem k1_off52_inb : ∀ (i : grid1.Coords) (v304 : BitVec 32) (k1_hw26 : k1_chk26 i v304), ∀ (k1_h1 : k1_cond1 i = 1#1), ∀ a, (k1_off52 i v304) a + S1x24x256.size a ≤ S32x3136x256.size a := fun i v304 k1_hw26 k1_h1 => k1_hw26.2 k1_h1

def k1_off53 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v312 : Index := Scalar.indexCast v77
  let c26 : Index := 26#32
  ![v312.toNat, 26]
def k1_mult27 (v313 : BitVec 32) : BitVec 32 :=
  v313

def k1_off54 (i : grid1.Coords) (v313 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v314 : BitVec 32 := v313
  let c0_i32_154 : BitVec 32 := 0#32
  ![v77.toNat, v314.toNat, 0]

def k1_chk27 (i : grid1.Coords) (v313 : BitVec 32) : Prop :=
  (∀ (k1_h1 : k1_cond1 i = 1#1), 8 ∣ (k1_mult27 v313).toNat) ∧
  (∀ (k1_h1 : k1_cond1 i = 1#1), ∀ a, (k1_off54 i v313) a + S1x24x256.size a ≤ S32x3136x256.size a)
theorem k1_mult27_dvd : ∀ (i : grid1.Coords) (v313 : BitVec 32) (k1_hw27 : k1_chk27 i v313), ∀ (k1_h1 : k1_cond1 i = 1#1), 8 ∣ (k1_mult27 v313).toNat := fun i v313 k1_hw27 k1_h1 => k1_hw27.1 k1_h1
theorem k1_off54_inb : ∀ (i : grid1.Coords) (v313 : BitVec 32) (k1_hw27 : k1_chk27 i v313), ∀ (k1_h1 : k1_cond1 i = 1#1), ∀ a, (k1_off54 i v313) a + S1x24x256.size a ≤ S32x3136x256.size a := fun i v313 k1_hw27 k1_h1 => k1_hw27.2 k1_h1

def k1_off55 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v321 : Index := Scalar.indexCast v77
  let c27 : Index := 27#32
  ![v321.toNat, 27]
def k1_mult28 (v322 : BitVec 32) : BitVec 32 :=
  v322

def k1_off56 (i : grid1.Coords) (v322 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v323 : BitVec 32 := v322
  let c0_i32_158 : BitVec 32 := 0#32
  ![v77.toNat, v323.toNat, 0]

def k1_chk28 (i : grid1.Coords) (v322 : BitVec 32) : Prop :=
  (∀ (k1_h1 : k1_cond1 i = 1#1), 8 ∣ (k1_mult28 v322).toNat) ∧
  (∀ (k1_h1 : k1_cond1 i = 1#1), ∀ a, (k1_off56 i v322) a + S1x24x256.size a ≤ S32x3136x256.size a)
theorem k1_mult28_dvd : ∀ (i : grid1.Coords) (v322 : BitVec 32) (k1_hw28 : k1_chk28 i v322), ∀ (k1_h1 : k1_cond1 i = 1#1), 8 ∣ (k1_mult28 v322).toNat := fun i v322 k1_hw28 k1_h1 => k1_hw28.1 k1_h1
theorem k1_off56_inb : ∀ (i : grid1.Coords) (v322 : BitVec 32) (k1_hw28 : k1_chk28 i v322), ∀ (k1_h1 : k1_cond1 i = 1#1), ∀ a, (k1_off56 i v322) a + S1x24x256.size a ≤ S32x3136x256.size a := fun i v322 k1_hw28 k1_h1 => k1_hw28.2 k1_h1

def k1_off57 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v330 : Index := Scalar.indexCast v77
  let c28 : Index := 28#32
  ![v330.toNat, 28]
def k1_mult29 (v331 : BitVec 32) : BitVec 32 :=
  v331

def k1_off58 (i : grid1.Coords) (v331 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v332 : BitVec 32 := v331
  let c0_i32_162 : BitVec 32 := 0#32
  ![v77.toNat, v332.toNat, 0]

def k1_chk29 (i : grid1.Coords) (v331 : BitVec 32) : Prop :=
  (∀ (k1_h1 : k1_cond1 i = 1#1), 8 ∣ (k1_mult29 v331).toNat) ∧
  (∀ (k1_h1 : k1_cond1 i = 1#1), ∀ a, (k1_off58 i v331) a + S1x24x256.size a ≤ S32x3136x256.size a)
theorem k1_mult29_dvd : ∀ (i : grid1.Coords) (v331 : BitVec 32) (k1_hw29 : k1_chk29 i v331), ∀ (k1_h1 : k1_cond1 i = 1#1), 8 ∣ (k1_mult29 v331).toNat := fun i v331 k1_hw29 k1_h1 => k1_hw29.1 k1_h1
theorem k1_off58_inb : ∀ (i : grid1.Coords) (v331 : BitVec 32) (k1_hw29 : k1_chk29 i v331), ∀ (k1_h1 : k1_cond1 i = 1#1), ∀ a, (k1_off58 i v331) a + S1x24x256.size a ≤ S32x3136x256.size a := fun i v331 k1_hw29 k1_h1 => k1_hw29.2 k1_h1

def k1_off59 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v339 : Index := Scalar.indexCast v77
  let c29 : Index := 29#32
  ![v339.toNat, 29]
def k1_mult30 (v340 : BitVec 32) : BitVec 32 :=
  v340

def k1_off60 (i : grid1.Coords) (v340 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v341 : BitVec 32 := v340
  let c0_i32_166 : BitVec 32 := 0#32
  ![v77.toNat, v341.toNat, 0]

def k1_chk30 (i : grid1.Coords) (v340 : BitVec 32) : Prop :=
  (∀ (k1_h1 : k1_cond1 i = 1#1), 8 ∣ (k1_mult30 v340).toNat) ∧
  (∀ (k1_h1 : k1_cond1 i = 1#1), ∀ a, (k1_off60 i v340) a + S1x24x256.size a ≤ S32x3136x256.size a)
theorem k1_mult30_dvd : ∀ (i : grid1.Coords) (v340 : BitVec 32) (k1_hw30 : k1_chk30 i v340), ∀ (k1_h1 : k1_cond1 i = 1#1), 8 ∣ (k1_mult30 v340).toNat := fun i v340 k1_hw30 k1_h1 => k1_hw30.1 k1_h1
theorem k1_off60_inb : ∀ (i : grid1.Coords) (v340 : BitVec 32) (k1_hw30 : k1_chk30 i v340), ∀ (k1_h1 : k1_cond1 i = 1#1), ∀ a, (k1_off60 i v340) a + S1x24x256.size a ≤ S32x3136x256.size a := fun i v340 k1_hw30 k1_h1 => k1_hw30.2 k1_h1

def k1_off61 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v348 : Index := Scalar.indexCast v77
  let c30 : Index := 30#32
  ![v348.toNat, 30]
def k1_mult31 (v349 : BitVec 32) : BitVec 32 :=
  v349

def k1_off62 (i : grid1.Coords) (v349 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v350 : BitVec 32 := v349
  let c0_i32_170 : BitVec 32 := 0#32
  ![v77.toNat, v350.toNat, 0]

def k1_chk31 (i : grid1.Coords) (v349 : BitVec 32) : Prop :=
  (∀ (k1_h1 : k1_cond1 i = 1#1), 8 ∣ (k1_mult31 v349).toNat) ∧
  (∀ (k1_h1 : k1_cond1 i = 1#1), ∀ a, (k1_off62 i v349) a + S1x24x256.size a ≤ S32x3136x256.size a)
theorem k1_mult31_dvd : ∀ (i : grid1.Coords) (v349 : BitVec 32) (k1_hw31 : k1_chk31 i v349), ∀ (k1_h1 : k1_cond1 i = 1#1), 8 ∣ (k1_mult31 v349).toNat := fun i v349 k1_hw31 k1_h1 => k1_hw31.1 k1_h1
theorem k1_off62_inb : ∀ (i : grid1.Coords) (v349 : BitVec 32) (k1_hw31 : k1_chk31 i v349), ∀ (k1_h1 : k1_cond1 i = 1#1), ∀ a, (k1_off62 i v349) a + S1x24x256.size a ≤ S32x3136x256.size a := fun i v349 k1_hw31 k1_h1 => k1_hw31.2 k1_h1

def k1_off63 (i : grid1.Coords) : Fin 2 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v357 : Index := Scalar.indexCast v77
  let c31 : Index := 31#32
  ![v357.toNat, 31]
def k1_mult32 (v358 : BitVec 32) : BitVec 32 :=
  v358

def k1_off64 (i : grid1.Coords) (v358 : BitVec 32) : Fin 3 → Nat :=
  let arg0 : BitVec 32 := BitVec.ofNat 32 (i 0).val
  let c16_i32_44 : BitVec 32 := 16#32
  let v76 : BitVec 32 := Scalar.muli arg0 c16_i32_44
  let arg1 : BitVec 32 := BitVec.ofNat 32 (i 1).val
  let v77 : BitVec 32 := Scalar.addi v76 arg1
  let v359 : BitVec 32 := v358
  let c0_i32_174 : BitVec 32 := 0#32
  ![v77.toNat, v359.toNat, 0]

def k1_chk32 (i : grid1.Coords) (v358 : BitVec 32) : Prop :=
  (∀ (k1_h1 : k1_cond1 i = 1#1), 8 ∣ (k1_mult32 v358).toNat) ∧
  (∀ (k1_h1 : k1_cond1 i = 1#1), ∀ a, (k1_off64 i v358) a + S1x24x256.size a ≤ S32x3136x256.size a)
theorem k1_mult32_dvd : ∀ (i : grid1.Coords) (v358 : BitVec 32) (k1_hw32 : k1_chk32 i v358), ∀ (k1_h1 : k1_cond1 i = 1#1), 8 ∣ (k1_mult32 v358).toNat := fun i v358 k1_hw32 k1_h1 => k1_hw32.1 k1_h1
theorem k1_off64_inb : ∀ (i : grid1.Coords) (v358 : BitVec 32) (k1_hw32 : k1_chk32 i v358), ∀ (k1_h1 : k1_cond1 i = 1#1), ∀ a, (k1_off64 i v358) a + S1x24x256.size a ≤ S32x3136x256.size a := fun i v358 k1_hw32 k1_h1 => k1_hw32.2 k1_h1

def k1_cond2 (i : grid1.Coords) : BitVec 1 :=
  let arg1 : BitVec 32 := BitVec.ofNat 32 (i 1).val
  let c1_i32 : BitVec 32 := 1#32
  let v3 : BitVec 32 := Scalar.addi arg1 c1_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k1_off65 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v90 : Index := Scalar.indexCast v89
  let c0_53 : Index := 0#32
  ![v90.toNat, 0]
def k1_mult33 (v91 : BitVec 32) : BitVec 32 :=
  v91

def k1_off66 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off67 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c0_i32_54 : BitVec 32 := 0#32
  let c0_i32_55 : BitVec 32 := 0#32
  ![v87.toNat, 0, 0]
def k1_off68 (i : grid1.Coords) (v91 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v92 : BitVec 32 := v91
  let c0_i32_56 : BitVec 32 := 0#32
  ![v89.toNat, v92.toNat, 0]

def k1_chk33 (i : grid1.Coords) (v91 : BitVec 32) : Prop :=
  (∀ (k1_h2 : k1_cond2 i = 1#1), 8 ∣ (k1_mult33 v91).toNat) ∧
  (∀ (k1_h2 : k1_cond2 i = 1#1), ∀ a, (k1_off68 i v91) a + S1x24x256.size a ≤ S32x3136x256.size a)
theorem k1_mult33_dvd : ∀ (i : grid1.Coords) (v91 : BitVec 32) (k1_hw33 : k1_chk33 i v91), ∀ (k1_h2 : k1_cond2 i = 1#1), 8 ∣ (k1_mult33 v91).toNat := fun i v91 k1_hw33 k1_h2 => k1_hw33.1 k1_h2
theorem k1_off68_inb : ∀ (i : grid1.Coords) (v91 : BitVec 32) (k1_hw33 : k1_chk33 i v91), ∀ (k1_h2 : k1_cond2 i = 1#1), ∀ a, (k1_off68 i v91) a + S1x24x256.size a ≤ S32x3136x256.size a := fun i v91 k1_hw33 k1_h2 => k1_hw33.2 k1_h2

def k1_off69 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v99 : Index := Scalar.indexCast v89
  let c1 : Index := 1#32
  ![v99.toNat, 1]
def k1_mult34 (v100 : BitVec 32) : BitVec 32 :=
  v100

def k1_off70 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off71 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c24_i32 : BitVec 32 := 24#32
  let c0_i32_57 : BitVec 32 := 0#32
  ![v87.toNat, 24, 0]
def k1_off72 (i : grid1.Coords) (v100 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v101 : BitVec 32 := v100
  let c0_i32_58 : BitVec 32 := 0#32
  ![v89.toNat, v101.toNat, 0]

def k1_chk34 (i : grid1.Coords) (v100 : BitVec 32) : Prop :=
  (∀ (k1_h2 : k1_cond2 i = 1#1), 8 ∣ (k1_mult34 v100).toNat) ∧
  (∀ (k1_h2 : k1_cond2 i = 1#1), ∀ a, (k1_off72 i v100) a + S1x24x256.size a ≤ S32x3136x256.size a)
theorem k1_mult34_dvd : ∀ (i : grid1.Coords) (v100 : BitVec 32) (k1_hw34 : k1_chk34 i v100), ∀ (k1_h2 : k1_cond2 i = 1#1), 8 ∣ (k1_mult34 v100).toNat := fun i v100 k1_hw34 k1_h2 => k1_hw34.1 k1_h2
theorem k1_off72_inb : ∀ (i : grid1.Coords) (v100 : BitVec 32) (k1_hw34 : k1_chk34 i v100), ∀ (k1_h2 : k1_cond2 i = 1#1), ∀ a, (k1_off72 i v100) a + S1x24x256.size a ≤ S32x3136x256.size a := fun i v100 k1_hw34 k1_h2 => k1_hw34.2 k1_h2

def k1_off73 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v108 : Index := Scalar.indexCast v89
  let c2 : Index := 2#32
  ![v108.toNat, 2]
def k1_mult35 (v109 : BitVec 32) : BitVec 32 :=
  v109

def k1_off74 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off75 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c48_i32 : BitVec 32 := 48#32
  let c0_i32_59 : BitVec 32 := 0#32
  ![v87.toNat, 48, 0]
def k1_off76 (i : grid1.Coords) (v109 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v110 : BitVec 32 := v109
  let c0_i32_60 : BitVec 32 := 0#32
  ![v89.toNat, v110.toNat, 0]

def k1_chk35 (i : grid1.Coords) (v109 : BitVec 32) : Prop :=
  (∀ (k1_h2 : k1_cond2 i = 1#1), 8 ∣ (k1_mult35 v109).toNat) ∧
  (∀ (k1_h2 : k1_cond2 i = 1#1), ∀ a, (k1_off76 i v109) a + S1x24x256.size a ≤ S32x3136x256.size a)
theorem k1_mult35_dvd : ∀ (i : grid1.Coords) (v109 : BitVec 32) (k1_hw35 : k1_chk35 i v109), ∀ (k1_h2 : k1_cond2 i = 1#1), 8 ∣ (k1_mult35 v109).toNat := fun i v109 k1_hw35 k1_h2 => k1_hw35.1 k1_h2
theorem k1_off76_inb : ∀ (i : grid1.Coords) (v109 : BitVec 32) (k1_hw35 : k1_chk35 i v109), ∀ (k1_h2 : k1_cond2 i = 1#1), ∀ a, (k1_off76 i v109) a + S1x24x256.size a ≤ S32x3136x256.size a := fun i v109 k1_hw35 k1_h2 => k1_hw35.2 k1_h2

def k1_off77 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v117 : Index := Scalar.indexCast v89
  let c3 : Index := 3#32
  ![v117.toNat, 3]
def k1_mult36 (v118 : BitVec 32) : BitVec 32 :=
  v118

def k1_off78 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off79 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c72_i32 : BitVec 32 := 72#32
  let c0_i32_61 : BitVec 32 := 0#32
  ![v87.toNat, 72, 0]
def k1_off80 (i : grid1.Coords) (v118 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v119 : BitVec 32 := v118
  let c0_i32_62 : BitVec 32 := 0#32
  ![v89.toNat, v119.toNat, 0]

def k1_chk36 (i : grid1.Coords) (v118 : BitVec 32) : Prop :=
  (∀ (k1_h2 : k1_cond2 i = 1#1), 8 ∣ (k1_mult36 v118).toNat) ∧
  (∀ (k1_h2 : k1_cond2 i = 1#1), ∀ a, (k1_off80 i v118) a + S1x24x256.size a ≤ S32x3136x256.size a)
theorem k1_mult36_dvd : ∀ (i : grid1.Coords) (v118 : BitVec 32) (k1_hw36 : k1_chk36 i v118), ∀ (k1_h2 : k1_cond2 i = 1#1), 8 ∣ (k1_mult36 v118).toNat := fun i v118 k1_hw36 k1_h2 => k1_hw36.1 k1_h2
theorem k1_off80_inb : ∀ (i : grid1.Coords) (v118 : BitVec 32) (k1_hw36 : k1_chk36 i v118), ∀ (k1_h2 : k1_cond2 i = 1#1), ∀ a, (k1_off80 i v118) a + S1x24x256.size a ≤ S32x3136x256.size a := fun i v118 k1_hw36 k1_h2 => k1_hw36.2 k1_h2

def k1_off81 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v126 : Index := Scalar.indexCast v89
  let c4 : Index := 4#32
  ![v126.toNat, 4]
def k1_mult37 (v127 : BitVec 32) : BitVec 32 :=
  v127

def k1_off82 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off83 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c96_i32 : BitVec 32 := 96#32
  let c0_i32_63 : BitVec 32 := 0#32
  ![v87.toNat, 96, 0]
def k1_off84 (i : grid1.Coords) (v127 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v128 : BitVec 32 := v127
  let c0_i32_64 : BitVec 32 := 0#32
  ![v89.toNat, v128.toNat, 0]

def k1_chk37 (i : grid1.Coords) (v127 : BitVec 32) : Prop :=
  (∀ (k1_h2 : k1_cond2 i = 1#1), 8 ∣ (k1_mult37 v127).toNat) ∧
  (∀ (k1_h2 : k1_cond2 i = 1#1), ∀ a, (k1_off84 i v127) a + S1x24x256.size a ≤ S32x3136x256.size a)
theorem k1_mult37_dvd : ∀ (i : grid1.Coords) (v127 : BitVec 32) (k1_hw37 : k1_chk37 i v127), ∀ (k1_h2 : k1_cond2 i = 1#1), 8 ∣ (k1_mult37 v127).toNat := fun i v127 k1_hw37 k1_h2 => k1_hw37.1 k1_h2
theorem k1_off84_inb : ∀ (i : grid1.Coords) (v127 : BitVec 32) (k1_hw37 : k1_chk37 i v127), ∀ (k1_h2 : k1_cond2 i = 1#1), ∀ a, (k1_off84 i v127) a + S1x24x256.size a ≤ S32x3136x256.size a := fun i v127 k1_hw37 k1_h2 => k1_hw37.2 k1_h2

def k1_off85 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v135 : Index := Scalar.indexCast v89
  let c5 : Index := 5#32
  ![v135.toNat, 5]
def k1_mult38 (v136 : BitVec 32) : BitVec 32 :=
  v136

def k1_off86 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off87 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c120_i32 : BitVec 32 := 120#32
  let c0_i32_65 : BitVec 32 := 0#32
  ![v87.toNat, 120, 0]
def k1_off88 (i : grid1.Coords) (v136 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v137 : BitVec 32 := v136
  let c0_i32_66 : BitVec 32 := 0#32
  ![v89.toNat, v137.toNat, 0]

def k1_chk38 (i : grid1.Coords) (v136 : BitVec 32) : Prop :=
  (∀ (k1_h2 : k1_cond2 i = 1#1), 8 ∣ (k1_mult38 v136).toNat) ∧
  (∀ (k1_h2 : k1_cond2 i = 1#1), ∀ a, (k1_off88 i v136) a + S1x24x256.size a ≤ S32x3136x256.size a)
theorem k1_mult38_dvd : ∀ (i : grid1.Coords) (v136 : BitVec 32) (k1_hw38 : k1_chk38 i v136), ∀ (k1_h2 : k1_cond2 i = 1#1), 8 ∣ (k1_mult38 v136).toNat := fun i v136 k1_hw38 k1_h2 => k1_hw38.1 k1_h2
theorem k1_off88_inb : ∀ (i : grid1.Coords) (v136 : BitVec 32) (k1_hw38 : k1_chk38 i v136), ∀ (k1_h2 : k1_cond2 i = 1#1), ∀ a, (k1_off88 i v136) a + S1x24x256.size a ≤ S32x3136x256.size a := fun i v136 k1_hw38 k1_h2 => k1_hw38.2 k1_h2

def k1_off89 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v144 : Index := Scalar.indexCast v89
  let c6 : Index := 6#32
  ![v144.toNat, 6]
def k1_mult39 (v145 : BitVec 32) : BitVec 32 :=
  v145

def k1_off90 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off91 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c144_i32 : BitVec 32 := 144#32
  let c0_i32_67 : BitVec 32 := 0#32
  ![v87.toNat, 144, 0]
def k1_off92 (i : grid1.Coords) (v145 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v146 : BitVec 32 := v145
  let c0_i32_68 : BitVec 32 := 0#32
  ![v89.toNat, v146.toNat, 0]

def k1_chk39 (i : grid1.Coords) (v145 : BitVec 32) : Prop :=
  (∀ (k1_h2 : k1_cond2 i = 1#1), 8 ∣ (k1_mult39 v145).toNat) ∧
  (∀ (k1_h2 : k1_cond2 i = 1#1), ∀ a, (k1_off92 i v145) a + S1x24x256.size a ≤ S32x3136x256.size a)
theorem k1_mult39_dvd : ∀ (i : grid1.Coords) (v145 : BitVec 32) (k1_hw39 : k1_chk39 i v145), ∀ (k1_h2 : k1_cond2 i = 1#1), 8 ∣ (k1_mult39 v145).toNat := fun i v145 k1_hw39 k1_h2 => k1_hw39.1 k1_h2
theorem k1_off92_inb : ∀ (i : grid1.Coords) (v145 : BitVec 32) (k1_hw39 : k1_chk39 i v145), ∀ (k1_h2 : k1_cond2 i = 1#1), ∀ a, (k1_off92 i v145) a + S1x24x256.size a ≤ S32x3136x256.size a := fun i v145 k1_hw39 k1_h2 => k1_hw39.2 k1_h2

def k1_off93 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v153 : Index := Scalar.indexCast v89
  let c7 : Index := 7#32
  ![v153.toNat, 7]
def k1_mult40 (v154 : BitVec 32) : BitVec 32 :=
  v154

def k1_off94 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off95 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c168_i32 : BitVec 32 := 168#32
  let c0_i32_69 : BitVec 32 := 0#32
  ![v87.toNat, 168, 0]
def k1_off96 (i : grid1.Coords) (v154 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v155 : BitVec 32 := v154
  let c0_i32_70 : BitVec 32 := 0#32
  ![v89.toNat, v155.toNat, 0]

def k1_chk40 (i : grid1.Coords) (v154 : BitVec 32) : Prop :=
  (∀ (k1_h2 : k1_cond2 i = 1#1), 8 ∣ (k1_mult40 v154).toNat) ∧
  (∀ (k1_h2 : k1_cond2 i = 1#1), ∀ a, (k1_off96 i v154) a + S1x24x256.size a ≤ S32x3136x256.size a)
theorem k1_mult40_dvd : ∀ (i : grid1.Coords) (v154 : BitVec 32) (k1_hw40 : k1_chk40 i v154), ∀ (k1_h2 : k1_cond2 i = 1#1), 8 ∣ (k1_mult40 v154).toNat := fun i v154 k1_hw40 k1_h2 => k1_hw40.1 k1_h2
theorem k1_off96_inb : ∀ (i : grid1.Coords) (v154 : BitVec 32) (k1_hw40 : k1_chk40 i v154), ∀ (k1_h2 : k1_cond2 i = 1#1), ∀ a, (k1_off96 i v154) a + S1x24x256.size a ≤ S32x3136x256.size a := fun i v154 k1_hw40 k1_h2 => k1_hw40.2 k1_h2

def k1_off97 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v162 : Index := Scalar.indexCast v89
  let c8 : Index := 8#32
  ![v162.toNat, 8]
def k1_mult41 (v163 : BitVec 32) : BitVec 32 :=
  v163

def k1_off98 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off99 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c192_i32 : BitVec 32 := 192#32
  let c0_i32_71 : BitVec 32 := 0#32
  ![v87.toNat, 192, 0]
def k1_off100 (i : grid1.Coords) (v163 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v164 : BitVec 32 := v163
  let c0_i32_72 : BitVec 32 := 0#32
  ![v89.toNat, v164.toNat, 0]

def k1_chk41 (i : grid1.Coords) (v163 : BitVec 32) : Prop :=
  (∀ (k1_h2 : k1_cond2 i = 1#1), 8 ∣ (k1_mult41 v163).toNat) ∧
  (∀ (k1_h2 : k1_cond2 i = 1#1), ∀ a, (k1_off100 i v163) a + S1x24x256.size a ≤ S32x3136x256.size a)
theorem k1_mult41_dvd : ∀ (i : grid1.Coords) (v163 : BitVec 32) (k1_hw41 : k1_chk41 i v163), ∀ (k1_h2 : k1_cond2 i = 1#1), 8 ∣ (k1_mult41 v163).toNat := fun i v163 k1_hw41 k1_h2 => k1_hw41.1 k1_h2
theorem k1_off100_inb : ∀ (i : grid1.Coords) (v163 : BitVec 32) (k1_hw41 : k1_chk41 i v163), ∀ (k1_h2 : k1_cond2 i = 1#1), ∀ a, (k1_off100 i v163) a + S1x24x256.size a ≤ S32x3136x256.size a := fun i v163 k1_hw41 k1_h2 => k1_hw41.2 k1_h2

def k1_off101 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v171 : Index := Scalar.indexCast v89
  let c9 : Index := 9#32
  ![v171.toNat, 9]
def k1_mult42 (v172 : BitVec 32) : BitVec 32 :=
  v172

def k1_off102 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off103 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c216_i32 : BitVec 32 := 216#32
  let c0_i32_73 : BitVec 32 := 0#32
  ![v87.toNat, 216, 0]
def k1_off104 (i : grid1.Coords) (v172 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v173 : BitVec 32 := v172
  let c0_i32_74 : BitVec 32 := 0#32
  ![v89.toNat, v173.toNat, 0]

def k1_chk42 (i : grid1.Coords) (v172 : BitVec 32) : Prop :=
  (∀ (k1_h2 : k1_cond2 i = 1#1), 8 ∣ (k1_mult42 v172).toNat) ∧
  (∀ (k1_h2 : k1_cond2 i = 1#1), ∀ a, (k1_off104 i v172) a + S1x24x256.size a ≤ S32x3136x256.size a)
theorem k1_mult42_dvd : ∀ (i : grid1.Coords) (v172 : BitVec 32) (k1_hw42 : k1_chk42 i v172), ∀ (k1_h2 : k1_cond2 i = 1#1), 8 ∣ (k1_mult42 v172).toNat := fun i v172 k1_hw42 k1_h2 => k1_hw42.1 k1_h2
theorem k1_off104_inb : ∀ (i : grid1.Coords) (v172 : BitVec 32) (k1_hw42 : k1_chk42 i v172), ∀ (k1_h2 : k1_cond2 i = 1#1), ∀ a, (k1_off104 i v172) a + S1x24x256.size a ≤ S32x3136x256.size a := fun i v172 k1_hw42 k1_h2 => k1_hw42.2 k1_h2

def k1_off105 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v180 : Index := Scalar.indexCast v89
  let c10 : Index := 10#32
  ![v180.toNat, 10]
def k1_mult43 (v181 : BitVec 32) : BitVec 32 :=
  v181

def k1_off106 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off107 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c240_i32 : BitVec 32 := 240#32
  let c0_i32_75 : BitVec 32 := 0#32
  ![v87.toNat, 240, 0]
def k1_off108 (i : grid1.Coords) (v181 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v182 : BitVec 32 := v181
  let c0_i32_76 : BitVec 32 := 0#32
  ![v89.toNat, v182.toNat, 0]

def k1_chk43 (i : grid1.Coords) (v181 : BitVec 32) : Prop :=
  (∀ (k1_h2 : k1_cond2 i = 1#1), 8 ∣ (k1_mult43 v181).toNat) ∧
  (∀ (k1_h2 : k1_cond2 i = 1#1), ∀ a, (k1_off108 i v181) a + S1x24x256.size a ≤ S32x3136x256.size a)
theorem k1_mult43_dvd : ∀ (i : grid1.Coords) (v181 : BitVec 32) (k1_hw43 : k1_chk43 i v181), ∀ (k1_h2 : k1_cond2 i = 1#1), 8 ∣ (k1_mult43 v181).toNat := fun i v181 k1_hw43 k1_h2 => k1_hw43.1 k1_h2
theorem k1_off108_inb : ∀ (i : grid1.Coords) (v181 : BitVec 32) (k1_hw43 : k1_chk43 i v181), ∀ (k1_h2 : k1_cond2 i = 1#1), ∀ a, (k1_off108 i v181) a + S1x24x256.size a ≤ S32x3136x256.size a := fun i v181 k1_hw43 k1_h2 => k1_hw43.2 k1_h2

def k1_off109 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v189 : Index := Scalar.indexCast v89
  let c11 : Index := 11#32
  ![v189.toNat, 11]
def k1_mult44 (v190 : BitVec 32) : BitVec 32 :=
  v190

def k1_off110 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off111 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c264_i32 : BitVec 32 := 264#32
  let c0_i32_77 : BitVec 32 := 0#32
  ![v87.toNat, 264, 0]
def k1_off112 (i : grid1.Coords) (v190 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v191 : BitVec 32 := v190
  let c0_i32_78 : BitVec 32 := 0#32
  ![v89.toNat, v191.toNat, 0]

def k1_chk44 (i : grid1.Coords) (v190 : BitVec 32) : Prop :=
  (∀ (k1_h2 : k1_cond2 i = 1#1), 8 ∣ (k1_mult44 v190).toNat) ∧
  (∀ (k1_h2 : k1_cond2 i = 1#1), ∀ a, (k1_off112 i v190) a + S1x24x256.size a ≤ S32x3136x256.size a)
theorem k1_mult44_dvd : ∀ (i : grid1.Coords) (v190 : BitVec 32) (k1_hw44 : k1_chk44 i v190), ∀ (k1_h2 : k1_cond2 i = 1#1), 8 ∣ (k1_mult44 v190).toNat := fun i v190 k1_hw44 k1_h2 => k1_hw44.1 k1_h2
theorem k1_off112_inb : ∀ (i : grid1.Coords) (v190 : BitVec 32) (k1_hw44 : k1_chk44 i v190), ∀ (k1_h2 : k1_cond2 i = 1#1), ∀ a, (k1_off112 i v190) a + S1x24x256.size a ≤ S32x3136x256.size a := fun i v190 k1_hw44 k1_h2 => k1_hw44.2 k1_h2

def k1_off113 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v198 : Index := Scalar.indexCast v89
  let c12 : Index := 12#32
  ![v198.toNat, 12]
def k1_mult45 (v199 : BitVec 32) : BitVec 32 :=
  v199

def k1_off114 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off115 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c288_i32 : BitVec 32 := 288#32
  let c0_i32_79 : BitVec 32 := 0#32
  ![v87.toNat, 288, 0]
def k1_off116 (i : grid1.Coords) (v199 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v200 : BitVec 32 := v199
  let c0_i32_80 : BitVec 32 := 0#32
  ![v89.toNat, v200.toNat, 0]

def k1_chk45 (i : grid1.Coords) (v199 : BitVec 32) : Prop :=
  (∀ (k1_h2 : k1_cond2 i = 1#1), 8 ∣ (k1_mult45 v199).toNat) ∧
  (∀ (k1_h2 : k1_cond2 i = 1#1), ∀ a, (k1_off116 i v199) a + S1x24x256.size a ≤ S32x3136x256.size a)
theorem k1_mult45_dvd : ∀ (i : grid1.Coords) (v199 : BitVec 32) (k1_hw45 : k1_chk45 i v199), ∀ (k1_h2 : k1_cond2 i = 1#1), 8 ∣ (k1_mult45 v199).toNat := fun i v199 k1_hw45 k1_h2 => k1_hw45.1 k1_h2
theorem k1_off116_inb : ∀ (i : grid1.Coords) (v199 : BitVec 32) (k1_hw45 : k1_chk45 i v199), ∀ (k1_h2 : k1_cond2 i = 1#1), ∀ a, (k1_off116 i v199) a + S1x24x256.size a ≤ S32x3136x256.size a := fun i v199 k1_hw45 k1_h2 => k1_hw45.2 k1_h2

def k1_off117 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v207 : Index := Scalar.indexCast v89
  let c13 : Index := 13#32
  ![v207.toNat, 13]
def k1_mult46 (v208 : BitVec 32) : BitVec 32 :=
  v208

def k1_off118 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off119 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c312_i32 : BitVec 32 := 312#32
  let c0_i32_81 : BitVec 32 := 0#32
  ![v87.toNat, 312, 0]
def k1_off120 (i : grid1.Coords) (v208 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v209 : BitVec 32 := v208
  let c0_i32_82 : BitVec 32 := 0#32
  ![v89.toNat, v209.toNat, 0]

def k1_chk46 (i : grid1.Coords) (v208 : BitVec 32) : Prop :=
  (∀ (k1_h2 : k1_cond2 i = 1#1), 8 ∣ (k1_mult46 v208).toNat) ∧
  (∀ (k1_h2 : k1_cond2 i = 1#1), ∀ a, (k1_off120 i v208) a + S1x24x256.size a ≤ S32x3136x256.size a)
theorem k1_mult46_dvd : ∀ (i : grid1.Coords) (v208 : BitVec 32) (k1_hw46 : k1_chk46 i v208), ∀ (k1_h2 : k1_cond2 i = 1#1), 8 ∣ (k1_mult46 v208).toNat := fun i v208 k1_hw46 k1_h2 => k1_hw46.1 k1_h2
theorem k1_off120_inb : ∀ (i : grid1.Coords) (v208 : BitVec 32) (k1_hw46 : k1_chk46 i v208), ∀ (k1_h2 : k1_cond2 i = 1#1), ∀ a, (k1_off120 i v208) a + S1x24x256.size a ≤ S32x3136x256.size a := fun i v208 k1_hw46 k1_h2 => k1_hw46.2 k1_h2

def k1_off121 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v216 : Index := Scalar.indexCast v89
  let c14 : Index := 14#32
  ![v216.toNat, 14]
def k1_mult47 (v217 : BitVec 32) : BitVec 32 :=
  v217

def k1_off122 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off123 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c336_i32 : BitVec 32 := 336#32
  let c0_i32_83 : BitVec 32 := 0#32
  ![v87.toNat, 336, 0]
def k1_off124 (i : grid1.Coords) (v217 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v218 : BitVec 32 := v217
  let c0_i32_84 : BitVec 32 := 0#32
  ![v89.toNat, v218.toNat, 0]

def k1_chk47 (i : grid1.Coords) (v217 : BitVec 32) : Prop :=
  (∀ (k1_h2 : k1_cond2 i = 1#1), 8 ∣ (k1_mult47 v217).toNat) ∧
  (∀ (k1_h2 : k1_cond2 i = 1#1), ∀ a, (k1_off124 i v217) a + S1x24x256.size a ≤ S32x3136x256.size a)
theorem k1_mult47_dvd : ∀ (i : grid1.Coords) (v217 : BitVec 32) (k1_hw47 : k1_chk47 i v217), ∀ (k1_h2 : k1_cond2 i = 1#1), 8 ∣ (k1_mult47 v217).toNat := fun i v217 k1_hw47 k1_h2 => k1_hw47.1 k1_h2
theorem k1_off124_inb : ∀ (i : grid1.Coords) (v217 : BitVec 32) (k1_hw47 : k1_chk47 i v217), ∀ (k1_h2 : k1_cond2 i = 1#1), ∀ a, (k1_off124 i v217) a + S1x24x256.size a ≤ S32x3136x256.size a := fun i v217 k1_hw47 k1_h2 => k1_hw47.2 k1_h2

def k1_off125 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v225 : Index := Scalar.indexCast v89
  let c15 : Index := 15#32
  ![v225.toNat, 15]
def k1_mult48 (v226 : BitVec 32) : BitVec 32 :=
  v226

def k1_off126 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off127 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c360_i32 : BitVec 32 := 360#32
  let c0_i32_85 : BitVec 32 := 0#32
  ![v87.toNat, 360, 0]
def k1_off128 (i : grid1.Coords) (v226 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v227 : BitVec 32 := v226
  let c0_i32_86 : BitVec 32 := 0#32
  ![v89.toNat, v227.toNat, 0]

def k1_chk48 (i : grid1.Coords) (v226 : BitVec 32) : Prop :=
  (∀ (k1_h2 : k1_cond2 i = 1#1), 8 ∣ (k1_mult48 v226).toNat) ∧
  (∀ (k1_h2 : k1_cond2 i = 1#1), ∀ a, (k1_off128 i v226) a + S1x24x256.size a ≤ S32x3136x256.size a)
theorem k1_mult48_dvd : ∀ (i : grid1.Coords) (v226 : BitVec 32) (k1_hw48 : k1_chk48 i v226), ∀ (k1_h2 : k1_cond2 i = 1#1), 8 ∣ (k1_mult48 v226).toNat := fun i v226 k1_hw48 k1_h2 => k1_hw48.1 k1_h2
theorem k1_off128_inb : ∀ (i : grid1.Coords) (v226 : BitVec 32) (k1_hw48 : k1_chk48 i v226), ∀ (k1_h2 : k1_cond2 i = 1#1), ∀ a, (k1_off128 i v226) a + S1x24x256.size a ≤ S32x3136x256.size a := fun i v226 k1_hw48 k1_h2 => k1_hw48.2 k1_h2

def k1_off129 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v234 : Index := Scalar.indexCast v89
  let c16 : Index := 16#32
  ![v234.toNat, 16]
def k1_mult49 (v235 : BitVec 32) : BitVec 32 :=
  v235

def k1_off130 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off131 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c384_i32 : BitVec 32 := 384#32
  let c0_i32_87 : BitVec 32 := 0#32
  ![v87.toNat, 384, 0]
def k1_off132 (i : grid1.Coords) (v235 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v236 : BitVec 32 := v235
  let c0_i32_88 : BitVec 32 := 0#32
  ![v89.toNat, v236.toNat, 0]

def k1_chk49 (i : grid1.Coords) (v235 : BitVec 32) : Prop :=
  (∀ (k1_h2 : k1_cond2 i = 1#1), 8 ∣ (k1_mult49 v235).toNat) ∧
  (∀ (k1_h2 : k1_cond2 i = 1#1), ∀ a, (k1_off132 i v235) a + S1x24x256.size a ≤ S32x3136x256.size a)
theorem k1_mult49_dvd : ∀ (i : grid1.Coords) (v235 : BitVec 32) (k1_hw49 : k1_chk49 i v235), ∀ (k1_h2 : k1_cond2 i = 1#1), 8 ∣ (k1_mult49 v235).toNat := fun i v235 k1_hw49 k1_h2 => k1_hw49.1 k1_h2
theorem k1_off132_inb : ∀ (i : grid1.Coords) (v235 : BitVec 32) (k1_hw49 : k1_chk49 i v235), ∀ (k1_h2 : k1_cond2 i = 1#1), ∀ a, (k1_off132 i v235) a + S1x24x256.size a ≤ S32x3136x256.size a := fun i v235 k1_hw49 k1_h2 => k1_hw49.2 k1_h2

def k1_off133 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v243 : Index := Scalar.indexCast v89
  let c17 : Index := 17#32
  ![v243.toNat, 17]
def k1_mult50 (v244 : BitVec 32) : BitVec 32 :=
  v244

def k1_off134 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off135 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c408_i32 : BitVec 32 := 408#32
  let c0_i32_89 : BitVec 32 := 0#32
  ![v87.toNat, 408, 0]
def k1_off136 (i : grid1.Coords) (v244 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v245 : BitVec 32 := v244
  let c0_i32_90 : BitVec 32 := 0#32
  ![v89.toNat, v245.toNat, 0]

def k1_chk50 (i : grid1.Coords) (v244 : BitVec 32) : Prop :=
  (∀ (k1_h2 : k1_cond2 i = 1#1), 8 ∣ (k1_mult50 v244).toNat) ∧
  (∀ (k1_h2 : k1_cond2 i = 1#1), ∀ a, (k1_off136 i v244) a + S1x24x256.size a ≤ S32x3136x256.size a)
theorem k1_mult50_dvd : ∀ (i : grid1.Coords) (v244 : BitVec 32) (k1_hw50 : k1_chk50 i v244), ∀ (k1_h2 : k1_cond2 i = 1#1), 8 ∣ (k1_mult50 v244).toNat := fun i v244 k1_hw50 k1_h2 => k1_hw50.1 k1_h2
theorem k1_off136_inb : ∀ (i : grid1.Coords) (v244 : BitVec 32) (k1_hw50 : k1_chk50 i v244), ∀ (k1_h2 : k1_cond2 i = 1#1), ∀ a, (k1_off136 i v244) a + S1x24x256.size a ≤ S32x3136x256.size a := fun i v244 k1_hw50 k1_h2 => k1_hw50.2 k1_h2

def k1_off137 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v252 : Index := Scalar.indexCast v89
  let c18 : Index := 18#32
  ![v252.toNat, 18]
def k1_mult51 (v253 : BitVec 32) : BitVec 32 :=
  v253

def k1_off138 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off139 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c432_i32 : BitVec 32 := 432#32
  let c0_i32_91 : BitVec 32 := 0#32
  ![v87.toNat, 432, 0]
def k1_off140 (i : grid1.Coords) (v253 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v254 : BitVec 32 := v253
  let c0_i32_92 : BitVec 32 := 0#32
  ![v89.toNat, v254.toNat, 0]

def k1_chk51 (i : grid1.Coords) (v253 : BitVec 32) : Prop :=
  (∀ (k1_h2 : k1_cond2 i = 1#1), 8 ∣ (k1_mult51 v253).toNat) ∧
  (∀ (k1_h2 : k1_cond2 i = 1#1), ∀ a, (k1_off140 i v253) a + S1x24x256.size a ≤ S32x3136x256.size a)
theorem k1_mult51_dvd : ∀ (i : grid1.Coords) (v253 : BitVec 32) (k1_hw51 : k1_chk51 i v253), ∀ (k1_h2 : k1_cond2 i = 1#1), 8 ∣ (k1_mult51 v253).toNat := fun i v253 k1_hw51 k1_h2 => k1_hw51.1 k1_h2
theorem k1_off140_inb : ∀ (i : grid1.Coords) (v253 : BitVec 32) (k1_hw51 : k1_chk51 i v253), ∀ (k1_h2 : k1_cond2 i = 1#1), ∀ a, (k1_off140 i v253) a + S1x24x256.size a ≤ S32x3136x256.size a := fun i v253 k1_hw51 k1_h2 => k1_hw51.2 k1_h2

def k1_off141 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v261 : Index := Scalar.indexCast v89
  let c19 : Index := 19#32
  ![v261.toNat, 19]
def k1_mult52 (v262 : BitVec 32) : BitVec 32 :=
  v262

def k1_off142 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off143 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c456_i32 : BitVec 32 := 456#32
  let c0_i32_93 : BitVec 32 := 0#32
  ![v87.toNat, 456, 0]
def k1_off144 (i : grid1.Coords) (v262 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v263 : BitVec 32 := v262
  let c0_i32_94 : BitVec 32 := 0#32
  ![v89.toNat, v263.toNat, 0]

def k1_chk52 (i : grid1.Coords) (v262 : BitVec 32) : Prop :=
  (∀ (k1_h2 : k1_cond2 i = 1#1), 8 ∣ (k1_mult52 v262).toNat) ∧
  (∀ (k1_h2 : k1_cond2 i = 1#1), ∀ a, (k1_off144 i v262) a + S1x24x256.size a ≤ S32x3136x256.size a)
theorem k1_mult52_dvd : ∀ (i : grid1.Coords) (v262 : BitVec 32) (k1_hw52 : k1_chk52 i v262), ∀ (k1_h2 : k1_cond2 i = 1#1), 8 ∣ (k1_mult52 v262).toNat := fun i v262 k1_hw52 k1_h2 => k1_hw52.1 k1_h2
theorem k1_off144_inb : ∀ (i : grid1.Coords) (v262 : BitVec 32) (k1_hw52 : k1_chk52 i v262), ∀ (k1_h2 : k1_cond2 i = 1#1), ∀ a, (k1_off144 i v262) a + S1x24x256.size a ≤ S32x3136x256.size a := fun i v262 k1_hw52 k1_h2 => k1_hw52.2 k1_h2

def k1_off145 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v270 : Index := Scalar.indexCast v89
  let c20 : Index := 20#32
  ![v270.toNat, 20]
def k1_mult53 (v271 : BitVec 32) : BitVec 32 :=
  v271

def k1_off146 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off147 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c480_i32 : BitVec 32 := 480#32
  let c0_i32_95 : BitVec 32 := 0#32
  ![v87.toNat, 480, 0]
def k1_off148 (i : grid1.Coords) (v271 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v272 : BitVec 32 := v271
  let c0_i32_96 : BitVec 32 := 0#32
  ![v89.toNat, v272.toNat, 0]

def k1_chk53 (i : grid1.Coords) (v271 : BitVec 32) : Prop :=
  (∀ (k1_h2 : k1_cond2 i = 1#1), 8 ∣ (k1_mult53 v271).toNat) ∧
  (∀ (k1_h2 : k1_cond2 i = 1#1), ∀ a, (k1_off148 i v271) a + S1x24x256.size a ≤ S32x3136x256.size a)
theorem k1_mult53_dvd : ∀ (i : grid1.Coords) (v271 : BitVec 32) (k1_hw53 : k1_chk53 i v271), ∀ (k1_h2 : k1_cond2 i = 1#1), 8 ∣ (k1_mult53 v271).toNat := fun i v271 k1_hw53 k1_h2 => k1_hw53.1 k1_h2
theorem k1_off148_inb : ∀ (i : grid1.Coords) (v271 : BitVec 32) (k1_hw53 : k1_chk53 i v271), ∀ (k1_h2 : k1_cond2 i = 1#1), ∀ a, (k1_off148 i v271) a + S1x24x256.size a ≤ S32x3136x256.size a := fun i v271 k1_hw53 k1_h2 => k1_hw53.2 k1_h2

def k1_off149 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v279 : Index := Scalar.indexCast v89
  let c21 : Index := 21#32
  ![v279.toNat, 21]
def k1_mult54 (v280 : BitVec 32) : BitVec 32 :=
  v280

def k1_off150 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off151 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c504_i32 : BitVec 32 := 504#32
  let c0_i32_97 : BitVec 32 := 0#32
  ![v87.toNat, 504, 0]
def k1_off152 (i : grid1.Coords) (v280 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v281 : BitVec 32 := v280
  let c0_i32_98 : BitVec 32 := 0#32
  ![v89.toNat, v281.toNat, 0]

def k1_chk54 (i : grid1.Coords) (v280 : BitVec 32) : Prop :=
  (∀ (k1_h2 : k1_cond2 i = 1#1), 8 ∣ (k1_mult54 v280).toNat) ∧
  (∀ (k1_h2 : k1_cond2 i = 1#1), ∀ a, (k1_off152 i v280) a + S1x24x256.size a ≤ S32x3136x256.size a)
theorem k1_mult54_dvd : ∀ (i : grid1.Coords) (v280 : BitVec 32) (k1_hw54 : k1_chk54 i v280), ∀ (k1_h2 : k1_cond2 i = 1#1), 8 ∣ (k1_mult54 v280).toNat := fun i v280 k1_hw54 k1_h2 => k1_hw54.1 k1_h2
theorem k1_off152_inb : ∀ (i : grid1.Coords) (v280 : BitVec 32) (k1_hw54 : k1_chk54 i v280), ∀ (k1_h2 : k1_cond2 i = 1#1), ∀ a, (k1_off152 i v280) a + S1x24x256.size a ≤ S32x3136x256.size a := fun i v280 k1_hw54 k1_h2 => k1_hw54.2 k1_h2

def k1_off153 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v288 : Index := Scalar.indexCast v89
  let c22 : Index := 22#32
  ![v288.toNat, 22]
def k1_mult55 (v289 : BitVec 32) : BitVec 32 :=
  v289

def k1_off154 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off155 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c528_i32 : BitVec 32 := 528#32
  let c0_i32_99 : BitVec 32 := 0#32
  ![v87.toNat, 528, 0]
def k1_off156 (i : grid1.Coords) (v289 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v290 : BitVec 32 := v289
  let c0_i32_100 : BitVec 32 := 0#32
  ![v89.toNat, v290.toNat, 0]

def k1_chk55 (i : grid1.Coords) (v289 : BitVec 32) : Prop :=
  (∀ (k1_h2 : k1_cond2 i = 1#1), 8 ∣ (k1_mult55 v289).toNat) ∧
  (∀ (k1_h2 : k1_cond2 i = 1#1), ∀ a, (k1_off156 i v289) a + S1x24x256.size a ≤ S32x3136x256.size a)
theorem k1_mult55_dvd : ∀ (i : grid1.Coords) (v289 : BitVec 32) (k1_hw55 : k1_chk55 i v289), ∀ (k1_h2 : k1_cond2 i = 1#1), 8 ∣ (k1_mult55 v289).toNat := fun i v289 k1_hw55 k1_h2 => k1_hw55.1 k1_h2
theorem k1_off156_inb : ∀ (i : grid1.Coords) (v289 : BitVec 32) (k1_hw55 : k1_chk55 i v289), ∀ (k1_h2 : k1_cond2 i = 1#1), ∀ a, (k1_off156 i v289) a + S1x24x256.size a ≤ S32x3136x256.size a := fun i v289 k1_hw55 k1_h2 => k1_hw55.2 k1_h2

def k1_off157 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v297 : Index := Scalar.indexCast v89
  let c23 : Index := 23#32
  ![v297.toNat, 23]
def k1_mult56 (v298 : BitVec 32) : BitVec 32 :=
  v298

def k1_off158 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off159 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c552_i32 : BitVec 32 := 552#32
  let c0_i32_101 : BitVec 32 := 0#32
  ![v87.toNat, 552, 0]
def k1_off160 (i : grid1.Coords) (v298 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v299 : BitVec 32 := v298
  let c0_i32_102 : BitVec 32 := 0#32
  ![v89.toNat, v299.toNat, 0]

def k1_chk56 (i : grid1.Coords) (v298 : BitVec 32) : Prop :=
  (∀ (k1_h2 : k1_cond2 i = 1#1), 8 ∣ (k1_mult56 v298).toNat) ∧
  (∀ (k1_h2 : k1_cond2 i = 1#1), ∀ a, (k1_off160 i v298) a + S1x24x256.size a ≤ S32x3136x256.size a)
theorem k1_mult56_dvd : ∀ (i : grid1.Coords) (v298 : BitVec 32) (k1_hw56 : k1_chk56 i v298), ∀ (k1_h2 : k1_cond2 i = 1#1), 8 ∣ (k1_mult56 v298).toNat := fun i v298 k1_hw56 k1_h2 => k1_hw56.1 k1_h2
theorem k1_off160_inb : ∀ (i : grid1.Coords) (v298 : BitVec 32) (k1_hw56 : k1_chk56 i v298), ∀ (k1_h2 : k1_cond2 i = 1#1), ∀ a, (k1_off160 i v298) a + S1x24x256.size a ≤ S32x3136x256.size a := fun i v298 k1_hw56 k1_h2 => k1_hw56.2 k1_h2

def k1_off161 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v306 : Index := Scalar.indexCast v89
  let c24 : Index := 24#32
  ![v306.toNat, 24]
def k1_mult57 (v307 : BitVec 32) : BitVec 32 :=
  v307

def k1_off162 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off163 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c576_i32 : BitVec 32 := 576#32
  let c0_i32_103 : BitVec 32 := 0#32
  ![v87.toNat, 576, 0]
def k1_off164 (i : grid1.Coords) (v307 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v308 : BitVec 32 := v307
  let c0_i32_104 : BitVec 32 := 0#32
  ![v89.toNat, v308.toNat, 0]

def k1_chk57 (i : grid1.Coords) (v307 : BitVec 32) : Prop :=
  (∀ (k1_h2 : k1_cond2 i = 1#1), 8 ∣ (k1_mult57 v307).toNat) ∧
  (∀ (k1_h2 : k1_cond2 i = 1#1), ∀ a, (k1_off164 i v307) a + S1x24x256.size a ≤ S32x3136x256.size a)
theorem k1_mult57_dvd : ∀ (i : grid1.Coords) (v307 : BitVec 32) (k1_hw57 : k1_chk57 i v307), ∀ (k1_h2 : k1_cond2 i = 1#1), 8 ∣ (k1_mult57 v307).toNat := fun i v307 k1_hw57 k1_h2 => k1_hw57.1 k1_h2
theorem k1_off164_inb : ∀ (i : grid1.Coords) (v307 : BitVec 32) (k1_hw57 : k1_chk57 i v307), ∀ (k1_h2 : k1_cond2 i = 1#1), ∀ a, (k1_off164 i v307) a + S1x24x256.size a ≤ S32x3136x256.size a := fun i v307 k1_hw57 k1_h2 => k1_hw57.2 k1_h2

def k1_off165 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v315 : Index := Scalar.indexCast v89
  let c25 : Index := 25#32
  ![v315.toNat, 25]
def k1_mult58 (v316 : BitVec 32) : BitVec 32 :=
  v316

def k1_off166 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off167 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c600_i32 : BitVec 32 := 600#32
  let c0_i32_105 : BitVec 32 := 0#32
  ![v87.toNat, 600, 0]
def k1_off168 (i : grid1.Coords) (v316 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v317 : BitVec 32 := v316
  let c0_i32_106 : BitVec 32 := 0#32
  ![v89.toNat, v317.toNat, 0]

def k1_chk58 (i : grid1.Coords) (v316 : BitVec 32) : Prop :=
  (∀ (k1_h2 : k1_cond2 i = 1#1), 8 ∣ (k1_mult58 v316).toNat) ∧
  (∀ (k1_h2 : k1_cond2 i = 1#1), ∀ a, (k1_off168 i v316) a + S1x24x256.size a ≤ S32x3136x256.size a)
theorem k1_mult58_dvd : ∀ (i : grid1.Coords) (v316 : BitVec 32) (k1_hw58 : k1_chk58 i v316), ∀ (k1_h2 : k1_cond2 i = 1#1), 8 ∣ (k1_mult58 v316).toNat := fun i v316 k1_hw58 k1_h2 => k1_hw58.1 k1_h2
theorem k1_off168_inb : ∀ (i : grid1.Coords) (v316 : BitVec 32) (k1_hw58 : k1_chk58 i v316), ∀ (k1_h2 : k1_cond2 i = 1#1), ∀ a, (k1_off168 i v316) a + S1x24x256.size a ≤ S32x3136x256.size a := fun i v316 k1_hw58 k1_h2 => k1_hw58.2 k1_h2

def k1_off169 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v324 : Index := Scalar.indexCast v89
  let c26 : Index := 26#32
  ![v324.toNat, 26]
def k1_mult59 (v325 : BitVec 32) : BitVec 32 :=
  v325

def k1_off170 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off171 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c624_i32 : BitVec 32 := 624#32
  let c0_i32_107 : BitVec 32 := 0#32
  ![v87.toNat, 624, 0]
def k1_off172 (i : grid1.Coords) (v325 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v326 : BitVec 32 := v325
  let c0_i32_108 : BitVec 32 := 0#32
  ![v89.toNat, v326.toNat, 0]

def k1_chk59 (i : grid1.Coords) (v325 : BitVec 32) : Prop :=
  (∀ (k1_h2 : k1_cond2 i = 1#1), 8 ∣ (k1_mult59 v325).toNat) ∧
  (∀ (k1_h2 : k1_cond2 i = 1#1), ∀ a, (k1_off172 i v325) a + S1x24x256.size a ≤ S32x3136x256.size a)
theorem k1_mult59_dvd : ∀ (i : grid1.Coords) (v325 : BitVec 32) (k1_hw59 : k1_chk59 i v325), ∀ (k1_h2 : k1_cond2 i = 1#1), 8 ∣ (k1_mult59 v325).toNat := fun i v325 k1_hw59 k1_h2 => k1_hw59.1 k1_h2
theorem k1_off172_inb : ∀ (i : grid1.Coords) (v325 : BitVec 32) (k1_hw59 : k1_chk59 i v325), ∀ (k1_h2 : k1_cond2 i = 1#1), ∀ a, (k1_off172 i v325) a + S1x24x256.size a ≤ S32x3136x256.size a := fun i v325 k1_hw59 k1_h2 => k1_hw59.2 k1_h2

def k1_off173 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v333 : Index := Scalar.indexCast v89
  let c27 : Index := 27#32
  ![v333.toNat, 27]
def k1_mult60 (v334 : BitVec 32) : BitVec 32 :=
  v334

def k1_off174 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off175 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c648_i32 : BitVec 32 := 648#32
  let c0_i32_109 : BitVec 32 := 0#32
  ![v87.toNat, 648, 0]
def k1_off176 (i : grid1.Coords) (v334 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v335 : BitVec 32 := v334
  let c0_i32_110 : BitVec 32 := 0#32
  ![v89.toNat, v335.toNat, 0]

def k1_chk60 (i : grid1.Coords) (v334 : BitVec 32) : Prop :=
  (∀ (k1_h2 : k1_cond2 i = 1#1), 8 ∣ (k1_mult60 v334).toNat) ∧
  (∀ (k1_h2 : k1_cond2 i = 1#1), ∀ a, (k1_off176 i v334) a + S1x24x256.size a ≤ S32x3136x256.size a)
theorem k1_mult60_dvd : ∀ (i : grid1.Coords) (v334 : BitVec 32) (k1_hw60 : k1_chk60 i v334), ∀ (k1_h2 : k1_cond2 i = 1#1), 8 ∣ (k1_mult60 v334).toNat := fun i v334 k1_hw60 k1_h2 => k1_hw60.1 k1_h2
theorem k1_off176_inb : ∀ (i : grid1.Coords) (v334 : BitVec 32) (k1_hw60 : k1_chk60 i v334), ∀ (k1_h2 : k1_cond2 i = 1#1), ∀ a, (k1_off176 i v334) a + S1x24x256.size a ≤ S32x3136x256.size a := fun i v334 k1_hw60 k1_h2 => k1_hw60.2 k1_h2

def k1_off177 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v342 : Index := Scalar.indexCast v89
  let c28 : Index := 28#32
  ![v342.toNat, 28]
def k1_mult61 (v343 : BitVec 32) : BitVec 32 :=
  v343

def k1_off178 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off179 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c672_i32 : BitVec 32 := 672#32
  let c0_i32_111 : BitVec 32 := 0#32
  ![v87.toNat, 672, 0]
def k1_off180 (i : grid1.Coords) (v343 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v344 : BitVec 32 := v343
  let c0_i32_112 : BitVec 32 := 0#32
  ![v89.toNat, v344.toNat, 0]

def k1_chk61 (i : grid1.Coords) (v343 : BitVec 32) : Prop :=
  (∀ (k1_h2 : k1_cond2 i = 1#1), 8 ∣ (k1_mult61 v343).toNat) ∧
  (∀ (k1_h2 : k1_cond2 i = 1#1), ∀ a, (k1_off180 i v343) a + S1x24x256.size a ≤ S32x3136x256.size a)
theorem k1_mult61_dvd : ∀ (i : grid1.Coords) (v343 : BitVec 32) (k1_hw61 : k1_chk61 i v343), ∀ (k1_h2 : k1_cond2 i = 1#1), 8 ∣ (k1_mult61 v343).toNat := fun i v343 k1_hw61 k1_h2 => k1_hw61.1 k1_h2
theorem k1_off180_inb : ∀ (i : grid1.Coords) (v343 : BitVec 32) (k1_hw61 : k1_chk61 i v343), ∀ (k1_h2 : k1_cond2 i = 1#1), ∀ a, (k1_off180 i v343) a + S1x24x256.size a ≤ S32x3136x256.size a := fun i v343 k1_hw61 k1_h2 => k1_hw61.2 k1_h2

def k1_off181 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v351 : Index := Scalar.indexCast v89
  let c29 : Index := 29#32
  ![v351.toNat, 29]
def k1_mult62 (v352 : BitVec 32) : BitVec 32 :=
  v352

def k1_off182 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off183 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c696_i32 : BitVec 32 := 696#32
  let c0_i32_113 : BitVec 32 := 0#32
  ![v87.toNat, 696, 0]
def k1_off184 (i : grid1.Coords) (v352 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v353 : BitVec 32 := v352
  let c0_i32_114 : BitVec 32 := 0#32
  ![v89.toNat, v353.toNat, 0]

def k1_chk62 (i : grid1.Coords) (v352 : BitVec 32) : Prop :=
  (∀ (k1_h2 : k1_cond2 i = 1#1), 8 ∣ (k1_mult62 v352).toNat) ∧
  (∀ (k1_h2 : k1_cond2 i = 1#1), ∀ a, (k1_off184 i v352) a + S1x24x256.size a ≤ S32x3136x256.size a)
theorem k1_mult62_dvd : ∀ (i : grid1.Coords) (v352 : BitVec 32) (k1_hw62 : k1_chk62 i v352), ∀ (k1_h2 : k1_cond2 i = 1#1), 8 ∣ (k1_mult62 v352).toNat := fun i v352 k1_hw62 k1_h2 => k1_hw62.1 k1_h2
theorem k1_off184_inb : ∀ (i : grid1.Coords) (v352 : BitVec 32) (k1_hw62 : k1_chk62 i v352), ∀ (k1_h2 : k1_cond2 i = 1#1), ∀ a, (k1_off184 i v352) a + S1x24x256.size a ≤ S32x3136x256.size a := fun i v352 k1_hw62 k1_h2 => k1_hw62.2 k1_h2

def k1_off185 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v360 : Index := Scalar.indexCast v89
  let c30 : Index := 30#32
  ![v360.toNat, 30]
def k1_mult63 (v361 : BitVec 32) : BitVec 32 :=
  v361

def k1_off186 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off187 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c720_i32 : BitVec 32 := 720#32
  let c0_i32_115 : BitVec 32 := 0#32
  ![v87.toNat, 720, 0]
def k1_off188 (i : grid1.Coords) (v361 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v362 : BitVec 32 := v361
  let c0_i32_116 : BitVec 32 := 0#32
  ![v89.toNat, v362.toNat, 0]

def k1_chk63 (i : grid1.Coords) (v361 : BitVec 32) : Prop :=
  (∀ (k1_h2 : k1_cond2 i = 1#1), 8 ∣ (k1_mult63 v361).toNat) ∧
  (∀ (k1_h2 : k1_cond2 i = 1#1), ∀ a, (k1_off188 i v361) a + S1x24x256.size a ≤ S32x3136x256.size a)
theorem k1_mult63_dvd : ∀ (i : grid1.Coords) (v361 : BitVec 32) (k1_hw63 : k1_chk63 i v361), ∀ (k1_h2 : k1_cond2 i = 1#1), 8 ∣ (k1_mult63 v361).toNat := fun i v361 k1_hw63 k1_h2 => k1_hw63.1 k1_h2
theorem k1_off188_inb : ∀ (i : grid1.Coords) (v361 : BitVec 32) (k1_hw63 : k1_chk63 i v361), ∀ (k1_h2 : k1_cond2 i = 1#1), ∀ a, (k1_off188 i v361) a + S1x24x256.size a ≤ S32x3136x256.size a := fun i v361 k1_hw63 k1_h2 => k1_hw63.2 k1_h2

def k1_off189 (i : grid1.Coords) : Fin 2 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v369 : Index := Scalar.indexCast v89
  let c31 : Index := 31#32
  ![v369.toNat, 31]
def k1_mult64 (v370 : BitVec 32) : BitVec 32 :=
  v370

def k1_off190 (i : grid1.Coords) : Fin 1 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  ![v87.toNat]
def k1_off191 (i : grid1.Coords) : Fin 3 → Nat :=
  let arg1 : BitVec 32 := BitVec.ofNat 32 (i 1).val
  let c1_i32_45 : BitVec 32 := 1#32
  let v77 : BitVec 32 := Scalar.addi arg1 c1_i32_45
  let c2_i32_46 : BitVec 32 := 2#32
  let c0_i32_47 : BitVec 32 := 0#32
  let v78 : BitVec 1 := Scalar.cmpi .eq c2_i32_46 c0_i32_47
  let c1_i32_48 : BitVec 32 := 1#32
  let v79 : BitVec 32 := Scalar.select v78 c1_i32_48 c2_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let c744_i32 : BitVec 32 := 744#32
  let c0_i32_117 : BitVec 32 := 0#32
  ![v87.toNat, 744, 0]
def k1_off192 (i : grid1.Coords) (v370 : BitVec 32) : Fin 3 → Nat :=
  let arg0 : BitVec 32 := BitVec.ofNat 32 (i 0).val
  let c16_i32_52 : BitVec 32 := 16#32
  let v88 : BitVec 32 := Scalar.muli arg0 c16_i32_52
  let arg1 : BitVec 32 := BitVec.ofNat 32 (i 1).val
  let c1_i32_44 : BitVec 32 := 1#32
  let v76 : BitVec 32 := Scalar.addi arg1 c1_i32_44
  let v89 : BitVec 32 := Scalar.addi v88 v76
  let v371 : BitVec 32 := v370
  let c0_i32_118 : BitVec 32 := 0#32
  ![v89.toNat, v371.toNat, 0]

def k1_chk64 (i : grid1.Coords) (v370 : BitVec 32) : Prop :=
  (∀ (k1_h2 : k1_cond2 i = 1#1), 8 ∣ (k1_mult64 v370).toNat) ∧
  (∀ (k1_h2 : k1_cond2 i = 1#1), ∀ a, (k1_off192 i v370) a + S1x24x256.size a ≤ S32x3136x256.size a)
theorem k1_mult64_dvd : ∀ (i : grid1.Coords) (v370 : BitVec 32) (k1_hw64 : k1_chk64 i v370), ∀ (k1_h2 : k1_cond2 i = 1#1), 8 ∣ (k1_mult64 v370).toNat := fun i v370 k1_hw64 k1_h2 => k1_hw64.1 k1_h2
theorem k1_off192_inb : ∀ (i : grid1.Coords) (v370 : BitVec 32) (k1_hw64 : k1_chk64 i v370), ∀ (k1_h2 : k1_cond2 i = 1#1), ∀ a, (k1_off192 i v370) a + S1x24x256.size a ≤ S32x3136x256.size a := fun i v370 k1_hw64 k1_h2 => k1_hw64.2 k1_h2

def k1_off193 (i : grid1.Coords) : Fin 1 → Nat :=
  let arg1 : BitVec 32 := BitVec.ofNat 32 (i 1).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k1_off194 (i : grid1.Coords) : Fin 3 → Nat :=
  let arg1 : BitVec 32 := BitVec.ofNat 32 (i 1).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def k1_off195 (i : grid1.Coords) : Fin 3 → Nat :=
  let arg1 : BitVec 32 := BitVec.ofNat 32 (i 1).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg1 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v67 : Index := Scalar.indexCast v16
  let c0_37 : Index := 0#32
  let c0_38 : Index := 0#32
  ![v67.toNat, 0, 0]
def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x32x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x32x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x32x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x32x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x32x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x8x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S64x256x56x56 : Shape := ⟨4, ![64, 256, 56, 56]⟩
abbrev S64x16 : Shape := ⟨2, ![64, 16]⟩
abbrev S4096x2048 : Shape := ⟨2, ![4096, 2048]⟩
abbrev S4096 : Shape := ⟨1, ![4096]⟩
abbrev S_ : Shape := ⟨0, ![]⟩
abbrev S64x8x2 : Shape := ⟨3, ![64, 8, 2]⟩
abbrev S64x8x1 : Shape := ⟨3, ![64, 8, 1]⟩
abbrev S64x8 : Shape := ⟨2, ![64, 8]⟩
abbrev S2 : Shape := ⟨1, ![2]⟩
abbrev S1x1x1x2 : Shape := ⟨4, ![1, 1, 1, 2]⟩
abbrev S64x8x1x1 : Shape := ⟨4, ![64, 8, 1, 1]⟩
abbrev S64x8x1x2 : Shape := ⟨4, ![64, 8, 1, 2]⟩
abbrev S1x1x2x1 : Shape := ⟨4, ![1, 1, 2, 1]⟩
abbrev S64x8x2x1 : Shape := ⟨4, ![64, 8, 2, 1]⟩
abbrev S64x56x56x256 : Shape := ⟨4, ![64, 56, 56, 256]⟩
abbrev S64 : Shape := ⟨1, ![64]⟩
abbrev S64x1x1x1 : Shape := ⟨4, ![64, 1, 1, 1]⟩
abbrev S64x8x2x2 : Shape := ⟨4, ![64, 8, 2, 2]⟩
abbrev S64x8x2x2x1 : Shape := ⟨5, ![64, 8, 2, 2, 1]⟩
abbrev S64x8x2x2x3 : Shape := ⟨5, ![64, 8, 2, 2, 3]⟩
abbrev S64x8x2x2x256 : Shape := ⟨5, ![64, 8, 2, 2, 256]⟩
abbrev S64x8x1x2x1 : Shape := ⟨5, ![64, 8, 1, 2, 1]⟩
abbrev S64x8x2x1x1 : Shape := ⟨5, ![64, 8, 2, 1, 1]⟩
abbrev S64x8x256 : Shape := ⟨3, ![64, 8, 256]⟩
abbrev S64x2048 : Shape := ⟨2, ![64, 2048]⟩
abbrev S2048x4096 : Shape := ⟨2, ![2048, 4096]⟩
abbrev S64x4096 : Shape := ⟨2, ![64, 4096]⟩
abbrev S1x4096 : Shape := ⟨2, ![1, 4096]⟩

abbrev nBuf : Space → Nat
  | .hbm => 276
  | .vmem => 0
  | .smem => 0
  | _ => 0

abbrev hbmTy0_0 (i : Nat) : BufTy := match i % 128 with
  | 0 => ⟨S64x256x56x56, .f32⟩
  | 1 => ⟨S64x16, .f32⟩
  | 2 => ⟨S4096x2048, .f32⟩
  | 3 => ⟨S4096, .f32⟩
  | 4 => ⟨S_, .f32⟩
  | 5 => ⟨S64x16, .f32⟩
  | 6 => ⟨S64x16, .f32⟩
  | 7 => ⟨S_, .f32⟩
  | 8 => ⟨S64x16, .f32⟩
  | 9 => ⟨S64x16, .f32⟩
  | 10 => ⟨S64x8x2, .f32⟩
  | 11 => ⟨S64x8x1, .f32⟩
  | 12 => ⟨S64x8, .f32⟩
  | 13 => ⟨S_, .f32⟩
  | 14 => ⟨S64x8, .f32⟩
  | 15 => ⟨S64x8, .f32⟩
  | 16 => ⟨S_, .f32⟩
  | 17 => ⟨S64x8, .f32⟩
  | 18 => ⟨S64x8, .f32⟩
  | 19 => ⟨S_, .f32⟩
  | 20 => ⟨S64x8, .f32⟩
  | 21 => ⟨S64x8, .f32⟩
  | 22 => ⟨S64x8x1, .f32⟩
  | 23 => ⟨S64x8, .f32⟩
  | 24 => ⟨S_, .f32⟩
  | 25 => ⟨S64x8, .f32⟩
  | 26 => ⟨S64x8, .f32⟩
  | 27 => ⟨S_, .f32⟩
  | 28 => ⟨S64x8, .f32⟩
  | 29 => ⟨S64x8, .f32⟩
  | 30 => ⟨S_, .f32⟩
  | 31 => ⟨S64x8, .f32⟩
  | 32 => ⟨S64x8, .f32⟩
  | 33 => ⟨S2, .f32⟩
  | 34 => ⟨S_, .f32⟩
  | 35 => ⟨S2, .f32⟩
  | 36 => ⟨S2, .f32⟩
  | 37 => ⟨S_, .f32⟩
  | 38 => ⟨S2, .f32⟩
  | 39 => ⟨S2, .f32⟩
  | 40 => ⟨S_, .f32⟩
  | 41 => ⟨S2, .f32⟩
  | 42 => ⟨S2, .f32⟩
  | 43 => ⟨S_, .f32⟩
  | 44 => ⟨S2, .f32⟩
  | 45 => ⟨S2, .f32⟩
  | 46 => ⟨S1x1x1x2, .f32⟩
  | 47 => ⟨S_, .f32⟩
  | 48 => ⟨S1x1x1x2, .f32⟩
  | 49 => ⟨S1x1x1x2, .f32⟩
  | 50 => ⟨S64x8x1x1, .f32⟩
  | 51 => ⟨S64x8x1x2, .f32⟩
  | 52 => ⟨S64x8x1x2, .f32⟩
  | 53 => ⟨S64x8x1x2, .f32⟩
  | 54 => ⟨S1x1x2x1, .f32⟩
  | 55 => ⟨S_, .f32⟩
  | 56 => ⟨S1x1x2x1, .f32⟩
  | 57 => ⟨S1x1x2x1, .f32⟩
  | 58 => ⟨S64x8x1x1, .f32⟩
  | 59 => ⟨S64x8x2x1, .f32⟩
  | 60 => ⟨S64x8x2x1, .f32⟩
  | 61 => ⟨S64x8x2x1, .f32⟩
  | 62 => ⟨S_, .f32⟩
  | 63 => ⟨S64x8x1x2, .f32⟩
  | 64 => ⟨S64x8x1x2, .f32⟩
  | 65 => ⟨S_, .f32⟩
  | 66 => ⟨S64x8x1x2, .f32⟩
  | 67 => ⟨S64x8x1x2, .f32⟩
  | 68 => ⟨S_, .f32⟩
  | 69 => ⟨S64x8x1x2, .f32⟩
  | 70 => ⟨S64x8x1x2, .f32⟩
  | 71 => ⟨S_, .f32⟩
  | 72 => ⟨S64x8x1x2, .f32⟩
  | 73 => ⟨S64x8x1x2, .f32⟩
  | 74 => ⟨S_, .f32⟩
  | 75 => ⟨S_, .f32⟩
  | 76 => ⟨S_, .f32⟩
  | 77 => ⟨S64x8x1x2, .f32⟩
  | 78 => ⟨S64x8x1x2, .f32⟩
  | 79 => ⟨S_, .f32⟩
  | 80 => ⟨S64x8x1x2, .f32⟩
  | 81 => ⟨S64x8x1x2, .f32⟩
  | 82 => ⟨S_, .f32⟩
  | 83 => ⟨S64x8x2x1, .f32⟩
  | 84 => ⟨S64x8x2x1, .f32⟩
  | 85 => ⟨S_, .f32⟩
  | 86 => ⟨S64x8x2x1, .f32⟩
  | 87 => ⟨S64x8x2x1, .f32⟩
  | 88 => ⟨S_, .f32⟩
  | 89 => ⟨S64x8x2x1, .f32⟩
  | 90 => ⟨S64x8x2x1, .f32⟩
  | 91 => ⟨S_, .f32⟩
  | 92 => ⟨S64x8x2x1, .f32⟩
  | 93 => ⟨S64x8x2x1, .f32⟩
  | 94 => ⟨S_, .f32⟩
  | 95 => ⟨S_, .f32⟩
  | 96 => ⟨S_, .f32⟩
  | 97 => ⟨S64x8x2x1, .f32⟩
  | 98 => ⟨S64x8x2x1, .f32⟩
  | 99 => ⟨S_, .f32⟩
  | 100 => ⟨S64x8x2x1, .f32⟩
  | 101 => ⟨S64x8x2x1, .f32⟩
  | 102 => ⟨S64x8x1x2, .f32⟩
  | 103 => ⟨S64x8x2x1, .f32⟩
  | 104 => ⟨S64x8x1x2, .f32⟩
  | 105 => ⟨S64x8x2x1, .f32⟩
  | 106 => ⟨S64x8x1x2, .i32⟩
  | 107 => ⟨S64x8x2x1, .i32⟩
  | 108 => ⟨S_, .i32⟩
  | 109 => ⟨S64x8x1x2, .i32⟩
  | 110 => ⟨S64x8x1x2, .i32⟩
  | 111 => ⟨S_, .i32⟩
  | 112 => ⟨S64x8x1x2, .i32⟩
  | 113 => ⟨S64x8x1x2, .i32⟩
  | 114 => ⟨S_, .i32⟩
  | 115 => ⟨S64x8x2x1, .i32⟩
  | 116 => ⟨S64x8x2x1, .i32⟩
  | 117 => ⟨S_, .i32⟩
  | 118 => ⟨S64x8x2x1, .i32⟩
  | 119 => ⟨S64x8x2x1, .i32⟩
  | 120 => ⟨S64x56x56x256, .f32⟩
  | 121 => ⟨S64, .i32⟩
  | 122 => ⟨S64x1x1x1, .i32⟩
  | 123 => ⟨S_, .i32⟩
  | 124 => ⟨S64x1x1x1, .i32⟩
  | 125 => ⟨S64x1x1x1, .i1⟩
  | 126 => ⟨S_, .i32⟩
  | 127 => ⟨S64x1x1x1, .i32⟩
  | _ => ⟨S64x256x56x56, .f32⟩

abbrev hbmTy0_1 (i : Nat) : BufTy := match i % 128 with
  | 0 => ⟨S64x1x1x1, .i32⟩
  | 1 => ⟨S64x1x1x1, .i32⟩
  | 2 => ⟨S_, .i32⟩
  | 3 => ⟨S64x8x2x1, .i32⟩
  | 4 => ⟨S64x8x2x1, .i1⟩
  | 5 => ⟨S_, .i32⟩
  | 6 => ⟨S64x8x2x1, .i32⟩
  | 7 => ⟨S64x8x2x1, .i32⟩
  | 8 => ⟨S64x8x2x1, .i32⟩
  | 9 => ⟨S_, .i32⟩
  | 10 => ⟨S64x8x1x2, .i32⟩
  | 11 => ⟨S64x8x1x2, .i1⟩
  | 12 => ⟨S_, .i32⟩
  | 13 => ⟨S64x8x1x2, .i32⟩
  | 14 => ⟨S64x8x1x2, .i32⟩
  | 15 => ⟨S64x8x1x2, .i32⟩
  | 16 => ⟨S64x8x2x2, .i32⟩
  | 17 => ⟨S64x8x2x2, .i32⟩
  | 18 => ⟨S64x8x2x2, .i32⟩
  | 19 => ⟨S64x8x2x2x1, .i32⟩
  | 20 => ⟨S64x8x2x2x1, .i32⟩
  | 21 => ⟨S64x8x2x2x1, .i32⟩
  | 22 => ⟨S64x8x2x2x3, .i32⟩
  | 23 => ⟨S64x8x2x2x256, .f32⟩
  | 24 => ⟨S_, .i32⟩
  | 25 => ⟨S64x1x1x1, .i32⟩
  | 26 => ⟨S64x1x1x1, .i1⟩
  | 27 => ⟨S_, .i32⟩
  | 28 => ⟨S64x1x1x1, .i32⟩
  | 29 => ⟨S64x1x1x1, .i32⟩
  | 30 => ⟨S64x1x1x1, .i32⟩
  | 31 => ⟨S_, .i32⟩
  | 32 => ⟨S64x8x2x1, .i32⟩
  | 33 => ⟨S64x8x2x1, .i1⟩
  | 34 => ⟨S_, .i32⟩
  | 35 => ⟨S64x8x2x1, .i32⟩
  | 36 => ⟨S64x8x2x1, .i32⟩
  | 37 => ⟨S64x8x2x1, .i32⟩
  | 38 => ⟨S_, .i32⟩
  | 39 => ⟨S64x8x1x2, .i32⟩
  | 40 => ⟨S64x8x1x2, .i1⟩
  | 41 => ⟨S_, .i32⟩
  | 42 => ⟨S64x8x1x2, .i32⟩
  | 43 => ⟨S64x8x1x2, .i32⟩
  | 44 => ⟨S64x8x1x2, .i32⟩
  | 45 => ⟨S64x8x2x2, .i32⟩
  | 46 => ⟨S64x8x2x2, .i32⟩
  | 47 => ⟨S64x8x2x2, .i32⟩
  | 48 => ⟨S64x8x2x2x1, .i32⟩
  | 49 => ⟨S64x8x2x2x1, .i32⟩
  | 50 => ⟨S64x8x2x2x1, .i32⟩
  | 51 => ⟨S64x8x2x2x3, .i32⟩
  | 52 => ⟨S64x8x2x2x256, .f32⟩
  | 53 => ⟨S_, .i32⟩
  | 54 => ⟨S64x1x1x1, .i32⟩
  | 55 => ⟨S64x1x1x1, .i1⟩
  | 56 => ⟨S_, .i32⟩
  | 57 => ⟨S64x1x1x1, .i32⟩
  | 58 => ⟨S64x1x1x1, .i32⟩
  | 59 => ⟨S64x1x1x1, .i32⟩
  | 60 => ⟨S_, .i32⟩
  | 61 => ⟨S64x8x2x1, .i32⟩
  | 62 => ⟨S64x8x2x1, .i1⟩
  | 63 => ⟨S_, .i32⟩
  | 64 => ⟨S64x8x2x1, .i32⟩
  | 65 => ⟨S64x8x2x1, .i32⟩
  | 66 => ⟨S64x8x2x1, .i32⟩
  | 67 => ⟨S_, .i32⟩
  | 68 => ⟨S64x8x1x2, .i32⟩
  | 69 => ⟨S64x8x1x2, .i1⟩
  | 70 => ⟨S_, .i32⟩
  | 71 => ⟨S64x8x1x2, .i32⟩
  | 72 => ⟨S64x8x1x2, .i32⟩
  | 73 => ⟨S64x8x1x2, .i32⟩
  | 74 => ⟨S64x8x2x2, .i32⟩
  | 75 => ⟨S64x8x2x2, .i32⟩
  | 76 => ⟨S64x8x2x2, .i32⟩
  | 77 => ⟨S64x8x2x2x1, .i32⟩
  | 78 => ⟨S64x8x2x2x1, .i32⟩
  | 79 => ⟨S64x8x2x2x1, .i32⟩
  | 80 => ⟨S64x8x2x2x3, .i32⟩
  | 81 => ⟨S64x8x2x2x256, .f32⟩
  | 82 => ⟨S_, .i32⟩
  | 83 => ⟨S64x1x1x1, .i32⟩
  | 84 => ⟨S64x1x1x1, .i1⟩
  | 85 => ⟨S_, .i32⟩
  | 86 => ⟨S64x1x1x1, .i32⟩
  | 87 => ⟨S64x1x1x1, .i32⟩
  | 88 => ⟨S64x1x1x1, .i32⟩
  | 89 => ⟨S_, .i32⟩
  | 90 => ⟨S64x8x2x1, .i32⟩
  | 91 => ⟨S64x8x2x1, .i1⟩
  | 92 => ⟨S_, .i32⟩
  | 93 => ⟨S64x8x2x1, .i32⟩
  | 94 => ⟨S64x8x2x1, .i32⟩
  | 95 => ⟨S64x8x2x1, .i32⟩
  | 96 => ⟨S_, .i32⟩
  | 97 => ⟨S64x8x1x2, .i32⟩
  | 98 => ⟨S64x8x1x2, .i1⟩
  | 99 => ⟨S_, .i32⟩
  | 100 => ⟨S64x8x1x2, .i32⟩
  | 101 => ⟨S64x8x1x2, .i32⟩
  | 102 => ⟨S64x8x1x2, .i32⟩
  | 103 => ⟨S64x8x2x2, .i32⟩
  | 104 => ⟨S64x8x2x2, .i32⟩
  | 105 => ⟨S64x8x2x2, .i32⟩
  | 106 => ⟨S64x8x2x2x1, .i32⟩
  | 107 => ⟨S64x8x2x2x1, .i32⟩
  | 108 => ⟨S64x8x2x2x1, .i32⟩
  | 109 => ⟨S64x8x2x2x3, .i32⟩
  | 110 => ⟨S64x8x2x2x256, .f32⟩
  | 111 => ⟨S64x8x1x2x1, .f32⟩
  | 112 => ⟨S64x8x2x1x1, .f32⟩
  | 113 => ⟨S_, .f32⟩
  | 114 => ⟨S64x8x2x1x1, .f32⟩
  | 115 => ⟨S64x8x2x1x1, .f32⟩
  | 116 => ⟨S_, .f32⟩
  | 117 => ⟨S64x8x1x2x1, .f32⟩
  | 118 => ⟨S64x8x1x2x1, .f32⟩
  | 119 => ⟨S64x8x2x2x256, .f32⟩
  | 120 => ⟨S64x8x2x2x256, .f32⟩
  | 121 => ⟨S64x8x2x2x256, .f32⟩
  | 122 => ⟨S64x8x2x2x256, .f32⟩
  | 123 => ⟨S64x8x2x2x256, .f32⟩
  | 124 => ⟨S64x8x2x2x256, .f32⟩
  | 125 => ⟨S64x8x2x2x256, .f32⟩
  | 126 => ⟨S_, .f32⟩
  | 127 => ⟨S64x8x1x2x1, .f32⟩
  | _ => ⟨S64x256x56x56, .f32⟩

abbrev hbmTy0_2 (i : Nat) : BufTy := match i % 128 with
  | 0 => ⟨S64x8x1x2x1, .f32⟩
  | 1 => ⟨S64x8x2x2x256, .f32⟩
  | 2 => ⟨S64x8x2x2x256, .f32⟩
  | 3 => ⟨S64x8x2x2x256, .f32⟩
  | 4 => ⟨S64x8x2x2x256, .f32⟩
  | 5 => ⟨S64x8x2x2x256, .f32⟩
  | 6 => ⟨S64x8x2x2x256, .f32⟩
  | 7 => ⟨S64x8x2x2x256, .f32⟩
  | 8 => ⟨S64x8x2x2x256, .f32⟩
  | 9 => ⟨S_, .f32⟩
  | 10 => ⟨S64x8x256, .f32⟩
  | 11 => ⟨S64x2048, .f32⟩
  | 12 => ⟨S2048x4096, .f32⟩
  | 13 => ⟨S64x4096, .f32⟩
  | 14 => ⟨S1x4096, .f32⟩
  | 15 => ⟨S64x4096, .f32⟩
  | 16 => ⟨S64x4096, .f32⟩
  | 17 => ⟨S_, .f32⟩
  | 18 => ⟨S64x4096, .f32⟩
  | 19 => ⟨S64x4096, .f32⟩
  | _ => ⟨S64x256x56x56, .f32⟩

abbrev hbmTy (i : Nat) : BufTy := match i / 128 with
  | 0 => hbmTy0_0 i
  | 1 => hbmTy0_1 i
  | 2 => hbmTy0_2 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_cst_18 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v52 : Ref sig .tc := ⟨.hbm, 81, rfl⟩
abbrev main_cst_19 : Ref sig .tc := ⟨.hbm, 82, rfl⟩
abbrev main_v53 : Ref sig .tc := ⟨.hbm, 83, rfl⟩
abbrev main_v54 : Ref sig .tc := ⟨.hbm, 84, rfl⟩
abbrev main_cst_20 : Ref sig .tc := ⟨.hbm, 85, rfl⟩
abbrev main_v55 : Ref sig .tc := ⟨.hbm, 86, rfl⟩
abbrev main_v56 : Ref sig .tc := ⟨.hbm, 87, rfl⟩
abbrev main_cst_21 : Ref sig .tc := ⟨.hbm, 88, rfl⟩
abbrev main_v57 : Ref sig .tc := ⟨.hbm, 89, rfl⟩
abbrev main_v58 : Ref sig .tc := ⟨.hbm, 90, rfl⟩
abbrev main_cst_22 : Ref sig .tc := ⟨.hbm, 91, rfl⟩
abbrev main_v59 : Ref sig .tc := ⟨.hbm, 92, rfl⟩
abbrev main_v60 : Ref sig .tc := ⟨.hbm, 93, rfl⟩
abbrev main_cst_23 : Ref sig .tc := ⟨.hbm, 94, rfl⟩
abbrev main_cst_24 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c : Ref sig .tc := ⟨.hbm, 108, rfl⟩
abbrev main_v68 : Ref sig .tc := ⟨.hbm, 109, rfl⟩
abbrev main_v69 : Ref sig .tc := ⟨.hbm, 110, rfl⟩
abbrev main_c_25 : Ref sig .tc := ⟨.hbm, 111, rfl⟩
abbrev main_v70 : Ref sig .tc := ⟨.hbm, 112, rfl⟩
abbrev main_v71 : Ref sig .tc := ⟨.hbm, 113, rfl⟩
abbrev main_c_26 : Ref sig .tc := ⟨.hbm, 114, rfl⟩
abbrev main_v72 : Ref sig .tc := ⟨.hbm, 115, rfl⟩
abbrev main_v73 : Ref sig .tc := ⟨.hbm, 116, rfl⟩
abbrev main_c_27 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_28 : Ref sig .tc := ⟨.hbm, 123, rfl⟩
abbrev main_v79 : Ref sig .tc := ⟨.hbm, 124, rfl⟩
abbrev main_v80 : Ref sig .tc := ⟨.hbm, 125, rfl⟩
abbrev main_c_29 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_30 : Ref sig .tc := ⟨.hbm, 130, rfl⟩
abbrev main_v84 : Ref sig .tc := ⟨.hbm, 131, rfl⟩
abbrev main_v85 : Ref sig .tc := ⟨.hbm, 132, rfl⟩
abbrev main_c_31 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_c_32 : Ref sig .tc := ⟨.hbm, 137, rfl⟩
abbrev main_v89 : Ref sig .tc := ⟨.hbm, 138, rfl⟩
abbrev main_v90 : Ref sig .tc := ⟨.hbm, 139, rfl⟩
abbrev main_c_33 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_34 : Ref sig .tc := ⟨.hbm, 152, rfl⟩
abbrev main_v102 : Ref sig .tc := ⟨.hbm, 153, rfl⟩
abbrev main_v103 : Ref sig .tc := ⟨.hbm, 154, rfl⟩
abbrev main_c_35 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_c_36 : Ref sig .tc := ⟨.hbm, 159, rfl⟩
abbrev main_v107 : Ref sig .tc := ⟨.hbm, 160, rfl⟩
abbrev main_v108 : Ref sig .tc := ⟨.hbm, 161, rfl⟩
abbrev main_c_37 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_38 : Ref sig .tc := ⟨.hbm, 166, rfl⟩
abbrev main_v112 : Ref sig .tc := ⟨.hbm, 167, rfl⟩
abbrev main_v113 : Ref sig .tc := ⟨.hbm, 168, rfl⟩
abbrev main_c_39 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_40 : Ref sig .tc := ⟨.hbm, 181, rfl⟩
abbrev main_v125 : Ref sig .tc := ⟨.hbm, 182, rfl⟩
abbrev main_v126 : Ref sig .tc := ⟨.hbm, 183, rfl⟩
abbrev main_c_41 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_c_42 : Ref sig .tc := ⟨.hbm, 188, rfl⟩
abbrev main_v130 : Ref sig .tc := ⟨.hbm, 189, rfl⟩
abbrev main_v131 : Ref sig .tc := ⟨.hbm, 190, rfl⟩
abbrev main_c_43 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_44 : Ref sig .tc := ⟨.hbm, 195, rfl⟩
abbrev main_v135 : Ref sig .tc := ⟨.hbm, 196, rfl⟩
abbrev main_v136 : Ref sig .tc := ⟨.hbm, 197, rfl⟩
abbrev main_c_45 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_c_46 : Ref sig .tc := ⟨.hbm, 210, rfl⟩
abbrev main_v148 : Ref sig .tc := ⟨.hbm, 211, rfl⟩
abbrev main_v149 : Ref sig .tc := ⟨.hbm, 212, rfl⟩
abbrev main_c_47 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_c_48 : Ref sig .tc := ⟨.hbm, 217, rfl⟩
abbrev main_v153 : Ref sig .tc := ⟨.hbm, 218, rfl⟩
abbrev main_v154 : Ref sig .tc := ⟨.hbm, 219, rfl⟩
abbrev main_c_49 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_c_50 : Ref sig .tc := ⟨.hbm, 224, rfl⟩
abbrev main_v158 : Ref sig .tc := ⟨.hbm, 225, rfl⟩
abbrev main_v159 : Ref sig .tc := ⟨.hbm, 226, rfl⟩
abbrev main_c_51 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_52 : Ref sig .tc := ⟨.hbm, 241, rfl⟩
abbrev main_v173 : Ref sig .tc := ⟨.hbm, 242, rfl⟩
abbrev main_v174 : Ref sig .tc := ⟨.hbm, 243, rfl⟩
abbrev main_cst_53 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_cst_54 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_cst_55 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_call2_cst : Ref sig .tc := ⟨.hbm, 273, rfl⟩
abbrev main_call2_v0 : Ref sig .tc := ⟨.hbm, 274, rfl⟩
abbrev main_v201 : Ref sig .tc := ⟨.hbm, 275, rfl⟩

abbrev nD : Nat := 1
abbrev τ : Topo := Topo.v7x

variable {F : FTy → Type} [FloatOps F]
-- ==== Linear.lean ====
abbrev S64x8x256 : Shape := ⟨3, ![64, 8, 256]⟩
abbrev S4096x2048 : Shape := ⟨2, ![4096, 2048]⟩
abbrev S4096 : Shape := ⟨1, ![4096]⟩
abbrev S64x2048 : Shape := ⟨2, ![64, 2048]⟩
abbrev S1x4096 : Shape := ⟨2, ![1, 4096]⟩
abbrev S64x4096 : Shape := ⟨2, ![64, 4096]⟩
abbrev S512x2048 : Shape := ⟨2, ![512, 2048]⟩
abbrev S1x512 : Shape := ⟨2, ![1, 512]⟩
abbrev S64x512 : Shape := ⟨2, ![64, 512]⟩

abbrev nBuf : Space → Nat
  | .hbm => 6
  | .vmem => 7
  | .smem => 0
  | _ => 0

abbrev bufTy : (tb : Table) → Fin (tcTables nBuf tb) → BufTy
  | .hbm, ⟨0, _⟩ => ⟨S64x8x256, .f32⟩
  | .hbm, ⟨1, _⟩ => ⟨S4096x2048, .f32⟩
  | .hbm, ⟨2, _⟩ => ⟨S4096, .f32⟩
  | .hbm, ⟨3, _⟩ => ⟨S64x2048, .f32⟩
  | .hbm, ⟨4, _⟩ => ⟨S1x4096, .f32⟩
  | .hbm, ⟨5, _⟩ => ⟨S64x4096, .f32⟩
  | .local _ .vmem, ⟨0, _⟩ => ⟨S64x2048, .f32⟩
  | .local _ .vmem, ⟨1, _⟩ => ⟨S512x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S64x512, .f32⟩
  | .local _ .vmem, ⟨6, _⟩ => ⟨S64x512, .f32⟩
  | _, _ => ⟨S64x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LinearReferenceIdeal.lean ====
abbrev S64x8x256 : Shape := ⟨3, ![64, 8, 256]⟩
abbrev S4096x2048 : Shape := ⟨2, ![4096, 2048]⟩
abbrev S4096 : Shape := ⟨1, ![4096]⟩
abbrev S64x2048 : Shape := ⟨2, ![64, 2048]⟩
abbrev S2048x4096 : Shape := ⟨2, ![2048, 4096]⟩
abbrev S64x4096 : Shape := ⟨2, ![64, 4096]⟩
abbrev S1x4096 : Shape := ⟨2, ![1, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x8x256, .f32⟩
  | .hbm, ⟨1, _⟩ => ⟨S4096x2048, .f32⟩
  | .hbm, ⟨2, _⟩ => ⟨S4096, .f32⟩
  | .hbm, ⟨3, _⟩ => ⟨S64x2048, .f32⟩
  | .hbm, ⟨4, _⟩ => ⟨S2048x4096, .f32⟩
  | .hbm, ⟨5, _⟩ => ⟨S64x4096, .f32⟩
  | .hbm, ⟨6, _⟩ => ⟨S1x4096, .f32⟩
  | .hbm, ⟨7, _⟩ => ⟨S64x4096, .f32⟩
  | .hbm, ⟨8, _⟩ => ⟨S64x4096, .f32⟩
  | .hbm, ⟨9, _⟩ => ⟨S_, .f32⟩
  | .hbm, ⟨10, _⟩ => ⟨S64x4096, .f32⟩
  | .hbm, ⟨11, _⟩ => ⟨S64x4096, .f32⟩
  | _, _ => ⟨S64x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.LinearValue.lean ====
/-
  Hand-written, untrusted. What the linear layer's kernel leaves in its result array over the extended reals: at row `r` and
  column `n` the larger of zero and the inner product of row `r` of the features with row `n` of the weights plus the bias.
-/
module

public import proofs.«01_k».proof.Defs
public import proofs.«01_k».proof.Proof.Gen.Linear.Frame
public import proofs.«01_k».proof.Proof.Gen.LinearIdeal.Value
public import proofs.«01_k».proof.Proof.Gen.LinearReferenceIdeal.Run
public import Idealize.ShloMosaic.Lib.Pipeline.Value
public import Idealize.ShloMosaic.Lib.MatmulPlain
public import Idealize.ShloMosaic.Lib.Quiescent
public import Idealize.ShloMosaic.Lib.Pointwise

@[expose] public section

noncomputable section

namespace Cert.Proof.LinearValue

open Idealize.ShloMosaic Idealize.ShloMosaic.TcCoe Idealize.SL.Sem
open Cert.LinearIdeal Cert.LinearIdeal.Gen
open Idealize.ShloMosaic.Pipeline (Dat)
open scoped BigOperators

/-- The linear layer with its rectifier, at one index. -/
def lin (x : S64x2048.Idx → EReal) (w : S4096x2048.Idx → EReal) (b : S1x4096.Idx → EReal) : S64x4096.Idx → EReal :=
  fun i => max ((∑ k : Fin 2048, x (ix2 (i 0) k) * w (ix2 (i 1) k)) + b (ix2 (0 : Fin 1) (i 1))) 0

/-- The body's payload at one index of its block. -/
theorem pay_apply (x : Vec Ideal S64x2048 .f32) (w : Vec Ideal S512x2048 .f32) (b : Vec Ideal S1x512 .f32) (i : S64x512.Idx) :
    k0_pay1 (F := Ideal) x w b i
      = max ((∑ k : Fin 2048, x (ix2 (i 0) k) * w (ix2 (i 1) k)) + b (ix2 (0 : Fin 1) (i 1)) : EReal) 0 := by
  unfold k0_pay1
  pointwise

theorem hz : (![0, 0] : Fin 2 → Nat) = fun _ => 0 := funext fun a => by fin_cases a <;> rfl

/-! ## The result array -/

variable (m : (ℓ : Loc nD τ sig) → Buf (Elt Ideal) ℓ) (ρ : Dev nD → PrngReg)

/-- What the result array is shown to hold: the layer of the three arrays that the region finds. -/
abbrev G (c : Dev nD) : S64x4096.Idx → EReal := lin (V m c main_v0) (V m c main_arg1) (V m c main_v1)

/-- The block index of each window at a point: the features do not move, the others follow the point. -/
theorem idx_facts : ∀ t : Fin cfg0.N,
    (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val) :=
  (by decide +kernel : ∀ t : Fin grid0.N,
    (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val))

/-- What point `t` writes back is block `t` of the layer. -/
theorem flushed_eq (c : Dev nD) (t : Fin cfg0.N) :
    (dats m 0 c).flushed 3 t = (win0_3.blk t).view.read (Elt Ideal) (G m c) := by
  show (cfg0.win 3).cut (grid0.coords t) ((dats m 0 c).after 3 t) = _
  rw [after0_3]
  unfold out0_3
  rw [View.canon_unit_zero hz, View.ld_unit_zero hz, View.ld_unit_zero hz, View.ld_unit_zero hz]
  funext i
  obtain ⟨⟨a0, a1⟩, ⟨b0, b1⟩, ⟨c0, c1⟩, d0, d1⟩ := idx_facts t
  refine (pay_apply _ _ _ _).trans ?_
  refine congrArg (max · (0 : EReal)) (congrArg₂ (· + ·) (Finset.sum_congr rfl fun k _ => congrArg₂ (· * ·) ?_ ?_) ?_)
  · refine congrArg (V m c main_v0) (funext fun a => Fin.ext ?_)
    match a with
    | ⟨0, _⟩ => show win0_0.index t 0 * 64 + 1 * (i 0).val = win0_3.index t 0 * 64 + 1 * (i 0).val; rw [a0, d0]
    | ⟨1, _⟩ => show win0_0.index t 1 * 2048 + 1 * k.val = k.val; rw [a1]; omega
  · refine congrArg (V m c main_arg1) (funext fun a => Fin.ext ?_)
    match a with
    | ⟨0, _⟩ => show win0_1.index t 0 * 512 + 1 * (i 1).val = win0_3.index t 1 * 512 + 1 * (i 1).val; rw [b0, d1]
    | ⟨1, _⟩ => show win0_1.index t 1 * 2048 + 1 * k.val = k.val; rw [b1]; omega
  · refine congrArg (V m c main_v1) (funext fun a => Fin.ext ?_)
    match a with
    | ⟨0, _⟩ => show win0_2.index t 0 * 1 + 1 * 0 = 0; rw [c0]
    | ⟨1, _⟩ => show win0_2.index t 1 * 512 + 1 * (i 1).val = win0_3.index t 1 * 512 + 1 * (i 1).val; rw [c1, d1]

/-- An index is in point `t`'s block exactly when its column is in the point's 512 columns. -/
theorem mem_blk (t : Fin cfg0.N) (i : S64x4096.Idx) :
    i ∈ ((cfg0.win 3).blk t).view.set ↔ t.val * 512 ≤ (i 1 : Nat) ∧ (i 1 : Nat) < t.val * 512 + 512 := by
  show i ∈ ((View.whole main_v2).slice (win0_3.rect t)).set ↔ _
  rw [View.set_slice_whole, Rect.mem_set_unit]
  have h0 : (i 0 : Nat) < 64 := (i 0).isLt
  obtain ⟨_, _, _, d0, d1⟩ := idx_facts t
  refine ⟨fun h => ?_, fun h a => ?_⟩
  · have := h 1
    change win0_3.index t 1 * 512 ≤ (i 1 : Nat) ∧ (i 1 : Nat) < win0_3.index t 1 * 512 + 512 at this
    rw [d1] at this; exact this
  · match a with
    | ⟨0, _⟩ => show win0_3.index t 0 * 64 ≤ (i 0 : Nat) ∧ (i 0 : Nat) < win0_3.index t 0 * 64 + 64
                rw [d0]; omega
    | ⟨1, _⟩ => show win0_3.index t 1 * 512 ≤ (i 1 : Nat) ∧ (i 1 : Nat) < win0_3.index t 1 * 512 + 512
                rw [d1]; exact h

/-- The eight blocks cover the result array. -/
theorem cover (i : S64x4096.Idx) :
    ∃ t : Fin cfg0.N, (cfg0.win 3).flush t = true ∧ i ∈ ((cfg0.win 3).blk t).view.set := by
  have h1 : (i 1 : Nat) < 4096 := (i 1).isLt
  have hN : cfg0.N = 8 := N_0
  refine ⟨⟨(i 1 : Nat) / 512, by omega⟩, flush0_3 _, ?_⟩
  rw [mem_blk]
  dsimp only
  omega

/-- So the result array ends holding the layer. -/
theorem final (c : Dev nD) : (dats m 0 c).arrAt 3 cfg0.N = G m c :=
  (dats m 0 c).arrAt_eq_of_cover 3 (G m c) (fun t _ => flushed_eq m c t) cover

/-- The flattened features and the bias row, as the region finds them. -/
theorem V_v0 (c : Dev nD) : V m c main_v0
    = shapeCast S64x2048 (m ((c : Thread nD τ).loc main_arg0) : Vec Ideal S64x8x256 .f32) shapeCasts_S64x8x256_S64x2048 := by
  show StableHlo.after hostOps0 _ _ = _
  unfold hostOps0
  after_results <;> rfl
theorem V_v1 (c : Dev nD) : V m c main_v1
    = shapeCast S1x4096 (m ((c : Thread nD τ).loc main_arg2) : Vec Ideal S4096 .f32) shapeCasts_S4096_S1x4096 := by
  show StableHlo.after hostOps0 _ _ = _
  unfold hostOps0
  after_results <;> rfl

/-- The layer as the reference's run spells it, of the three arguments. -/
abbrev refTerm (x : FVec Ideal S64x8x256 .f32) (w : FVec Ideal S4096x2048 .f32) (b : FVec Ideal S4096 .f32) : FVec Ideal S64x4096 .f32 :=
  maximumf (addf (Host.dotGeneral (φ₁ := .f32) (φ₂ := .f32) Cert.LinearReferenceIdeal.dot_S64x2048_S2048x4096_S64x4096_1_0_0_1_n_n none
        (shapeCast S64x2048 x shapeCasts_S64x8x256_S64x2048)
        (transpose Cert.LinearReferenceIdeal.S2048x4096 [1, 0] w
          Cert.LinearReferenceIdeal.Facts₀.transposes_S4096x2048_S2048x4096_1_0))
        (broadcastInDim S64x4096 ![0, 1] Cert.LinearReferenceIdeal.Facts₀.bcast_S1x4096_S64x4096_0_1
          (broadcastInDim S1x4096 ![1] Cert.LinearReferenceIdeal.Facts₀.bcast_S4096_S1x4096_1 b)))
      (broadcastInDim S64x4096 ![] Cert.LinearReferenceIdeal.Facts₀.bcast_S_S64x4096
        (constant (F := Ideal) Cert.LinearReferenceIdeal.S_ .f32 0x00000000#32))

/-- It is the layer of the flattened features, the weights and the bias row. -/
theorem ref_eq (x : FVec Ideal S64x8x256 .f32) (w : FVec Ideal S4096x2048 .f32) (b : FVec Ideal S4096 .f32) :
    refTerm x w b = lin (shapeCast S64x2048 x shapeCasts_S64x8x256_S64x2048) w (shapeCast S1x4096 b shapeCasts_S4096_S1x4096) := by
  funext i
  unfold lin
  pointwise

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2)
        = refTerm (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((final m c).trans (by
      unfold G; rw [V_v0, V_v1, V_main_arg1]; exact (ref_eq _ _ _).symm)), (h c).2⟩)
    (Cert.LinearIdeal.Value.run_blocks (F := Ideal) m ρ)

end Cert.Proof.LinearValue

namespace Cert.Proof.LinearClaims

open Idealize.ShloMosaic Idealize.ShloMosaic.TcCoe Idealize.SL.Sem

/-- The frames of the three programs. -/
theorem frame_k : Cert.quiescent_Linear := fun m ρ _ => Cert.Linear.Gen.frame m ρ
theorem frame_ki : Cert.quiescent_LinearIdeal := fun m ρ _ => Cert.LinearIdeal.Gen.frame m ρ
theorem frame_ri : Cert.quiescent_LinearReferenceIdeal := fun m ρ _ =>
  (θ_run Cert.LinearReferenceIdeal.defs _ _).mono (fun r h => ⟨fun c => (h c).2, sem_eq_zero_of_no_sems (by decide) r.2⟩)
    (Cert.LinearReferenceIdeal.Value.run (F := Ideal) m ρ)

/-- The kernel's layer and the reference's are one array of arguments that agree. -/
theorem algebraic : Cert.algebraic_LinearIdeal_LinearReferenceIdeal := by
  intro m ρ m' ρ' _ hagree
  refine ⟨fun c => LinearValue.refTerm (m ((c.tc : Thread _ _).loc Cert.LinearIdeal.main_arg0))
    (m ((c.tc : Thread _ _).loc Cert.LinearIdeal.main_arg1)) (m ((c.tc : Thread _ _).loc Cert.LinearIdeal.main_arg2)),
    LinearValue.run m ρ, ?_⟩
  refine (θ_run Cert.LinearReferenceIdeal.defs _ _).mono (fun _ h c => ⟨(h c).1.trans ?_, (h c).2⟩)
    (Cert.LinearReferenceIdeal.Value.run (F := Ideal) m' ρ')
  rw [(hagree c).1, (hagree c).2.1, (hagree c).2.2]

end Cert.Proof.LinearClaims

end
-- ==== Proof.PoolBody.lean ====
/-
  Hand-written, untrusted. The body of a pooling call, told once for both calls: the 32 row transfers that a point issues are
  one unit repeated, and the body is two such rounds (each under its condition), one wait, eight loads and one store.
-/
module

public import proofs.«01_k».proof.Proof.Gen.KernelIdeal.Skeleton
public import Idealize.ShloMosaic.Lib.Batch
public import Idealize.ShloMosaic.Lib.Tactic
public import Idealize.ShloMosaic.Lib.Pipeline.Kit

@[expose] public section

noncomputable section

namespace Cert.Proof.PoolBody

open Idealize.ShloMosaic Idealize.ShloMosaic.TcCoe Idealize.SL Idealize.SL.RA Idealize.SL.BI Idealize.SL.Sem
open Cert.KernelIdeal Cert.KernelIdeal.Gen

variable {F : FTy → Type} [FloatOps F]

abbrev P (α : Type) := Prog (TpuEff nD τ sig (Elt F) Λ₀ .tc) α

/-- A round: the units from `k` on, in order. -/
def steps (u : Fin 32 → P (F := F) PUnit) : (n k : ℕ) → k + n = 32 → P (F := F) PUnit
  | 0, _, _ => pure ⟨⟩
  | n + 1, k, h => do
    u ⟨k, by omega⟩
    steps u n (k + 1) (by omega)

/-- Where unit `k` of a round lands: the 24 rows from `24 * k` of a slot. -/
abbrev dstOf (arg13 : Memref sig .tc .vmem S2x768x256 .f32) (so : ℕ) (hso : so < 2) (k : Fin 32) : Memref sig .tc .vmem S24x256 .f32 :=
  (arg13.slice (Rect.unit (s := S2x768x256) ![so, 24 * k.val, 0] S1x24x256.size
    (fun a => by have := k.isLt; fin_cases a <;> simp [S1x24x256, S2x768x256] <;> omega)) (fun _ => rfl)).squeeze S24x256 squeezes_S1x24x256_S24x256

/-- What a unit reads: 24 rows of the features from a place computed from the table's word. -/
abbrev srcOf (arg11 : Memref sig .tc .hbm S32x3136x256 .f32) (off : Fin 3 → ℕ) (h : ∀ a, off a + S1x24x256.size a ≤ S32x3136x256.size a) :
    Memref sig .tc .hbm S24x256 .f32 :=
  (arg11.slice (Rect.unit (s := S32x3136x256) off S1x24x256.size h) (fun _ => rfl)).squeeze S24x256 squeezes_S1x24x256_S24x256

/-- A slot's semaphore. -/
abbrev semOf (arg14 : DmaSems sig S2) (so : ℕ) (hso : so < 2) : DmaSems sig S_ :=
  (arg14.slice (Rect.unit (s := S2) ![so] S1.size (fun a => by fin_cases a; simp [S1, S2]; omega))).squeeze S_ squeezes_S1_S_

/-- The rectangle of the table's word for unit `k`. -/
abbrev tabOf (ro : ℕ) (hro : ro < 32) (k : Fin 32) : Rect S32x32 :=
  Rect.unit (s := S32x32) ![ro, k.val] S1x1.size (fun a => by have := k.isLt; fin_cases a <;> simp [S1x1, S32x32] <;> omega)

/-- What tells one round from another: the table's row, the slot, and the side condition of the word with the place it names. -/
structure Rnd where
  ro : ℕ
  so : ℕ
  hro : ro < 32
  hso : so < 2
  chk : BitVec 32 → Prop
  dec : ∀ v, Decidable (chk v)
  off : BitVec 32 → Fin 3 → ℕ
  hoff : ∀ v, chk v → ∀ a, off v a + S1x24x256.size a ≤ S32x3136x256.size a

/-- A unit's first half: read the table's word and take its side condition. -/
def uhead (R : Rnd) (arg2 : Memref sig .tc .smem S32x32 .i32) (k : Fin 32) : P (F := F) (Σ' v : Elt F .i32, R.chk v) := do
  let v : Elt F .i32 ← smemLoad arg2 (tabOf R.ro R.hro k) numel1_S1x1 rfl
  have hw : R.chk v := (← Prog.lift (TpuEff.assume (R.chk v) (R.dec v))).down
  pure ⟨v, hw⟩

/-- A unit's second half: start the transfer from the place that the word names. -/
def utail (R : Rnd) (arg11 : Memref sig .tc .hbm S32x3136x256 .f32)
    (arg13 : Memref sig .tc .vmem S2x768x256 .f32) (arg14 : DmaSems sig S2) (k : Fin 32) (v : Elt F .i32) (hw : R.chk v) : P (F := F) PUnit :=
  Prog.lift (.enqueueDma (srcOf arg11 (R.off v) (R.hoff v hw)) (.here (dstOf arg13 R.so R.hso k)) (.dma (semOf arg14 R.so R.hso).sem)
    ((View.wordExact_bits rfl).reshape _ _) ((View.wordExact_bits rfl).reshape _ _) ⟨Or.inl rfl, trivial⟩)

/-- One unit of a round. -/
def unit (R : Rnd) (arg2 : Memref sig .tc .smem S32x32 .i32) (arg11 : Memref sig .tc .hbm S32x3136x256 .f32)
    (arg13 : Memref sig .tc .vmem S2x768x256 .f32) (arg14 : DmaSems sig S2) (k : Fin 32) : P (F := F) PUnit :=
  uhead R arg2 k >>= fun p => utail R arg11 arg13 arg14 k p.1 p.2

theorem row1 (i : grid0.Coords) (h : k0_cond1 i = 1#1) : (k0_off1 i) 0 < 32 := by
  have := k0_off1_inb i h 0; simp [S1x1, S32x32] at this; omega
theorem row2 (i : grid0.Coords) (h : k0_cond2 i = 1#1) : (k0_off65 i) 0 < 32 := by
  have := k0_off65_inb i h 0; simp [S1x1, S32x32] at this; omega
theorem slot2 (i : grid0.Coords) (h : k0_cond2 i = 1#1) : (k0_off66 i) 0 < 2 := by
  have := k0_off66_inb i h 0; simp [S1, S2] at this; omega

/-- The round of a point's own row, at the first point of a row of the grid; -/
abbrev rnd1 (i : grid0.Coords) (h1 : k0_cond1 i = 1#1) : Rnd :=
  ⟨k0_off1 i 0, 0, row1 i h1, by omega, k0_chk1 i, k0_chk1.dec i, k0_off2 i, fun v hw => k0_off2_inb i v hw h1⟩
/-- the round of the next point's row, at every point but the last. -/
abbrev rnd2 (i : grid0.Coords) (h2 : k0_cond2 i = 1#1) : Rnd :=
  ⟨k0_off65 i 0, k0_off66 i 0, row2 i h2, slot2 i h2, k0_chk33 i, k0_chk33.dec i, k0_off68 i, fun v hw => k0_off68_inb i v hw h2⟩

/-- The body as rounds. -/
def body (i : grid0.Coords) (arg2 : Memref sig .tc .smem S32x32 .i32) (harg2 : arg2.IsWhole) (arg3 : Memref sig .tc .vmem S1x32x1 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x1 .i32) (harg6 : arg6.IsWhole) (arg7 : Memref sig .tc .vmem S1x32x1 .f32) (harg7 : arg7.IsWhole) (arg8 : Memref sig .tc .vmem S1x32x1 .f32) (harg8 : arg8.IsWhole) (arg9 : Memref sig .tc .vmem S1x32x1 .f32) (harg9 : arg9.IsWhole) (arg10 : Memref sig .tc .vmem S1x32x1 .f32) (harg10 : arg10.IsWhole) (arg11 : Memref sig .tc .hbm S32x3136x256 .f32) (harg11 : arg11.IsWhole) (arg12 : Memref sig .tc .vmem S1x8x256 .f32) (harg12 : arg12.IsWhole) (arg13 : Memref sig .tc .vmem S2x768x256 .f32) (harg13 : arg13.IsWhole) (arg14 : DmaSems sig S2) : P (F := F) PUnit := do
  if h1 : k0_cond1 i = 1#1 then do
    steps (unit (rnd1 i h1) arg2 arg11 arg13 arg14) 32 0 rfl
  else do
    pure ⟨⟩
  if h2 : k0_cond2 i = 1#1 then do
    steps (unit (rnd2 i h2) arg2 arg11 arg13 arg14) 32 0 rfl
  else do
    pure ⟨⟩
  let v22 : Memref sig .tc .vmem S768x256 .f32 :=
    (arg13.slice (Rect.unit (s := S2x768x256) (k0_off194 i) S1x768x256.size (k0_off194_inb i)) (fun _ => rfl)).squeeze S768x256 squeezes_S1x768x256_S768x256
  Prog.lift (.waitDma2 ((arg14.slice (Rect.unit (s := S2) (k0_off193 i) S1.size (k0_off193_inb i))).squeeze S_ squeezes_S1_S_).sem v22 v22
    ((View.wordExact_bits rfl).reshape _ _) ((View.wordExact_bits rfl).reshape _ _))
  let v24 : Vec F S1x32x1 .i32 ← Prog.lift (.load arg3 (Rect.unit (s := S1x32x1) ![0, 0, 0] S1x32x1.size inb_S1x32x1_S1x32x1_0_0_0).toLoadRect (View.loadsAt_vmem h_S1x32x1))
  let v28 : Vec F S1x32x1 .f32 ← Prog.lift (.load arg7 (Rect.unit (s := S1x32x1) ![0, 0, 0] S1x32x1.size inb_S1x32x1_S1x32x1_0_0_0).toLoadRect (View.loadsAt_vmem h_S1x32x1))
  let v34 : Vec F S1x32x1 .i32 ← Prog.lift (.load arg4 (Rect.unit (s := S1x32x1) ![0, 0, 0] S1x32x1.size inb_S1x32x1_S1x32x1_0_0_0).toLoadRect (View.loadsAt_vmem h_S1x32x1))
  let v38 : Vec F S1x32x1 .f32 ← Prog.lift (.load arg8 (Rect.unit (s := S1x32x1) ![0, 0, 0] S1x32x1.size inb_S1x32x1_S1x32x1_0_0_0).toLoadRect (View.loadsAt_vmem h_S1x32x1))
  let v45 : Vec F S1x32x1 .i32 ← Prog.lift (.load arg5 (Rect.unit (s := S1x32x1) ![0, 0, 0] S1x32x1.size inb_S1x32x1_S1x32x1_0_0_0).toLoadRect (View.loadsAt_vmem h_S1x32x1))
  let v49 : Vec F S1x32x1 .f32 ← Prog.lift (.load arg9 (Rect.unit (s := S1x32x1) ![0, 0, 0] S1x32x1.size inb_S1x32x1_S1x32x1_0_0_0).toLoadRect (View.loadsAt_vmem h_S1x32x1))
  let v56 : Vec F S1x32x1 .i32 ← Prog.lift (.load arg6 (Rect.unit (s := S1x32x1) ![0, 0, 0] S1x32x1.size inb_S1x32x1_S1x32x1_0_0_0).toLoadRect (View.loadsAt_vmem h_S1x32x1))
  let v60 : Vec F S1x32x1 .f32 ← Prog.lift (.load arg10 (Rect.unit (s := S1x32x1) ![0, 0, 0] S1x32x1.size inb_S1x32x1_S1x32x1_0_0_0).toLoadRect (View.loadsAt_vmem h_S1x32x1))
  let v68 : Vec F S1x768x256 .f32 ← Prog.lift (.load arg13 (Rect.unit (s := S2x768x256) (k0_off195 i) S1x768x256.size (k0_off195_inb i)).toLoadRect (View.loadsAt_vmem h_S1x768x256))
  let v73 : Vec F S1x8x256 .f32 ← Prog.lift (.load arg12 (Rect.unit (s := S1x8x256) ![0, 0, 0] S1x8x256.size inb_S1x8x256_S1x8x256_0_0_0).toLoadRect (View.loadsAt_vmem h_S1x8x256))
  Prog.lift (.store arg12 (Rect.unit (s := S1x8x256) ![0, 0, 0] S1x8x256.size inb_S1x8x256_S1x8x256_0_0_0)
    (k0_pay1 (k0_pay5 (iota .tc S32x768 32 [1] iota_S32x768_d1_w32) (k0_pay2 v24) (k0_pay3 v28) (k0_pay4 (F := F)) v34 v38 v45 v49 v56 v60) (k0_pay6 v68))
    Finset.univ (View.stores_vmem_bits_univ h_S1x8x256 rfl) (.inl rfl))
  pure ⟨⟩

/-! ## The printed parts, each in units -/

section

variable (i : grid0.Coords) (arg2 : Memref sig .tc .smem S32x32 .i32) (harg2 : arg2.IsWhole) (arg3 : Memref sig .tc .vmem S1x32x1 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x1 .i32) (harg6 : arg6.IsWhole) (arg7 : Memref sig .tc .vmem S1x32x1 .f32) (harg7 : arg7.IsWhole) (arg8 : Memref sig .tc .vmem S1x32x1 .f32) (harg8 : arg8.IsWhole) (arg9 : Memref sig .tc .vmem S1x32x1 .f32) (harg9 : arg9.IsWhole) (arg10 : Memref sig .tc .vmem S1x32x1 .f32) (harg10 : arg10.IsWhole) (arg11 : Memref sig .tc .hbm S32x3136x256 .f32) (harg11 : arg11.IsWhole) (arg12 : Memref sig .tc .vmem S1x8x256 .f32) (harg12 : arg12.IsWhole) (arg13 : Memref sig .tc .vmem S2x768x256 .f32) (harg13 : arg13.IsWhole) (arg14 : DmaSems sig S2)

theorem part1 (arg0 : BitVec 32) (arg1 : BitVec 32) (k0_h1 : k0_cond1 i = 1#1) :
    k0_part1 (F := F) i arg2 harg2 arg3 harg3 arg4 harg4 arg5 harg5 arg6 harg6 arg7 harg7 arg8 harg8 arg9 harg9 arg10 harg10 arg11 harg11 arg12 harg12 arg13 harg13 arg14 arg0 arg1 k0_h1 = (do
      unit (rnd1 i k0_h1) arg2 arg11 arg13 arg14 0
      unit (rnd1 i k0_h1) arg2 arg11 arg13 arg14 1
      unit (rnd1 i k0_h1) arg2 arg11 arg13 arg14 2
      let p ← uhead (rnd1 i k0_h1) arg2 3
      pure ⟨Scalar.addi (Scalar.muli arg0 16#32) arg1, p.1, p.2⟩) := by
  rw [k0_part1_eq_skeleton]; rfl

theorem part2 (k0_h1 : k0_cond1 i = 1#1) (v77 : BitVec 32) (v106 : Elt F .i32) (k0_hw4 : k0_chk4 i v106) :
    k0_part2 (F := F) i arg2 harg2 arg3 harg3 arg4 harg4 arg5 harg5 arg6 harg6 arg7 harg7 arg8 harg8 arg9 harg9 arg10 harg10 arg11 harg11 arg12 harg12 arg13 harg13 arg14 k0_h1 v77 v106 k0_hw4 = (do
      utail (rnd1 i k0_h1) arg11 arg13 arg14 3 v106 k0_hw4
      unit (rnd1 i k0_h1) arg2 arg11 arg13 arg14 4
      unit (rnd1 i k0_h1) arg2 arg11 arg13 arg14 5
      let p ← uhead (rnd1 i k0_h1) arg2 6
      pure ⟨p.1, p.2⟩) := by
  rw [k0_part2_eq_skeleton]; rfl

theorem part3 (k0_h1 : k0_cond1 i = 1#1) (v77 : BitVec 32) (v133 : Elt F .i32) (k0_hw7 : k0_chk7 i v133) :
    k0_part3 (F := F) i arg2 harg2 arg3 harg3 arg4 harg4 arg5 harg5 arg6 harg6 arg7 harg7 arg8 harg8 arg9 harg9 arg10 harg10 arg11 harg11 arg12 harg12 arg13 harg13 arg14 k0_h1 v77 v133 k0_hw7 = (do
      utail (rnd1 i k0_h1) arg11 arg13 arg14 6 v133 k0_hw7
      unit (rnd1 i k0_h1) arg2 arg11 arg13 arg14 7
      unit (rnd1 i k0_h1) arg2 arg11 arg13 arg14 8
      unit (rnd1 i k0_h1) arg2 arg11 arg13 arg14 9
      let p ← uhead (rnd1 i k0_h1) arg2 10
      pure ⟨p.1, p.2⟩) := by
  rw [k0_part3_eq_skeleton]; rfl

theorem part4 (k0_h1 : k0_cond1 i = 1#1) (v77 : BitVec 32) (v169 : Elt F .i32) (k0_hw11 : k0_chk11 i v169) :
    k0_part4 (F := F) i arg2 harg2 arg3 harg3 arg4 harg4 arg5 harg5 arg6 harg6 arg7 harg7 arg8 harg8 arg9 harg9 arg10 harg10 arg11 harg11 arg12 harg12 arg13 harg13 arg14 k0_h1 v77 v169 k0_hw11 = (do
      utail (rnd1 i k0_h1) arg11 arg13 arg14 10 v169 k0_hw11
      unit (rnd1 i k0_h1) arg2 arg11 arg13 arg14 11
      unit (rnd1 i k0_h1) arg2 arg11 arg13 arg14 12
      let p ← uhead (rnd1 i k0_h1) arg2 13
      pure ⟨p.1, p.2⟩) := by
  rw [k0_part4_eq_skeleton]; rfl

theorem part5 (k0_h1 : k0_cond1 i = 1#1) (v77 : BitVec 32) (v196 : Elt F .i32) (k0_hw14 : k0_chk14 i v196) :
    k0_part5 (F := F) i arg2 harg2 arg3 harg3 arg4 harg4 arg5 harg5 arg6 harg6 arg7 harg7 arg8 harg8 arg9 harg9 arg10 harg10 arg11 harg11 arg12 harg12 arg13 harg13 arg14 k0_h1 v77 v196 k0_hw14 = (do
      utail (rnd1 i k0_h1) arg11 arg13 arg14 13 v196 k0_hw14
      unit (rnd1 i k0_h1) arg2 arg11 arg13 arg14 14
      unit (rnd1 i k0_h1) arg2 arg11 arg13 arg14 15
      unit (rnd1 i k0_h1) arg2 arg11 arg13 arg14 16
      let p ← uhead (rnd1 i k0_h1) arg2 17
      pure ⟨p.1, p.2⟩) := by
  rw [k0_part5_eq_skeleton]; rfl

theorem part6 (k0_h1 : k0_cond1 i = 1#1) (v77 : BitVec 32) (v232 : Elt F .i32) (k0_hw18 : k0_chk18 i v232) :
    k0_part6 (F := F) i arg2 harg2 arg3 harg3 arg4 harg4 arg5 harg5 arg6 harg6 arg7 harg7 arg8 harg8 arg9 harg9 arg10 harg10 arg11 harg11 arg12 harg12 arg13 harg13 arg14 k0_h1 v77 v232 k0_hw18 = (do
      utail (rnd1 i k0_h1) arg11 arg13 arg14 17 v232 k0_hw18
      unit (rnd1 i k0_h1) arg2 arg11 arg13 arg14 18
      unit (rnd1 i k0_h1) arg2 arg11 arg13 arg14 19
      unit (rnd1 i k0_h1) arg2 arg11 arg13 arg14 20
      pure ⟨⟩) := by
  rw [k0_part6_eq_skeleton]; rfl

theorem part7 (k0_h1 : k0_cond1 i = 1#1) (v77 : BitVec 32) :
    k0_part7 (F := F) i arg2 harg2 arg3 harg3 arg4 harg4 arg5 harg5 arg6 harg6 arg7 harg7 arg8 harg8 arg9 harg9 arg10 harg10 arg11 harg11 arg12 harg12 arg13 harg13 arg14 k0_h1 v77 = (do
      unit (rnd1 i k0_h1) arg2 arg11 arg13 arg14 21
      unit (rnd1 i k0_h1) arg2 arg11 arg13 arg14 22
      unit (rnd1 i k0_h1) arg2 arg11 arg13 arg14 23
      let p ← uhead (rnd1 i k0_h1) arg2 24
      pure ⟨p.1, p.2⟩) := by
  rw [k0_part7_eq_skeleton]; rfl

theorem part8 (k0_h1 : k0_cond1 i = 1#1) (v77 : BitVec 32) (v295 : Elt F .i32) (k0_hw25 : k0_chk25 i v295) :
    k0_part8 (F := F) i arg2 harg2 arg3 harg3 arg4 harg4 arg5 harg5 arg6 harg6 arg7 harg7 arg8 harg8 arg9 harg9 arg10 harg10 arg11 harg11 arg12 harg12 arg13 harg13 arg14 k0_h1 v77 v295 k0_hw25 = (do
      utail (rnd1 i k0_h1) arg11 arg13 arg14 24 v295 k0_hw25
      unit (rnd1 i k0_h1) arg2 arg11 arg13 arg14 25
      unit (rnd1 i k0_h1) arg2 arg11 arg13 arg14 26
      unit (rnd1 i k0_h1) arg2 arg11 arg13 arg14 27
      pure ⟨⟩) := by
  rw [k0_part8_eq_skeleton]; rfl

theorem part9 (k0_h1 : k0_cond1 i = 1#1) (v77 : BitVec 32) :
    k0_part9 (F := F) i arg2 harg2 arg3 harg3 arg4 harg4 arg5 harg5 arg6 harg6 arg7 harg7 arg8 harg8 arg9 harg9 arg10 harg10 arg11 harg11 arg12 harg12 arg13 harg13 arg14 k0_h1 v77 = (do
      unit (rnd1 i k0_h1) arg2 arg11 arg13 arg14 28
      unit (rnd1 i k0_h1) arg2 arg11 arg13 arg14 29
      unit (rnd1 i k0_h1) arg2 arg11 arg13 arg14 30
      let p ← uhead (rnd1 i k0_h1) arg2 31
      pure ⟨p.1, p.2⟩) := by
  rw [k0_part9_eq_skeleton]; rfl

theorem part10 (arg0 : BitVec 32) (arg1 : BitVec 32) (k0_h2 : k0_cond2 i = 1#1) :
    k0_part10 (F := F) i arg2 harg2 arg3 harg3 arg4 harg4 arg5 harg5 arg6 harg6 arg7 harg7 arg8 harg8 arg9 harg9 arg10 harg10 arg11 harg11 arg12 harg12 arg13 harg13 arg14 arg0 arg1 k0_h2 = (do
      unit (rnd2 i k0_h2) arg2 arg11 arg13 arg14 0
      unit (rnd2 i k0_h2) arg2 arg11 arg13 arg14 1
      let p ← uhead (rnd2 i k0_h2) arg2 2
      pure ⟨Scalar.addi (Scalar.muli arg0 16#32) (Scalar.addi arg1 1#32), p.1, p.2⟩) := by
  rw [k0_part10_eq_skeleton]; rfl

theorem part11 (k0_h2 : k0_cond2 i = 1#1) (v89 : BitVec 32) (v109 : Elt F .i32) (k0_hw35 : k0_chk35 i v109) :
    k0_part11 (F := F) i arg2 harg2 arg3 harg3 arg4 harg4 arg5 harg5 arg6 harg6 arg7 harg7 arg8 harg8 arg9 harg9 arg10 harg10 arg11 harg11 arg12 harg12 arg13 harg13 arg14 k0_h2 v89 v109 k0_hw35 = (do
      utail (rnd2 i k0_h2) arg11 arg13 arg14 2 v109 k0_hw35
      unit (rnd2 i k0_h2) arg2 arg11 arg13 arg14 3
      unit (rnd2 i k0_h2) arg2 arg11 arg13 arg14 4
      unit (rnd2 i k0_h2) arg2 arg11 arg13 arg14 5
      let p ← uhead (rnd2 i k0_h2) arg2 6
      pure ⟨p.1, p.2⟩) := by
  rw [k0_part11_eq_skeleton]; rfl

theorem part12 (k0_h2 : k0_cond2 i = 1#1) (v89 : BitVec 32) (v145 : Elt F .i32) (k0_hw39 : k0_chk39 i v145) :
    k0_part12 (F := F) i arg2 harg2 arg3 harg3 arg4 harg4 arg5 harg5 arg6 harg6 arg7 harg7 arg8 harg8 arg9 harg9 arg10 harg10 arg11 harg11 arg12 harg12 arg13 harg13 arg14 k0_h2 v89 v145 k0_hw39 = (do
      utail (rnd2 i k0_h2) arg11 arg13 arg14 6 v145 k0_hw39
      unit (rnd2 i k0_h2) arg2 arg11 arg13 arg14 7
      unit (rnd2 i k0_h2) arg2 arg11 arg13 arg14 8
      unit (rnd2 i k0_h2) arg2 arg11 arg13 arg14 9
      let p ← uhead (rnd2 i k0_h2) arg2 10
      pure ⟨p.1, p.2⟩) := by
  rw [k0_part12_eq_skeleton]; rfl

theorem part13 (k0_h2 : k0_cond2 i = 1#1) (v89 : BitVec 32) (v181 : Elt F .i32) (k0_hw43 : k0_chk43 i v181) :
    k0_part13 (F := F) i arg2 harg2 arg3 harg3 arg4 harg4 arg5 harg5 arg6 harg6 arg7 harg7 arg8 harg8 arg9 harg9 arg10 harg10 arg11 harg11 arg12 harg12 arg13 harg13 arg14 k0_h2 v89 v181 k0_hw43 = (do
      utail (rnd2 i k0_h2) arg11 arg13 arg14 10 v181 k0_hw43
      unit (rnd2 i k0_h2) arg2 arg11 arg13 arg14 11
      unit (rnd2 i k0_h2) arg2 arg11 arg13 arg14 12
      unit (rnd2 i k0_h2) arg2 arg11 arg13 arg14 13
      let p ← uhead (rnd2 i k0_h2) arg2 14
      pure ⟨p.1, p.2⟩) := by
  rw [k0_part13_eq_skeleton]; rfl

theorem part14 (k0_h2 : k0_cond2 i = 1#1) (v89 : BitVec 32) (v217 : Elt F .i32) (k0_hw47 : k0_chk47 i v217) :
    k0_part14 (F := F) i arg2 harg2 arg3 harg3 arg4 harg4 arg5 harg5 arg6 harg6 arg7 harg7 arg8 harg8 arg9 harg9 arg10 harg10 arg11 harg11 arg12 harg12 arg13 harg13 arg14 k0_h2 v89 v217 k0_hw47 = (do
      utail (rnd2 i k0_h2) arg11 arg13 arg14 14 v217 k0_hw47
      unit (rnd2 i k0_h2) arg2 arg11 arg13 arg14 15
      unit (rnd2 i k0_h2) arg2 arg11 arg13 arg14 16
      unit (rnd2 i k0_h2) arg2 arg11 arg13 arg14 17
      let p ← uhead (rnd2 i k0_h2) arg2 18
      pure ⟨p.1, p.2⟩) := by
  rw [k0_part14_eq_skeleton]; rfl

theorem part15 (k0_h2 : k0_cond2 i = 1#1) (v89 : BitVec 32) (v253 : Elt F .i32) (k0_hw51 : k0_chk51 i v253) :
    k0_part15 (F := F) i arg2 harg2 arg3 harg3 arg4 harg4 arg5 harg5 arg6 harg6 arg7 harg7 arg8 harg8 arg9 harg9 arg10 harg10 arg11 harg11 arg12 harg12 arg13 harg13 arg14 k0_h2 v89 v253 k0_hw51 = (do
      utail (rnd2 i k0_h2) arg11 arg13 arg14 18 v253 k0_hw51
      unit (rnd2 i k0_h2) arg2 arg11 arg13 arg14 19
      unit (rnd2 i k0_h2) arg2 arg11 arg13 arg14 20
      unit (rnd2 i k0_h2) arg2 arg11 arg13 arg14 21
      let p ← uhead (rnd2 i k0_h2) arg2 22
      pure ⟨p.1, p.2⟩) := by
  rw [k0_part15_eq_skeleton]; rfl

theorem part16 (k0_h2 : k0_cond2 i = 1#1) (v89 : BitVec 32) (v289 : Elt F .i32) (k0_hw55 : k0_chk55 i v289) :
    k0_part16 (F := F) i arg2 harg2 arg3 harg3 arg4 harg4 arg5 harg5 arg6 harg6 arg7 harg7 arg8 harg8 arg9 harg9 arg10 harg10 arg11 harg11 arg12 harg12 arg13 harg13 arg14 k0_h2 v89 v289 k0_hw55 = (do
      utail (rnd2 i k0_h2) arg11 arg13 arg14 22 v289 k0_hw55
      unit (rnd2 i k0_h2) arg2 arg11 arg13 arg14 23
      unit (rnd2 i k0_h2) arg2 arg11 arg13 arg14 24
      unit (rnd2 i k0_h2) arg2 arg11 arg13 arg14 25
      let p ← uhead (rnd2 i k0_h2) arg2 26
      pure ⟨p.1, p.2⟩) := by
  rw [k0_part16_eq_skeleton]; rfl

theorem part17 (k0_h2 : k0_cond2 i = 1#1) (v89 : BitVec 32) (v325 : Elt F .i32) (k0_hw59 : k0_chk59 i v325) :
    k0_part17 (F := F) i arg2 harg2 arg3 harg3 arg4 harg4 arg5 harg5 arg6 harg6 arg7 harg7 arg8 harg8 arg9 harg9 arg10 harg10 arg11 harg11 arg12 harg12 arg13 harg13 arg14 k0_h2 v89 v325 k0_hw59 = (do
      utail (rnd2 i k0_h2) arg11 arg13 arg14 26 v325 k0_hw59
      unit (rnd2 i k0_h2) arg2 arg11 arg13 arg14 27
      unit (rnd2 i k0_h2) arg2 arg11 arg13 arg14 28
      unit (rnd2 i k0_h2) arg2 arg11 arg13 arg14 29
      let p ← uhead (rnd2 i k0_h2) arg2 30
      pure ⟨p.1, p.2⟩) := by
  rw [k0_part17_eq_skeleton]; rfl

set_option maxRecDepth 65536 in
set_option maxHeartbeats 4000000 in
/-- The printed body is that. -/
theorem body_eq : cc0_roi_pool_gather (F := F) i arg2 harg2 arg3 harg3 arg4 harg4 arg5 harg5 arg6 harg6 arg7 harg7 arg8 harg8 arg9 harg9 arg10 harg10 arg11 harg11 arg12 harg12 arg13 harg13 arg14 = body (F := F) i arg2 harg2 arg3 harg3 arg4 harg4 arg5 harg5 arg6 harg6 arg7 harg7 arg8 harg8 arg9 harg9 arg10 harg10 arg11 harg11 arg12 harg12 arg13 harg13 arg14 := by
  rw [cc0_roi_pool_gather_eq_skeleton]
  unfold cc0_roi_pool_gather_skel body
  rw [k0_part18_eq_skeleton, k0_part19_eq_skeleton]
  unfold k0_part18_skel k0_part19_skel
  by_cases h1 : k0_cond1 i = 1#1 <;> by_cases h2 : k0_cond2 i = 1#1 <;> simp only [h1, h2, dite_true, dite_false, dif_neg, not_false_eq_true, dif_pos]
  · simp only [part1, part2, part3, part4, part5, part6, part7, part8, part9,
      part10, part11, part12, part13, part14, part15, part16, part17, steps, unit, bind_assoc, pure_bind, Nat.reduceAdd]
    rfl
  · simp only [part1, part2, part3, part4, part5, part6, part7, part8, part9, steps, unit, bind_assoc, pure_bind, Nat.reduceAdd]
    rfl
  · simp only [part10, part11, part12, part13, part14, part15, part16, part17, steps, unit, bind_assoc, pure_bind, Nat.reduceAdd]
    rfl
  · rfl

end

/-- The second call's body is the first's. -/
theorem body_eq1 : cc1_roi_pool_gather (F := F) = cc0_roi_pool_gather (F := F) := by
  rw [cc1_roi_pool_gather_eq_skeleton, cc0_roi_pool_gather_eq_skeleton]; rfl

end Cert.Proof.PoolBody
-- ==== Proof.PoolWp.lean ====
/-
  Hand-written, untrusted. A round of a pooling call run once: 32 transfers started on one semaphore as one batch, what the
  batch delivers told in advance as parts of one filled slot.
-/
module

public import proofs.«01_k».proof.Proof.PoolBody
public import Idealize.ShloMosaic.Lib.ValueIdxCore
public import Idealize.ShloMosaic.Lib.Pipeline.Value

@[expose] public section

noncomputable section

namespace Cert.Proof.PoolWp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.PoolBody

variable {F : FTy → Type} [FloatOps F]

/-- The resource algebra: the rounds of the pipelines, and the counters of the batches beside them. -/
abbrev UU : Type := UR sig nD τ × Counters

local notation "𝕄" => MT nD τ sig Unit (Elt F) ℕ UU ℕ

abbrev EC : UEmb Counters 𝕄 := countersEmb (U := UU)

/-- What slot rows hold once a round for the table's row `ro` has landed. -/
def filled (T : S32x32.Idx → BitVec 32) (X : S32x3136x256.Idx → Elt F .f32) (ro : Fin 32) : S2x768x256.Idx → Elt F .f32 := fun i =>
  X (ValueIdx.ix3 (n0 := 32) (n1 := 3136) (n2 := 256) ro
    ⟨((T (ValueIdx.ix2 (n0 := 32) (n1 := 32) ro ⟨(i 1).val / 24, by have : (i 1).val < 768 := (i 1).isLt; omega⟩)).toNat + (i 1).val % 24) % 3136, Nat.mod_lt _ (by omega)⟩
    ⟨(i 2).val, (i 2).isLt⟩)

theorem ret_bind' {E : Type → Type} {α β : Type} (a : α) (k : α → Prog E β) : (Prog.ret a).bind k = k a := rfl

variable (c : Dev nD) (R : Rnd) (arg2 : Memref sig .tc .smem S32x32 .i32) (arg11 : Memref sig .tc .hbm S32x3136x256 .f32)
    (arg13 : Memref sig .tc .vmem S2x768x256 .f32) (arg14 : DmaSems sig S2)

/-- The table's word for unit `k` of a row. -/
theorem word_eq (fT : Buf (Elt F) (arg2.view.loc (c : Thread nD τ))) (ro : ℕ) (hro : ro < 32) (k : Fin 32) (x) :
    (arg2.access (tabOf ro hro k)).read (Elt F) fT x = arg2.view.read (Elt F) fT (ValueIdx.ix2 (n0 := 32) (n1 := 32) ⟨ro, hro⟩ k) := by
  show arg2.view.read (Elt F) fT ((tabOf ro hro k).emb x) = _
  congr 1
  funext a
  have h0 := (x a).isLt
  apply Fin.ext
  rw [Rect.emb_apply]
  fin_cases a <;> simp [S1x1] at h0 ⊢ <;> omega

/-- A landed unit is its part of the filled slot. -/
theorem landed (fx : Buf (Elt F) (arg11.view.loc (c : Thread nD τ))) (T : S32x32.Idx → BitVec 32) (ro : Fin 32) (so : ℕ) (hso : so < 2) (k : Fin 32)
    (off : Fin 3 → ℕ) (hoff) (he : off = ![ro.val, (T (ValueIdx.ix2 (n0 := 32) (n1 := 32) ro k)).toNat, 0])
    (f g : Buf (Elt F) (arg13.view.loc (c : Thread nD τ))) :
    ∀ i ∈ (dstOf arg13 so hso k).view.set,
      (dstOf arg13 so hso k).view.write (Elt F) f (ReadAs.same.apply ((srcOf arg11 off hoff).view.read (Elt F) fx)) Finset.univ i
        = arg13.view.write (Elt F) g (filled T (arg11.view.read (Elt F) fx) ro) Finset.univ i := by
  subst he
  intro i hi
  obtain ⟨x, -, rfl⟩ := Finset.mem_map.mp hi
  rw [View.write_emb_of_mem _ _ (Finset.mem_univ _)]
  generalize hy : (Shape.reshapeEquiv squeezes_S1x24x256_S24x256.numel_eq x : S1x24x256.Idx) = y
  have e1 : (dstOf arg13 so hso k).view.emb x = arg13.view.emb ((Rect.unit (s := S2x768x256) ![so, 24 * k.val, 0] S1x24x256.size
    (fun a => by have := k.isLt; fin_cases a <;> simp [S1x24x256, S2x768x256] <;> omega)).emb y) := by rw [← hy]; rfl
  rw [e1, View.write_emb_of_mem _ _ (Finset.mem_univ _)]
  have e2 : (ReadAs.same.apply ((srcOf arg11 _ hoff).view.read (Elt F) fx)) x
      = arg11.view.read (Elt F) fx ((Rect.unit (s := S32x3136x256) _ S1x24x256.size hoff).emb y) := by rw [← hy]; rfl
  rw [e2]
  congr 1
  unfold filled
  congr 1
  have hk := k.isLt
  have h0 : (y 0).val < 1 := (y 0).isLt
  have h1 : (y 1).val < 24 := (y 1).isLt
  have h2 : (T (ValueIdx.ix2 (n0 := 32) (n1 := 32) ro k)).toNat + 24 ≤ 3136 := hoff 1
  have hd : ∀ a, (((Rect.unit (s := S2x768x256) ![so, 24 * k.val, 0] S1x24x256.size
    (fun a => by have := k.isLt; fin_cases a <;> simp [S1x24x256, S2x768x256] <;> omega)).emb y) a).val = (![so, 24 * k.val, 0] : Fin 3 → ℕ) a + 1 * (y a).val := fun a => rfl
  have hd1 := hd 1
  have hd2 := hd 2
  simp only [Matrix.cons_val_one, Matrix.cons_val_zero, Matrix.cons_val, one_mul] at hd1 hd2
  have hq : (24 * k.val + (y 1).val) / 24 = k.val := by omega
  have hm : (24 * k.val + (y 1).val) % 24 = (y 1).val := by omega
  funext a
  apply Fin.ext
  rw [Rect.emb_apply]
  fin_cases a
  · show ro.val + 1 * (y 0).val = ro.val
    omega
  · show (T (ValueIdx.ix2 (n0 := 32) (n1 := 32) ro k)).toNat + 1 * (y 1).val = _ % 3136
    simp only [hd1, hq, hm, Fin.eta]
    rw [Nat.mod_eq_of_lt (by omega)]
    omega
  · show 0 + 1 * (y 2).val = _
    simp only [hd2]
    omega

/-- A part of a slot, by its unit. -/
abbrev part (so : ℕ) (hso : so < 2) (k : Fin 32) : Finset (Idx (arg13.view.loc (c : Thread nD τ))) := (dstOf arg13 so hso k).view.set

/-- What unit `k` of a round delivers: its part of the slot at the filled contents `g`, and the rows it read back. -/
def deliv (q : PosShare TreeShare) (so : ℕ) (hso : so < 2) (g : Buf (Elt F) (arg13.view.loc (c : Thread nD τ))) (fx : Buf (Elt F) (arg11.view.loc (c : Thread nD τ)))
    (S : Fin 32 → Finset (Idx (arg11.view.loc (c : Thread nD τ)))) (k : Fin 32) : sProp 𝕄 :=
  iprop((arg13.view.loc (c : Thread nD τ) ↦[part c arg13 so hso k]{fullShare} g)
    ∗ (arg11.view.loc (c : Thread nD τ) ↦[S k]{Transfers.shareTok q 32 k} fx))

instance deliv_storable (q : PosShare TreeShare) (so : ℕ) (hso : so < 2) (g : Buf (Elt F) (arg13.view.loc (c : Thread nD τ))) (fx : Buf (Elt F) (arg11.view.loc (c : Thread nD τ)))
    (S : Fin 32 → Finset (Idx (arg11.view.loc (c : Thread nD τ)))) (k : Fin 32) :
    Storable (upEmb : UEmb _ 𝕄) (deliv c arg11 arg13 q so hso g fx S k) := by
  unfold deliv; infer_instance

/-- What a unit needs of its own: its part of the slot, and its share of the features. -/
def need (q : PosShare TreeShare) (so : ℕ) (hso : so < 2) (f : Buf (Elt F) (arg13.view.loc (c : Thread nD τ))) (fx : Buf (Elt F) (arg11.view.loc (c : Thread nD τ)))
    (k : Fin 32) : sProp 𝕄 :=
  iprop((arg13.view.loc (c : Thread nD τ) ↦[part c arg13 so hso k]{fullShare} f)
    ∗ (arg11.view.loc (c : Thread nD τ) ↦{Transfers.shareTok q 32 k} fx))

/-- What stays outside of a unit's transfer: its share of the features but for the rows it reads. -/
def rest (q : PosShare TreeShare) (fx : Buf (Elt F) (arg11.view.loc (c : Thread nD τ)))
    (S : Fin 32 → Finset (Idx (arg11.view.loc (c : Thread nD τ)))) (k : Fin 32) : sProp 𝕄 :=
  iprop(arg11.view.loc (c : Thread nD τ) ↦[Finset.univ \ S k]{Transfers.shareTok q 32 k} fx)

/-- The units issued before `k`. -/
def issued (k : ℕ) : Finset (Fin 32) := Finset.univ.filter fun t => t.val < k

theorem issued_succ {k : ℕ} (hk : k < 32) : issued (k + 1) = insert ⟨k, hk⟩ (issued k) := by
  ext t; simp only [issued, Finset.mem_filter, Finset.mem_univ, true_and, Finset.mem_insert, Fin.ext_iff]; omega
theorem not_mem_issued {k : ℕ} (hk : k < 32) : (⟨k, hk⟩ : Fin 32) ∉ issued k := by simp [issued]

/-- The word of a round's unit, as the body reads it. -/
abbrev word (fT : Buf (Elt F) (arg2.view.loc (c : Thread nD τ))) (k : Fin 32) : BitVec 32 :=
  arg2.view.read (Elt F) fT (ValueIdx.ix2 (n0 := 32) (n1 := 32) ⟨R.ro, R.hro⟩ k)

/-- A round's words keep their side conditions, and name the places they should. -/
structure Good (fT : Buf (Elt F) (arg2.view.loc (c : Thread nD τ))) : Prop where
  chk : ∀ k, R.chk (word c R arg2 fT k)
  off : ∀ v, R.off v = ![R.ro, v.toNat, 0]

/-- The rows a unit reads. -/
def rows (fT : Buf (Elt F) (arg2.view.loc (c : Thread nD τ))) (hG : Good c R arg2 fT) (k : Fin 32) : Finset (Idx (arg11.view.loc (c : Thread nD τ))) :=
  (srcOf arg11 (R.off (word c R arg2 fT k)) (R.hoff _ (hG.chk k))).view.set

/-- The slot filled, over any contents. -/
abbrev full (fT : Buf (Elt F) (arg2.view.loc (c : Thread nD τ))) (fx : Buf (Elt F) (arg11.view.loc (c : Thread nD τ))) (g : Buf (Elt F) (arg13.view.loc (c : Thread nD τ))) (ro : Fin 32) :
    Buf (Elt F) (arg13.view.loc (c : Thread nD τ)) :=
  arg13.view.write (Elt F) g (filled (arg2.view.read (Elt F) fT) (arg11.view.read (Elt F) fx) ro) Finset.univ

/-- A unit unrolled to its first two statements; -/
theorem unit_bind {α : Type} (k : Fin 32) (K : PUnit → P (F := F) α) :
    (unit R arg2 arg11 arg13 arg14 k >>= K)
      = smemLoadElt arg2 (tabOf R.ro R.hro k) (View.loads_smem_one rfl numel1_S1x1) (Shape.Idx.first (numel1_S1x1.symm ▸ Nat.one_pos)) fun v =>
          .op (.assume (R.chk v) (R.dec v)) fun hw => utail R arg11 arg13 arg14 k v hw.down >>= K := rfl

/-- its last one. -/
theorem utail_bind {α : Type} (k : Fin 32) (v : BitVec 32) (hw : R.chk v) (K : PUnit → P (F := F) α) :
    (utail R arg11 arg13 arg14 k v hw >>= K)
      = .op (.enqueueDmaAs (srcOf arg11 (R.off v) (R.hoff v hw)) (.here (dstOf arg13 R.so R.hso k)) .same (.dma (semOf arg14 R.so R.hso).sem)
          ((View.wordExact_bits rfl).reshape _ _) ((View.wordExact_bits rfl).reshape _ _) ⟨Or.inl rfl, trivial⟩) K := rfl

/-- One unit: the word is read, its side condition holds, its transfer joins the batch. -/
theorem wp_unit {α : Type} (fT : Buf (Elt F) (arg2.view.loc (c : Thread nD τ))) (fx : Buf (Elt F) (arg11.view.loc (c : Thread nD τ)))
    (f g : Buf (Elt F) (arg13.view.loc (c : Thread nD τ))) (hG : Good c R arg2 fT) (qt q : PosShare TreeShare) (N : ℕ)
    (hN : ∀ k, (dstOf arg13 R.so R.hso k).view.dmaCredit = N) (k : ℕ) (hk : k < 32) (K : PUnit → P (F := F) α) (Q : α → sProp 𝕄) :
    iprop((arg2.view.loc (c : Thread nD τ) ↦{qt} fT) ∗ need c arg11 arg13 q R.so R.hso f fx ⟨k, hk⟩
        ∗ Transfers.Batch EC (c : Thread nD τ) (.dma (semOf arg14 R.so R.hso).sem) () N
            (deliv c arg11 arg13 q R.so R.hso (full c arg2 arg11 arg13 fT fx g ⟨R.ro, R.hro⟩) fx (rows c R arg2 arg11 fT hG)) k 0)
      ⊢ iprop((iprop((arg2.view.loc (c : Thread nD τ) ↦{qt} fT) ∗ rest c arg11 q fx (rows c R arg2 arg11 fT hG) ⟨k, hk⟩
        ∗ Transfers.Batch EC (c : Thread nD τ) (.dma (semOf arg14 R.so R.hso).sem) () N
            (deliv c arg11 arg13 q R.so R.hso (full c arg2 arg11 arg13 fT fx g ⟨R.ro, R.hro⟩) fx (rows c R arg2 arg11 fT hG)) (k + 1) 0)
          -∗ wp frame (wpE (defs₀ (F := F)) Variants.none (c : Thread nD τ) none) Set.univ (K ⟨⟩) Q)
        -∗ wp frame (wpE (defs₀ (F := F)) Variants.none (c : Thread nD τ) none) Set.univ (unit R arg2 arg11 arg13 arg14 ⟨k, hk⟩ >>= K) Q) := by
  unfold need
  iintro ⟨HT, ⟨Hd, Hs⟩, HB⟩ Hk
  ihave Hs' := (pointsTo_split_subset (Finset.subset_univ (rows c R arg2 arg11 fT hG ⟨k, hk⟩))).1 $$ Hs
  icases Hs' with ⟨Hs, Hr⟩
  rw [unit_bind]
  iapply (wp_smemLoadElt Variants.none (c : Thread nD τ) none Set.univ (m := arg2) (r := tabOf R.ro R.hro ⟨k, hk⟩) (Finset.subset_univ _)) $$ HT
  iintro HT
  rw [word_eq c arg2 fT R.ro R.hro ⟨k, hk⟩]
  iapply (wp_assume Variants.none (c : Thread nD τ) none Set.univ (hG.chk ⟨k, hk⟩))
  rw [utail_bind]
  iapply (Transfers.wp_dmaBatch EC Variants.none (c : Thread nD τ) none (src := srcOf arg11 (R.off (word c R arg2 fT ⟨k, hk⟩)) (R.hoff _ (hG.chk ⟨k, hk⟩)))
    (dst := dstOf arg13 R.so R.hso ⟨k, hk⟩) (sm := .dma (semOf arg14 R.so R.hso).sem) () N (hN ⟨k, hk⟩) subset_rfl
    (D := deliv c arg11 arg13 q R.so R.hso (full c arg2 arg11 arg13 fT fx g ⟨R.ro, R.hro⟩) fx (rows c R arg2 arg11 fT hG))
    (j := k) (u := 0) hk (Nat.zero_le _) (by
      unfold deliv
      rw [pointsTo_congr (landed c arg11 arg13 fx (arg2.view.read (Elt F) fT) ⟨R.ro, R.hro⟩ R.so R.hso ⟨k, hk⟩ _ (R.hoff _ (hG.chk ⟨k, hk⟩)) (hG.off _) f g)]
      exact .rfl)) $$ [Hs Hd HB]
  · isplitl [Hs]; · iexact Hs
    isplitl [Hd]; · iexact Hd
    iexact HB
  iintro HB
  iapply Hk
  isplitl [HT]; · iexact HT
  isplitl [Hr]; · unfold rest; iexact Hr
  iexact HB

/-- The units from `k` on: each joins the batch in turn. -/
theorem wp_steps {α : Type} (fT : Buf (Elt F) (arg2.view.loc (c : Thread nD τ))) (fx : Buf (Elt F) (arg11.view.loc (c : Thread nD τ)))
    (f g : Buf (Elt F) (arg13.view.loc (c : Thread nD τ))) (hG : Good c R arg2 fT) (qt q : PosShare TreeShare) (N : ℕ)
    (hN : ∀ k, (dstOf arg13 R.so R.hso k).view.dmaCredit = N) (K : PUnit → P (F := F) α) (Q : α → sProp 𝕄) :
    ∀ (n k : ℕ) (hk : k + n = 32),
    iprop((arg2.view.loc (c : Thread nD τ) ↦{qt} fT) ∗ bigSep (Transfers.pending k) (need c arg11 arg13 q R.so R.hso f fx)
        ∗ bigSep (issued k) (rest c arg11 q fx (rows c R arg2 arg11 fT hG))
        ∗ Transfers.Batch EC (c : Thread nD τ) (.dma (semOf arg14 R.so R.hso).sem) () N
            (deliv c arg11 arg13 q R.so R.hso (full c arg2 arg11 arg13 fT fx g ⟨R.ro, R.hro⟩) fx (rows c R arg2 arg11 fT hG)) k 0)
      ⊢ iprop((iprop((arg2.view.loc (c : Thread nD τ) ↦{qt} fT) ∗ bigSep Finset.univ (rest c arg11 q fx (rows c R arg2 arg11 fT hG))
        ∗ Transfers.Batch EC (c : Thread nD τ) (.dma (semOf arg14 R.so R.hso).sem) () N
            (deliv c arg11 arg13 q R.so R.hso (full c arg2 arg11 arg13 fT fx g ⟨R.ro, R.hro⟩) fx (rows c R arg2 arg11 fT hG)) 32 0)
          -∗ wp frame (wpE (defs₀ (F := F)) Variants.none (c : Thread nD τ) none) Set.univ (K ⟨⟩) Q)
        -∗ wp frame (wpE (defs₀ (F := F)) Variants.none (c : Thread nD τ) none) Set.univ (steps (unit R arg2 arg11 arg13 arg14) n k hk >>= K) Q)
  | 0, k, hk => by
    obtain rfl : k = 32 := by omega
    have hi : issued 32 = Finset.univ := Finset.filter_true_of_mem fun t _ => t.isLt
    rw [hi]
    iintro ⟨HT, -, Hr, HB⟩ Hk
    iapply Hk
    isplitl [HT]; · iexact HT
    isplitl [Hr]; · iexact Hr
    iexact HB
  | n + 1, k, hk => by
    have hk' : k < 32 := by omega
    rw [Transfers.bigSep_pending_step _ k hk']
    show _ ⊢ iprop(_ -∗ wp frame (wpE (defs₀ (F := F)) Variants.none (c : Thread nD τ) none) Set.univ
      (unit R arg2 arg11 arg13 arg14 ⟨k, hk'⟩ >>= fun _ => steps (unit R arg2 arg11 arg13 arg14) n (k + 1) (by omega) >>= K) Q)
    have hi : (bigSep (issued (k + 1)) (rest c arg11 q fx (rows c R arg2 arg11 fT hG)) : sProp 𝕄)
        = iprop(rest c arg11 q fx (rows c R arg2 arg11 fT hG) ⟨k, hk'⟩ ∗ bigSep (issued k) (rest c arg11 q fx (rows c R arg2 arg11 fT hG))) := by
      rw [issued_succ hk', bigSep_insert (not_mem_issued hk')]; rfl
    iintro ⟨HT, ⟨Hn, Hp⟩, Hr, HB⟩ Hk
    iapply (wp_unit c R arg2 arg11 arg13 arg14 fT fx f g hG qt q N hN k hk') $$ [HT Hn HB]
    · isplitl [HT]; · iexact HT
      isplitl [Hn]; · iexact Hn
      iexact HB
    iintro ⟨HT, Hn, HB⟩
    iapply (wp_steps fT fx f g hG qt q N hN K Q n (k + 1) _) $$ [HT Hp Hr Hn HB]
    · isplitl [HT]; · iexact HT
      isplitl [Hp]; · iexact Hp
      isplitl [Hr Hn]
      · rw [hi]
        isplitl [Hn]; · iexact Hn
        iexact Hr
      iexact HB
    iexact Hk

/-- Different units of a slot land apart. -/
theorem part_disjoint (so so' : ℕ) (hso : so < 2) (hso' : so' < 2) (k k' : Fin 32) (h : so ≠ so' ∨ k ≠ k') :
    Disjoint (part c arg13 so hso k) (part c arg13 so' hso' k') := by
  rw [Finset.disjoint_left]
  intro i hi hi'
  obtain ⟨x, -, rfl⟩ := Finset.mem_map.mp hi
  obtain ⟨x', -, he⟩ := Finset.mem_map.mp hi'
  generalize hy : (Shape.reshapeEquiv squeezes_S1x24x256_S24x256.numel_eq x : S1x24x256.Idx) = y
  generalize hy' : (Shape.reshapeEquiv squeezes_S1x24x256_S24x256.numel_eq x' : S1x24x256.Idx) = y'
  have e := arg13.view.emb.injective (show arg13.view.emb ((Rect.unit (s := S2x768x256) ![so', 24 * k'.val, 0] S1x24x256.size
    (fun a => by have := k'.isLt; fin_cases a <;> simp [S1x24x256, S2x768x256] <;> omega)).emb y') = arg13.view.emb ((Rect.unit (s := S2x768x256) ![so, 24 * k.val, 0] S1x24x256.size
    (fun a => by have := k.isLt; fin_cases a <;> simp [S1x24x256, S2x768x256] <;> omega)).emb y) by rw [← hy, ← hy']; exact he)
  have e0 : so' + 1 * (y' 0).val = so + 1 * (y 0).val := congrArg Fin.val (congrFun e 0)
  have e1 : 24 * k'.val + 1 * (y' 1).val = 24 * k.val + 1 * (y 1).val := congrArg Fin.val (congrFun e 1)
  have h0 : (y 0).val < 1 := (y 0).isLt
  have h0' : (y' 0).val < 1 := (y' 0).isLt
  have h1 : (y 1).val < 24 := (y 1).isLt
  have h1' : (y' 1).val < 24 := (y' 1).isLt
  rcases h with h | h
  · omega
  · exact h (Fin.ext (by omega))

/-- A slot's elements. -/
def slot (so : ℕ) (hso : so < 2) : Finset (Idx (arg13.view.loc (c : Thread nD τ))) := Finset.univ.biUnion (part c arg13 so hso)

theorem slot_eq (q : PosShare TreeShare) (so : ℕ) (hso : so < 2) (f : Buf (Elt F) (arg13.view.loc (c : Thread nD τ))) :
    (arg13.view.loc (c : Thread nD τ) ↦[slot c arg13 so hso]{q} f : sProp 𝕄)
      = bigSep Finset.univ fun k => arg13.view.loc (c : Thread nD τ) ↦[part c arg13 so hso k]{q} f :=
  pointsTo_biUnion _ _ fun k _ k' _ h => part_disjoint c arg13 so so hso hso k k' (Or.inr h)

theorem slot_disjoint (so so' : ℕ) (hso : so < 2) (hso' : so' < 2) (h : so ≠ so') : Disjoint (slot c arg13 so hso) (slot c arg13 so' hso') := by
  unfold slot
  rw [Finset.disjoint_biUnion_left]
  intro k _
  rw [Finset.disjoint_biUnion_right]
  intro k' _
  exact part_disjoint c arg13 so so' hso hso' k k' (Or.inl h)

/-- The index of a slot's row and column is among the slot's elements. -/
theorem mem_slot (so : ℕ) (hso : so < 2) (j : S2x768x256.Idx) (hj : (j 0).val = so) : arg13.view.emb j ∈ slot c arg13 so hso := by
  have hj1 : (j 1).val < 768 := (j 1).isLt
  unfold slot
  refine Finset.mem_biUnion.mpr ⟨⟨(j 1).val / 24, by omega⟩, Finset.mem_univ _, ?_⟩
  let y : S1x24x256.Idx := ValueIdx.ix3 (n0 := 1) (n1 := 24) (n2 := 256) 0 ⟨(j 1).val % 24, Nat.mod_lt _ (by omega)⟩ (j 2)
  refine Finset.mem_map.mpr ⟨(Shape.reshapeEquiv squeezes_S1x24x256_S24x256.numel_eq).symm y, Finset.mem_univ _, ?_⟩
  show arg13.view.emb ((Rect.unit (s := S2x768x256) ![so, 24 * ((j 1).val / 24), 0] S1x24x256.size _).emb
    (Shape.reshapeEquiv squeezes_S1x24x256_S24x256.numel_eq ((Shape.reshapeEquiv squeezes_S1x24x256_S24x256.numel_eq).symm y))) = _
  rw [Equiv.apply_symm_apply]
  congr 1
  funext a
  apply Fin.ext
  rw [Rect.emb_apply]
  fin_cases a
  · show so + 1 * 0 = (j 0).val
    omega
  · show 24 * ((j 1).val / 24) + 1 * ((j 1).val % 24) = (j 1).val
    omega
  · show 0 + 1 * (j 2).val = (j 2).val
    omega

/-- A slot at rest: its elements at some contents, its semaphore at zero, its share of the features; -/
def Free (q : PosShare TreeShare) (so : ℕ) (hso : so < 2) (fx : Buf (Elt F) (arg11.view.loc (c : Thread nD τ))) : sProp 𝕄 :=
  iprop((∃ f, arg13.view.loc (c : Thread nD τ) ↦[slot c arg13 so hso]{fullShare} f) ∗ semVal ((c : Thread nD τ), SemLoc.dma (semOf arg14 so hso).sem) 0
    ∗ (arg11.view.loc (c : Thread nD τ) ↦{q} fx))

/-- a slot filled; -/
def Filled (q : PosShare TreeShare) (so : ℕ) (hso : so < 2) (fT : Buf (Elt F) (arg2.view.loc (c : Thread nD τ))) (fx : Buf (Elt F) (arg11.view.loc (c : Thread nD τ)))
    (ro : Fin 32) : sProp 𝕄 :=
  iprop((∃ g, arg13.view.loc (c : Thread nD τ) ↦[slot c arg13 so hso]{fullShare} full c arg2 arg11 arg13 fT fx g ro)
    ∗ semVal ((c : Thread nD τ), SemLoc.dma (semOf arg14 so hso).sem) 0 ∗ (arg11.view.loc (c : Thread nD τ) ↦{q} fx))

/-- a slot in flight towards the table's row `ro`. -/
def Flight (q : PosShare TreeShare) (N : ℕ) (so : ℕ) (hso : so < 2) (fT : Buf (Elt F) (arg2.view.loc (c : Thread nD τ))) (fx : Buf (Elt F) (arg11.view.loc (c : Thread nD τ)))
    (ro : Fin 32) : sProp 𝕄 :=
  iprop(∃ (S : Fin 32 → Finset (Idx (arg11.view.loc (c : Thread nD τ)))) (g : Buf (Elt F) (arg13.view.loc (c : Thread nD τ))),
    Transfers.Batch EC (c : Thread nD τ) (.dma (semOf arg14 so hso).sem) () N (deliv c arg11 arg13 q so hso (full c arg2 arg11 arg13 fT fx g ro) fx S) 32 0
    ∗ bigSep Finset.univ (rest c arg11 q fx S) ∗ (arg11.view.loc (c : Thread nD τ) ↦{Transfers.shareDrop q 32} fx))

/-- A round: a slot at rest goes in flight. -/
theorem wp_round {α : Type} (fT : Buf (Elt F) (arg2.view.loc (c : Thread nD τ))) (fx : Buf (Elt F) (arg11.view.loc (c : Thread nD τ)))
    (hG : Good c R arg2 fT) (qt q : PosShare TreeShare) (N : ℕ)
    (hN : ∀ k, (dstOf arg13 R.so R.hso k).view.dmaCredit = N) (K : PUnit → P (F := F) α) (Q : α → sProp 𝕄) :
    iprop((arg2.view.loc (c : Thread nD τ) ↦{qt} fT) ∗ Free c arg11 arg13 arg14 q R.so R.hso fx)
      ⊢ iprop((iprop((arg2.view.loc (c : Thread nD τ) ↦{qt} fT) ∗ Flight c arg2 arg11 arg13 arg14 q N R.so R.hso fT fx ⟨R.ro, R.hro⟩)
          -∗ wp frame (wpE (defs₀ (F := F)) Variants.none (c : Thread nD τ) none) Set.univ (K ⟨⟩) Q)
        -∗ wp frame (wpE (defs₀ (F := F)) Variants.none (c : Thread nD τ) none) Set.univ (steps (unit R arg2 arg11 arg13 arg14) 32 0 rfl >>= K) Q) := by
  unfold Free
  iintro ⟨HT, ⟨%f, Hd⟩, Hv, Hs⟩ Hk
  imod (Transfers.batch_alloc' (Lvl := ℕ) EC (c : Thread nD τ) () N
    (deliv c arg11 arg13 q R.so R.hso (full c arg2 arg11 arg13 fT fx f ⟨R.ro, R.hro⟩) fx (rows c R arg2 arg11 fT hG))
    (sm := .dma (semOf arg14 R.so R.hso).sem) (E := Set.univ)) $$ Hv with HB
  ihave Hs' := (Transfers.pointsTo_toks_split q 32) $$ Hs
  icases Hs' with ⟨Hs0, Hs⟩
  ihave Hd := (Entails.of_eq (slot_eq c arg13 fullShare R.so R.hso f)) $$ Hd
  icombine Hd Hs as Hn
  ihave Hn' := (show iprop((bigSep Finset.univ fun k => arg13.view.loc (c : Thread nD τ) ↦[part c arg13 R.so R.hso k]{fullShare} f)
      ∗ bigSep Finset.univ (fun k : Fin 32 => arg11.view.loc (c : Thread nD τ) ↦{Transfers.shareTok q 32 k} fx))
      ⊢ (bigSep (Transfers.pending 0) (need c arg11 arg13 q R.so R.hso f fx) : sProp 𝕄) by
    rw [← Transfers.bigSep_pending_zero]
    unfold need
    exact Entails.of_eq (bigSep_sep _ _ _).symm) $$ Hn
  iapply (wp_steps c R arg2 arg11 arg13 arg14 fT fx f f hG qt q N hN K Q 32 0 rfl) $$ [HT Hn' HB]
  · isplitl [HT]; · iexact HT
    isplitl [Hn']; · iexact Hn'
    isplitr [HB]
    · have hi : issued 0 = ∅ := Finset.filter_false_of_mem fun t _ => by omega
      rw [hi, bigSep_empty]; iempintro
    iexact HB
  iintro ⟨HT, Hr, HB⟩
  iapply Hk
  isplitl [HT]; · iexact HT
  unfold Flight
  iexists _, _
  isplitl [HB]; · iexact HB
  isplitl [Hr]; · iexact Hr
  iexact Hs0

/-- The batch's deliveries with what stayed outside are the slot filled and its share of the features whole. -/
theorem collect (q : PosShare TreeShare) (so : ℕ) (hso : so < 2) (g : Buf (Elt F) (arg13.view.loc (c : Thread nD τ))) (fx : Buf (Elt F) (arg11.view.loc (c : Thread nD τ)))
    (S : Fin 32 → Finset (Idx (arg11.view.loc (c : Thread nD τ)))) :
    iprop(bigSep Finset.univ (deliv c arg11 arg13 q so hso g fx S) ∗ bigSep Finset.univ (rest c arg11 q fx S)
      ∗ (arg11.view.loc (c : Thread nD τ) ↦{Transfers.shareDrop q 32} fx))
      ⊢ (iprop((arg13.view.loc (c : Thread nD τ) ↦[slot c arg13 so hso]{fullShare} g) ∗ (arg11.view.loc (c : Thread nD τ) ↦{q} fx)) : sProp 𝕄) := by
  rw [slot_eq]
  have hd : (bigSep Finset.univ (deliv c arg11 arg13 q so hso g fx S) : sProp 𝕄)
      = iprop((bigSep Finset.univ fun k => arg13.view.loc (c : Thread nD τ) ↦[part c arg13 so hso k]{fullShare} g)
        ∗ bigSep Finset.univ fun k => arg11.view.loc (c : Thread nD τ) ↦[S k]{Transfers.shareTok q 32 k} fx) := by
    unfold deliv; exact bigSep_sep _ _ _
  rw [hd]
  iintro ⟨⟨Hd, Hs⟩, Hr, H0⟩
  isplitl [Hd]; · iexact Hd
  icombine Hs Hr as H
  iapply (Transfers.pointsTo_toks_join q 32)
  isplitl [H0]; · iexact H0
  iapply (show iprop((bigSep Finset.univ fun k => arg11.view.loc (c : Thread nD τ) ↦[S k]{Transfers.shareTok q 32 k} fx) ∗ bigSep Finset.univ (rest c arg11 q fx S))
      ⊢ (bigSep Finset.univ (fun k : Fin 32 => arg11.view.loc (c : Thread nD τ) ↦{Transfers.shareTok q 32 k} fx) : sProp 𝕄) by
    refine (Entails.of_eq (bigSep_sep _ _ _).symm).trans ?_
    exact bigSep_mono fun k _ => (pointsTo_split_subset (Finset.subset_univ (S k))).2) $$ H

/-- The wait for a whole slot: a slot in flight is filled. -/
theorem wp_drain {α : Type} (fT : Buf (Elt F) (arg2.view.loc (c : Thread nD τ))) (fx : Buf (Elt F) (arg11.view.loc (c : Thread nD τ)))
    (q : PosShare TreeShare) (N : ℕ) (hN0 : 0 < N) (so : ℕ) (hso : so < 2) (ro : Fin 32) (off3 : Fin 1 → ℕ) (h3) (e3 : off3 = ![so])
    (v22 : Memref sig .tc .vmem S768x256 .f32) (hJ : v22.view.dmaCredit = N * 32) (hw hw')
    (W : Waits sig Unit) (K : PUnit → P (F := F) α) (Q : α → sProp 𝕄) :
    iprop(Flight c arg2 arg11 arg13 arg14 q N so hso fT fx ro ∗ owes (c : Thread nD τ) 0 W)
      ⊢ iprop((iprop(Filled c arg2 arg11 arg13 arg14 q so hso fT fx ro ∗ ∃ W, owes (c : Thread nD τ) 0 W)
          -∗ wp frame (wpE (defs₀ (F := F)) Variants.none (c : Thread nD τ) none) Set.univ (K ⟨⟩) Q)
        -∗ wp frame (wpE (defs₀ (F := F)) Variants.none (c : Thread nD τ) none) Set.univ
          (.op (.waitDma2 ((arg14.slice (Rect.unit (s := S2) off3 S1.size h3)).squeeze S_ squeezes_S1_S_).sem v22 v22 hw hw') K) Q) := by
  subst e3
  unfold Flight
  iintro ⟨⟨%S, %g, HB, Hr, H0⟩, HO⟩ Hk
  iapply (Transfers.wp_waitBatchAll EC Variants.none (c : Thread nD τ) none () hJ hN0 (u := 0) (by omega)
    (D := deliv c arg11 arg13 q so hso (full c arg2 arg11 arg13 fT fx g ro) fx S)) $$ [HB HO]
  · isplitl [HB]; · iexact HB
    iexact HO
  iintro ⟨HD, Hv, HO⟩
  iapply Hk
  isplitr [HO]
  · unfold Filled
    icombine HD Hr as H1
    icombine H1 H0 as H
    ihave H' := (show iprop((bigSep Finset.univ (deliv c arg11 arg13 q so hso (full c arg2 arg11 arg13 fT fx g ro) fx S) ∗ bigSep Finset.univ (rest c arg11 q fx S))
      ∗ (arg11.view.loc (c : Thread nD τ) ↦{Transfers.shareDrop q 32} fx)) ⊢ _ from sep_assoc.1.trans (collect c arg11 arg13 q so hso _ fx S)) $$ H
    icases H' with ⟨Hd, Hs⟩
    isplitl [Hd]; · iexists _; iexact Hd
    isplitl [Hv]; · iexact Hv
    iexact Hs
  iexists _; iexact HO

end Cert.Proof.PoolWp

end
-- ==== Proof.PoolRun.lean ====
/-
  Hand-written, untrusted. One point of a pooling call, run: the rounds it starts, its wait for its own slot, and what it
  stores, told from what its windows and the slot hold.
-/
module

public import proofs.«01_k».proof.Proof.PoolWp
public import Idealize.ShloMosaic.Lib.VecWindow

@[expose] public section

noncomputable section

namespace Cert.Proof.PoolRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.PoolBody Cert.Proof.PoolWp

variable {F : FTy → Type} [FloatOps F]

local notation "𝕄" => MT nD τ sig Unit (Elt F) ℕ UU ℕ

/-- A load through a rectangle of an owned memref. -/
theorem wp_load_owns {α : Type} (c : Dev nD) {cs : CoreSpace} {s : Shape} {e : EltTy} (m : Memref sig .tc cs s e) (r : Rect s) (hl : m.view.LoadsAt r.toLoadRect)
    (q : PosShare TreeShare) (X : s.Idx → Elt F e) (K : (r.shape.Idx → Elt F e) → P (F := F) α) (Q : α → sProp 𝕄) :
    (owns (c : Thread nD τ) m q X : sProp 𝕄)
      ⊢ iprop((owns (c : Thread nD τ) m q X -∗ wp frame (wpE (defs₀ (F := F)) Variants.none (c : Thread nD τ) none) Set.univ (K fun x => X (r.emb x)) Q)
        -∗ wp frame (wpE (defs₀ (F := F)) Variants.none (c : Thread nD τ) none) Set.univ (.op (.load m r.toLoadRect hl) K) Q) := by
  unfold owns
  iintro ⟨%f, %hf, H⟩ Hk
  subst hf
  iapply (wp_load_rect Variants.none (c : Thread nD τ) none Set.univ (m := m) (r := r) (View.set_slice_subset _ r)) $$ H
  iintro H
  iapply Hk
  iexists f
  isplitr; · ipureintro; rfl
  iexact H

/-- A load of a whole owned memref. -/
theorem wp_load_whole {α : Type} (c : Dev nD) {cs : CoreSpace} {s : Shape} {e : EltTy} (m : Memref sig .tc cs s e) (off : Fin s.rank → ℕ) (inb : ∀ a, off a + s.size a ≤ s.size a) (hl)
    (q : PosShare TreeShare) (X : s.Idx → Elt F e) (K : (s.Idx → Elt F e) → P (F := F) α) (Q : α → sProp 𝕄) :
    (owns (c : Thread nD τ) m q X : sProp 𝕄)
      ⊢ iprop((owns (c : Thread nD τ) m q X -∗ wp frame (wpE (defs₀ (F := F)) Variants.none (c : Thread nD τ) none) Set.univ (K X) Q)
        -∗ wp frame (wpE (defs₀ (F := F)) Variants.none (c : Thread nD τ) none) Set.univ (.op (.load m (Rect.unit off s.size inb).toLoadRect hl) K) Q) := by
  have h := wp_load_owns c m (Rect.unit off s.size inb) hl q X K Q
  rw [show (fun x => X ((Rect.unit off s.size inb).emb x)) = X from funext fun x => by rw [Rect.emb_unit_full]] at h
  exact h

/-- A store of a whole owned memref. -/
theorem wp_store_owns {α : Type} (c : Dev nD) {cs : CoreSpace} {s : Shape} {e : EltTy} (m : Memref sig .tc cs s e) (off : Fin s.rank → ℕ) (inb : ∀ a, off a + s.size a ≤ s.size a)
    (hx) (hm) (X w : s.Idx → Elt F e) (K : PUnit → P (F := F) α) (Q : α → sProp 𝕄) :
    (owns (c : Thread nD τ) m fullShare X : sProp 𝕄)
      ⊢ iprop((owns (c : Thread nD τ) m fullShare w -∗ wp frame (wpE (defs₀ (F := F)) Variants.none (c : Thread nD τ) none) Set.univ (K ⟨⟩) Q)
        -∗ wp frame (wpE (defs₀ (F := F)) Variants.none (c : Thread nD τ) none) Set.univ (.op (.store m (Rect.unit off s.size inb) w Finset.univ hx hm) K) Q) := by
  unfold owns
  iintro ⟨%f, %hf, H⟩ Hk
  iapply (wp_store Variants.none (c : Thread nD τ) none Set.univ (m := m) (r := Rect.unit off s.size inb) (Mk := Finset.univ) (View.set_slice_subset _ _)) $$ H
  iintro H
  iapply Hk
  iexists _
  isplitr; swap; · iexact H
  ipureintro
  funext x
  have h := View.read_slice_write_emb (v := m.view) (Rect.unit off s.size inb) f w (Finset.mem_univ x)
  rw [Rect.emb_unit_full] at h
  exact h

/-- A slot's rows for the table's row `ro`. -/
def slab (T : S32x32.Idx → BitVec 32) (X : S32x3136x256.Idx → Elt F .f32) (ro : Fin 32) : S1x768x256.Idx → Elt F .f32 := fun i =>
  X (ValueIdx.ix3 (n0 := 32) (n1 := 3136) (n2 := 256) ro
    ⟨((T (ValueIdx.ix2 (n0 := 32) (n1 := 32) ro ⟨(i 1).val / 24, by have : (i 1).val < 768 := (i 1).isLt; omega⟩)).toNat + (i 1).val % 24) % 3136, Nat.mod_lt _ (by omega)⟩
    ⟨(i 2).val, (i 2).isLt⟩)

/-- What a point stores. -/
def pooled (x3 x4 x5 x6 : Vec F S1x32x1 .i32) (x7 x8 x9 x10 : Vec F S1x32x1 .f32) (x13 : Vec F S1x768x256 .f32) : Vec F S1x8x256 .f32 :=
  k0_pay1 (k0_pay5 (iota .tc S32x768 32 [1] iota_S32x768_d1_w32) (k0_pay2 x3) (k0_pay3 x7) (k0_pay4 (F := F)) x4 x8 x5 x9 x6 x10) (k0_pay6 x13)

variable (c : Dev nD) (i : grid0.Coords) (arg2 : Memref sig .tc .smem S32x32 .i32) (harg2 : arg2.IsWhole) (arg3 : Memref sig .tc .vmem S1x32x1 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x1 .i32) (harg6 : arg6.IsWhole) (arg7 : Memref sig .tc .vmem S1x32x1 .f32) (harg7 : arg7.IsWhole) (arg8 : Memref sig .tc .vmem S1x32x1 .f32) (harg8 : arg8.IsWhole) (arg9 : Memref sig .tc .vmem S1x32x1 .f32) (harg9 : arg9.IsWhole) (arg10 : Memref sig .tc .vmem S1x32x1 .f32) (harg10 : arg10.IsWhole) (arg11 : Memref sig .tc .hbm S32x3136x256 .f32) (harg11 : arg11.IsWhole) (arg12 : Memref sig .tc .vmem S1x8x256 .f32) (harg12 : arg12.IsWhole) (arg13 : Memref sig .tc .vmem S2x768x256 .f32) (harg13 : arg13.IsWhole) (arg14 : DmaSems sig S2)

/-- The body after its rounds. -/
def tail (i : grid0.Coords) : P (F := F) PUnit :=
  .op (.waitDma2 ((arg14.slice (Rect.unit (s := S2) (k0_off193 i) S1.size (k0_off193_inb i))).squeeze S_ squeezes_S1_S_).sem
    ((arg13.slice (Rect.unit (s := S2x768x256) (k0_off194 i) S1x768x256.size (k0_off194_inb i)) (fun _ => rfl)).squeeze S768x256 squeezes_S1x768x256_S768x256)
    ((arg13.slice (Rect.unit (s := S2x768x256) (k0_off194 i) S1x768x256.size (k0_off194_inb i)) (fun _ => rfl)).squeeze S768x256 squeezes_S1x768x256_S768x256)
    ((View.wordExact_bits rfl).reshape _ _) ((View.wordExact_bits rfl).reshape _ _)) fun _ =>
  .op (.load arg3 (Rect.unit (s := S1x32x1) ![0, 0, 0] S1x32x1.size inb_S1x32x1_S1x32x1_0_0_0).toLoadRect (View.loadsAt_vmem h_S1x32x1)) fun v24 =>
  .op (.load arg7 (Rect.unit (s := S1x32x1) ![0, 0, 0] S1x32x1.size inb_S1x32x1_S1x32x1_0_0_0).toLoadRect (View.loadsAt_vmem h_S1x32x1)) fun v28 =>
  .op (.load arg4 (Rect.unit (s := S1x32x1) ![0, 0, 0] S1x32x1.size inb_S1x32x1_S1x32x1_0_0_0).toLoadRect (View.loadsAt_vmem h_S1x32x1)) fun v34 =>
  .op (.load arg8 (Rect.unit (s := S1x32x1) ![0, 0, 0] S1x32x1.size inb_S1x32x1_S1x32x1_0_0_0).toLoadRect (View.loadsAt_vmem h_S1x32x1)) fun v38 =>
  .op (.load arg5 (Rect.unit (s := S1x32x1) ![0, 0, 0] S1x32x1.size inb_S1x32x1_S1x32x1_0_0_0).toLoadRect (View.loadsAt_vmem h_S1x32x1)) fun v45 =>
  .op (.load arg9 (Rect.unit (s := S1x32x1) ![0, 0, 0] S1x32x1.size inb_S1x32x1_S1x32x1_0_0_0).toLoadRect (View.loadsAt_vmem h_S1x32x1)) fun v49 =>
  .op (.load arg6 (Rect.unit (s := S1x32x1) ![0, 0, 0] S1x32x1.size inb_S1x32x1_S1x32x1_0_0_0).toLoadRect (View.loadsAt_vmem h_S1x32x1)) fun v56 =>
  .op (.load arg10 (Rect.unit (s := S1x32x1) ![0, 0, 0] S1x32x1.size inb_S1x32x1_S1x32x1_0_0_0).toLoadRect (View.loadsAt_vmem h_S1x32x1)) fun v60 =>
  .op (.load arg13 (Rect.unit (s := S2x768x256) (k0_off195 i) S1x768x256.size (k0_off195_inb i)).toLoadRect (View.loadsAt_vmem h_S1x768x256)) fun v68 =>
  .op (.load arg12 (Rect.unit (s := S1x8x256) ![0, 0, 0] S1x8x256.size inb_S1x8x256_S1x8x256_0_0_0).toLoadRect (View.loadsAt_vmem h_S1x8x256)) fun v73 =>
  .op (.store arg12 (Rect.unit (s := S1x8x256) ![0, 0, 0] S1x8x256.size inb_S1x8x256_S1x8x256_0_0_0) (pooled v24 v34 v45 v56 v28 v38 v49 v60 v68)
    Finset.univ (View.stores_vmem_bits_univ h_S1x8x256 rfl) (.inl rfl)) fun _ => .ret ⟨⟩

theorem body_tail :
    PoolBody.body (F := F) i arg2 harg2 arg3 harg3 arg4 harg4 arg5 harg5 arg6 harg6 arg7 harg7 arg8 harg8 arg9 harg9 arg10 harg10 arg11 harg11 arg12 harg12 arg13 harg13 arg14
      = (if h1 : k0_cond1 i = 1#1 then steps (unit (rnd1 i h1) arg2 arg11 arg13 arg14) 32 0 rfl else pure ⟨⟩) >>= fun _ =>
        (if h2 : k0_cond2 i = 1#1 then steps (unit (rnd2 i h2) arg2 arg11 arg13 arg14) 32 0 rfl else pure ⟨⟩) >>= fun _ =>
          tail arg3 arg4 arg5 arg6 arg7 arg8 arg9 arg10 arg12 arg13 arg14 i := by
  unfold PoolBody.body
  by_cases h1 : k0_cond1 i = 1#1 <;> by_cases h2 : k0_cond2 i = 1#1 <;> simp only [h1, h2, dif_pos, dif_neg, not_false_eq_true] <;> rfl

/-- A point's row: its place in the grid's order. -/
abbrev row (i : grid0.Coords) : ℕ := 16 * (i 0).val + (i 1).val

theorem row_lt (i : grid0.Coords) : row i < 32 := by
  have h0 : (i 0).val < 2 := (i 0).isLt
  have h1 : (i 1).val < 16 := (i 1).isLt
  unfold row; omega

theorem cond1_iff : ∀ i : grid0.Coords, k0_cond1 i = 1#1 ↔ row i % 16 = 0 := by decide +kernel
theorem cond2_iff : ∀ i : grid0.Coords, k0_cond2 i = 1#1 ↔ row i % 16 ≠ 15 := by decide +kernel
theorem off1_0 : ∀ i : grid0.Coords, k0_off1 i 0 = row i := by decide +kernel
theorem off65_0 : ∀ i : grid0.Coords, k0_off65 i 0 = row i + 1 := by decide +kernel
theorem off66_0 : ∀ i : grid0.Coords, k0_off66 i 0 = (row i + 1) % 2 := by decide +kernel
theorem off193_0 : ∀ i : grid0.Coords, k0_off193 i = ![row i % 2] := by decide +kernel
theorem off195_0 : ∀ i : grid0.Coords, k0_off195 i = ![row i % 2, 0, 0] := by decide +kernel
theorem off2_0 (i : grid0.Coords) (v : BitVec 32) : k0_off2 i v = ![k0_off1 i 0, v.toNat, 0] := rfl
theorem off68_0 (i : grid0.Coords) (v : BitVec 32) : k0_off68 i v = ![k0_off65 i 0, v.toNat, 0] := rfl

/-- Every word of the table is a multiple of 8 with 24 rows from it on. -/
def TabOk (T : S32x32.Idx → BitVec 32) : Prop := ∀ j, 8 ∣ (T j).toNat ∧ (T j).toNat + 24 ≤ 3136

variable (fT : Buf (Elt F) (arg2.view.loc (c : Thread nD τ))) (fx : Buf (Elt F) (arg11.view.loc (c : Thread nD τ)))

theorem inb_of (v : BitVec 32) (ro : ℕ) (hro : ro < 32) (hv : v.toNat + 24 ≤ 3136) : ∀ a, (![ro, v.toNat, 0] : Fin 3 → ℕ) a + S1x24x256.size a ≤ S32x3136x256.size a := by
  intro a
  fin_cases a
  · show ro + 1 ≤ 32; omega
  · show v.toNat + 24 ≤ 3136; omega
  · show 0 + 256 ≤ 256; omega

theorem good1 (hT : TabOk (arg2.view.read (Elt F) fT)) (h1 : k0_cond1 i = 1#1) : Good c (rnd1 i h1) arg2 fT where
  chk k := ⟨fun _ => (hT _).1, fun _ => off2_0 i _ ▸ inb_of _ _ (row1 i h1) (hT _).2⟩
  off v := off2_0 i v

theorem good2 (hT : TabOk (arg2.view.read (Elt F) fT)) (h2 : k0_cond2 i = 1#1) : Good c (rnd2 i h2) arg2 fT where
  chk k := ⟨fun _ => (hT _).1, fun _ => off68_0 i _ ▸ inb_of _ _ (row2 i h2) (hT _).2⟩
  off v := off68_0 i v

variable (qs : ℕ → PosShare TreeShare) (N : ℕ)

/-- Slot `n % 2` at rest; -/
def FreeAt (n : ℕ) : sProp 𝕄 := Free c arg11 arg13 arg14 (qs (n % 2)) (n % 2) (Nat.mod_lt _ (by omega)) fx
/-- in flight towards the table's row `ro`; -/
def FlightAt (n ro : ℕ) : sProp 𝕄 :=
  Flight c arg2 arg11 arg13 arg14 (qs (n % 2)) N (n % 2) (Nat.mod_lt _ (by omega)) fT fx ⟨ro % 32, Nat.mod_lt _ (by omega)⟩
/-- the two slots before point `t`. -/
def Slots (t : ℕ) : sProp 𝕄 :=
  if t % 16 = 0 then iprop(FreeAt c arg11 arg13 arg14 fx qs 0 ∗ FreeAt c arg11 arg13 arg14 fx qs 1)
  else iprop(FlightAt c arg2 arg11 arg13 arg14 fT fx qs N t t ∗ FreeAt c arg11 arg13 arg14 fx qs (t + 1))

theorem free_congr (n n' : ℕ) (h : n % 2 = n' % 2) : (FreeAt c arg11 arg13 arg14 fx qs n : sProp 𝕄) = FreeAt c arg11 arg13 arg14 fx qs n' := by
  unfold FreeAt; simp only [h]

theorem free_of (n so : ℕ) (hso : so < 2) (h : n % 2 = so) : (FreeAt c arg11 arg13 arg14 fx qs n : sProp 𝕄) = Free c arg11 arg13 arg14 (qs so) so hso fx := by
  subst h; rfl

theorem flight_of (n so ro : ℕ) (hso : so < 2) (hro : ro < 32) (h : n % 2 = so) :
    (FlightAt c arg2 arg11 arg13 arg14 fT fx qs N n ro : sProp 𝕄) = Flight c arg2 arg11 arg13 arg14 (qs so) N so hso fT fx ⟨ro, hro⟩ := by
  subst h; unfold FlightAt; simp only [Nat.mod_eq_of_lt hro]

theorem flight_congr (n n' ro : ℕ) (h : n % 2 = n' % 2) :
    (FlightAt c arg2 arg11 arg13 arg14 fT fx qs N n ro : sProp 𝕄) = FlightAt c arg2 arg11 arg13 arg14 fT fx qs N n' ro := by
  unfold FlightAt; simp only [h]

/-- The first round, if the point starts it. -/
theorem wp_first {α : Type} (hT : TabOk (arg2.view.read (Elt F) fT)) (qt : PosShare TreeShare)
    (hN : ∀ so hso k, (dstOf arg13 so hso k).view.dmaCredit = N) (K : PUnit → P (F := F) α) (Q : α → sProp 𝕄) :
    iprop((arg2.view.loc (c : Thread nD τ) ↦{qt} fT) ∗ Slots c arg2 arg11 arg13 arg14 fT fx qs N (row i))
      ⊢ iprop((iprop((arg2.view.loc (c : Thread nD τ) ↦{qt} fT) ∗ FlightAt c arg2 arg11 arg13 arg14 fT fx qs N (row i) (row i) ∗ FreeAt c arg11 arg13 arg14 fx qs (row i + 1))
          -∗ wp frame (wpE (defs₀ (F := F)) Variants.none (c : Thread nD τ) none) Set.univ (K ⟨⟩) Q)
        -∗ wp frame (wpE (defs₀ (F := F)) Variants.none (c : Thread nD τ) none) Set.univ
          ((if h1 : k0_cond1 i = 1#1 then steps (unit (rnd1 i h1) arg2 arg11 arg13 arg14) 32 0 rfl else pure ⟨⟩) >>= K) Q) := by
  unfold Slots
  by_cases h1 : k0_cond1 i = 1#1
  · have hr := (cond1_iff i).mp h1
    rw [dif_pos h1, if_pos hr, free_of c arg11 arg13 arg14 fx qs 0 0 (by omega) rfl,
      flight_of c arg2 arg11 arg13 arg14 fT fx qs N (row i) 0 (row i) (by omega) (row_lt i) (by omega),
      free_congr c arg11 arg13 arg14 fx qs (row i + 1) 1 (by omega)]
    iintro ⟨HT, H0, H1⟩ Hk
    iapply (wp_round c (rnd1 i h1) arg2 arg11 arg13 arg14 fT fx (good1 c i arg2 fT hT h1) qt (qs 0) N (fun k => hN _ _ k) K Q) $$ [HT H0]
    · isplitl [HT]; · iexact HT
      iexact H0
    iintro ⟨HT, H0⟩
    iapply Hk
    isplitl [HT]; · iexact HT
    isplitl [H0]
    · iapply (Entails.of_eq (show (Flight c arg2 arg11 arg13 arg14 (qs 0) N 0 Nat.zero_lt_two fT fx ⟨k0_off1 i 0, row1 i h1⟩ : sProp 𝕄)
        = Flight c arg2 arg11 arg13 arg14 (qs 0) N 0 Nat.zero_lt_two fT fx ⟨row i, row_lt i⟩ by
          rw [show (⟨k0_off1 i 0, row1 i h1⟩ : Fin 32) = ⟨row i, row_lt i⟩ from Fin.ext (off1_0 i)])) $$ H0
    iexact H1
  · have hr : ¬ row i % 16 = 0 := fun h => h1 ((cond1_iff i).mpr h)
    rw [dif_neg h1, if_neg hr]
    iintro ⟨HT, H0, H1⟩ Hk
    iapply Hk
    isplitl [HT]; · iexact HT
    isplitl [H0]; · iexact H0
    iexact H1

/-- The second round, if the point starts it. -/
theorem wp_second {α : Type} (hT : TabOk (arg2.view.read (Elt F) fT)) (qt : PosShare TreeShare)
    (hN : ∀ so hso k, (dstOf arg13 so hso k).view.dmaCredit = N) (K : PUnit → P (F := F) α) (Q : α → sProp 𝕄) :
    iprop((arg2.view.loc (c : Thread nD τ) ↦{qt} fT) ∗ FreeAt c arg11 arg13 arg14 fx qs (row i + 1))
      ⊢ iprop((iprop((arg2.view.loc (c : Thread nD τ) ↦{qt} fT)
            ∗ (if row i % 16 = 15 then FreeAt c arg11 arg13 arg14 fx qs (row i + 1) else FlightAt c arg2 arg11 arg13 arg14 fT fx qs N (row i + 1) (row i + 1)))
          -∗ wp frame (wpE (defs₀ (F := F)) Variants.none (c : Thread nD τ) none) Set.univ (K ⟨⟩) Q)
        -∗ wp frame (wpE (defs₀ (F := F)) Variants.none (c : Thread nD τ) none) Set.univ
          ((if h2 : k0_cond2 i = 1#1 then steps (unit (rnd2 i h2) arg2 arg11 arg13 arg14) 32 0 rfl else pure ⟨⟩) >>= K) Q) := by
  by_cases h2 : k0_cond2 i = 1#1
  · have hr := (cond2_iff i).mp h2
    have hlt : row i + 1 < 32 := by have := row_lt i; omega
    rw [dif_pos h2, if_neg hr, free_of c arg11 arg13 arg14 fx qs (row i + 1) (k0_off66 i 0) (slot2 i h2) (off66_0 i).symm,
      flight_of c arg2 arg11 arg13 arg14 fT fx qs N (row i + 1) (k0_off66 i 0) (row i + 1) (slot2 i h2) hlt (off66_0 i).symm]
    iintro ⟨HT, H0⟩ Hk
    iapply (wp_round c (rnd2 i h2) arg2 arg11 arg13 arg14 fT fx (good2 c i arg2 fT hT h2) qt (qs (k0_off66 i 0)) N (fun k => hN _ _ k) K Q) $$ [HT H0]
    · isplitl [HT]; · iexact HT
      iexact H0
    iintro ⟨HT, H0⟩
    iapply Hk
    isplitl [HT]; · iexact HT
    iapply (Entails.of_eq (show (Flight c arg2 arg11 arg13 arg14 (qs (k0_off66 i 0)) N (k0_off66 i 0) (slot2 i h2) fT fx ⟨k0_off65 i 0, row2 i h2⟩ : sProp 𝕄)
        = Flight c arg2 arg11 arg13 arg14 (qs (k0_off66 i 0)) N (k0_off66 i 0) (slot2 i h2) fT fx ⟨row i + 1, hlt⟩ by
          rw [show (⟨k0_off65 i 0, row2 i h2⟩ : Fin 32) = ⟨row i + 1, hlt⟩ from Fin.ext (off65_0 i)])) $$ H0
  · have hr : row i % 16 = 15 := by
      by_contra h; exact h2 ((cond2_iff i).mpr h)
    rw [dif_neg h2, if_pos hr]
    iintro ⟨HT, H0⟩ Hk
    iapply Hk
    isplitl [HT]; · iexact HT
    iexact H0

/-- The slots after a point are those before the next. -/
theorem slots_succ (t : ℕ) :
    iprop(FreeAt c arg11 arg13 arg14 fx qs t
      ∗ (if t % 16 = 15 then FreeAt c arg11 arg13 arg14 fx qs (t + 1) else FlightAt c arg2 arg11 arg13 arg14 fT fx qs N (t + 1) (t + 1)))
      ⊢ (Slots c arg2 arg11 arg13 arg14 fT fx qs N (t + 1) : sProp 𝕄) := by
  unfold Slots
  by_cases h : t % 16 = 15
  · rw [if_pos h, if_pos (by omega), free_congr c arg11 arg13 arg14 fx qs t 1 (by omega), free_congr c arg11 arg13 arg14 fx qs (t + 1) 0 (by omega)]
    iintro ⟨H1, H0⟩
    isplitl [H0]; · iexact H0
    iexact H1
  · rw [if_neg h, if_neg (by omega), free_congr c arg11 arg13 arg14 fx qs (t + 1 + 1) t (by omega)]
    iintro ⟨H1, H0⟩
    isplitl [H0]; · iexact H0
    iexact H1

/-- The nine windows of a point: the eight it reads, and the one it stores. -/
def Wins (x3 x4 x5 x6 : Vec F S1x32x1 .i32) (x7 x8 x9 x10 : Vec F S1x32x1 .f32) (x12 : Vec F S1x8x256 .f32) : sProp 𝕄 :=
  iprop(owns (c : Thread nD τ) arg3 fullShare x3 ∗ owns (c : Thread nD τ) arg4 fullShare x4 ∗ owns (c : Thread nD τ) arg5 fullShare x5
    ∗ owns (c : Thread nD τ) arg6 fullShare x6 ∗ owns (c : Thread nD τ) arg7 fullShare x7 ∗ owns (c : Thread nD τ) arg8 fullShare x8
    ∗ owns (c : Thread nD τ) arg9 fullShare x9 ∗ owns (c : Thread nD τ) arg10 fullShare x10 ∗ owns (c : Thread nD τ) arg12 fullShare x12)

/-- The load of a filled slot. -/
theorem wp_load_slot {α : Type} (ro : Fin 32) (so : ℕ) (hso : so < 2) (off : Fin 3 → ℕ) (inb) (ho : off = ![so, 0, 0]) (hl) (g : Buf (Elt F) (arg13.view.loc (c : Thread nD τ)))
    (K : (S1x768x256.Idx → Elt F .f32) → P (F := F) α) (Q : α → sProp 𝕄) :
    (arg13.view.loc (c : Thread nD τ) ↦[slot c arg13 so hso]{fullShare} full c arg2 arg11 arg13 fT fx g ro : sProp 𝕄)
      ⊢ iprop(((arg13.view.loc (c : Thread nD τ) ↦[slot c arg13 so hso]{fullShare} full c arg2 arg11 arg13 fT fx g ro)
          -∗ wp frame (wpE (defs₀ (F := F)) Variants.none (c : Thread nD τ) none) Set.univ (K (slab (arg2.view.read (Elt F) fT) (arg11.view.read (Elt F) fx) ro)) Q)
        -∗ wp frame (wpE (defs₀ (F := F)) Variants.none (c : Thread nD τ) none) Set.univ (.op (.load arg13 (Rect.unit (s := S2x768x256) off S1x768x256.size inb).toLoadRect hl) K) Q) := by
  subst ho
  have hv : (arg13.access (Rect.unit (s := S2x768x256) ![so, 0, 0] S1x768x256.size inb)).read (Elt F) (full c arg2 arg11 arg13 fT fx g ro)
      = slab (arg2.view.read (Elt F) fT) (arg11.view.read (Elt F) fx) ro := by
    funext x
    show arg13.view.read (Elt F) (full c arg2 arg11 arg13 fT fx g ro) ((Rect.unit (s := S2x768x256) ![so, 0, 0] S1x768x256.size inb).emb x) = _
    unfold full
    rw [View.read_write_univ]
    unfold filled slab
    have h1 : (((Rect.unit (s := S2x768x256) ![so, 0, 0] S1x768x256.size inb).emb x) 1).val = (x 1).val := by show 0 + 1 * (x 1).val = _; omega
    have h2 : (((Rect.unit (s := S2x768x256) ![so, 0, 0] S1x768x256.size inb).emb x) 2).val = (x 2).val := by show 0 + 1 * (x 2).val = _; omega
    simp only [h1, h2]
  iintro H Hk
  iapply (wp_load_rect Variants.none (c : Thread nD τ) none Set.univ (m := arg13) (r := Rect.unit (s := S2x768x256) ![so, 0, 0] S1x768x256.size inb) (by
    intro j hj
    obtain ⟨x, -, rfl⟩ := Finset.mem_map.mp hj
    refine mem_slot c arg13 so hso ((Rect.unit (s := S2x768x256) ![so, 0, 0] S1x768x256.size inb).emb x) ?_
    have : (x 0).val < 1 := (x 0).isLt
    rw [Rect.emb_apply]; show so + 1 * (x 0).val = so; omega)) $$ H
  iintro H
  rw [hv]
  iapply Hk
  iexact H

/-- The rest of the body: the wait for the point's slot, the loads, the store. -/
theorem wp_tail (hN0 : 0 < N) (hJ : ∀ off h, ((arg13.slice (Rect.unit (s := S2x768x256) off S1x768x256.size h) (fun _ => rfl)).squeeze S768x256 squeezes_S1x768x256_S768x256).view.dmaCredit = N * 32)
    (x3 x4 x5 x6 : Vec F S1x32x1 .i32) (x7 x8 x9 x10 : Vec F S1x32x1 .f32) (x12 : Vec F S1x8x256 .f32) (W : Waits sig Unit) (Q : PUnit → sProp 𝕄) :
    iprop(FlightAt c arg2 arg11 arg13 arg14 fT fx qs N (row i) (row i) ∗ Wins c arg3 arg4 arg5 arg6 arg7 arg8 arg9 arg10 arg12 x3 x4 x5 x6 x7 x8 x9 x10 x12 ∗ owes (c : Thread nD τ) 0 W
        ∗ (iprop(FreeAt c arg11 arg13 arg14 fx qs (row i)
            ∗ Wins c arg3 arg4 arg5 arg6 arg7 arg8 arg9 arg10 arg12 x3 x4 x5 x6 x7 x8 x9 x10
                (pooled x3 x4 x5 x6 x7 x8 x9 x10 (slab (arg2.view.read (Elt F) fT) (arg11.view.read (Elt F) fx) ⟨row i, row_lt i⟩))
            ∗ ∃ W, owes (c : Thread nD τ) 0 W) -∗ Q ⟨⟩))
      ⊢ wp frame (wpE (defs₀ (F := F)) Variants.none (c : Thread nD τ) none) Set.univ (tail arg3 arg4 arg5 arg6 arg7 arg8 arg9 arg10 arg12 arg13 arg14 i) Q := by
  rw [flight_of c arg2 arg11 arg13 arg14 fT fx qs N (row i) (row i % 2) (row i) (Nat.mod_lt _ (by omega)) (row_lt i) rfl,
    free_of c arg11 arg13 arg14 fx qs (row i) (row i % 2) (Nat.mod_lt _ (by omega)) rfl]
  unfold tail Wins
  iintro ⟨HF, ⟨H3, H4, H5, H6, H7, H8, H9, H10, H12⟩, HO, Hk⟩
  iapply (wp_drain c arg2 arg11 arg13 arg14 fT fx (qs (row i % 2)) N hN0 (row i % 2) (Nat.mod_lt _ (by omega)) ⟨row i, row_lt i⟩ (k0_off193 i) (k0_off193_inb i) (off193_0 i)
    ((arg13.slice (Rect.unit (s := S2x768x256) (k0_off194 i) S1x768x256.size (k0_off194_inb i)) (fun _ => rfl)).squeeze S768x256 squeezes_S1x768x256_S768x256) (hJ _ _) _ _ W) $$ [HF HO]
  · isplitl [HF]; · iexact HF
    iexact HO
  iintro ⟨HF, HO⟩
  iapply (wp_load_whole c arg3 _ _ _ fullShare x3) $$ H3
  iintro H3
  iapply (wp_load_whole c arg7 _ _ _ fullShare x7) $$ H7
  iintro H7
  iapply (wp_load_whole c arg4 _ _ _ fullShare x4) $$ H4
  iintro H4
  iapply (wp_load_whole c arg8 _ _ _ fullShare x8) $$ H8
  iintro H8
  iapply (wp_load_whole c arg5 _ _ _ fullShare x5) $$ H5
  iintro H5
  iapply (wp_load_whole c arg9 _ _ _ fullShare x9) $$ H9
  iintro H9
  iapply (wp_load_whole c arg6 _ _ _ fullShare x6) $$ H6
  iintro H6
  iapply (wp_load_whole c arg10 _ _ _ fullShare x10) $$ H10
  iintro H10
  unfold Filled
  icases HF with ⟨⟨%g, HF⟩, Hv, Hs⟩
  iapply (wp_load_slot c arg2 arg11 arg13 fT fx ⟨row i, row_lt i⟩ (row i % 2) (Nat.mod_lt _ (by omega)) (k0_off195 i) (k0_off195_inb i) (off195_0 i) _ g) $$ HF
  iintro HF
  iapply (wp_load_whole c arg12 _ _ _ fullShare x12) $$ H12
  iintro H12
  iapply (wp_store_owns c arg12 ![0, 0, 0] inb_S1x8x256_S1x8x256_0_0_0 _ _ x12) $$ H12
  iintro H12
  sl_step
  iapply Hk
  isplitl [HF Hv Hs]
  · unfold Free
    isplitl [HF]; · iexists _; iexact HF
    isplitl [Hv]; · iexact Hv
    iexact Hs
  isplitr [HO]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H12
  iexact HO

/-- A point of the call. -/
theorem kernelRun (hT : TabOk (arg2.view.read (Elt F) fT)) (qt : PosShare TreeShare) (hN0 : 0 < N)
    (hN : ∀ so hso k, (dstOf arg13 so hso k).view.dmaCredit = N)
    (hJ : ∀ off h, ((arg13.slice (Rect.unit (s := S2x768x256) off S1x768x256.size h) (fun _ => rfl)).squeeze S768x256 squeezes_S1x768x256_S768x256).view.dmaCredit = N * 32)
    (x3 x4 x5 x6 : Vec F S1x32x1 .i32) (x7 x8 x9 x10 : Vec F S1x32x1 .f32) (x12 : Vec F S1x8x256 .f32) (W : Waits sig Unit) (Q : PUnit → sProp 𝕄) :
    iprop((arg2.view.loc (c : Thread nD τ) ↦{qt} fT) ∗ Slots c arg2 arg11 arg13 arg14 fT fx qs N (row i)
        ∗ Wins c arg3 arg4 arg5 arg6 arg7 arg8 arg9 arg10 arg12 x3 x4 x5 x6 x7 x8 x9 x10 x12 ∗ owes (c : Thread nD τ) 0 W
        ∗ (iprop((arg2.view.loc (c : Thread nD τ) ↦{qt} fT) ∗ Slots c arg2 arg11 arg13 arg14 fT fx qs N (row i + 1)
            ∗ Wins c arg3 arg4 arg5 arg6 arg7 arg8 arg9 arg10 arg12 x3 x4 x5 x6 x7 x8 x9 x10
                (pooled x3 x4 x5 x6 x7 x8 x9 x10 (slab (arg2.view.read (Elt F) fT) (arg11.view.read (Elt F) fx) ⟨row i, row_lt i⟩))
            ∗ ∃ W, owes (c : Thread nD τ) 0 W) -∗ Q ⟨⟩))
      ⊢ wp frame (wpE (defs₀ (F := F)) Variants.none (c : Thread nD τ) none) Set.univ
        (cc0_roi_pool_gather (F := F) i arg2 harg2 arg3 harg3 arg4 harg4 arg5 harg5 arg6 harg6 arg7 harg7 arg8 harg8 arg9 harg9 arg10 harg10 arg11 harg11 arg12 harg12 arg13 harg13 arg14) Q := by
  rw [body_eq, body_tail]
  iintro ⟨HT, HS, HW, HO, Hk⟩
  iapply (wp_first c i arg2 arg11 arg13 arg14 fT fx qs N hT qt hN) $$ [HT HS]
  · isplitl [HT]; · iexact HT
    iexact HS
  iintro ⟨HT, HF, HS⟩
  iapply (wp_second c i arg2 arg11 arg13 arg14 fT fx qs N hT qt hN) $$ [HT HS]
  · isplitl [HT]; · iexact HT
    iexact HS
  iintro ⟨HT, HS⟩
  iapply (wp_tail c i arg2 arg3 arg4 arg5 arg6 arg7 arg8 arg9 arg10 arg11 arg12 arg13 arg14 fT fx qs N hN0 hJ x3 x4 x5 x6 x7 x8 x9 x10 x12 W)
  isplitl [HF]; · iexact HF
  isplitl [HW]; · iexact HW
  isplitl [HO]; · iexact HO
  iintro ⟨HF, HW, HO⟩
  iapply Hk
  isplitl [HT]; · iexact HT
  isplitl [HF HS]
  · iapply (slots_succ c arg2 arg11 arg13 arg14 fT fx qs N (row i))
    isplitl [HF]; · iexact HF
    iexact HS
  isplitl [HW]; · iexact HW
  iexact HO

end Cert.Proof.PoolRun

end
-- ==== Proof.Scal.lean ====
/-
  Hand-written, untrusted. The scalar facts of the sampling positions: the position on one axis, its cell, its fraction, and the window's first row.
-/
module

public import Idealize.ShloMosaic.Lib.Pointwise
public import Idealize.ShloMosaic.Lib.IdealHost
public import Mathlib.Tactic.NormNum
public import Mathlib.Tactic.Linarith

@[expose] public section

noncomputable section

namespace Cert.Proof.Scal

open Idealize.ShloMosaic

theorem lit_55 : Ideal.ofBits .f32 0x425C0000#32 = ((55 : ℝ) : EReal) := by
  simp [Ideal.ofBits, Ideal.ieee, -EReal.coe_mul]; norm_num
theorem lit_56 : Ideal.ofBits .f32 0x42600000#32 = ((56 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_two_sevenths : Ideal.ofBits .f32 0x3E924925#32 = ((9586981 / 33554432 : ℝ) : EReal) := by
  simp [Ideal.ofBits, Ideal.ieee, -EReal.coe_mul]; norm_num
theorem lit_seventh : Ideal.ofBits .f32 0x3E124925#32 = ((9586981 / 67108864 : ℝ) : EReal) := by
  simp [Ideal.ofBits, Ideal.ieee, -EReal.coe_mul]; norm_num
theorem lit_neg_seventh : Ideal.ofBits .f32 0xBE124925#32 = ((-(9586981 / 67108864) : ℝ) : EReal) := by
  simp [Ideal.ofBits, Ideal.ieee, -EReal.coe_mul, -EReal.coe_neg]; norm_num

/-- The offset of sample `p` of an axis, as the kernel spells it. -/
def off (p : Fin 2) : EReal := if p = 0 then Ideal.ofBits .f32 0xBE124925#32 else Ideal.ofBits .f32 0x3E124925#32

/-- The landmark's coordinate in the sampler's units. -/
def unit (x : EReal) : EReal :=
  Ideal.ofBits .f32 0xBF800000#32 + Ideal.div (Ideal.ofBits .f32 0x40000000#32 * (Ideal.div x (Ideal.ofBits .f32 0x43600000#32) * Ideal.ofBits .f32 0x40E00000#32)) (Ideal.ofBits .f32 0x40E00000#32)

/-- The clipped position at the offset `c` of the coordinate `t`. -/
def pos (c t : EReal) : EReal :=
  min (Ideal.ofBits .f32 0x425C0000#32) (max 0 (((c + t + 1) * Ideal.ofBits .f32 0x42600000#32 - 1) * Ideal.ofBits .f32 0x3F000000#32))

/-- A position's cell. -/
def ci (v : EReal) : BitVec 32 := Ideal.fptosi 32 (Ideal.liftRound Int.floor v)
/-- The cell after a position's. -/
def ci1 (v : EReal) : BitVec 32 := IntOp.minsi (ci v + 1#32) 55#32
/-- A position's fraction. -/
def fr (v : EReal) : EReal := v - Ideal.liftRound Int.floor v

theorem cell (x : ℝ) (h0 : 0 ≤ x) (h1 : x ≤ 55) :
    ∃ n : ℕ, n ≤ 55 ∧ (n : ℝ) ≤ x ∧ x < n + 1 ∧ ci (x : EReal) = BitVec.ofNat 32 n ∧ fr (x : EReal) = ((x - n : ℝ) : EReal) := by
  have hf0 : 0 ≤ ⌊x⌋ := Int.floor_nonneg.2 h0
  have hf1 : ⌊x⌋ ≤ 55 := by
    have := Int.floor_le x
    have h : ((⌊x⌋ : ℤ) : ℝ) ≤ ((55 : ℤ) : ℝ) := by push_cast; linarith
    exact_mod_cast h
  obtain ⟨n, hn⟩ := Int.eq_ofNat_of_zero_le hf0
  have hnr : ((⌊x⌋ : ℤ) : ℝ) = (n : ℝ) := by rw [hn]; simp
  refine ⟨n, by omega, ?_, ?_, ?_, ?_⟩
  · rw [← hnr]; exact Int.floor_le x
  · rw [← hnr]; exact Int.lt_floor_add_one x
  · unfold ci
    rw [Ideal.liftRound_coe, Ideal.fptosi, hnr]
    have : Ideal.toIntClamped (-(2 ^ (32 - 1) : Nat)) ((2 ^ (32 - 1) : Nat) - 1) (((n : ℝ) : ℝ) : EReal) = (n : ℤ) := by
      show max _ (min _ (if (0 : ℝ) ≤ (n : ℝ) then ⌊(n : ℝ)⌋ else ⌈(n : ℝ)⌉)) = _
      rw [if_pos (by positivity), Int.floor_natCast]
      omega
    rw [this]; rfl
  · unfold fr
    rw [Ideal.liftRound_coe, hnr, ← EReal.coe_sub]

theorem pos_cases (t : EReal) (h0 : t ≠ ⊥) (h1 : t ≠ ⊤) (c : ℝ) :
    ∃ s : ℝ, t = s ∧ pos c t = ((min 55 (max 0 (((c + s + 1) * 56 - 1) * (1 / 2))) : ℝ) : EReal) := by
  lift t to ℝ using ⟨h1, h0⟩
  refine ⟨t, rfl, ?_⟩
  unfold pos
  rw [lit_55, lit_56, lit_half, show (1 : EReal) = ((1 : ℝ) : EReal) by norm_cast, show (0 : EReal) = ((0 : ℝ) : EReal) by norm_cast,
    ← EReal.coe_add, ← EReal.coe_add, ← EReal.coe_mul, ← EReal.coe_sub, ← EReal.coe_mul, ← EReal.coe_strictMono.monotone.map_max,
    ← EReal.coe_strictMono.monotone.map_min]

theorem pos_bot (c : ℝ) : pos c ⊥ = ((0 : ℝ) : EReal) := by
  unfold pos
  rw [lit_55, lit_56, lit_half, EReal.add_bot, EReal.bot_add, EReal.bot_mul_coe_of_pos (by norm_num), EReal.bot_sub,
    EReal.bot_mul_coe_of_pos (by norm_num)]
  simp
theorem pos_top (c : ℝ) : pos c ⊤ = ((55 : ℝ) : EReal) := by
  unfold pos
  rw [lit_55, lit_56, lit_half, EReal.coe_add_top, show (1 : EReal) = ((1 : ℝ) : EReal) by norm_cast, EReal.top_add_coe, EReal.top_mul_coe_of_pos (by norm_num), EReal.top_sub_coe,
    EReal.top_mul_coe_of_pos (by norm_num)]
  simp

/-- The two positions of an axis, as reals. -/
theorem pos_pair (t : EReal) : ∃ x0 x1 : ℝ, 0 ≤ x0 ∧ x0 ≤ x1 ∧ x1 ≤ x0 + 9 ∧ x1 ≤ 55 ∧ pos (off 0) t = x0 ∧ pos (off 1) t = x1 := by
  have e0 : off 0 = ((-(9586981 / 67108864) : ℝ) : EReal) := lit_neg_seventh
  have e1 : off 1 = ((9586981 / 67108864 : ℝ) : EReal) := lit_seventh
  rw [e0, e1]
  by_cases h0 : t = ⊥
  · exact ⟨0, 0, by norm_num, by norm_num, by norm_num, by norm_num, by rw [h0, pos_bot], by rw [h0, pos_bot]⟩
  by_cases h1 : t = ⊤
  · exact ⟨55, 55, by norm_num, by norm_num, by norm_num, by norm_num, by rw [h1, pos_top], by rw [h1, pos_top]⟩
  obtain ⟨s, hs, h⟩ := pos_cases t h0 h1 (-(9586981 / 67108864))
  obtain ⟨s', hs', h'⟩ := pos_cases t h0 h1 (9586981 / 67108864)
  have : s = s' := by rw [hs] at hs'; exact_mod_cast hs'
  subst this
  refine ⟨_, _, ?_, ?_, ?_, min_le_left _ _, h, h'⟩
  · exact le_min (by norm_num) (le_max_left _ _)
  · exact min_le_min le_rfl (max_le_max le_rfl (by linarith))
  · have hm : max 0 (((9586981 / 67108864 + s + 1) * 56 - 1) * (1 / 2)) ≤ max 0 (((-(9586981 / 67108864) + s + 1) * 56 - 1) * (1 / 2)) + 9 := by
      refine max_le ?_ ?_
      · have := le_max_left (0 : ℝ) (((-(9586981 / 67108864) + s + 1) * 56 - 1) * (1 / 2)); linarith
      · have := le_max_right (0 : ℝ) (((-(9586981 / 67108864) + s + 1) * 56 - 1) * (1 / 2)); linarith
    rw [← min_add_add_right]
    exact le_min ((min_le_left _ _).trans (by norm_num)) ((min_le_right _ _).trans hm)

/-- A fraction is a real from zero to one. -/
def Frac (f : EReal) : Prop := ∃ r : ℝ, f = r ∧ 0 ≤ r ∧ r ≤ 1

/-- The cells and fractions of an axis's two samples. -/
theorem coord (t : EReal) : ∃ n : Fin 2 → ℕ, n 0 ≤ n 1 ∧ n 1 ≤ n 0 + 9 ∧ (∀ p, n p ≤ 55)
    ∧ (∀ p, ci (pos (off p) t) = BitVec.ofNat 32 (n p)) ∧ ∀ p, Frac (fr (pos (off p) t)) := by
  obtain ⟨x0, x1, h0, h01, h9, h55, e0, e1⟩ := pos_pair t
  obtain ⟨n0, a1, a2, a3, a4, a5⟩ := cell x0 h0 (h01.trans h55)
  obtain ⟨n1, b1, b2, b3, b4, b5⟩ := cell x1 (h0.trans h01) h55
  refine ⟨![n0, n1], ?_, ?_, ?_, ?_, ?_⟩
  · show n0 ≤ n1
    have : (n0 : ℝ) < ((n1 + 1 : ℕ) : ℝ) := by push_cast; linarith
    have := Nat.cast_lt.1 this; omega
  · show n1 ≤ n0 + 9
    have : (n1 : ℝ) < ((n0 + 10 : ℕ) : ℝ) := by push_cast; linarith
    have := Nat.cast_lt.1 this; omega
  · intro p; fin_cases p
    · exact a1
    · exact b1
  · intro p; fin_cases p
    · exact (congrArg ci e0).trans a4
    · exact (congrArg ci e1).trans b4
  · intro p; fin_cases p
    · exact ⟨x0 - n0, (congrArg fr e0).trans a5, by linarith, by linarith⟩
    · exact ⟨x1 - n1, (congrArg fr e1).trans b5, by linarith, by linarith⟩

theorem Frac.nonneg {f : EReal} (h : Frac f) : 0 ≤ f := by
  obtain ⟨r, rfl, h0, _⟩ := h; exact_mod_cast h0
theorem Frac.ne_top {f : EReal} (h : Frac f) : f ≠ ⊤ := by
  obtain ⟨r, rfl, _, _⟩ := h; exact EReal.coe_ne_top r
theorem Frac.one_sub {f : EReal} (h : Frac f) : Frac (1 - f) := by
  obtain ⟨r, rfl, h0, h1⟩ := h
  exact ⟨1 - r, by norm_cast, by linarith, by linarith⟩
theorem Frac.mul {f g : EReal} (h : Frac f) (k : Frac g) : Frac (f * g) := by
  obtain ⟨r, rfl, h0, h1⟩ := h
  obtain ⟨s, rfl, k0, k1⟩ := k
  exact ⟨r * s, by norm_cast, mul_nonneg h0 k0, mul_le_one₀ h1 k0 k1⟩

theorem ci1_eq (v : EReal) (n : ℕ) (h : n ≤ 55) (e : ci v = BitVec.ofNat 32 n) : ci1 v = BitVec.ofNat 32 (min (n + 1) 55) := by
  unfold ci1
  rw [e]
  have : ∀ n : Fin 56, IntOp.minsi (BitVec.ofNat 32 n.val + 1#32) 55#32 = BitVec.ofNat 32 (min (n.val + 1) 55) := by decide +kernel
  exact this ⟨n, by omega⟩

/-- The bilinear blend of four values, as the reference nests it and as a sum of four weighted values. -/
theorem blend {fy fx : EReal} (hy : Frac fy) (hx : Frac fx) (a b c d : EReal) :
    (1 - fy) * ((1 - fx) * a + fx * b) + fy * ((1 - fx) * c + fx * d)
      = (1 - fy) * (1 - fx) * a + (1 - fy) * fx * b + fy * (1 - fx) * c + fy * fx * d := by
  rw [EReal.left_distrib_of_nonneg_of_ne_top hy.one_sub.nonneg hy.one_sub.ne_top, EReal.left_distrib_of_nonneg_of_ne_top hy.nonneg hy.ne_top]
  simp only [mul_assoc, add_assoc]

/-- A sum of products with a row that holds four weights at four places. -/
theorem onehot {K : ℕ} (k0 k1 k2 k3 : Fin K) {w0 w1 w2 w3 : EReal} (h0 : 0 ≤ w0) (h1 : 0 ≤ w1) (h2 : 0 ≤ w2) (h3 : 0 ≤ w3) (S : Fin K → EReal) :
    ∑ k, ((if k = k0 then w0 else 0) + (if k = k1 then w1 else 0) + (if k = k2 then w2 else 0) + (if k = k3 then w3 else 0)) * S k
      = w0 * S k0 + w1 * S k1 + w2 * S k2 + w3 * S k3 := by
  have n : ∀ (w : EReal) (k k' : Fin K), 0 ≤ w → (0 : EReal) ≤ if k = k' then w else 0 := by
    intro w k k' h; split
    · exact h
    · exact le_rfl
  have e : ∀ (w : EReal) (k' : Fin K), ∑ k, (if k = k' then w else 0) * S k = w * S k' := by
    intro w k'
    rw [Finset.sum_eq_single k']
    · rw [if_pos rfl]
    · intro b _ hb; rw [if_neg hb, zero_mul]
    · intro h; exact absurd (Finset.mem_univ _) h
  rw [← e w0 k0, ← e w1 k1, ← e w2 k2, ← e w3 k3, ← Finset.sum_add_distrib, ← Finset.sum_add_distrib, ← Finset.sum_add_distrib]
  refine Finset.sum_congr rfl fun k _ => ?_
  rw [EReal.right_distrib_of_nonneg (add_nonneg (add_nonneg (n _ _ _ h0) (n _ _ _ h1)) (n _ _ _ h2)) (n _ _ _ h3),
    EReal.right_distrib_of_nonneg (add_nonneg (n _ _ _ h0) (n _ _ _ h1)) (n _ _ _ h2),
    EReal.right_distrib_of_nonneg (n _ _ _ h0) (n _ _ _ h1)]

end Cert.Proof.Scal
-- ==== Proof.Pre.lean ====
/-
  Hand-written, untrusted. What the host computes before the pooling calls.
-/
module

public import proofs.«01_k».proof.Proof.Scal
public import proofs.«01_k».proof.Proof.Gen.KernelIdeal.Regions
public import Idealize.ShloMosaic.Lib.StableHlo.ReadAt

@[expose] public section

set_option maxRecDepth 8192

noncomputable section

namespace Cert.Proof.Pre

open Idealize.ShloMosaic Idealize.ShloMosaic.TcCoe Idealize.ShloMosaic.Tactic
open Cert.KernelIdeal Cert.KernelIdeal.Gen
open Cert.Proof.Scal

variable (m : (ℓ : Loc nD τ sig) → Buf (Elt Ideal) ℓ) (c : Dev nD)

/-- The landmarks. -/
def lm : S64x16.Idx → EReal := V0 m c (Proc.devRef .tc main_arg1)

/-- The landmark `l` of row `r` on axis `a` (0: the column, 1: the row), in the sampler's units. -/
def tx (r : Fin 64) (l : Fin 8) : EReal := unit (lm m c (ix2 r ⟨2 * l.val, by omega⟩))
@[inherit_doc tx] def ty (r : Fin 64) (l : Fin 8) : EReal := unit (lm m c (ix2 r ⟨1 + 2 * l.val, by omega⟩))

theorem c24 (r : Fin 64) (l : Fin 8) : (V9 m c (Proc.devRef .tc main_v24) : S64x8.Idx → EReal) (ix2 r l) = fr (pos (off 0) (tx m c r l)) := by
  refine Eq.trans (b := (V3 m c (Proc.devRef .tc main_v24) : S64x8.Idx → EReal) (ix2 r l)) ?_ ?_
  · exact congrFun ((((((V9_of m c _ (by decide)).trans (V8_of m c _ (by decide))).trans (V7_of m c _ (by decide))).trans (V6_of m c _ (by decide))).trans (V5_of m c _ (by decide))).trans (V4_of m c _ (by decide))) _
  unfold V3 V2 V1 hostOps0 hostOps0_1 hostOps0_2
  after_reads_at
  simp only [id, constant_apply, Ideal.ofBits_def, Ideal.ofBits_zero_f32]
  rfl

theorem c25 (r : Fin 64) (l : Fin 8) : (V9 m c (Proc.devRef .tc main_v25) : S64x8.Idx → BitVec 32) (ix2 r l) = ci (pos (off 0) (tx m c r l)) := by
  refine Eq.trans (b := (V3 m c (Proc.devRef .tc main_v25) : S64x8.Idx → BitVec 32) (ix2 r l)) ?_ ?_
  · exact congrFun ((((((V9_of m c _ (by decide)).trans (V8_of m c _ (by decide))).trans (V7_of m c _ (by decide))).trans (V6_of m c _ (by decide))).trans (V5_of m c _ (by decide))).trans (V4_of m c _ (by decide))) _
  unfold V3 V2 V1 hostOps0 hostOps0_1 hostOps0_2
  after_reads_at
  simp only [id, constant_apply, Ideal.ofBits_def, Ideal.ofBits_zero_f32]
  rfl

theorem c29 (r : Fin 64) (l : Fin 8) : (V9 m c (Proc.devRef .tc main_v29) : S64x8.Idx → BitVec 32) (ix2 r l) = ci1 (pos (off 0) (tx m c r l)) := by
  refine Eq.trans (b := (V3 m c (Proc.devRef .tc main_v29) : S64x8.Idx → BitVec 32) (ix2 r l)) ?_ ?_
  · exact congrFun ((((((V9_of m c _ (by decide)).trans (V8_of m c _ (by decide))).trans (V7_of m c _ (by decide))).trans (V6_of m c _ (by decide))).trans (V5_of m c _ (by decide))).trans (V4_of m c _ (by decide))) _
  unfold V3 V2 V1 hostOps0 hostOps0_1 hostOps0_2
  after_reads_at
  simp only [id, constant_apply, Ideal.ofBits_def, Ideal.ofBits_zero_f32]
  rfl

theorem c42 (r : Fin 64) (l : Fin 8) : (V9 m c (Proc.devRef .tc main_v42) : S64x8.Idx → EReal) (ix2 r l) = fr (pos (off 1) (tx m c r l)) := by
  refine Eq.trans (b := (V5 m c (Proc.devRef .tc main_v42) : S64x8.Idx → EReal) (ix2 r l)) ?_ ?_
  · exact congrFun ((((V9_of m c _ (by decide)).trans (V8_of m c _ (by decide))).trans (V7_of m c _ (by decide))).trans (V6_of m c _ (by decide))) _
  unfold V5 V4 V3 V2 V1 hostOps0 hostOps0_1 hostOps0_2 hostOps0_3 hostOps0_4
  after_reads_at
  simp only [id, constant_apply, Ideal.ofBits_def, Ideal.ofBits_zero_f32]
  rfl

theorem c43 (r : Fin 64) (l : Fin 8) : (V9 m c (Proc.devRef .tc main_v43) : S64x8.Idx → BitVec 32) (ix2 r l) = ci (pos (off 1) (tx m c r l)) := by
  refine Eq.trans (b := (V5 m c (Proc.devRef .tc main_v43) : S64x8.Idx → BitVec 32) (ix2 r l)) ?_ ?_
  · exact congrFun ((((V9_of m c _ (by decide)).trans (V8_of m c _ (by decide))).trans (V7_of m c _ (by decide))).trans (V6_of m c _ (by decide))) _
  unfold V5 V4 V3 V2 V1 hostOps0 hostOps0_1 hostOps0_2 hostOps0_3 hostOps0_4
  after_reads_at
  simp only [id, constant_apply, Ideal.ofBits_def, Ideal.ofBits_zero_f32]
  rfl

theorem c47 (r : Fin 64) (l : Fin 8) : (V9 m c (Proc.devRef .tc main_v47) : S64x8.Idx → BitVec 32) (ix2 r l) = ci1 (pos (off 1) (tx m c r l)) := by
  refine Eq.trans (b := (V5 m c (Proc.devRef .tc main_v47) : S64x8.Idx → BitVec 32) (ix2 r l)) ?_ ?_
  · exact congrFun ((((V9_of m c _ (by decide)).trans (V8_of m c _ (by decide))).trans (V7_of m c _ (by decide))).trans (V6_of m c _ (by decide))) _
  unfold V5 V4 V3 V2 V1 hostOps0 hostOps0_1 hostOps0_2 hostOps0_3 hostOps0_4
  after_reads_at
  simp only [id, constant_apply, Ideal.ofBits_def, Ideal.ofBits_zero_f32]
  rfl

theorem c70 (r : Fin 64) (l : Fin 8) : (V9 m c (Proc.devRef .tc main_v70) : S64x8.Idx → EReal) (ix2 r l) = fr (pos (off 0) (ty m c r l)) := by
  refine Eq.trans (b := (V7 m c (Proc.devRef .tc main_v70) : S64x8.Idx → EReal) (ix2 r l)) ?_ ?_
  · exact congrFun ((V9_of m c _ (by decide)).trans (V8_of m c _ (by decide))) _
  unfold V7 V6 V5 V4 V3 V2 V1 hostOps0 hostOps0_1 hostOps0_2 hostOps0_3 hostOps0_4 hostOps0_5 hostOps0_6
  after_reads_at
  simp only [id, constant_apply, Ideal.ofBits_def, Ideal.ofBits_zero_f32]
  rfl

theorem c71 (r : Fin 64) (l : Fin 8) : (V9 m c (Proc.devRef .tc main_v71) : S64x8.Idx → BitVec 32) (ix2 r l) = ci (pos (off 0) (ty m c r l)) := by
  refine Eq.trans (b := (V7 m c (Proc.devRef .tc main_v71) : S64x8.Idx → BitVec 32) (ix2 r l)) ?_ ?_
  · exact congrFun ((V9_of m c _ (by decide)).trans (V8_of m c _ (by decide))) _
  unfold V7 V6 V5 V4 V3 V2 V1 hostOps0 hostOps0_1 hostOps0_2 hostOps0_3 hostOps0_4 hostOps0_5 hostOps0_6
  after_reads_at
  simp only [id, constant_apply, Ideal.ofBits_def, Ideal.ofBits_zero_f32]
  rfl

theorem c75 (r : Fin 64) (l : Fin 8) : (V9 m c (Proc.devRef .tc main_v75) : S64x8.Idx → BitVec 32) (ix2 r l) = ci1 (pos (off 0) (ty m c r l)) := by
  refine Eq.trans (b := (V7 m c (Proc.devRef .tc main_v75) : S64x8.Idx → BitVec 32) (ix2 r l)) ?_ ?_
  · exact congrFun ((V9_of m c _ (by decide)).trans (V8_of m c _ (by decide))) _
  unfold V7 V6 V5 V4 V3 V2 V1 hostOps0 hostOps0_1 hostOps0_2 hostOps0_3 hostOps0_4 hostOps0_5 hostOps0_6
  after_reads_at
  simp only [id, constant_apply, Ideal.ofBits_def, Ideal.ofBits_zero_f32]
  rfl

theorem c88 (r : Fin 64) (l : Fin 8) : (V9 m c (Proc.devRef .tc main_v88) : S64x8.Idx → EReal) (ix2 r l) = fr (pos (off 1) (ty m c r l)) := by
  refine Eq.trans (b := (V9 m c (Proc.devRef .tc main_v88) : S64x8.Idx → EReal) (ix2 r l)) ?_ ?_
  · rfl
  unfold V9 V8 V7 V6 V5 V4 V3 V2 V1 hostOps0 hostOps0_1 hostOps0_2 hostOps0_3 hostOps0_4 hostOps0_5 hostOps0_6 hostOps0_7 hostOps0_8
  after_reads_at
  simp only [id, constant_apply, Ideal.ofBits_def, Ideal.ofBits_zero_f32]
  rfl

theorem c89 (r : Fin 64) (l : Fin 8) : (V9 m c (Proc.devRef .tc main_v89) : S64x8.Idx → BitVec 32) (ix2 r l) = ci (pos (off 1) (ty m c r l)) := by
  refine Eq.trans (b := (V9 m c (Proc.devRef .tc main_v89) : S64x8.Idx → BitVec 32) (ix2 r l)) ?_ ?_
  · rfl
  unfold V9 V8 V7 V6 V5 V4 V3 V2 V1 hostOps0 hostOps0_1 hostOps0_2 hostOps0_3 hostOps0_4 hostOps0_5 hostOps0_6 hostOps0_7 hostOps0_8
  after_reads_at
  simp only [id, constant_apply, Ideal.ofBits_def, Ideal.ofBits_zero_f32]
  rfl

theorem c93 (r : Fin 64) (l : Fin 8) : (V9 m c (Proc.devRef .tc main_v93) : S64x8.Idx → BitVec 32) (ix2 r l) = ci1 (pos (off 1) (ty m c r l)) := by
  refine Eq.trans (b := (V9 m c (Proc.devRef .tc main_v93) : S64x8.Idx → BitVec 32) (ix2 r l)) ?_ ?_
  · rfl
  unfold V9 V8 V7 V6 V5 V4 V3 V2 V1 hostOps0 hostOps0_1 hostOps0_2 hostOps0_3 hostOps0_4 hostOps0_5 hostOps0_6 hostOps0_7 hostOps0_8
  after_reads_at
  simp only [id, constant_apply, Ideal.ofBits_def, Ideal.ofBits_zero_f32]
  rfl

theorem c_45 : (V9 m c (Proc.devRef .tc main_c_45) : S_.Idx → BitVec 32) = constantI S_ 32 8#32 := by
  unfold V9 hostOps0_8
  generalize V8 m c = V
  after_reads_simp
theorem c96 (r : Fin 64) (l : Fin 8) : (V9 m c (Proc.devRef .tc main_v96) : S64x8.Idx → BitVec 32) (ix2 r l)
    = (ci (pos (off 0) (ty m c r l))) * 56#32 + ci (pos (off 0) (tx m c r l)) := by
  rw [← c71, ← c25]
  unfold V9 hostOps0_8
  generalize V8 m c = V
  after_reads_at
  rfl

end Cert.Proof.Pre
-- ==== Proof.Pre2.lean ====
/-
  Hand-written, untrusted. The window table, the targets and the weights that the host hands to the pooling calls.
-/
module

public import proofs.«01_k».proof.Proof.Pre

@[expose] public section

set_option maxRecDepth 8192

noncomputable section

namespace Cert.Proof.Pre

open Idealize.ShloMosaic Idealize.ShloMosaic.TcCoe Idealize.ShloMosaic.Tactic
open Cert.KernelIdeal Cert.KernelIdeal.Gen
open Cert.Proof.Scal

variable (m : (ℓ : Loc nD τ sig) → Buf (Elt Ideal) ℓ) (c : Dev nD)

/-- The first row of the aligned window that holds the flat position `x`, as the host computes it. -/
def wsT (x : BitVec 32) : BitVec 32 :=
  IntOp.minsi (IntOp.muli (Scalar.select (IntOp.andi
      (IntOp.cmpi .ne (if x = 0 then 0 else if BitVec.msb x = true then -1 else 1 : BitVec 32) (if (8#32 : BitVec 32) = 0 then 0 else if BitVec.msb 8#32 = true then -1 else 1 : BitVec 32))
      (IntOp.cmpi .ne (IntOp.remsi .host x 8#32) 0#32))
    (IntOp.subi (IntOp.divsi .host x 8#32) 1#32) (IntOp.divsi .host x 8#32)) 8#32) 3112#32
/-- The window of the cell at row `y` and column `x`. -/
def win (y x : BitVec 32) : BitVec 32 := wsT (IntOp.addi (IntOp.muli y 56#32) x)
/-- The row of the stacked windows at which landmark `l`'s sample finds its cell: `a + b` says which of the landmark's four windows. -/
def tgt (l : ℕ) (a b y x w : BitVec 32) : BitVec 32 :=
  IntOp.addi (IntOp.muli (IntOp.addi (IntOp.addi (IntOp.muli (BitVec.ofNat 32 l) 4#32) a) b) 24#32) (IntOp.subi (IntOp.addi (IntOp.muli y 56#32) x) w)
/-- One of four values. -/
def pick {α : Type} (k : ℕ) (a b c d : α) : α := if k < 1 then a else if k - 1 < 1 then b else if k - 1 - 1 < 1 then c else d

/-- The cells' rows and columns of row `r`'s landmark `l`. -/
def Y (r : Fin 64) (l : Fin 8) (p : Fin 2) : BitVec 32 := ci (pos (off p) (ty m c r l))
@[inherit_doc Y] def Y' (r : Fin 64) (l : Fin 8) (p : Fin 2) : BitVec 32 := ci1 (pos (off p) (ty m c r l))
@[inherit_doc Y] def X (r : Fin 64) (l : Fin 8) (p : Fin 2) : BitVec 32 := ci (pos (off p) (tx m c r l))
@[inherit_doc Y] def X' (r : Fin 64) (l : Fin 8) (p : Fin 2) : BitVec 32 := ci1 (pos (off p) (tx m c r l))
/-- The fractions of row `r`'s landmark `l`. -/
def FY (r : Fin 64) (l : Fin 8) (p : Fin 2) : EReal := fr (pos (off p) (ty m c r l))
@[inherit_doc FY] def FX (r : Fin 64) (l : Fin 8) (p : Fin 2) : EReal := fr (pos (off p) (tx m c r l))

/-- The landmark of a sample. -/
def lnd (j : Fin 32) : Fin 8 := ⟨j.val / 4, by omega⟩

theorem d24 (r : Fin 64) (l : Fin 8) : (V16 m c (Proc.devRef .tc main_v24) : S64x8.Idx → EReal) (ix2 r l) = FX m c r l 0 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c24 m c r l)
theorem d42 (r : Fin 64) (l : Fin 8) : (V16 m c (Proc.devRef .tc main_v42) : S64x8.Idx → EReal) (ix2 r l) = FX m c r l 1 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c42 m c r l)
theorem d25 (r : Fin 64) (l : Fin 8) : (V16 m c (Proc.devRef .tc main_v25) : S64x8.Idx → BitVec 32) (ix2 r l) = X m c r l 0 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c25 m c r l)
theorem d43 (r : Fin 64) (l : Fin 8) : (V16 m c (Proc.devRef .tc main_v43) : S64x8.Idx → BitVec 32) (ix2 r l) = X m c r l 1 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c43 m c r l)
theorem d29 (r : Fin 64) (l : Fin 8) : (V16 m c (Proc.devRef .tc main_v29) : S64x8.Idx → BitVec 32) (ix2 r l) = X' m c r l 0 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c29 m c r l)
theorem d47 (r : Fin 64) (l : Fin 8) : (V16 m c (Proc.devRef .tc main_v47) : S64x8.Idx → BitVec 32) (ix2 r l) = X' m c r l 1 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c47 m c r l)
theorem d70 (r : Fin 64) (l : Fin 8) : (V16 m c (Proc.devRef .tc main_v70) : S64x8.Idx → EReal) (ix2 r l) = FY m c r l 0 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c70 m c r l)
theorem d88 (r : Fin 64) (l : Fin 8) : (V16 m c (Proc.devRef .tc main_v88) : S64x8.Idx → EReal) (ix2 r l) = FY m c r l 1 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c88 m c r l)
theorem d71 (r : Fin 64) (l : Fin 8) : (V16 m c (Proc.devRef .tc main_v71) : S64x8.Idx → BitVec 32) (ix2 r l) = Y m c r l 0 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c71 m c r l)
theorem d89 (r : Fin 64) (l : Fin 8) : (V16 m c (Proc.devRef .tc main_v89) : S64x8.Idx → BitVec 32) (ix2 r l) = Y m c r l 1 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c89 m c r l)
theorem d75 (r : Fin 64) (l : Fin 8) : (V16 m c (Proc.devRef .tc main_v75) : S64x8.Idx → BitVec 32) (ix2 r l) = Y' m c r l 0 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c75 m c r l)
theorem d93 (r : Fin 64) (l : Fin 8) : (V16 m c (Proc.devRef .tc main_v93) : S64x8.Idx → BitVec 32) (ix2 r l) = Y' m c r l 1 :=
  (congrFun (((((((V16_of m c _ (by decide)).trans (V15_of m c _ (by decide))).trans (V14_of m c _ (by decide))).trans (V13_of m c _ (by decide))).trans (V12_of m c _ (by decide))).trans (V11_of m c _ (by decide))).trans (V10_of m c _ (by decide))) _).trans (c93 m c r l)

theorem w101 (r : Fin 64) (l : Fin 8) : (V16 m c (Proc.devRef .tc main_v101) : S64x8.Idx → BitVec 32) (ix2 r l) = win (Y m c r l 0) (X m c r l 0) := by
  refine (congrFun (((((V16_of m c _ (by decide)).trans (V15_of m c _ (by decide))).trans (V14_of m c _ (by decide))).trans (V13_of m c _ (by decide))).trans (V12_of m c _ (by decide))) _).trans ?_
  unfold Y X
  rw [← c71, ← c25]
  have h45 := c_45 m c
  have h96 : (V9 m c (Proc.devRef .tc main_v96) : S64x8.Idx → BitVec 32) (ix2 r l)
      = IntOp.addi (IntOp.muli ((V9 m c (Proc.devRef .tc main_v71) : S64x8.Idx → BitVec 32) (ix2 r l)) 56#32) ((V9 m c (Proc.devRef .tc main_v25) : S64x8.Idx → BitVec 32) (ix2 r l)) := by
    rw [c71, c25]; exact c96 m c r l
  unfold V11 V10
  generalize V9 m c = V at h45 h96 ⊢
  unfold hostOps0_10 hostOps0_9
  unfold win wsT
  after_reads_at
  simp only [h45, h96, id, constantI_apply]
  all_goals rfl
theorem w109 (r : Fin 64) (l : Fin 8) : (V16 m c (Proc.devRef .tc main_v109) : S64x8.Idx → BitVec 32) (ix2 r l) = win (Y' m c r l 0) (X m c r l 0) := by
  refine (congrFun (((V16_of m c _ (by decide)).trans (V15_of m c _ (by decide))).trans (V14_of m c _ (by decide))) _).trans ?_
  unfold Y' X
  rw [← c75, ← c25]
  unfold V13 V12 V11 V10
  generalize V9 m c = V
  unfold hostOps0_12 hostOps0_11 hostOps0_10 hostOps0_9
  unfold win wsT
  after_reads_at
  simp only [id, constantI_apply]
  all_goals rfl
theorem w117 (r : Fin 64) (l : Fin 8) : (V16 m c (Proc.devRef .tc main_v117) : S64x8.Idx → BitVec 32) (ix2 r l) = win (Y m c r l 1) (X m c r l 0) := by
  refine (congrFun (V16_of m c _ (by decide)) _).trans ?_
  unfold Y X
  rw [← c89, ← c25]
  unfold V15 V14 V13 V12 V11 V10
  generalize V9 m c = V
  unfold hostOps0_14 hostOps0_13 hostOps0_12 hostOps0_11 hostOps0_10 hostOps0_9
  unfold win wsT
  after_reads_at
  simp only [id, constantI_apply]
  all_goals rfl
theorem w125 (r : Fin 64) (l : Fin 8) : IntOp.minsi (IntOp.muli ((V16 m c (Proc.devRef .tc main_v121) : S64x8.Idx → BitVec 32) (ix2 r l)) 8#32) 3112#32 = win (Y' m c r l 1) (X m c r l 0) := by
  unfold Y' X
  rw [← c93, ← c25]
  unfold V16 V15 V14 V13 V12 V11 V10
  generalize V9 m c = V
  unfold hostOps0_15 hostOps0_14 hostOps0_13 hostOps0_12 hostOps0_11 hostOps0_10 hostOps0_9
  unfold win wsT
  after_reads_at
  simp only [id, constantI_apply]
  all_goals rfl

theorem v131 (r : Fin 64) (j : Fin 32) : (V17 m c (Proc.devRef .tc main_v131) : S64x32.Idx → BitVec 32) (ix2 r j)
    = pick (j.val % 4) (win (Y m c r (lnd j) 0) (X m c r (lnd j) 0)) (win (Y' m c r (lnd j) 0) (X m c r (lnd j) 0)) (win (Y m c r (lnd j) 1) (X m c r (lnd j) 0)) (win (Y' m c r (lnd j) 1) (X m c r (lnd j) 0)) := by
  rw [← w101, ← w109, ← w117, ← w125]
  unfold V17
  generalize V16 m c = V
  unfold hostOps0_16
  after_reads_at
  all_goals try after_reads_at
  rfl

theorem v195 (r : Fin 64) (j : Fin 32) : (V17 m c (Proc.devRef .tc main_v195) : S64x32x1.Idx → BitVec 32) (ix3 r j 0)
    = pick (j.val % 4) (tgt (j.val / 4) 0#32 0#32 (Y m c r (lnd j) 0) (X m c r (lnd j) 0) (win (Y m c r (lnd j) 0) (X m c r (lnd j) 0))) (tgt (j.val / 4) 0#32 0#32 (Y m c r (lnd j) 0) (X m c r (lnd j) 1) (win (Y m c r (lnd j) 0) (X m c r (lnd j) 0))) (tgt (j.val / 4) 2#32 0#32 (Y m c r (lnd j) 1) (X m c r (lnd j) 0) (win (Y m c r (lnd j) 1) (X m c r (lnd j) 0))) (tgt (j.val / 4) 2#32 0#32 (Y m c r (lnd j) 1) (X m c r (lnd j) 1) (win (Y m c r (lnd j) 1) (X m c r (lnd j) 0))) := by
  rw [← w101, ← w117, ← d71, ← d89, ← d25, ← d43]
  unfold V17
  generalize V16 m c = V
  unfold hostOps0_16
  after_reads_at
  all_goals try after_reads_at
  rfl

theorem v257 (r : Fin 64) (j : Fin 32) : (V17 m c (Proc.devRef .tc main_v257) : S64x32x1.Idx → BitVec 32) (ix3 r j 0)
    = pick (j.val % 4) (tgt (j.val / 4) 0#32 0#32 (Y m c r (lnd j) 0) (X' m c r (lnd j) 0) (win (Y m c r (lnd j) 0) (X m c r (lnd j) 0))) (tgt (j.val / 4) 0#32 0#32 (Y m c r (lnd j) 0) (X' m c r (lnd j) 1) (win (Y m c r (lnd j) 0) (X m c r (lnd j) 0))) (tgt (j.val / 4) 2#32 0#32 (Y m c r (lnd j) 1) (X' m c r (lnd j) 0) (win (Y m c r (lnd j) 1) (X m c r (lnd j) 0))) (tgt (j.val / 4) 2#32 0#32 (Y m c r (lnd j) 1) (X' m c r (lnd j) 1) (win (Y m c r (lnd j) 1) (X m c r (lnd j) 0))) := by
  rw [← w101, ← w117, ← d71, ← d89, ← d29, ← d47]
  unfold V17
  generalize V16 m c = V
  unfold hostOps0_16
  after_reads_at
  all_goals try after_reads_at
  rfl

theorem v319 (r : Fin 64) (j : Fin 32) : (V17 m c (Proc.devRef .tc main_v319) : S64x32x1.Idx → BitVec 32) (ix3 r j 0)
    = pick (j.val % 4) (tgt (j.val / 4) 0#32 1#32 (Y' m c r (lnd j) 0) (X m c r (lnd j) 0) (win (Y' m c r (lnd j) 0) (X m c r (lnd j) 0))) (tgt (j.val / 4) 0#32 1#32 (Y' m c r (lnd j) 0) (X m c r (lnd j) 1) (win (Y' m c r (lnd j) 0) (X m c r (lnd j) 0))) (tgt (j.val / 4) 2#32 1#32 (Y' m c r (lnd j) 1) (X m c r (lnd j) 0) (win (Y' m c r (lnd j) 1) (X m c r (lnd j) 0))) (tgt (j.val / 4) 2#32 1#32 (Y' m c r (lnd j) 1) (X m c r (lnd j) 1) (win (Y' m c r (lnd j) 1) (X m c r (lnd j) 0))) := by
  rw [← w109, ← w125, ← d75, ← d93, ← d25, ← d43]
  unfold V17
  generalize V16 m c = V
  unfold hostOps0_16
  after_reads_at
  all_goals try after_reads_at
  rfl

theorem v381 (r : Fin 64) (j : Fin 32) : (V17 m c (Proc.devRef .tc main_v381) : S64x32x1.Idx → BitVec 32) (ix3 r j 0)
    = pick (j.val % 4) (tgt (j.val / 4) 0#32 1#32 (Y' m c r (lnd j) 0) (X' m c r (lnd j) 0) (win (Y' m c r (lnd j) 0) (X m c r (lnd j) 0))) (tgt (j.val / 4) 0#32 1#32 (Y' m c r (lnd j) 0) (X' m c r (lnd j) 1) (win (Y' m c r (lnd j) 0) (X m c r (lnd j) 0))) (tgt (j.val / 4) 2#32 1#32 (Y' m c r (lnd j) 1) (X' m c r (lnd j) 0) (win (Y' m c r (lnd j) 1) (X m c r (lnd j) 0))) (tgt (j.val / 4) 2#32 1#32 (Y' m c r (lnd j) 1) (X' m c r (lnd j) 1) (win (Y' m c r (lnd j) 1) (X m c r (lnd j) 0))) := by
  rw [← w109, ← w125, ← d75, ← d93, ← d29, ← d47]
  unfold V17
  generalize V16 m c = V
  unfold hostOps0_16
  after_reads_at
  all_goals try after_reads_at
  rfl

theorem v407 (r : Fin 64) (j : Fin 32) : (V17 m c (Proc.devRef .tc main_v407) : S64x32x1.Idx → EReal) (ix3 r j 0)
    = pick (j.val % 4) ((1 - (FY m c r (lnd j) 0)) * (1 - (FX m c r (lnd j) 0))) ((1 - (FY m c r (lnd j) 0)) * (1 - (FX m c r (lnd j) 1))) ((1 - (FY m c r (lnd j) 1)) * (1 - (FX m c r (lnd j) 0))) ((1 - (FY m c r (lnd j) 1)) * (1 - (FX m c r (lnd j) 1))) := by
  rw [← d70, ← d88, ← d24, ← d42]
  unfold V17
  generalize V16 m c = V
  unfold hostOps0_16
  after_reads_at
  all_goals try after_reads_at
  rfl

theorem v425 (r : Fin 64) (j : Fin 32) : (V17 m c (Proc.devRef .tc main_v425) : S64x32x1.Idx → EReal) (ix3 r j 0)
    = pick (j.val % 4) ((1 - (FY m c r (lnd j) 0)) * (FX m c r (lnd j) 0)) ((1 - (FY m c r (lnd j) 0)) * (FX m c r (lnd j) 1)) ((1 - (FY m c r (lnd j) 1)) * (FX m c r (lnd j) 0)) ((1 - (FY m c r (lnd j) 1)) * (FX m c r (lnd j) 1)) := by
  rw [← d70, ← d88, ← d24, ← d42]
  unfold V17
  generalize V16 m c = V
  unfold hostOps0_16
  after_reads_at
  all_goals try after_reads_at
  rfl

theorem v443 (r : Fin 64) (j : Fin 32) : (V17 m c (Proc.devRef .tc main_v443) : S64x32x1.Idx → EReal) (ix3 r j 0)
    = pick (j.val % 4) ((FY m c r (lnd j) 0) * (1 - (FX m c r (lnd j) 0))) ((FY m c r (lnd j) 0) * (1 - (FX m c r (lnd j) 1))) ((FY m c r (lnd j) 1) * (1 - (FX m c r (lnd j) 0))) ((FY m c r (lnd j) 1) * (1 - (FX m c r (lnd j) 1))) := by
  rw [← d70, ← d88, ← d24, ← d42]
  unfold V17
  generalize V16 m c = V
  unfold hostOps0_16
  after_reads_at
  all_goals try after_reads_at
  rfl

theorem v453 (r : Fin 64) (j : Fin 32) : (V17 m c (Proc.devRef .tc main_v453) : S64x32x1.Idx → EReal) (ix3 r j 0)
    = pick (j.val % 4) ((FY m c r (lnd j) 0) * (FX m c r (lnd j) 0)) ((FY m c r (lnd j) 0) * (FX m c r (lnd j) 1)) ((FY m c r (lnd j) 1) * (FX m c r (lnd j) 0)) ((FY m c r (lnd j) 1) * (FX m c r (lnd j) 1)) := by
  rw [← d70, ← d88, ← d24, ← d42]
  unfold V17
  generalize V16 m c = V
  unfold hostOps0_16
  after_reads_at
  all_goals try after_reads_at
  rfl

end Cert.Proof.Pre
-- ==== Proof.Words.lean ====
/-
  Hand-written, untrusted. The windows' first rows and the targets as natural numbers, and the model of the pooled features.
-/
module

public import proofs.«01_k».proof.Proof.Pre2

@[expose] public section

set_option maxRecDepth 8192

noncomputable section

namespace Cert.Proof.Words

open Idealize.ShloMosaic Idealize.ShloMosaic.TcCoe Idealize.ShloMosaic.Tactic
open Cert.KernelIdeal Cert.KernelIdeal.Gen
open Cert.Proof.Scal Cert.Proof.Pre

/-- The first row of the window that holds the flat position `n`. -/
def wsN (n : ℕ) : ℕ := min (n / 8 * 8) 3112

theorem wsT_eq (n : ℕ) (h : n < 3136) : wsT (BitVec.ofNat 32 n) = BitVec.ofNat 32 (wsN n) := by
  have : ∀ n : Fin 3136, wsT (BitVec.ofNat 32 n.val) = BitVec.ofNat 32 (wsN n.val) := by decide +kernel
  exact this ⟨n, h⟩

theorem win_eq (a b : ℕ) (ha : a ≤ 55) (hb : b ≤ 55) : win (BitVec.ofNat 32 a) (BitVec.ofNat 32 b) = BitVec.ofNat 32 (wsN (a * 56 + b)) := by
  unfold win
  rw [← wsT_eq (a * 56 + b) (by omega)]
  congr 1
  unfold IntOp.addi IntOp.muli
  rw [BitVec.ofNat_add, BitVec.ofNat_mul]

theorem wsN_lt (n : ℕ) : wsN n ≤ 3112 := min_le_right _ _
theorem wsN_dvd (n : ℕ) : 8 ∣ wsN n := by unfold wsN; omega
theorem wsN_le (n : ℕ) : wsN n ≤ n := by unfold wsN; omega
theorem wsN_near (n x : ℕ) (h : x ≤ n + 10) (hx : x < 3136) : x - wsN n < 24 := by unfold wsN; omega

theorem tgt_eq (l a b y x w : ℕ) (hw : w ≤ 3112) (h : w ≤ y * 56 + x) (hl : l < 8) (ha : a ≤ 2) (hb : b ≤ 1) (hd : y * 56 + x - w < 24) :
    (tgt l (BitVec.ofNat 32 a) (BitVec.ofNat 32 b) (BitVec.ofNat 32 y) (BitVec.ofNat 32 x) (BitVec.ofNat 32 w)).toNat = (l * 4 + a + b) * 24 + (y * 56 + x - w) := by
  have e : tgt l (BitVec.ofNat 32 a) (BitVec.ofNat 32 b) (BitVec.ofNat 32 y) (BitVec.ofNat 32 x) (BitVec.ofNat 32 w)
      = BitVec.ofNat 32 ((l * 4 + a + b) * 24 + (y * 56 + x - w)) := by
    unfold tgt IntOp.addi IntOp.muli IntOp.subi
    have k : BitVec.ofNat 32 (y * 56 + x) - BitVec.ofNat 32 w = BitVec.ofNat 32 (y * 56 + x - w) := BitVec.ofNat_sub_ofNat_of_le _ _ (by omega) h
    rw [BitVec.ofNat_add, BitVec.ofNat_mul, BitVec.ofNat_add, BitVec.ofNat_add, BitVec.ofNat_mul, ← k, BitVec.ofNat_add, BitVec.ofNat_mul]
  rw [e, BitVec.toNat_ofNat]
  omega

variable (m : (ℓ : Loc nD τ sig) → Buf (Elt Ideal) ℓ) (c : Dev nD)

/-- The cells of row `r`'s landmark `l`, as natural numbers, and its fractions. -/
structure Cells (r : Fin 64) (l : Fin 8) (ny nx : Fin 2 → ℕ) : Prop where
  y_le : ∀ p, ny p ≤ 55
  x_le : ∀ p, nx p ≤ 55
  x_mono : nx 0 ≤ nx 1
  x_near : nx 1 ≤ nx 0 + 9
  y : ∀ p, Y m c r l p = BitVec.ofNat 32 (ny p)
  y' : ∀ p, Y' m c r l p = BitVec.ofNat 32 (min (ny p + 1) 55)
  x : ∀ p, X m c r l p = BitVec.ofNat 32 (nx p)
  x' : ∀ p, X' m c r l p = BitVec.ofNat 32 (min (nx p + 1) 55)
  fy : ∀ p, Frac (FY m c r l p)
  fx : ∀ p, Frac (FX m c r l p)

theorem cells (r : Fin 64) (l : Fin 8) : ∃ ny nx, Cells m c r l ny nx := by
  obtain ⟨ny, _, _, a2, a3, a4⟩ := coord (ty m c r l)
  obtain ⟨nx, b0, b1, b2, b3, b4⟩ := coord (tx m c r l)
  exact ⟨ny, nx, a2, b2, b0, b1, a3, fun p => ci1_eq _ _ (a2 p) (a3 p), b3, fun p => ci1_eq _ _ (b2 p) (b3 p), a4, b4⟩

theorem Cells.x0_le {r : Fin 64} {l : Fin 8} {ny nx : Fin 2 → ℕ} (h : Cells m c r l ny nx) (p : Fin 2) : nx 0 ≤ nx p := by
  fin_cases p
  · exact le_rfl
  · exact h.x_mono
theorem Cells.x0_near {r : Fin 64} {l : Fin 8} {ny nx : Fin 2 → ℕ} (h : Cells m c r l ny nx) (p : Fin 2) : nx p ≤ nx 0 + 9 := by
  fin_cases p
  · exact Nat.le_add_right _ _
  · exact h.x_near

/-- The features. -/
def ft : S64x256x56x56.Idx → EReal := V0 m c (Proc.devRef .tc main_arg0)
/-- A cell's feature. -/
def at_ (r : Fin 64) (ch : Fin 256) (y x : BitVec 32) : EReal :=
  ft m c (ix4 r ch ⟨y.toNat % 56, Nat.mod_lt _ (by omega)⟩ ⟨x.toNat % 56, Nat.mod_lt _ (by omega)⟩)
/-- The bilinear sample `(py, px)` of landmark `l`. -/
def sample (r : Fin 64) (l : Fin 8) (py px : Fin 2) (ch : Fin 256) : EReal :=
  (1 - FY m c r l py) * (1 - FX m c r l px) * at_ m c r ch (Y m c r l py) (X m c r l px)
    + (1 - FY m c r l py) * FX m c r l px * at_ m c r ch (Y m c r l py) (X' m c r l px)
    + FY m c r l py * (1 - FX m c r l px) * at_ m c r ch (Y' m c r l py) (X m c r l px)
    + FY m c r l py * FX m c r l px * at_ m c r ch (Y' m c r l py) (X' m c r l px)
/-- The largest of a landmark's four samples. -/
def G (r : Fin 64) (l : Fin 8) (ch : Fin 256) : EReal :=
  Finset.univ.fold max (Ideal.ofBits .f32 0xFF800000#32) fun q : Fin 4 => sample m c r l ⟨q.val / 2, by omega⟩ ⟨q.val % 2, by omega⟩ ch

theorem at_eq (r : Fin 64) (ch : Fin 256) (a b n : ℕ) (ha : a ≤ 55) (hb : b ≤ 55) (hn : n = a * 56 + b) (h1 : n / 56 < 56) :
    at_ m c r ch (BitVec.ofNat 32 a) (BitVec.ofNat 32 b) = ft m c (ix4 r ch ⟨n / 56, h1⟩ ⟨n % 56, Nat.mod_lt _ (by omega)⟩) := by
  unfold at_
  congr 2
  · refine Fin.ext ?_
    show (BitVec.ofNat 32 a).toNat % 56 = n / 56
    rw [BitVec.toNat_ofNat]; omega
  · refine Fin.ext ?_
    show (BitVec.ofNat 32 b).toNat % 56 = n % 56
    rw [BitVec.toNat_ofNat]; omega

end Cert.Proof.Words
-- ==== Proof.PoolVal.lean ====
/-
  Hand-written, untrusted. What a pooling point stores, at an index: the largest of each landmark's four samples.
-/
module

public import proofs.«01_k».proof.Proof.PoolRun
public import proofs.«01_k».proof.Proof.Words

@[expose] public section

set_option maxRecDepth 8192

noncomputable section

namespace Cert.Proof.PoolVal

open Idealize.ShloMosaic Idealize.ShloMosaic.TcCoe Idealize.ShloMosaic.Tactic
open Cert.KernelIdeal Cert.KernelIdeal.Gen
open Cert.Proof.PoolRun Cert.Proof.Scal Cert.Proof.Pre Cert.Proof.Words
open scoped BigOperators

theorem pooled_apply (x3 x4 x5 x6 : Vec Ideal S1x32x1 .i32) (x7 x8 x9 x10 : Vec Ideal S1x32x1 .f32) (x13 : Vec Ideal S1x768x256 .f32) (l : Fin 8) (ch : Fin 256) :
    pooled x3 x4 x5 x6 x7 x8 x9 x10 x13 (ix3 0 l ch) = Finset.univ.fold max (Ideal.ofBits .f32 0xFF800000#32) fun q : Fin 4 =>
      (∑ k : Fin 768, (Scalar.select (IntOp.cmpi .eq (BitVec.ofNat 32 k.val) (x3 (ix3 0 ⟨l.val * 4 + q.val, by omega⟩ 0))) (x7 (ix3 0 ⟨l.val * 4 + q.val, by omega⟩ 0)) 0
        + Scalar.select (IntOp.cmpi .eq (BitVec.ofNat 32 k.val) (x4 (ix3 0 ⟨l.val * 4 + q.val, by omega⟩ 0))) (x8 (ix3 0 ⟨l.val * 4 + q.val, by omega⟩ 0)) 0
        + Scalar.select (IntOp.cmpi .eq (BitVec.ofNat 32 k.val) (x5 (ix3 0 ⟨l.val * 4 + q.val, by omega⟩ 0))) (x9 (ix3 0 ⟨l.val * 4 + q.val, by omega⟩ 0)) 0
        + Scalar.select (IntOp.cmpi .eq (BitVec.ofNat 32 k.val) (x6 (ix3 0 ⟨l.val * 4 + q.val, by omega⟩ 0))) (x10 (ix3 0 ⟨l.val * 4 + q.val, by omega⟩ 0)) 0)
        * x13 (ix3 0 k ch) : EReal) := by
  unfold pooled k0_pay1 k0_pay2 k0_pay3 k0_pay4 k0_pay5 k0_pay6
  pointwise

/-- A one-hot entry: the weight at the place that the target names, else zero. -/
theorem select_eq (k : Fin 768) (t : BitVec 32) (ht : t.toNat < 768) (w : EReal) :
    (Scalar.select (IntOp.cmpi .eq (BitVec.ofNat 32 k.val) t) w 0 : EReal) = if k = ⟨t.toNat, ht⟩ then w else 0 := by
  by_cases h : k = ⟨t.toNat, ht⟩
  · rw [if_pos h, h]
    simp [Scalar.select, IntOp.cmpi]
  · rw [if_neg h]
    have : BitVec.ofNat 32 k.val ≠ t := fun e => h (Fin.ext (by
      show k.val = t.toNat
      rw [← e, BitVec.toNat_ofNat]; omega))
    have hb : (BitVec.ofNat 32 k.val == t) = false := beq_eq_false_iff_ne.2 this
    show (if BitVec.ofBool (BitVec.ofNat 32 k.val == t) = 1#1 then w else 0) = 0
    rw [hb]; exact if_neg (by decide)

variable (m : (ℓ : Loc nD τ sig) → Buf (Elt Ideal) ℓ) (c : Dev nD)

/-- One sample of one landmark: the row with the four weights at its four targets, times the stacked windows. -/
theorem sample_eq (r : Fin 64) (l : Fin 8) (py px : Fin 2) (ch : Fin 256) (T : Fin 32 → BitVec 32) (S : Fin 768 → EReal)
    (hS : ∀ (k : Fin 768) (h : (((T ⟨k.val / 24, by omega⟩).toNat + k.val % 24) % 3136) / 56 < 56),
      S k = ft m c (ix4 r ch ⟨(((T ⟨k.val / 24, by omega⟩).toNat + k.val % 24) % 3136) / 56, h⟩ ⟨(((T ⟨k.val / 24, by omega⟩).toNat + k.val % 24) % 3136) % 56, Nat.mod_lt _ (by omega)⟩))
    (h0 : T ⟨l.val * 4 + 2 * py.val, by omega⟩ = win (Y m c r l py) (X m c r l 0))
    (h1 : T ⟨l.val * 4 + 2 * py.val + 1, by omega⟩ = win (Y' m c r l py) (X m c r l 0)) :
    (∑ k : Fin 768, (Scalar.select (IntOp.cmpi .eq (BitVec.ofNat 32 k.val) (tgt l.val (BitVec.ofNat 32 (2 * py.val)) 0#32 (Y m c r l py) (X m c r l px) (win (Y m c r l py) (X m c r l 0)))) ((1 - FY m c r l py) * (1 - FX m c r l px)) 0
        + Scalar.select (IntOp.cmpi .eq (BitVec.ofNat 32 k.val) (tgt l.val (BitVec.ofNat 32 (2 * py.val)) 0#32 (Y m c r l py) (X' m c r l px) (win (Y m c r l py) (X m c r l 0)))) ((1 - FY m c r l py) * FX m c r l px) 0
        + Scalar.select (IntOp.cmpi .eq (BitVec.ofNat 32 k.val) (tgt l.val (BitVec.ofNat 32 (2 * py.val)) 1#32 (Y' m c r l py) (X m c r l px) (win (Y' m c r l py) (X m c r l 0)))) (FY m c r l py * (1 - FX m c r l px)) 0
        + Scalar.select (IntOp.cmpi .eq (BitVec.ofNat 32 k.val) (tgt l.val (BitVec.ofNat 32 (2 * py.val)) 1#32 (Y' m c r l py) (X' m c r l px) (win (Y' m c r l py) (X m c r l 0)))) (FY m c r l py * FX m c r l px) 0)
        * S k : EReal) = sample m c r l py px ch := by
  obtain ⟨ny, nx, C⟩ := cells m c r l
  have key : ∀ (b y x : ℕ), b ≤ 1 → y ≤ 55 → x ≤ 55 → nx 0 ≤ x → x ≤ nx 0 + 10 →
      T ⟨l.val * 4 + 2 * py.val + b % 2, by omega⟩ = win (BitVec.ofNat 32 y) (BitVec.ofNat 32 (nx 0)) →
      ∃ h : (tgt l.val (BitVec.ofNat 32 (2 * py.val)) (BitVec.ofNat 32 b) (BitVec.ofNat 32 y) (BitVec.ofNat 32 x) (win (BitVec.ofNat 32 y) (BitVec.ofNat 32 (nx 0)))).toNat < 768,
        S ⟨_, h⟩ = at_ m c r ch (BitVec.ofNat 32 y) (BitVec.ofNat 32 x) := by
    intro b y x hb hy hx hx0 hx1 hT
    have hle := wsN_le (y * 56 + nx 0)
    have hlt := wsN_lt (y * 56 + nx 0)
    have hnear := wsN_near (y * 56 + nx 0) (y * 56 + x) (by omega) (by omega)
    have e := tgt_eq l.val (2 * py.val) b y x (wsN (y * 56 + nx 0)) hlt (by omega) l.isLt (by omega) hb hnear
    rw [win_eq y (nx 0) hy (C.x_le 0)] at hT ⊢
    have hlt' : (tgt l.val (BitVec.ofNat 32 (2 * py.val)) (BitVec.ofNat 32 b) (BitVec.ofNat 32 y) (BitVec.ofNat 32 x) (BitVec.ofNat 32 (wsN (y * 56 + nx 0)))).toNat < 768 := by
      rw [e]; omega
    refine ⟨hlt', ?_⟩
    have hg : ∀ (n : ℕ) (h : n < 32), n = l.val * 4 + 2 * py.val + b → (T ⟨n, h⟩).toNat = wsN (y * 56 + nx 0) := by
      intro n h hn
      rw [show (⟨n, h⟩ : Fin 32) = ⟨l.val * 4 + 2 * py.val + b % 2, by omega⟩ from Fin.ext (show n = l.val * 4 + 2 * py.val + b % 2 by omega), hT, BitVec.toNat_ofNat]
      omega
    have hn : ((T ⟨(tgt l.val (BitVec.ofNat 32 (2 * py.val)) (BitVec.ofNat 32 b) (BitVec.ofNat 32 y) (BitVec.ofNat 32 x) (BitVec.ofNat 32 (wsN (y * 56 + nx 0)))).toNat / 24, by omega⟩).toNat
        + (tgt l.val (BitVec.ofNat 32 (2 * py.val)) (BitVec.ofNat 32 b) (BitVec.ofNat 32 y) (BitVec.ofNat 32 x) (BitVec.ofNat 32 (wsN (y * 56 + nx 0)))).toNat % 24) % 3136 = y * 56 + x := by
      rw [hg _ _ (by rw [e]; omega), e]; omega
    rw [hS _ (by dsimp only; rw [hn]; omega)]
    exact (at_eq m c r ch y x _ hy hx hn (by omega)).symm
  rw [C.y, C.x 0] at h0
  rw [C.y', C.x 0] at h1
  have x0 := C.x0_le m c px
  have x9 := C.x0_near m c px
  have xl := C.x_le px
  have yl := C.y_le py
  obtain ⟨a0, e0⟩ := key 0 (ny py) (nx px) (by omega) yl xl x0 (by omega) h0
  obtain ⟨a1, e1⟩ := key 0 (ny py) (min (nx px + 1) 55) (by omega) yl (by omega) (by have := C.x_le 0; omega) (by omega) h0
  obtain ⟨a2, e2⟩ := key 1 (min (ny py + 1) 55) (nx px) (by omega) (by omega) xl x0 (by omega) h1
  obtain ⟨a3, e3⟩ := key 1 (min (ny py + 1) 55) (min (nx px + 1) 55) (by omega) (by omega) (by omega) (by have := C.x_le 0; omega) (by omega) h1
  unfold sample
  rw [C.y, C.y', C.x px, C.x', C.x 0, ← e0, ← e1, ← e2, ← e3,
    ← onehot _ _ _ _ ((C.fy py).one_sub.mul (C.fx px).one_sub).nonneg ((C.fy py).one_sub.mul (C.fx px)).nonneg ((C.fy py).mul (C.fx px).one_sub).nonneg ((C.fy py).mul (C.fx px)).nonneg S]
  refine Finset.sum_congr rfl fun k _ => congrArg (· * S k) ?_
  rw [select_eq k _ a0, select_eq k _ a1, select_eq k _ a2, select_eq k _ a3]

end Cert.Proof.PoolVal
-- ==== Proof.PoolEq.lean ====
/-
  Hand-written, untrusted. A pooling point's block is the model's row, once its windows hold the host's targets and weights of that row.
-/
module

public import proofs.«01_k».proof.Proof.PoolVal

@[expose] public section

set_option maxRecDepth 8192

noncomputable section

namespace Cert.Proof.PoolEq

open Idealize.ShloMosaic Idealize.ShloMosaic.TcCoe Idealize.ShloMosaic.Tactic
open Cert.KernelIdeal Cert.KernelIdeal.Gen
open Cert.Proof.PoolRun Cert.Proof.Scal Cert.Proof.Pre Cert.Proof.Words Cert.Proof.PoolVal
open scoped BigOperators

variable (m : (ℓ : Loc nD τ sig) → Buf (Elt Ideal) ℓ) (c : Dev nD)

/-- The sample's place among a row's 32. -/
abbrev pl (l : Fin 8) (q : Fin 4) : Fin 32 := ⟨l.val * 4 + q.val, by omega⟩
/-- The sample's row and column of its landmark. -/
abbrev qy (q : Fin 4) : Fin 2 := ⟨q.val / 2, by omega⟩
@[inherit_doc qy] abbrev qx (q : Fin 4) : Fin 2 := ⟨q.val % 2, by omega⟩

theorem lnd_pl (l : Fin 8) (q : Fin 4) : lnd (pl l q) = l := Fin.ext (show (l.val * 4 + q.val) / 4 = l.val by omega)
theorem pl_div (l : Fin 8) (q : Fin 4) : (pl l q).val / 4 = l.val := show (l.val * 4 + q.val) / 4 = l.val by omega
theorem pl_mod (l : Fin 8) (q : Fin 4) : (pl l q).val % 4 = q.val := show (l.val * 4 + q.val) % 4 = q.val by omega

theorem q195 (r : Fin 64) (l : Fin 8) (q : Fin 4) : (V17 m c (Proc.devRef .tc main_v195) : S64x32x1.Idx → BitVec 32) (ix3 r (pl l q) 0)
    = (tgt l.val (BitVec.ofNat 32 (2 * (qy q).val)) 0#32 (Y m c r l (qy q)) (X m c r l (qx q)) (win (Y m c r l (qy q)) (X m c r l 0))) := by
  rw [v195, lnd_pl, pl_div, pl_mod]
  fin_cases q <;> rfl
theorem q257 (r : Fin 64) (l : Fin 8) (q : Fin 4) : (V17 m c (Proc.devRef .tc main_v257) : S64x32x1.Idx → BitVec 32) (ix3 r (pl l q) 0)
    = (tgt l.val (BitVec.ofNat 32 (2 * (qy q).val)) 0#32 (Y m c r l (qy q)) (X' m c r l (qx q)) (win (Y m c r l (qy q)) (X m c r l 0))) := by
  rw [v257, lnd_pl, pl_div, pl_mod]
  fin_cases q <;> rfl
theorem q319 (r : Fin 64) (l : Fin 8) (q : Fin 4) : (V17 m c (Proc.devRef .tc main_v319) : S64x32x1.Idx → BitVec 32) (ix3 r (pl l q) 0)
    = (tgt l.val (BitVec.ofNat 32 (2 * (qy q).val)) 1#32 (Y' m c r l (qy q)) (X m c r l (qx q)) (win (Y' m c r l (qy q)) (X m c r l 0))) := by
  rw [v319, lnd_pl, pl_div, pl_mod]
  fin_cases q <;> rfl
theorem q381 (r : Fin 64) (l : Fin 8) (q : Fin 4) : (V17 m c (Proc.devRef .tc main_v381) : S64x32x1.Idx → BitVec 32) (ix3 r (pl l q) 0)
    = (tgt l.val (BitVec.ofNat 32 (2 * (qy q).val)) 1#32 (Y' m c r l (qy q)) (X' m c r l (qx q)) (win (Y' m c r l (qy q)) (X m c r l 0))) := by
  rw [v381, lnd_pl, pl_div, pl_mod]
  fin_cases q <;> rfl
theorem q407 (r : Fin 64) (l : Fin 8) (q : Fin 4) : (V17 m c (Proc.devRef .tc main_v407) : S64x32x1.Idx → EReal) (ix3 r (pl l q) 0)
    = (1 - FY m c r l (qy q)) * (1 - FX m c r l (qx q)) := by
  rw [v407, lnd_pl, pl_mod]
  fin_cases q <;> rfl
theorem q425 (r : Fin 64) (l : Fin 8) (q : Fin 4) : (V17 m c (Proc.devRef .tc main_v425) : S64x32x1.Idx → EReal) (ix3 r (pl l q) 0)
    = (1 - FY m c r l (qy q)) * FX m c r l (qx q) := by
  rw [v425, lnd_pl, pl_mod]
  fin_cases q <;> rfl
theorem q443 (r : Fin 64) (l : Fin 8) (q : Fin 4) : (V17 m c (Proc.devRef .tc main_v443) : S64x32x1.Idx → EReal) (ix3 r (pl l q) 0)
    = FY m c r l (qy q) * (1 - FX m c r l (qx q)) := by
  rw [v443, lnd_pl, pl_mod]
  fin_cases q <;> rfl
theorem q453 (r : Fin 64) (l : Fin 8) (q : Fin 4) : (V17 m c (Proc.devRef .tc main_v453) : S64x32x1.Idx → EReal) (ix3 r (pl l q) 0)
    = FY m c r l (qy q) * FX m c r l (qx q) := by
  rw [v453, lnd_pl, pl_mod]
  fin_cases q <;> rfl

/-- A row's table, as the host computes it. -/
abbrev tabR (r : Fin 64) : Fin 32 → BitVec 32 := fun j => (V17 m c (Proc.devRef .tc main_v131) : S64x32.Idx → BitVec 32) (ix2 r j)

theorem tab_top (r : Fin 64) (l : Fin 8) (p : Fin 2) : tabR m c r ⟨l.val * 4 + 2 * p.val, by omega⟩ = win (Y m c r l p) (X m c r l 0) := by
  have h := v131 m c r (pl l ⟨2 * p.val, by omega⟩)
  rw [lnd_pl, pl_mod] at h
  refine h.trans ?_
  fin_cases p <;> rfl
theorem tab_bot (r : Fin 64) (l : Fin 8) (p : Fin 2) : tabR m c r ⟨l.val * 4 + 2 * p.val + 1, by omega⟩ = win (Y' m c r l p) (X m c r l 0) := by
  have h := v131 m c r (pl l ⟨2 * p.val + 1, by omega⟩)
  rw [lnd_pl, pl_mod] at h
  refine h.trans ?_
  fin_cases p <;> rfl

/-- The words of a row's table are in range and aligned. -/
theorem tab_ok (r : Fin 64) (j : Fin 32) : 8 ∣ (tabR m c r j).toNat ∧ (tabR m c r j).toNat + 24 ≤ 3136 := by
  obtain ⟨ny, nx, C⟩ := cells m c r (lnd j)
  have key : ∀ y : ℕ, y ≤ 55 → 8 ∣ (win (BitVec.ofNat 32 y) (BitVec.ofNat 32 (nx 0))).toNat ∧ (win (BitVec.ofNat 32 y) (BitVec.ofNat 32 (nx 0))).toNat + 24 ≤ 3136 := by
    intro y hy
    rw [win_eq y (nx 0) hy (C.x_le 0), BitVec.toNat_ofNat]
    have := wsN_lt (y * 56 + nx 0)
    have := wsN_dvd (y * 56 + nx 0)
    omega
  have h0 := C.y_le 0
  have h1 := C.y_le 1
  unfold tabR
  rw [v131, C.y 0, C.y 1, C.y' 0, C.y' 1, C.x 0]
  unfold pick
  split
  · exact key _ h0
  split
  · exact key _ (by omega)
  split
  · exact key _ h1
  · exact key _ (by omega)

theorem pooled_eq (r : Fin 64) (x3 x4 x5 x6 : Vec Ideal S1x32x1 .i32) (x7 x8 x9 x10 : Vec Ideal S1x32x1 .f32) (x13 : Vec Ideal S1x768x256 .f32)
    (h3 : ∀ j : Fin 32, x3 (ix3 0 j 0) = (V17 m c (Proc.devRef .tc main_v195) : S64x32x1.Idx → BitVec 32) (ix3 r j 0))
    (h4 : ∀ j : Fin 32, x4 (ix3 0 j 0) = (V17 m c (Proc.devRef .tc main_v257) : S64x32x1.Idx → BitVec 32) (ix3 r j 0))
    (h5 : ∀ j : Fin 32, x5 (ix3 0 j 0) = (V17 m c (Proc.devRef .tc main_v319) : S64x32x1.Idx → BitVec 32) (ix3 r j 0))
    (h6 : ∀ j : Fin 32, x6 (ix3 0 j 0) = (V17 m c (Proc.devRef .tc main_v381) : S64x32x1.Idx → BitVec 32) (ix3 r j 0))
    (h7 : ∀ j : Fin 32, x7 (ix3 0 j 0) = (V17 m c (Proc.devRef .tc main_v407) : S64x32x1.Idx → EReal) (ix3 r j 0))
    (h8 : ∀ j : Fin 32, x8 (ix3 0 j 0) = (V17 m c (Proc.devRef .tc main_v425) : S64x32x1.Idx → EReal) (ix3 r j 0))
    (h9 : ∀ j : Fin 32, x9 (ix3 0 j 0) = (V17 m c (Proc.devRef .tc main_v443) : S64x32x1.Idx → EReal) (ix3 r j 0))
    (h10 : ∀ j : Fin 32, x10 (ix3 0 j 0) = (V17 m c (Proc.devRef .tc main_v453) : S64x32x1.Idx → EReal) (ix3 r j 0))
    (hS : ∀ (ch : Fin 256) (k : Fin 768) (h : (((tabR m c r ⟨k.val / 24, by omega⟩).toNat + k.val % 24) % 3136) / 56 < 56),
      x13 (ix3 0 k ch) = ft m c (ix4 r ch ⟨(((tabR m c r ⟨k.val / 24, by omega⟩).toNat + k.val % 24) % 3136) / 56, h⟩ ⟨(((tabR m c r ⟨k.val / 24, by omega⟩).toNat + k.val % 24) % 3136) % 56, Nat.mod_lt _ (by omega)⟩))
    (l : Fin 8) (ch : Fin 256) :
    pooled x3 x4 x5 x6 x7 x8 x9 x10 x13 (ix3 0 l ch) = G m c r l ch := by
  rw [pooled_apply]
  unfold G
  refine congrArg (Finset.fold max _ · Finset.univ) (funext fun q => ?_)
  rw [← sample_eq m c r l (qy q) (qx q) ch (tabR m c r) (fun k => x13 (ix3 0 k ch)) (hS ch) (tab_top m c r l _) (tab_bot m c r l _)]
  refine Finset.sum_congr rfl fun k _ => congrArg (· * x13 (ix3 0 k ch)) ?_
  rw [h3, h4, h5, h6, h7, h8, h9, h10,
    q195, q257, q319, q381, q407, q425, q443, q453]

end Cert.Proof.PoolEq
-- ==== Proof.PoolSlots.lean ====
/-
  Hand-written, untrusted. A pooling call's scratch buffer taken apart into its two slots at the call's entry, and put back
  together at its end.
-/
module

public import proofs.«01_k».proof.Proof.PoolRun

@[expose] public section

noncomputable section

namespace Cert.Proof.PoolSlots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Proof.PoolBody Cert.Proof.PoolWp Cert.Proof.PoolRun

variable {F : FTy → Type} [FloatOps F]

local notation "𝕄" => MT nD τ sig Unit (Elt F) ℕ UU ℕ

variable (c : Dev nD) (arg2 : Memref sig .tc .smem S32x32 .i32) (arg11 : Memref sig .tc .hbm S32x3136x256 .f32)
variable (arg13 : Memref sig .tc .vmem S2x768x256 .f32) (arg14 : DmaSems sig S2)
variable (fT : Buf (Elt F) (arg2.view.loc (c : Thread nD τ))) (fx : Buf (Elt F) (arg11.view.loc (c : Thread nD τ)))

/-- The two slots' shares of the features. -/
abbrev qs (n : ℕ) : PosShare TreeShare := Transfers.shareTokN fullShare n

/-- The bytes of one transfer, as its semaphore counts them. -/
abbrev credit : ℕ := (dstOf arg13 0 Nat.zero_lt_two 0).view.dmaCredit

theorem slots_univ (h13 : arg13.IsWhole) :
    slot c arg13 0 Nat.zero_lt_two ∪ slot c arg13 1 Nat.one_lt_two = Finset.univ := by
  refine Finset.eq_univ_of_forall fun i => ?_
  obtain ⟨j, rfl⟩ : ∃ j, arg13.view.emb j = i := by
    have : i ∈ arg13.view.set := by rw [h13.set_eq_univ]; exact Finset.mem_univ i
    obtain ⟨j, -, hj⟩ := Finset.mem_map.mp this
    exact ⟨j, hj⟩
  have h2 : (j 0).val < 2 := (j 0).isLt
  rcases (by omega : (j 0).val = 0 ∨ (j 0).val = 1) with h | h
  · exact Finset.mem_union_left _ (mem_slot c arg13 0 _ j h)
  · exact Finset.mem_union_right _ (mem_slot c arg13 1 _ j h)

/-- The scratch buffer whole, at some contents, is the two slots. -/
theorem slots_split (h13 : arg13.IsWhole) (f : Buf (Elt F) (arg13.view.loc (c : Thread nD τ))) :
    (arg13.view.loc (c : Thread nD τ) ↦{fullShare} f : sProp 𝕄)
      ⊢ iprop((arg13.view.loc (c : Thread nD τ) ↦[slot c arg13 0 Nat.zero_lt_two]{fullShare} f)
          ∗ (arg13.view.loc (c : Thread nD τ) ↦[slot c arg13 1 Nat.one_lt_two]{fullShare} f)) := by
  rw [← slots_univ c arg13 h13]
  exact (pointsTo_union (slot_disjoint c arg13 0 1 _ _ (by omega))).1

theorem slots_join (h13 : arg13.IsWhole) (f g : Buf (Elt F) (arg13.view.loc (c : Thread nD τ))) :
    iprop((arg13.view.loc (c : Thread nD τ) ↦[slot c arg13 0 Nat.zero_lt_two]{fullShare} f)
          ∗ (arg13.view.loc (c : Thread nD τ) ↦[slot c arg13 1 Nat.one_lt_two]{fullShare} g))
      ⊢ (iprop(∃ f, arg13.view.loc (c : Thread nD τ) ↦{fullShare} f) : sProp 𝕄) := by
  iintro H
  ihave H' := (pointsTo_join (slot_disjoint c arg13 0 1 _ _ (by omega))) $$ H
  rw [slots_univ c arg13 h13]
  iexists _
  iexact H'

/-- What a call holds of the features beside the slots' shares. -/
abbrev spare : sProp 𝕄 := arg11.view.loc (c : Thread nD τ) ↦{Transfers.shareDrop fullShare 2} fx

/-- The two slots' semaphores at zero. -/
abbrev sems : sProp 𝕄 :=
  iprop(semVal ((c : Thread nD τ), SemLoc.dma (semOf arg14 0 Nat.zero_lt_two).sem) 0 ∗ semVal ((c : Thread nD τ), SemLoc.dma (semOf arg14 1 Nat.one_lt_two).sem) 0)

theorem Slots_eq (N t : ℕ) (ht : t % 16 = 0) :
    (Slots c arg2 arg11 arg13 arg14 fT fx qs N t : sProp 𝕄)
      = iprop(Free c arg11 arg13 arg14 (qs 0) 0 Nat.zero_lt_two fx ∗ Free c arg11 arg13 arg14 (qs 1) 1 Nat.one_lt_two fx) := by
  unfold Slots
  rw [if_pos ht]
  rfl

/-- At the call's entry both slots are at rest. -/
theorem slots_enter (h13 : arg13.IsWhole) (N t : ℕ) (ht : t % 16 = 0) :
    iprop((arg11.view.loc (c : Thread nD τ) ↦{fullShare} fx) ∗ (∃ f, arg13.view.loc (c : Thread nD τ) ↦{fullShare} f) ∗ sems c arg14)
      ⊢ (iprop(Slots c arg2 arg11 arg13 arg14 fT fx qs N t ∗ spare c arg11 fx) : sProp 𝕄) := by
  rw [Slots_eq c arg2 arg11 arg13 arg14 fT fx N t ht]
  have htok := (Transfers.pointsTo_toks_split (nD := nD) (τ := τ) (sig := sig) (Ix := Unit) (Val := Elt F) (Name := ℕ) (U := UU) (Lvl := ℕ)
    (ℓ := arg11.view.loc (c : Thread nD τ)) (S := Finset.univ) (f := fx) fullShare 2).trans
    (sep_mono .rfl (Entails.of_eq (bigSep_univ_two _)))
  unfold Free
  iintro ⟨Hx, ⟨%f, Hf⟩, Hs0, Hs1⟩
  ihave Hx' := htok $$ Hx
  icases Hx' with ⟨Hx, Hx0, Hx1⟩
  ihave Hf' := (slots_split c arg13 h13 f) $$ Hf
  icases Hf' with ⟨Hf0, Hf1⟩
  isplitr [Hx]
  · isplitl [Hf0 Hs0 Hx0]
    · isplitl [Hf0]; · iexists f; iexact Hf0
      isplitl [Hs0]; · iexact Hs0
      iexact Hx0
    · isplitl [Hf1]; · iexists f; iexact Hf1
      isplitl [Hs1]; · iexact Hs1
      iexact Hx1
  · iexact Hx

/-- At its end both are at rest again. -/
theorem slots_leave (h13 : arg13.IsWhole) (N t : ℕ) (ht : t % 16 = 0) :
    iprop(Slots c arg2 arg11 arg13 arg14 fT fx qs N t ∗ spare c arg11 fx)
      ⊢ (iprop((arg11.view.loc (c : Thread nD τ) ↦{fullShare} fx) ∗ (∃ f, arg13.view.loc (c : Thread nD τ) ↦{fullShare} f) ∗ sems c arg14) : sProp 𝕄) := by
  rw [Slots_eq c arg2 arg11 arg13 arg14 fT fx N t ht]
  have htok := (sep_mono .rfl (Entails.of_eq (bigSep_univ_two _).symm)).trans (Transfers.pointsTo_toks_join (nD := nD) (τ := τ) (sig := sig) (Ix := Unit) (Val := Elt F) (Name := ℕ) (U := UU) (Lvl := ℕ)
    (ℓ := arg11.view.loc (c : Thread nD τ)) (S := Finset.univ) (f := fx) fullShare 2)
  unfold Free
  iintro ⟨⟨⟨⟨%f, Hf⟩, Hs0, Hx0⟩, ⟨%g, Hg⟩, Hs1, Hx1⟩, Hx⟩
  isplitl [Hx Hx0 Hx1]
  · iapply htok
    isplitl [Hx]; · iexact Hx
    isplitl [Hx0]; · iexact Hx0
    iexact Hx1
  isplitl [Hf Hg]
  · iapply (slots_join c arg13 h13 f g)
    isplitl [Hf]; · iexact Hf
    iexact Hg
  · isplitl [Hs0]; · iexact Hs0
    iexact Hs1

end Cert.Proof.PoolSlots

end
-- ==== Proof.PoolCore.lean ====
/-
  Hand-written, untrusted. A pooling call's invariant, and its body's obligation over any buffers.
-/
module

public import proofs.«01_k».proof.Proof.PoolSlots
public import proofs.«01_k».proof.Proof.Gen.KernelIdeal.Regions
public import Idealize.ShloMosaic.Lib.Pipeline.FrameBody
public import Idealize.ShloMosaic.Lib.Pipeline.RegionsLoop

@[expose] public section

noncomputable section

namespace Cert.Proof.PoolRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.PoolBody Cert.Proof.PoolWp Cert.Proof.PoolRun Cert.Proof.PoolSlots

variable {F : FTy → Type} [FloatOps F]

local notation "𝕄" => MT nD τ sig Unit (Elt F) ℕ UU ℕ

/-- The grid point of a pooling call is the row of the table it serves. -/
theorem row_coords : ∀ t : Fin grid0.N, row (grid0.coords t) = t.val := by decide +kernel

/-- A pooling call's invariant before point `t`: the table, the two slots, the features' spare share. -/
def Inv (c : Dev nD) (arg2 : Memref sig .tc .smem S32x32 .i32) (arg11 : Memref sig .tc .hbm S32x3136x256 .f32)
    (arg13 : Memref sig .tc .vmem S2x768x256 .f32) (arg14 : DmaSems sig S2)
    (fT : Buf (Elt F) (arg2.view.loc (c : Thread nD τ))) (fx : Buf (Elt F) (arg11.view.loc (c : Thread nD τ))) (t : ℕ) : sProp 𝕄 :=
  iprop((arg2.view.loc (c : Thread nD τ) ↦{fullShare} fT)
    ∗ Slots c arg2 arg11 arg13 arg14 fT fx qs (credit arg13) t ∗ spare c arg11 fx)

variable (c : Dev nD) (i : grid0.Coords) (arg2 : Memref sig .tc .smem S32x32 .i32) (harg2 : arg2.IsWhole) (arg3 : Memref sig .tc .vmem S1x32x1 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x1 .i32) (harg6 : arg6.IsWhole) (arg7 : Memref sig .tc .vmem S1x32x1 .f32) (harg7 : arg7.IsWhole) (arg8 : Memref sig .tc .vmem S1x32x1 .f32) (harg8 : arg8.IsWhole) (arg9 : Memref sig .tc .vmem S1x32x1 .f32) (harg9 : arg9.IsWhole) (arg10 : Memref sig .tc .vmem S1x32x1 .f32) (harg10 : arg10.IsWhole) (arg11 : Memref sig .tc .hbm S32x3136x256 .f32) (harg11 : arg11.IsWhole) (arg12 : Memref sig .tc .vmem S1x8x256 .f32) (harg12 : arg12.IsWhole) (arg13 : Memref sig .tc .vmem S2x768x256 .f32) (harg13 : arg13.IsWhole) (arg14 : DmaSems sig S2)
variable (fT : Buf (Elt F) (arg2.view.loc (c : Thread nD τ))) (fx : Buf (Elt F) (arg11.view.loc (c : Thread nD τ)))

/-- The body's obligation at a point, over any buffers: what each window holds may be described by any term equal to its block. -/
theorem bodyCore (hT : TabOk (arg2.view.read (Elt F) fT)) (hN0 : 0 < credit arg13)
    (hN : ∀ so hso k, (dstOf arg13 so hso k).view.dmaCredit = credit arg13)
    (hJ : ∀ off h, ((arg13.slice (Rect.unit (s := S2x768x256) off S1x768x256.size h) (fun _ => rfl)).squeeze S768x256 squeezes_S1x768x256_S768x256).view.dmaCredit = credit arg13 * 32)
    (n : ℕ) (hn : row i = n) (hn' : n < 32)
    (x3 x4 x5 x6 : Vec F S1x32x1 .i32) (x7 x8 x9 x10 : Vec F S1x32x1 .f32) (o : Vec F S1x8x256 .f32)
    (ho : o = pooled x3 x4 x5 x6 x7 x8 x9 x10 (slab (arg2.view.read (Elt F) fT) (arg11.view.read (Elt F) fx) ⟨n, hn'⟩))
    {D3 D4 D5 D6 D7 D8 D9 D10 D12 : Type}
    (b3 : D3 → Vec F S1x32x1 .i32) (hb3 : ∀ d, b3 d = x3)
    (b4 : D4 → Vec F S1x32x1 .i32) (hb4 : ∀ d, b4 d = x4)
    (b5 : D5 → Vec F S1x32x1 .i32) (hb5 : ∀ d, b5 d = x5)
    (b6 : D6 → Vec F S1x32x1 .i32) (hb6 : ∀ d, b6 d = x6)
    (b7 : D7 → Vec F S1x32x1 .f32) (hb7 : ∀ d, b7 d = x7)
    (b8 : D8 → Vec F S1x32x1 .f32) (hb8 : ∀ d, b8 d = x8)
    (b9 : D9 → Vec F S1x32x1 .f32) (hb9 : ∀ d, b9 d = x9)
    (b10 : D10 → Vec F S1x32x1 .f32) (hb10 : ∀ d, b10 d = x10)
    (b12 : D12 → Vec F S1x8x256 .f32) (R : sProp 𝕄) (B B' : Set (SemLoc sig × Unit)) (hB : ∀ W : Waits sig Unit, (W : Set (SemLoc sig × Unit)) ⊆ B') :
    iprop((Inv c arg2 arg11 arg13 arg14 fT fx n ∗ R) ∗ (∃ W : Waits sig Unit, ⌜(W : Set (SemLoc sig × Unit)) ⊆ B⌝ ∗ owes (c : Thread nD τ) 0 W)
        ∗ (∃ d, owns (c : Thread nD τ) arg3 fullShare (b3 d))
        ∗ (∃ d, owns (c : Thread nD τ) arg4 fullShare (b4 d))
        ∗ (∃ d, owns (c : Thread nD τ) arg5 fullShare (b5 d))
        ∗ (∃ d, owns (c : Thread nD τ) arg6 fullShare (b6 d))
        ∗ (∃ d, owns (c : Thread nD τ) arg7 fullShare (b7 d))
        ∗ (∃ d, owns (c : Thread nD τ) arg8 fullShare (b8 d))
        ∗ (∃ d, owns (c : Thread nD τ) arg9 fullShare (b9 d))
        ∗ (∃ d, owns (c : Thread nD τ) arg10 fullShare (b10 d))
        ∗ (∃ d, owns (c : Thread nD τ) arg12 fullShare (b12 d)))
      ⊢ wp frame (wpE (defs₀ (F := F)) Variants.none (c : Thread nD τ) none) Set.univ
        (cc0_roi_pool_gather (F := F) i arg2 harg2 arg3 harg3 arg4 harg4 arg5 harg5 arg6 harg6 arg7 harg7 arg8 harg8 arg9 harg9 arg10 harg10 arg11 harg11 arg12 harg12 arg13 harg13 arg14) fun _ =>
        iprop((Inv c arg2 arg11 arg13 arg14 fT fx (n + 1) ∗ R) ∗ (∃ W : Waits sig Unit, ⌜(W : Set (SemLoc sig × Unit)) ⊆ B'⌝ ∗ owes (c : Thread nD τ) 0 W)
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg12 fullShare o) := by
  subst hn ho
  have hk := kernelRun (F := F) c i arg2 harg2 arg3 harg3 arg4 harg4 arg5 harg5 arg6 harg6 arg7 harg7 arg8 harg8 arg9 harg9 arg10 harg10 arg11 harg11 arg12 harg12 arg13 harg13 arg14 fT fx qs (credit arg13) hT fullShare hN0 hN hJ x3 x4 x5 x6 x7 x8 x9 x10
  unfold Inv
  iintro ⟨⟨⟨HT, HS, HX⟩, HR⟩, ⟨%W, %hW, HO⟩, ⟨%d3, H3⟩, ⟨%d4, H4⟩, ⟨%d5, H5⟩, ⟨%d6, H6⟩, ⟨%d7, H7⟩, ⟨%d8, H8⟩, ⟨%d9, H9⟩, ⟨%d10, H10⟩, ⟨%d12, H12⟩⟩
  rw [hb3, hb4, hb5, hb6, hb7, hb8, hb9, hb10]
  iapply (hk (b12 d12) W)
  unfold Wins
  isplitl [HT]; · iexact HT
  isplitl [HS]; · iexact HS
  isplitl [H3 H4 H5 H6 H7 H8 H9 H10 H12]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H12
  isplitl [HO]; · iexact HO
  iintro ⟨HT, HS, ⟨H3, H4, H5, H6, H7, H8, H9, H10, H12⟩, ⟨%W', HO⟩⟩
  isplitl [HT HS HX HR]
  · isplitr [HR]
    · isplitl [HT]; · iexact HT
      isplitl [HS]; · iexact HS
      iexact HX
    · iexact HR
  isplitl [HO]
  · iexists W'
    isplitr
    · ipureintro; exact hB W'
    · iexact HO
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H12

end Cert.Proof.PoolRegion

end
-- ==== Proof.PoolRegion.lean ====
/-
  Hand-written, untrusted. The three calls' proof data, and the first pooling call as a region of the program.
-/
module

public import proofs.«01_k».proof.Proof.PoolCore

@[expose] public section

noncomputable section

namespace Cert.Proof.PoolRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.PoolBody Cert.Proof.PoolWp Cert.Proof.PoolRun Cert.Proof.PoolSlots

variable {F : FTy → Type} [FloatOps F]

local notation "𝕄" => MT nD τ sig Unit (Elt F) ℕ UU ℕ

section First

variable (a : (pcfg0 (F := F)).Adm) (X : Dev nD → Valuation τ sig (Elt F))

/-- The block of a window's array at a point. -/
abbrev blk0 (c : Dev nD) (w : Fin 9) (t : Fin grid0.N) : ((win0 a w).block).Idx → Elt F (win0 a w).elt :=
  ((win0 a w).blk t).view.read (Elt F) (X c (Pipeline.arrRef spec0 w))

/-- The table's words, as the call finds them. -/
abbrev tab0 : S32x32.Idx → BitVec 32 := (Memref.whole main_v457).view.read (Elt F) (a.1 0)

/-- What the call's point `t` stores. -/
def out0 (c : Dev nD) (t : Fin grid0.N) : Vec F S1x8x256 .f32 :=
  pooled (blk0 a X c 0 t) (blk0 a X c 1 t) (blk0 a X c 2 t) (blk0 a X c 3 t) (blk0 a X c 4 t) (blk0 a X c 5 t) (blk0 a X c 6 t) (blk0 a X c 7 t)
    (slab (tab0 a) ((Memref.whole main_v456).view.read (Elt F) (X c main_v456)) ⟨t.val, t.isLt.trans_eq N_0⟩)

theorem credit0_pos : 0 < credit (Memref.whole cc0_scratch0) := by
  decide +kernel

theorem credit0_wait (off h) : (((Memref.whole cc0_scratch0).slice (Rect.unit (s := S2x768x256) off S1x768x256.size h) (fun _ => rfl)).squeeze S768x256 squeezes_S1x768x256_S768x256).view.dmaCredit
    = credit (Memref.whole cc0_scratch0) * 32 := by
  rfl

/-- The first call's proof data. -/
def dat0 (c : Dev nD) : Dat τ (Elt F) Unit ℕ UU ℕ (cfg0 a) c where
  A w := X c (Pipeline.arrRef spec0 w)
  after w t := match w with
    | ⟨0, _⟩ => blk0 a X c 0 t | ⟨1, _⟩ => blk0 a X c 1 t | ⟨2, _⟩ => blk0 a X c 2 t | ⟨3, _⟩ => blk0 a X c 3 t
    | ⟨4, _⟩ => blk0 a X c 4 t | ⟨5, _⟩ => blk0 a X c 5 t | ⟨6, _⟩ => blk0 a X c 6 t | ⟨7, _⟩ => blk0 a X c 7 t
    | ⟨8, _⟩ => out0 a X c t
    | ⟨_ + 9, h⟩ => absurd h (Nat.not_lt.2 (Nat.le_add_left _ _))
  Φ t := iprop(Inv c (Memref.whole main_v457) (Memref.whole main_v456) (Memref.whole cc0_scratch0) cc0_scratch1 (a.1 0) (X c main_v456) t.val
    ∗ Pipeline.scopedRestBut (Ix := Unit) (Name := ℕ) (U := UU) (Lvl := ℕ) (Val := Elt F) spec0 c [cc0_scratch0])
  q _ := fullShare
  owed _ := 0

theorem before0 (c : Dev nD) (w : Fin 9) (hw : w ≠ 8) (t : Fin grid0.N) (d) : (dat0 a X c).before w t d = blk0 a X c w t := by
  fin_cases w <;> first
    | exact absurd rfl hw
    | exact (dat0 a X c).before_in_eq_fetched _ rfl (fun _ => rfl) (fun _ _ _ => rfl) (fun _ => rfl) t d

set_option maxHeartbeats 4000000 in
set_option maxRecDepth 100000 in
set_option backward.isDefEq.respectTransparency.types false in
theorem body0 (hT : TabOk (tab0 a)) (c : Dev nD) : BodyObligation (dat0 a X c) (defs₀ (F := F)) Variants.none () Set.univ := fun t => by
  rw [bigSep_W0, bigSep_W0]
  exact bodyCore (F := F) c (grid0.coords t) (Memref.whole main_v457) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole main_v456) (Memref.isWhole_whole _)
    (spec0_8.stage ((cfg0 a).slots t 8)) (hstage0_8 (((cfg0 a).slots t 8).cast nbuf0_8)) (Memref.whole cc0_scratch0) (Memref.isWhole_whole _) cc0_scratch1
    (a.1 0) (X c main_v456) hT credit0_pos (fun _ _ _ => rfl) credit0_wait t.val (row_coords t) (t.isLt.trans_eq N_0)
    (blk0 a X c 0 t) (blk0 a X c 1 t) (blk0 a X c 2 t) (blk0 a X c 3 t) (blk0 a X c 4 t) (blk0 a X c 5 t) (blk0 a X c 6 t) (blk0 a X c 7 t) (out0 a X c t) rfl
    (fun d => (dat0 a X c).before 0 t d) (fun d => before0 a X c 0 (by decide) t d)
    (fun d => (dat0 a X c).before 1 t d) (fun d => before0 a X c 1 (by decide) t d)
    (fun d => (dat0 a X c).before 2 t d) (fun d => before0 a X c 2 (by decide) t d)
    (fun d => (dat0 a X c).before 3 t d) (fun d => before0 a X c 3 (by decide) t d)
    (fun d => (dat0 a X c).before 4 t d) (fun d => before0 a X c 4 (by decide) t d)
    (fun d => (dat0 a X c).before 5 t d) (fun d => before0 a X c 5 (by decide) t d)
    (fun d => (dat0 a X c).before 6 t d) (fun d => before0 a X c 6 (by decide) t d)
    (fun d => (dat0 a X c).before 7 t d) (fun d => before0 a X c 7 (by decide) t d)
    (fun d => (dat0 a X c).before 8 t d)
    (Pipeline.scopedRestBut (Ix := Unit) (Name := ℕ) (U := UU) (Lvl := ℕ) (Val := Elt F) spec0 c [cc0_scratch0])
    ((dat0 a X c).bound () t.castSucc) ((dat0 a X c).bound () t.succ) (fun _ _ _ => Or.inl trivial)

end First

end Cert.Proof.PoolRegion

end
-- ==== Proof.PoolRegion1.lean ====
/-
  Hand-written, untrusted. The three calls' proof data, and the second pooling call as a region of the program.
-/
module

public import proofs.«01_k».proof.Proof.PoolCore

@[expose] public section

noncomputable section

namespace Cert.Proof.PoolRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.PoolBody Cert.Proof.PoolWp Cert.Proof.PoolRun Cert.Proof.PoolSlots

variable {F : FTy → Type} [FloatOps F]

local notation "𝕄" => MT nD τ sig Unit (Elt F) ℕ UU ℕ

/-- The grid point of the second pooling call is the row of the table it serves. -/
theorem row_coords1 : ∀ t : Fin grid1.N, row (grid1.coords t) = t.val := by decide +kernel

section Second

variable (a : (pcfg1 (F := F)).Adm) (X : Dev nD → Valuation τ sig (Elt F))

/-- The block of a window's array at a point. -/
abbrev blk1 (c : Dev nD) (w : Fin 9) (t : Fin grid1.N) : ((win1 a w).block).Idx → Elt F (win1 a w).elt :=
  ((win1 a w).blk t).view.read (Elt F) (X c (Pipeline.arrRef spec1 w))

/-- The table's words, as the call finds them. -/
abbrev tab1 : S32x32.Idx → BitVec 32 := (Memref.whole main_v470).view.read (Elt F) (a.1 0)

/-- What the call's point `t` stores. -/
def out1 (c : Dev nD) (t : Fin grid1.N) : Vec F S1x8x256 .f32 :=
  pooled (blk1 a X c 0 t) (blk1 a X c 1 t) (blk1 a X c 2 t) (blk1 a X c 3 t) (blk1 a X c 4 t) (blk1 a X c 5 t) (blk1 a X c 6 t) (blk1 a X c 7 t)
    (slab (tab1 a) ((Memref.whole main_v469).view.read (Elt F) (X c main_v469)) ⟨t.val, t.isLt.trans_eq N_1⟩)

theorem credit1_pos : 0 < credit (Memref.whole cc1_scratch0) := by
  decide +kernel

theorem credit1_wait (off h) : (((Memref.whole cc1_scratch0).slice (Rect.unit (s := S2x768x256) off S1x768x256.size h) (fun _ => rfl)).squeeze S768x256 squeezes_S1x768x256_S768x256).view.dmaCredit
    = credit (Memref.whole cc1_scratch0) * 32 := by
  rfl

/-- The second call's proof data. -/
def dat1 (c : Dev nD) : Dat τ (Elt F) Unit ℕ UU ℕ (cfg1 a) c where
  A w := X c (Pipeline.arrRef spec1 w)
  after w t := match w with
    | ⟨0, _⟩ => blk1 a X c 0 t | ⟨1, _⟩ => blk1 a X c 1 t | ⟨2, _⟩ => blk1 a X c 2 t | ⟨3, _⟩ => blk1 a X c 3 t
    | ⟨4, _⟩ => blk1 a X c 4 t | ⟨5, _⟩ => blk1 a X c 5 t | ⟨6, _⟩ => blk1 a X c 6 t | ⟨7, _⟩ => blk1 a X c 7 t
    | ⟨8, _⟩ => out1 a X c t
    | ⟨_ + 9, h⟩ => absurd h (Nat.not_lt.2 (Nat.le_add_left _ _))
  Φ t := iprop(Inv c (Memref.whole main_v470) (Memref.whole main_v469) (Memref.whole cc1_scratch0) cc1_scratch1 (a.1 0) (X c main_v469) t.val
    ∗ Pipeline.scopedRestBut (Ix := Unit) (Name := ℕ) (U := UU) (Lvl := ℕ) (Val := Elt F) spec1 c [cc1_scratch0])
  q _ := fullShare
  owed _ := 0

theorem before1 (c : Dev nD) (w : Fin 9) (hw : w ≠ 8) (t : Fin grid1.N) (d) : (dat1 a X c).before w t d = blk1 a X c w t := by
  fin_cases w <;> first
    | exact absurd rfl hw
    | exact (dat1 a X c).before_in_eq_fetched _ rfl (fun _ => rfl) (fun _ _ _ => rfl) (fun _ => rfl) t d

set_option maxHeartbeats 4000000 in
set_option maxRecDepth 100000 in
set_option backward.isDefEq.respectTransparency.types false in
theorem body1 (hT : TabOk (tab1 a)) (c : Dev nD) : BodyObligation (dat1 a X c) (defs₀ (F := F)) Variants.none () Set.univ := fun t => by
  rw [bigSep_W1, bigSep_W1]
  show _ ⊢ wp frame (wpE (defs₀ (F := F)) Variants.none (c : Thread nD τ) none) Set.univ (cc1_roi_pool_gather (F := F) (grid1.coords t) (Memref.whole main_v470) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (Memref.whole main_v469) (Memref.isWhole_whole _)
    (spec1_8.stage ((cfg1 a).slots t 8)) (hstage1_8 (((cfg1 a).slots t 8).cast nbuf1_8)) (Memref.whole cc1_scratch0) (Memref.isWhole_whole _) cc1_scratch1) _
  rw [body_eq1]
  exact bodyCore (F := F) c (grid1.coords t) (Memref.whole main_v470) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (Memref.whole main_v469) (Memref.isWhole_whole _)
    (spec1_8.stage ((cfg1 a).slots t 8)) (hstage1_8 (((cfg1 a).slots t 8).cast nbuf1_8)) (Memref.whole cc1_scratch0) (Memref.isWhole_whole _) cc1_scratch1
    (a.1 0) (X c main_v469) hT credit1_pos (fun _ _ _ => rfl) credit1_wait t.val (row_coords1 t) (t.isLt.trans_eq N_1)
    (blk1 a X c 0 t) (blk1 a X c 1 t) (blk1 a X c 2 t) (blk1 a X c 3 t) (blk1 a X c 4 t) (blk1 a X c 5 t) (blk1 a X c 6 t) (blk1 a X c 7 t) (out1 a X c t) rfl
    (fun d => (dat1 a X c).before 0 t d) (fun d => before1 a X c 0 (by decide) t d)
    (fun d => (dat1 a X c).before 1 t d) (fun d => before1 a X c 1 (by decide) t d)
    (fun d => (dat1 a X c).before 2 t d) (fun d => before1 a X c 2 (by decide) t d)
    (fun d => (dat1 a X c).before 3 t d) (fun d => before1 a X c 3 (by decide) t d)
    (fun d => (dat1 a X c).before 4 t d) (fun d => before1 a X c 4 (by decide) t d)
    (fun d => (dat1 a X c).before 5 t d) (fun d => before1 a X c 5 (by decide) t d)
    (fun d => (dat1 a X c).before 6 t d) (fun d => before1 a X c 6 (by decide) t d)
    (fun d => (dat1 a X c).before 7 t d) (fun d => before1 a X c 7 (by decide) t d)
    (fun d => (dat1 a X c).before 8 t d)
    (Pipeline.scopedRestBut (Ix := Unit) (Name := ℕ) (U := UU) (Lvl := ℕ) (Val := Elt F) spec1 c [cc1_scratch0])
    ((dat1 a X c).bound () t.castSucc) ((dat1 a X c).bound () t.succ) (fun _ _ _ => Or.inl trivial)

end Second

end Cert.Proof.PoolRegion

end
-- ==== Proof.LinRegion.lean ====
/-
  Hand-written, untrusted. The linear layer's call: its body and its proof data.
-/
module

public import proofs.«01_k».proof.Proof.PoolRun
public import proofs.«01_k».proof.Proof.Gen.KernelIdeal.Points
public import Idealize.ShloMosaic.Lib.Pipeline.FrameBody
public import proofs.«01_k».proof.Proof.Gen.KernelIdeal.Launch

@[expose] public section

noncomputable section

namespace Cert.Proof.LinRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.PoolBody Cert.Proof.PoolWp Cert.Proof.PoolRun

variable {F : FTy → Type} [FloatOps F]

local notation "𝕄" => MT nD τ sig Unit (Elt F) ℕ UU ℕ

theorem hz2 : (![0, 0] : Fin 2 → Nat) = fun _ => 0 := funext fun a => by fin_cases a <;> rfl

theorem linRun (c : Dev nD) (i : grid2.Coords) (arg1 : Memref sig .tc .vmem S64x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S64x512 .f32) (harg4 : arg4.IsWhole)
    (x1 : Vec F S64x2048 .f32) (x2 : Vec F S512x2048 .f32) (x3 : Vec F S1x512 .f32) {D1 D2 D3 D4 : Type}
    (b1 : D1 → Vec F S64x2048 .f32) (hb1 : ∀ d, b1 d = x1) (b2 : D2 → Vec F S512x2048 .f32) (hb2 : ∀ d, b2 d = x2)
    (b3 : D3 → Vec F S1x512 .f32) (hb3 : ∀ d, b3 d = x3) (b4 : D4 → Vec F S64x512 .f32) (R R' : sProp 𝕄) :
    iprop(R ∗ R' ∗ (∃ d, owns (c : Thread nD τ) arg1 fullShare (b1 d)) ∗ (∃ d, owns (c : Thread nD τ) arg2 fullShare (b2 d))
        ∗ (∃ d, owns (c : Thread nD τ) arg3 fullShare (b3 d)) ∗ (∃ d, owns (c : Thread nD τ) arg4 fullShare (b4 d)))
      ⊢ wp frame (wpE (defs₀ (F := F)) Variants.none (c : Thread nD τ) none) Set.univ (cc2_linear_relu (F := F) i arg1 harg1 arg2 harg2 arg3 harg3 arg4 harg4) fun _ =>
        iprop(R ∗ R' ∗ owns (c : Thread nD τ) arg1 fullShare x1 ∗ owns (c : Thread nD τ) arg2 fullShare x2 ∗ owns (c : Thread nD τ) arg3 fullShare x3
          ∗ owns (c : Thread nD τ) arg4 fullShare (k2_pay1 x1 x2 x3)) := by
  rw [cc2_linear_relu_eq_skeleton]
  unfold cc2_linear_relu_skel
  iintro ⟨HR, HR', ⟨%d1, H1⟩, ⟨%d2, H2⟩, ⟨%d3, H3⟩, ⟨%d4, H4⟩⟩
  rw [hb1, hb2, hb3]
  iapply (wp_load_whole c arg1 _ _ _ fullShare x1) $$ H1
  iintro H1
  iapply (wp_load_whole c arg2 _ _ _ fullShare x2) $$ H2
  iintro H2
  iapply (wp_load_whole c arg3 _ _ _ fullShare x3) $$ H3
  iintro H3
  iapply (wp_load_whole c arg4 _ _ _ fullShare (b4 d4)) $$ H4
  iintro H4
  iapply (wp_store_owns c arg4 ![0, 0] inb_S64x512_S64x512_0_0 _ _ (b4 d4)) $$ H4
  iintro H4
  simp only [Prog.bind]
  sl_step
  isplitl [HR]; · iexact HR
  isplitl [HR']; · iexact HR'
  isplitl [H1]; · iexact H1
  isplitl [H2]; · iexact H2
  isplitl [H3]; · iexact H3
  iexact H4

variable (X : Dev nD → Valuation τ sig (Elt F))

/-- The blocks of the features, the weights and the bias row at a point. -/
abbrev blkX (c : Dev nD) (t : Fin grid2.N) : Vec F S64x2048 .f32 := ((cfg2.win 0).blk t).view.read (Elt F) (X c main_v481)
abbrev blkW (c : Dev nD) (t : Fin grid2.N) : Vec F S512x2048 .f32 := ((cfg2.win 1).blk t).view.read (Elt F) (X c main_arg2)
abbrev blkB (c : Dev nD) (t : Fin grid2.N) : Vec F S1x512 .f32 := ((cfg2.win 2).blk t).view.read (Elt F) (X c main_v482)

/-- The linear layer's proof data. -/
def dat2 (c : Dev nD) : Dat τ (Elt F) Unit ℕ UU ℕ cfg2 c where
  A w := X c (Pipeline.arrRef spec2 w)
  after w t := match w with
    | ⟨0, _⟩ => blkX X c t | ⟨1, _⟩ => blkW X c t | ⟨2, _⟩ => blkB X c t
    | ⟨3, _⟩ => k2_pay1 (blkX X c t) (blkW X c t) (blkB X c t)
    | ⟨_ + 4, h⟩ => absurd h (Nat.not_lt.2 (Nat.le_add_left _ _))
  Φ _ := Pipeline.scopedRest (Ix := Unit) (Name := ℕ) (U := UU) (Lvl := ℕ) (Val := Elt F) spec2 c
  q _ := fullShare
  owed _ := 0

theorem before2_0 (c : Dev nD) (t : Fin grid2.N) (d) : (dat2 X c).before 0 t d = blkX X c t :=
  (dat2 X c).before_in_eq_fetched _ rfl (fun _ => rfl) (fun _ _ _ => rfl) (fun _ => rfl) t d
theorem before2_1 (c : Dev nD) (t : Fin grid2.N) (d) : (dat2 X c).before 1 t d = blkW X c t :=
  (dat2 X c).before_in_eq_fetched _ rfl (fun _ => rfl) (fun _ _ _ => rfl) (fun _ => rfl) t d
theorem before2_2 (c : Dev nD) (t : Fin grid2.N) (d) : (dat2 X c).before 2 t d = blkB X c t :=
  (dat2 X c).before_in_eq_fetched _ rfl (fun _ => rfl) (fun _ _ _ => rfl) (fun _ => rfl) t d

set_option maxHeartbeats 2000000 in
set_option maxRecDepth 100000 in
set_option backward.isDefEq.respectTransparency.types false in
theorem body2 (c : Dev nD) : BodyObligation (dat2 X c) (defs₀ (F := F)) Variants.none () Set.univ := fun t => by
  rw [bigSep_W2, bigSep_W2]
  rw [show (dat2 X c).Φ t.succ = (dat2 X c).Φ t.castSucc from rfl, show (dat2 X c).owesAt () t.succ = (dat2 X c).owesAt () t.castSucc from rfl]
  exact linRun (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3))
    (blkX X c t) (blkW X c t) (blkB X c t)
    (fun d => (dat2 X c).before 0 t d) (fun d => before2_0 X c t d)
    (fun d => (dat2 X c).before 1 t d) (fun d => before2_1 X c t d)
    (fun d => (dat2 X c).before 2 t d) (fun d => before2_2 X c t d)
    (fun d => (dat2 X c).before 3 t d) _ _

end Cert.Proof.LinRegion

end
-- ==== Proof.Regs.lean ====
/-
  Hand-written, untrusted. The three calls as regions of the program, each over every unscoped buffer.
-/
module

public import proofs.«01_k».proof.Proof.PoolRegion
public import proofs.«01_k».proof.Proof.PoolRegion1
public import proofs.«01_k».proof.Proof.LinRegion
public import proofs.«01_k».proof.Proof.Gen.KernelIdeal.Regions
public import Idealize.ShloMosaic.Lib.Pipeline.RegionsLoop

@[expose] public section

noncomputable section

namespace Cert.Proof.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.PoolBody Cert.Proof.PoolWp Cert.Proof.PoolRun Cert.Proof.PoolSlots Cert.Proof.PoolRegion Cert.Proof.LinRegion

variable {F : FTy → Type} [FloatOps F]

local notation "𝕄" => MT nD τ sig Unit (Elt F) ℕ UU ℕ

variable (a : (p : Fin 3) → (pcfgs (F := F) p).Adm) (X0 X1 X2 : Dev nD → Valuation τ sig (Elt F))

/-- The three calls' proof data, each from the buffers it finds. -/
def pdats : (p : Fin 3) → (c : Dev nD) → Dat τ (Elt F) Unit ℕ UU ℕ (Pipeline.pin (pcfgs (F := F)) a p) c
  | ⟨0, _⟩ => fun c => dat0 (a 0) X0 c
  | ⟨1, _⟩ => fun c => dat1 (a 1) X1 c
  | ⟨2, _⟩ => fun c => dat2 X2 c

/-- No core owes another anything: no level is assigned. -/
abbrev L : GSem nD τ sig → Finset Unit := fun _ => ∅
abbrev lv : GSem nD τ sig → Unit → ℕ := fun _ _ => 0

/-- The thread state between the items: every unscoped buffer at a valuation, nothing owed. -/
abbrev St (X : Valuation τ sig (Elt F)) (c : Dev nD) : sProp 𝕄 :=
  iprop(StableHlo.held (c : Thread nD τ) (Pipeline.ucRefs τ sig) X ∗ ∃ W, owes (c : Thread nD τ) (0 : CellTallies nD τ sig Unit) W)

theorem isIn0 : ∀ w : Fin 9, w ≠ 8 → (spec0 w).isOut = false := by decide

/-- The first pooling call's own semaphores. -/
abbrev osem0 : Fin 2 → SemLoc sig := fun k => SemLoc.dma (semOf cc0_scratch1 k.val k.isLt).sem

theorem osemFacts0 : Pipeline.OwnSemFacts spec0 osem0 := by decide

theorem ownSems0_eq (c : Dev nD) :
    (Pipeline.ownSems0 (Ix := Unit) (Name := ℕ) (U := UU) (Lvl := ℕ) (Val := Elt F) (τ := τ) osem0 c : sProp 𝕄) = sems c cc0_scratch1 :=
  Pipeline.ownSems0_eq_of_list c osem0 [0, 1] (by decide) (by decide)

/-- The buffers that bypass the first pooling call: all but its arrays, its table and the features. -/
abbrev bypass0 (c : Dev nD) (X : Valuation τ sig (Elt F)) : sProp 𝕄 :=
  bigSep ((Pipeline.restRefsP sig pre0 spec0).erase main_v456) fun b => ((c.tc : Thread nD τ).loc b) ↦{fullShare} X b

theorem rest0_eq (c : Dev nD) (X : Valuation τ sig (Elt F)) :
    (Pipeline.unscopedRest (Ix := Unit) (Name := ℕ) (U := UU) (Lvl := ℕ) spec0 c (fun b => X b) : sProp 𝕄)
      = iprop(Pipeline.prefHeld pre0 c (fun _ => fullShare) (fun k => X (pre0.ref k))
          ∗ (((c.tc : Thread nD τ).loc main_v456) ↦{fullShare} X main_v456) ∗ bypass0 c X) := by
  rw [Pipeline.unscopedRest_split preFacts0]
  unfold Pipeline.unscopedRestP
  rw [bigSep_erase (i := main_v456) (Finset.mem_sdiff.mpr ⟨Pipeline.mem_restRefs_of main_v456 (by decide) (by decide), by decide⟩)]
  rfl

/-- Entry: the table, the features, the scratch and the two semaphores make the invariant's start. -/
theorem enter0 (c : Dev nD) :
    iprop(((((c.tc : Thread nD τ).loc main_v456) ↦{fullShare} X0 c main_v456) ∗ sems c cc0_scratch1) ∗ Pipeline.prefHeld pre0 c (fun _ => fullShare) (a 0).1
        ∗ Pipeline.scopedRest (Ix := Unit) (Name := ℕ) (U := UU) (Lvl := ℕ) (Val := Elt F) spec0 c)
      ⊢ (iprop(Inv c (Memref.whole main_v457) (Memref.whole main_v456) (Memref.whole cc0_scratch0) cc0_scratch1 ((a 0).1 0) (X0 c main_v456) 0
        ∗ Pipeline.scopedRestBut (Ix := Unit) (Name := ℕ) (U := UU) (Lvl := ℕ) (Val := Elt F) spec0 c [cc0_scratch0]) : sProp 𝕄) := by
  have hpref : (Pipeline.prefHeld pre0 c (fun _ => fullShare) (a 0).1 : sProp 𝕄) = (((c.tc : Thread nD τ).loc main_v457) ↦{fullShare} (a 0).1 0) := by
    unfold Pipeline.prefHeld
    exact bigSep_univ_of_subsingleton (0 : Fin 1)
  rw [hpref, scopedRest0_split c]
  have hs := slots_enter (F := F) c (Memref.whole main_v457) (Memref.whole main_v456) (Memref.whole cc0_scratch0) cc0_scratch1 ((a 0).1 0) (X0 c main_v456) (Memref.isWhole_whole _) (credit (Memref.whole cc0_scratch0)) 0 rfl
  unfold PoolRegion.Inv
  iintro ⟨⟨Hf, Hs⟩, Hp, Hscr, Hr⟩
  isplitr [Hr]
  · isplitl [Hp]; · iexact Hp
    iapply hs
    isplitl [Hf]; · iexact Hf
    isplitl [Hscr]; · iexact Hscr
    iexact Hs
  iexact Hr

/-- Exit: the invariant's end gives the table, the features, the scratch and the two semaphores back. -/
theorem leave0 (ha : ∀ c, (a 0).1 0 = X0 c main_v457) (c : Dev nD) :
    iprop(Inv c (Memref.whole main_v457) (Memref.whole main_v456) (Memref.whole cc0_scratch0) cc0_scratch1 ((a 0).1 0) (X0 c main_v456) grid0.N
        ∗ Pipeline.scopedRestBut (Ix := Unit) (Name := ℕ) (U := UU) (Lvl := ℕ) (Val := Elt F) spec0 c [cc0_scratch0])
      ⊢ (iprop(((((c.tc : Thread nD τ).loc main_v456) ↦{fullShare} X0 c main_v456) ∗ (((c.tc : Thread nD τ).loc main_v457) ↦{fullShare} X0 c main_v457))
        ∗ Pipeline.ownSems0 (Ix := Unit) (Name := ℕ) (U := UU) (Lvl := ℕ) (Val := Elt F) (τ := τ) osem0 c
        ∗ Pipeline.scopedRest (Ix := Unit) (Name := ℕ) (U := UU) (Lvl := ℕ) (Val := Elt F) spec0 c) : sProp 𝕄) := by
  rw [scopedRest0_split c, ownSems0_eq]
  have hs := slots_leave (F := F) c (Memref.whole main_v457) (Memref.whole main_v456) (Memref.whole cc0_scratch0) cc0_scratch1 ((a 0).1 0) (X0 c main_v456) (Memref.isWhole_whole _) (credit (Memref.whole cc0_scratch0)) grid0.N (by rw [N_0])
  unfold PoolRegion.Inv
  rw [ha c] at hs ⊢
  iintro ⟨⟨Hp, HS⟩, Hr⟩
  ihave H := hs $$ HS
  icases H with ⟨Hf, Hscr, Hs⟩
  isplitl [Hf Hp]
  · isplitl [Hf]; · iexact Hf
    iexact Hp
  isplitl [Hs]; · iexact Hs
  isplitl [Hscr]; · iexact Hscr
  iexact Hr

/-- The first pooling call as a region. -/
def reg0 (ha : ∀ c, (a 0).1 0 = X0 c main_v457) (hT : TabOk (tab0 (a 0)))
    (Xp : Dev nD → Valuation τ sig (Elt F)) (hout : ∀ c, Xp c main_v466 = (dat0 (a 0) X0 c).arrAt 8 (cfg0 (a 0)).N)
    (hne : ∀ c (b : Ref sig .tc), b ≠ main_v466 → Xp c b = X0 c b) :
    Pipeline.RegionSeg (pcfgs (F := F)) a (pdats a X0 X1 X2) () defs₀ Variants.none L lv 0 where
  win := (launch0 (F := F)).win.to₀
  block_pos := (launch0 (F := F)).block_pos
  stage_whole := (launch0 (F := F)).stage_whole
  K := Fin 2
  osem := osem0
  ho := osemFacts0
  hbody c := (body0 (a 0) X0 hT c).loose
  hwaits := Pipeline.hwaits_of_owed_zero _ _ _ _ L lv 0 fun _ _ => rfl
  pre c := St (X0 c) c
  post c := St (Xp c) c
  X c := iprop((((c.tc : Thread nD τ).loc main_v456) ↦{fullShare} X0 c main_v456) ∗ sems c cc0_scratch1)
  Y c := iprop((((c.tc : Thread nD τ).loc main_v456) ↦{fullShare} X0 c main_v456) ∗ (((c.tc : Thread nD τ).loc main_v457) ↦{fullShare} X0 c main_v457))
  Z c := bypass0 c (X0 c)
  hentry c := by
    rw [ownSems0_eq]
    unfold St
    rw [← Pipeline.unscopedBufs_held (Ix := Unit) (Name := ℕ) (U := UU) (Lvl := ℕ) c (X0 c)]
    have hsplit := (Pipeline.arrays_of_unscopedBufs (p := 0) (pcfgs (F := F)) a (pdats a X0 X1 X2) (launch0 (F := F)).win (launch0 (F := F)).arr_whole c
      ((pdats a X0 X1 X2 0 c).share_full fun _ => rfl) (fun b => X0 c b) fun _ => rfl).trans (sep_mono .rfl (Entails.of_eq (rest0_eq c (X0 c))))
    have hpref : (Pipeline.prefHeld pre0 c (fun _ => fullShare) (fun k => X0 c (pre0.ref k)) : sProp 𝕄) = Pipeline.prefHeld pre0 c (fun _ => fullShare) (a 0).1 := by
      refine congrArg (Pipeline.prefHeld pre0 c fun _ => fullShare) (funext fun k => ?_)
      match k with
      | ⟨0, _⟩ => exact (ha c).symm
    rw [hpref] at hsplit
    iintro ⟨⟨Hub, HO⟩, Hs, -⟩
    ihave H := hsplit $$ Hub
    icases H with ⟨Ha, Hp, Hf, Hrest⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hf Hs]
    · isplitl [Hf] <;> iassumption
    iexact Hrest
  hin c := enter0 a X0 c
  hout c := leave0 a X0 ha c
  hexit c := by
    have hjoin := Pipeline.unscopedBufs_of_arrays (p := 0) (pcfgs (F := F)) a (Ix := Unit) (Name := ℕ) (U := UU) (Lvl := ℕ) (launch0 (F := F)).win (launch0 (F := F)).arr_whole c
      (pdats a X0 X1 X2) ((pdats a X0 X1 X2 0 c).share_full fun _ => rfl) (fun b => X0 c b) (fun b => Xp c b) ((pdats a X0 X1 X2 0 c).arrAt · (cfg0 (a 0)).N)
      (fun w => by
        by_cases hw : w = 8
        · subst hw; exact (hout c).symm
        · refine ((dat0 (a 0) X0 c).arrAt_in w (isIn0 w hw) _).trans (hne c (Pipeline.arrRef spec0 w) fun h => hw ?_).symm
          exact (launch0 (F := F)).win.arr_inj h)
      (fun b hb => hne c b fun h => hb (h ▸ Finset.mem_image.mpr ⟨8, Finset.mem_univ _, rfl⟩))
    unfold St
    rw [← Pipeline.unscopedBufs_held (Ix := Unit) (Name := ℕ) (U := UU) (Lvl := ℕ) c (Xp c)]
    have hpref : (((c.tc : Thread nD τ).loc main_v457) ↦{fullShare} X0 c main_v457 : sProp 𝕄) = Pipeline.prefHeld pre0 c (fun _ => fullShare) (fun k => X0 c (pre0.ref k)) := by
      unfold Pipeline.prefHeld
      rw [bigSep_univ_of_subsingleton (0 : Fin 1)]; rfl
    have hrest := Entails.of_eq (rest0_eq (F := F) c (X0 c)).symm
    rw [← hpref] at hrest
    iintro ⟨Ha, HO, ⟨Hf, Hp⟩, Hrest⟩
    imodintro
    isplitl [Ha Hf Hp Hrest]
    · iapply hjoin
      isplitl [Ha]; · iexact Ha
      iapply hrest
      isplitl [Hp]; · iexact Hp
      isplitl [Hf] <;> iassumption
    unfold Pipeline.Dat.owesAt Pipeline.owesWithin
    icases HO with ⟨%W, -, HO⟩; iexists W; iexact HO

theorem isIn1 : ∀ w : Fin 9, w ≠ 8 → (spec1 w).isOut = false := by decide

/-- The second pooling call's own semaphores. -/
abbrev osem1 : Fin 2 → SemLoc sig := fun k => SemLoc.dma (semOf cc1_scratch1 k.val k.isLt).sem

theorem osemFacts1 : Pipeline.OwnSemFacts spec1 osem1 := by decide

theorem ownSems1_eq (c : Dev nD) :
    (Pipeline.ownSems0 (Ix := Unit) (Name := ℕ) (U := UU) (Lvl := ℕ) (Val := Elt F) (τ := τ) osem1 c : sProp 𝕄) = sems c cc1_scratch1 :=
  Pipeline.ownSems0_eq_of_list c osem1 [0, 1] (by decide) (by decide)

/-- The buffers that bypass the second pooling call: all but its arrays, its table and the features. -/
abbrev bypass1 (c : Dev nD) (X : Valuation τ sig (Elt F)) : sProp 𝕄 :=
  bigSep ((Pipeline.restRefsP sig pre1 spec1).erase main_v469) fun b => ((c.tc : Thread nD τ).loc b) ↦{fullShare} X b

theorem rest1_eq (c : Dev nD) (X : Valuation τ sig (Elt F)) :
    (Pipeline.unscopedRest (Ix := Unit) (Name := ℕ) (U := UU) (Lvl := ℕ) spec1 c (fun b => X b) : sProp 𝕄)
      = iprop(Pipeline.prefHeld pre1 c (fun _ => fullShare) (fun k => X (pre1.ref k))
          ∗ (((c.tc : Thread nD τ).loc main_v469) ↦{fullShare} X main_v469) ∗ bypass1 c X) := by
  rw [Pipeline.unscopedRest_split preFacts1]
  unfold Pipeline.unscopedRestP
  rw [bigSep_erase (i := main_v469) (Finset.mem_sdiff.mpr ⟨Pipeline.mem_restRefs_of main_v469 (by decide) (by decide), by decide⟩)]
  rfl

/-- Entry: the table, the features, the scratch and the two semaphores make the invariant's start. -/
theorem enter1 (c : Dev nD) :
    iprop(((((c.tc : Thread nD τ).loc main_v469) ↦{fullShare} X1 c main_v469) ∗ sems c cc1_scratch1) ∗ Pipeline.prefHeld pre1 c (fun _ => fullShare) (a 1).1
        ∗ Pipeline.scopedRest (Ix := Unit) (Name := ℕ) (U := UU) (Lvl := ℕ) (Val := Elt F) spec1 c)
      ⊢ (iprop(Inv c (Memref.whole main_v470) (Memref.whole main_v469) (Memref.whole cc1_scratch0) cc1_scratch1 ((a 1).1 0) (X1 c main_v469) 0
        ∗ Pipeline.scopedRestBut (Ix := Unit) (Name := ℕ) (U := UU) (Lvl := ℕ) (Val := Elt F) spec1 c [cc1_scratch0]) : sProp 𝕄) := by
  have hpref : (Pipeline.prefHeld pre1 c (fun _ => fullShare) (a 1).1 : sProp 𝕄) = (((c.tc : Thread nD τ).loc main_v470) ↦{fullShare} (a 1).1 0) := by
    unfold Pipeline.prefHeld
    exact bigSep_univ_of_subsingleton (0 : Fin 1)
  rw [hpref, scopedRest1_split c]
  have hs := slots_enter (F := F) c (Memref.whole main_v470) (Memref.whole main_v469) (Memref.whole cc1_scratch0) cc1_scratch1 ((a 1).1 0) (X1 c main_v469) (Memref.isWhole_whole _) (credit (Memref.whole cc1_scratch0)) 0 rfl
  unfold PoolRegion.Inv
  iintro ⟨⟨Hf, Hs⟩, Hp, Hscr, Hr⟩
  isplitr [Hr]
  · isplitl [Hp]; · iexact Hp
    iapply hs
    isplitl [Hf]; · iexact Hf
    isplitl [Hscr]; · iexact Hscr
    iexact Hs
  iexact Hr

/-- Exit: the invariant's end gives the table, the features, the scratch and the two semaphores back. -/
theorem leave1 (ha : ∀ c, (a 1).1 0 = X1 c main_v470) (c : Dev nD) :
    iprop(Inv c (Memref.whole main_v470) (Memref.whole main_v469) (Memref.whole cc1_scratch0) cc1_scratch1 ((a 1).1 0) (X1 c main_v469) grid1.N
        ∗ Pipeline.scopedRestBut (Ix := Unit) (Name := ℕ) (U := UU) (Lvl := ℕ) (Val := Elt F) spec1 c [cc1_scratch0])
      ⊢ (iprop(((((c.tc : Thread nD τ).loc main_v469) ↦{fullShare} X1 c main_v469) ∗ (((c.tc : Thread nD τ).loc main_v470) ↦{fullShare} X1 c main_v470))
        ∗ Pipeline.ownSems0 (Ix := Unit) (Name := ℕ) (U := UU) (Lvl := ℕ) (Val := Elt F) (τ := τ) osem1 c
        ∗ Pipeline.scopedRest (Ix := Unit) (Name := ℕ) (U := UU) (Lvl := ℕ) (Val := Elt F) spec1 c) : sProp 𝕄) := by
  rw [scopedRest1_split c, ownSems1_eq]
  have hs := slots_leave (F := F) c (Memref.whole main_v470) (Memref.whole main_v469) (Memref.whole cc1_scratch0) cc1_scratch1 ((a 1).1 0) (X1 c main_v469) (Memref.isWhole_whole _) (credit (Memref.whole cc1_scratch0)) grid1.N (by rw [N_1])
  unfold PoolRegion.Inv
  rw [ha c] at hs ⊢
  iintro ⟨⟨Hp, HS⟩, Hr⟩
  ihave H := hs $$ HS
  icases H with ⟨Hf, Hscr, Hs⟩
  isplitl [Hf Hp]
  · isplitl [Hf]; · iexact Hf
    iexact Hp
  isplitl [Hs]; · iexact Hs
  isplitl [Hscr]; · iexact Hscr
  iexact Hr

/-- The second pooling call as a region. -/
def reg1 (ha : ∀ c, (a 1).1 0 = X1 c main_v470) (hT : TabOk (tab1 (a 1)))
    (Xp : Dev nD → Valuation τ sig (Elt F)) (hout : ∀ c, Xp c main_v479 = (dat1 (a 1) X1 c).arrAt 8 (cfg1 (a 1)).N)
    (hne : ∀ c (b : Ref sig .tc), b ≠ main_v479 → Xp c b = X1 c b) :
    Pipeline.RegionSeg (pcfgs (F := F)) a (pdats a X0 X1 X2) () defs₀ Variants.none L lv 1 where
  win := (launch1 (F := F)).win.to₀
  block_pos := (launch1 (F := F)).block_pos
  stage_whole := (launch1 (F := F)).stage_whole
  K := Fin 2
  osem := osem1
  ho := osemFacts1
  hbody c := (body1 (a 1) X1 hT c).loose
  hwaits := Pipeline.hwaits_of_owed_zero _ _ _ _ L lv 1 fun _ _ => rfl
  pre c := St (X1 c) c
  post c := St (Xp c) c
  X c := iprop((((c.tc : Thread nD τ).loc main_v469) ↦{fullShare} X1 c main_v469) ∗ sems c cc1_scratch1)
  Y c := iprop((((c.tc : Thread nD τ).loc main_v469) ↦{fullShare} X1 c main_v469) ∗ (((c.tc : Thread nD τ).loc main_v470) ↦{fullShare} X1 c main_v470))
  Z c := bypass1 c (X1 c)
  hentry c := by
    rw [ownSems1_eq]
    unfold St
    rw [← Pipeline.unscopedBufs_held (Ix := Unit) (Name := ℕ) (U := UU) (Lvl := ℕ) c (X1 c)]
    have hsplit := (Pipeline.arrays_of_unscopedBufs (p := 1) (pcfgs (F := F)) a (pdats a X0 X1 X2) (launch1 (F := F)).win (launch1 (F := F)).arr_whole c
      ((pdats a X0 X1 X2 1 c).share_full fun _ => rfl) (fun b => X1 c b) fun _ => rfl).trans (sep_mono .rfl (Entails.of_eq (rest1_eq c (X1 c))))
    have hpref : (Pipeline.prefHeld pre1 c (fun _ => fullShare) (fun k => X1 c (pre1.ref k)) : sProp 𝕄) = Pipeline.prefHeld pre1 c (fun _ => fullShare) (a 1).1 := by
      refine congrArg (Pipeline.prefHeld pre1 c fun _ => fullShare) (funext fun k => ?_)
      match k with
      | ⟨0, _⟩ => exact (ha c).symm
    rw [hpref] at hsplit
    iintro ⟨⟨Hub, HO⟩, Hs, -⟩
    ihave H := hsplit $$ Hub
    icases H with ⟨Ha, Hp, Hf, Hrest⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hf Hs]
    · isplitl [Hf] <;> iassumption
    iexact Hrest
  hin c := enter1 a X1 c
  hout c := leave1 a X1 ha c
  hexit c := by
    have hjoin := Pipeline.unscopedBufs_of_arrays (p := 1) (pcfgs (F := F)) a (Ix := Unit) (Name := ℕ) (U := UU) (Lvl := ℕ) (launch1 (F := F)).win (launch1 (F := F)).arr_whole c
      (pdats a X0 X1 X2) ((pdats a X0 X1 X2 1 c).share_full fun _ => rfl) (fun b => X1 c b) (fun b => Xp c b) ((pdats a X0 X1 X2 1 c).arrAt · (cfg1 (a 1)).N)
      (fun w => by
        by_cases hw : w = 8
        · subst hw; exact (hout c).symm
        · refine ((dat1 (a 1) X1 c).arrAt_in w (isIn1 w hw) _).trans (hne c (Pipeline.arrRef spec1 w) fun h => hw ?_).symm
          exact (launch1 (F := F)).win.arr_inj h)
      (fun b hb => hne c b fun h => hb (h ▸ Finset.mem_image.mpr ⟨8, Finset.mem_univ _, rfl⟩))
    unfold St
    rw [← Pipeline.unscopedBufs_held (Ix := Unit) (Name := ℕ) (U := UU) (Lvl := ℕ) c (Xp c)]
    have hpref : (((c.tc : Thread nD τ).loc main_v470) ↦{fullShare} X1 c main_v470 : sProp 𝕄) = Pipeline.prefHeld pre1 c (fun _ => fullShare) (fun k => X1 c (pre1.ref k)) := by
      unfold Pipeline.prefHeld
      rw [bigSep_univ_of_subsingleton (0 : Fin 1)]; rfl
    have hrest := Entails.of_eq (rest1_eq (F := F) c (X1 c)).symm
    rw [← hpref] at hrest
    iintro ⟨Ha, HO, ⟨Hf, Hp⟩, Hrest⟩
    imodintro
    isplitl [Ha Hf Hp Hrest]
    · iapply hjoin
      isplitl [Ha]; · iexact Ha
      iapply hrest
      isplitl [Hp]; · iexact Hp
      isplitl [Hf] <;> iassumption
    unfold Pipeline.Dat.owesAt Pipeline.owesWithin
    icases HO with ⟨%W, -, HO⟩; iexists W; iexact HO

/-- The linear layer's call as a region. -/
def reg2 (Xp : Dev nD → Valuation τ sig (Elt F)) (hout : ∀ c, Xp c main_v483 = (dat2 X2 c).arrAt 3 cfg2.N)
    (hne : ∀ c (b : Ref sig .tc), b ≠ main_v483 → Xp c b = X2 c b) :
    Pipeline.RegionSeg (pcfgs (F := F)) a (pdats a X0 X1 X2) () defs₀ Variants.none L lv 2 where
  win := (launch2 (F := F)).win.to₀
  block_pos := (launch2 (F := F)).block_pos
  stage_whole := (launch2 (F := F)).stage_whole
  K := PEmpty
  osem k := k.elim
  ho := Pipeline.OwnSemFacts.none _
  hbody c := (body2 X2 c).loose
  hwaits := Pipeline.hwaits_of_owed_zero _ _ _ _ L lv 2 fun _ _ => rfl
  pre c := St (X2 c) c
  post c := St (Xp c) c
  X _ := BI.emp
  Y _ := BI.emp
  Z c := Pipeline.unscopedRest (Ix := Unit) (Name := ℕ) (U := UU) (Lvl := ℕ) spec2 c (fun b => X2 c b)
  hentry c := by
    rw [Pipeline.ownSems0_none]
    unfold St
    rw [← Pipeline.unscopedBufs_held (Ix := Unit) (Name := ℕ) (U := UU) (Lvl := ℕ) c (X2 c)]
    have hsplit := Pipeline.arrays_of_unscopedBufs (p := 2) (pcfgs (F := F)) a (pdats a X0 X1 X2) (launch2 (F := F)).win (launch2 (F := F)).arr_whole c
      ((pdats a X0 X1 X2 2 c).share_full fun _ => rfl) (fun b => X2 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats a X0 X1 X2 2 c).Φ 0 = Pipeline.scopedRest (Ix := Unit) (Name := ℕ) (U := UU) (Lvl := ℕ) (Val := Elt F) spec2 c from rfl]
    iintro ⟨-, -, Hr⟩; iexact Hr
  hout c := by
    rw [Pipeline.ownSems0_none, show (pdats a X0 X1 X2 2 c).Φ (Fin.last _) = Pipeline.scopedRest (Ix := Unit) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 2) (pcfgs (F := F)) a (Ix := Unit) (Name := ℕ) (U := UU) (Lvl := ℕ) (launch2 (F := F)).win (launch2 (F := F)).arr_whole c
      (pdats a X0 X1 X2) ((pdats a X0 X1 X2 2 c).share_full fun _ => rfl) (fun b => X2 c b) (fun b => Xp c b) ((pdats a X0 X1 X2 2 c).arrAt · cfg2.N)
      (fun w => by
        fin_cases w
        · exact ((dat2 X2 c).arrAt_in 0 rfl _).trans (hne c main_v481 (by decide)).symm
        · exact ((dat2 X2 c).arrAt_in 1 rfl _).trans (hne c main_arg2 (by decide)).symm
        · exact ((dat2 X2 c).arrAt_in 2 rfl _).trans (hne c main_v482 (by decide)).symm
        · exact (hout c).symm)
      (fun b hb => hne c b fun h => hb (h ▸ Finset.mem_image.mpr ⟨3, Finset.mem_univ _, rfl⟩))
    unfold St
    rw [← Pipeline.unscopedBufs_held (Ix := Unit) (Name := ℕ) (U := UU) (Lvl := ℕ) c (Xp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Regs

end
-- ==== Proof.Run.lean ====
/-
  Hand-written, untrusted. The kernel's run: the host's operations and the three calls, from launch to the result.
-/
module

public import proofs.«01_k».proof.Proof.Regs

@[expose] public section

set_option maxRecDepth 7148

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
open Cert.Proof.PoolBody Cert.Proof.PoolWp Cert.Proof.PoolRun Cert.Proof.PoolSlots Cert.Proof.PoolRegion Cert.Proof.LinRegion Cert.Proof.Regs

variable {F : FTy → Type} [FloatOps F]

local notation "𝕄" => MT nD τ sig Unit (Elt F) ℕ UU ℕ

variable (m : (ℓ : Loc nD τ sig) → Buf (Elt F) ℓ)

/-- The first pooling call's table. -/
def adm0 : (pcfg0 (F := F)).Adm := ⟨fun k => V17 m 0 (pre0.ref k), trivial⟩

/-- What the first pooling call leaves in its result. -/
def final0 (c : Dev nD) : Buf (Elt F) ((c : Thread nD τ).loc main_v466) := (dat0 (adm0 m) (V17 m) c).arrAt 8 (cfg0 (adm0 m)).N

/-- The buffers after the first pooling call. -/
def outsA : Outs (F := F) := fun _ r c => Function.update (V17 m c) (Proc.devRef .tc main_v466) (final0 m c) (Proc.devRef .tc r)

/-- The buffers that the second pooling call finds. -/
def entry1 (c : Dev nD) : Valuation τ sig (Elt F) := V19 m (outsA m) c

/-- The second pooling call's table. -/
def adm1 : (pcfg1 (F := F)).Adm := ⟨fun k => entry1 m 0 (pre1.ref k), trivial⟩

/-- What the second pooling call leaves in its result. -/
def final1 (c : Dev nD) : Buf (Elt F) ((c : Thread nD τ).loc main_v479) := (dat1 (adm1 m) (entry1 m) c).arrAt 8 (cfg1 (adm1 m)).N

/-- The buffers after the second pooling call. -/
def outsB : Outs (F := F) := fun J r c => if J = 18 then outsA m 18 r c else Function.update (entry1 m c) (Proc.devRef .tc main_v479) (final1 m c) (Proc.devRef .tc r)

/-- The buffers that the linear layer's call finds. -/
def entry2 (c : Dev nD) : Valuation τ sig (Elt F) := V21 m (outsB m) c

/-- What the linear layer's call leaves in the kernel's result. -/
def final2 (c : Dev nD) : Buf (Elt F) ((c : Thread nD τ).loc main_v483) := (dat2 (entry2 m) c).arrAt 3 cfg2.N

/-- What each call leaves. -/
def outs : Outs (F := F) := fun J r c => if J = 18 then outsA m 18 r c else if J = 20 then outsB m 20 r c else
  Function.update (entry2 m c) (Proc.devRef .tc main_v483) (final2 m c) (Proc.devRef .tc r)

theorem outs_18 : outs m 18 = outsA m 18 := by
  funext r c; exact if_pos rfl
theorem outs_20 : outs m 20 = outsB m 20 := by
  funext r c; exact (if_neg (by decide)).trans (if_pos rfl)
theorem outsB_18 : outsB m 18 = outsA m 18 := by
  funext r c; exact if_pos rfl

theorem V18_eq (c : Dev nD) : V18 m (outs m) c = V18 m (outsA m) c := by
  show Function.update (Function.update (V17 m c) _ (outs m 18 main_v466 c)) _ (outs m 18 main_v456 c) = V18 m (outsA m) c
  rw [outs_18]
theorem V18B_eq (c : Dev nD) : V18 m (outsB m) c = V18 m (outsA m) c := by
  show Function.update (Function.update (V17 m c) _ (outsB m 18 main_v466 c)) _ (outsB m 18 main_v456 c) = V18 m (outsA m) c
  rw [outsB_18]
theorem V19_eq (c : Dev nD) : V19 m (outs m) c = entry1 m c := by
  show StableHlo.after hostOps1 (V18 m (outs m) c) = StableHlo.after hostOps1 (V18 m (outsA m) c)
  rw [V18_eq]
theorem V19B_eq (c : Dev nD) : V19 m (outsB m) c = entry1 m c := by
  show StableHlo.after hostOps1 (V18 m (outsB m) c) = StableHlo.after hostOps1 (V18 m (outsA m) c)
  rw [V18B_eq]
theorem V20_eq (c : Dev nD) : V20 m (outs m) c = V20 m (outsB m) c := by
  show Function.update (Function.update (V19 m (outs m) c) _ (outs m 20 main_v479 c)) _ (outs m 20 main_v469 c)
    = Function.update (Function.update (V19 m (outsB m) c) _ (outsB m 20 main_v479 c)) _ (outsB m 20 main_v469 c)
  rw [outs_20, V19_eq, V19B_eq]
theorem V21_eq (c : Dev nD) : V21 m (outs m) c = entry2 m c := by
  show StableHlo.after hostOps2 (V20 m (outs m) c) = StableHlo.after hostOps2 (V20 m (outsB m) c)
  rw [V20_eq]

/-- A buffer read after an update of another. -/
theorem upd_ne (X : Valuation τ sig (Elt F)) {r b : Ref sig .tc} (v) (h : b ≠ r) :
    Function.update X (Proc.devRef .tc r) v (Proc.devRef .tc b) = X (Proc.devRef .tc b) :=
  Function.update_of_ne (StableHlo.devRef_ne_of_ne h) _ _

theorem after0_at (c : Dev nD) : V18 m (outs m) c main_v466 = final0 m c := by
  rw [V18_eq]
  refine (upd_ne _ _ (by decide)).trans ((Function.update_self _ _ _).trans ?_)
  exact Function.update_self _ _ _

theorem after0_ne (c : Dev nD) (b : Ref sig .tc) (hb : b ≠ main_v466) : V18 m (outs m) c b = V17 m c b := by
  rw [V18_eq]
  by_cases h : b = main_v456
  · subst h
    exact (Function.update_self _ _ _).trans (upd_ne _ _ (by decide))
  · exact (upd_ne _ _ h).trans (upd_ne _ _ hb)

theorem outsB_20 (c : Dev nD) (r : Ref sig .tc) : outsB m 20 r c = Function.update (entry1 m c) (Proc.devRef .tc main_v479) (final1 m c) (Proc.devRef .tc r) :=
  if_neg (by decide)

theorem after1_at (c : Dev nD) : V20 m (outs m) c main_v479 = final1 m c := by
  rw [V20_eq]
  refine (upd_ne _ _ (by decide)).trans ((Function.update_self _ _ _).trans ?_)
  rw [outsB_20]; exact Function.update_self _ _ _

theorem after1_ne (c : Dev nD) (b : Ref sig .tc) (hb : b ≠ main_v479) : V20 m (outs m) c b = entry1 m c b := by
  rw [V20_eq]
  by_cases h : b = main_v469
  · subst h
    refine (Function.update_self _ _ _).trans ?_
    rw [outsB_20]; exact upd_ne _ _ (by decide)
  · refine (upd_ne _ _ h).trans ((upd_ne _ _ hb).trans ?_)
    rw [V19B_eq]

theorem outs_22 (c : Dev nD) (r : Ref sig .tc) : outs m 22 r c = Function.update (entry2 m c) (Proc.devRef .tc main_v483) (final2 m c) (Proc.devRef .tc r) :=
  (if_neg (by decide)).trans (if_neg (by decide))

theorem after2_at (c : Dev nD) : V22 m (outs m) c main_v483 = final2 m c := by
  refine (Function.update_self _ _ _).trans ?_
  rw [outs_22]; exact Function.update_self _ _ _

theorem after2_ne (c : Dev nD) (b : Ref sig .tc) (hb : b ≠ main_v483) : V22 m (outs m) c b = entry2 m c b := by
  refine (upd_ne _ _ hb).trans ?_
  rw [V21_eq]

/-- The calls' tables. -/
def adm : (p : Fin 3) → (pcfgs (F := F) p).Adm
  | ⟨0, _⟩ => adm0 m
  | ⟨1, _⟩ => adm1 m
  | ⟨2, _⟩ => ⟨fun k => k.elim0, trivial⟩

abbrev EP : Emb (URounds (GSem nD τ sig) Unit) 𝕄 := embL

/-- The launch's ghost state: the pipelines' tokens. -/
def u₀ : UU := (initOf (Pipeline.cells (Pipeline.pin (pcfgs (F := F)) (adm m)) (cellOf_inj (adm m))) (Pipeline.launchToks (Pipeline.pin (pcfgs (F := F)) (adm m)) (cellOf_inj (adm m))), 1)

/-- What rides along beside the buffers: nothing owed. -/
abbrev E : Fin 4 → Dev nD → sProp 𝕄 := fun _ c => iprop(∃ W, owes (c : Thread nD τ) (0 : CellTallies nD τ sig Unit) W)

section

theorem dev_zero (c : Dev nD) : c = 0 := Subsingleton.elim (α := Fin 1) c 0

def R0 (hT0 : TabOk (tab0 (adm0 m))) := reg0 (adm m) (V17 m) (entry1 m) (entry2 m) (fun c => by rw [dev_zero c]; rfl) hT0 (V18 m (outs m)) (after0_at m) (after0_ne m)
def R1 (hT1 : TabOk (tab1 (adm1 m))) := reg1 (adm m) (V17 m) (entry1 m) (entry2 m) (fun c => by rw [dev_zero c]; rfl) hT1 (V20 m (outs m)) (after1_at m) (after1_ne m)
def R2 := reg2 (adm m) (V17 m) (entry1 m) (entry2 m) (V22 m (outs m)) (after2_at m) (after2_ne m)

-- the launch theorem's implicit arguments are found by unifying its conclusion with this one, which takes unfolding plain
-- definitions in a metavariable's type
set_option backward.isDefEq.respectTransparency.types false in
/-- Every fair execution of the kernel ends, with its arguments as launched, its result what the linear layer's call
    leaves, and every semaphore counter at zero. -/
theorem run (hT0 : TabOk (tab0 (adm0 m))) (hT1 : TabOk (tab1 (adm1 m))) (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v483) = final2 m c)
      ∧ r.2.sem = fun _ => 0) := by
  have p1 : ∀ c : Dev nD, iprop(StableHlo.held (c : Thread nD τ) (Pipeline.ucRefs τ sig) (V19 m (outs m) c) ∗ E 1 c) ⊢ (St (entry1 m c) c : sProp 𝕄) := fun c => by
    rw [V19_eq]
  have p2 : ∀ c : Dev nD, iprop(StableHlo.held (c : Thread nD τ) (Pipeline.ucRefs τ sig) (V21 m (outs m) c) ∗ E 2 c) ⊢ (St (entry2 m c) c : sProp 𝕄) := fun c => by
    rw [V21_eq]
  refine Pipeline.θ_run_regions_kit_dev_sems (pcfgs (F := F)) (adm m) (pdats (adm m) (V17 m) (entry1 m) (entry2 m)) () (cellOf_inj (adm m)) EP defs₀ Variants.none L lv m ρ main
    (segs m (outs m) Variants.none L lv E () (adm m) (pdats (adm m) (V17 m) (entry1 m) (entry2 m)) (R0 m hT0) (R1 m hT1) (R2 m))
    (fun c Q => by
      rewrite [main_chain c, Seg.run_eq_chain,
        show (segs m (outs m) Variants.none L lv E () (adm m) (pdats (adm m) (V17 m) (entry1 m) (entry2 m)) (R0 m hT0) (R1 m hT1) (R2 m) c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13, StableHlo.seq hostOps0_14,
          StableHlo.seq hostOps0_15, StableHlo.seq hostOps0_16, Prog.lift (.customCall (Pipeline.entry 0) ()), StableHlo.seq hostOps1,
          Prog.lift (.customCall (Pipeline.entry 1) ()), StableHlo.seq hostOps2, Prog.lift (.customCall (Pipeline.entry 2) ()) ] from rfl]
      dsimp (config := { failIfUnchanged := false }) only
      exact .rfl)
    (fun c => by simp only [segs, Seg.pipes_host, Seg.pipes_region, Seg.pipes_nil]; decide) 0 (fun _ _ => rfl) (fun _ => BI.emp) (u₀ m) ?hu
    (T₀ := fun c => iprop(StableHlo.held (c : Thread nD τ) (Pipeline.ucRefs τ sig) (V0 m c) ∗ E 0 c))
    (Tₙ := fun c => StableHlo.held (c : Thread nD τ) (Pipeline.ucRefs τ sig) (V22 m (outs m) c))
    (hch := fun c => ⟨.rfl, .rfl, .rfl, .rfl, .rfl, .rfl, .rfl, .rfl, .rfl, .rfl, .rfl, .rfl, .rfl, .rfl, .rfl, .rfl, .rfl, .rfl, .rfl, p1 c, .rfl, p2 c, .rfl⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3)) ∧ s.mem ((c.tc : Thread nD τ).loc main_v483) = final2 m c)
    (hfin := fun c s' => ?_) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V22 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V22_main_arg0 m (outs m) c),
        (h (Proc.devRef .tc main_arg1) (Finset.mem_filter.mpr ⟨StableHlo.devRef_mem_tcRefs main_arg1, by decide⟩)).trans (V22_main_arg1 m (outs m) c),
        (h (Proc.devRef .tc main_arg2) (Finset.mem_filter.mpr ⟨StableHlo.devRef_mem_tcRefs main_arg2, by decide⟩)).trans (V22_main_arg2 m (outs m) c),
        (h (Proc.devRef .tc main_arg3) (Finset.mem_filter.mpr ⟨StableHlo.devRef_mem_tcRefs main_arg3, by decide⟩)).trans (V22_main_arg3 m (outs m) c)⟩,
        (h (Proc.devRef .tc main_v483) (Finset.mem_filter.mpr ⟨StableHlo.devRef_mem_tcRefs main_v483, by decide⟩)).trans (after2_at m c)⟩
    · iexact HSI

end

end Cert.Proof.Run

end
-- ==== Proof.Halves.lean ====
/-
  Hand-written, untrusted. What the two pooling calls' operands hold: rows 0 to 31 and rows 32 to 63 of the host's arrays.
-/
module

public import proofs.«01_k».proof.Proof.PoolEq
public import proofs.«01_k».proof.Proof.Run

@[expose] public section

set_option maxRecDepth 8192

noncomputable section

namespace Cert.Proof.Halves

open Idealize.ShloMosaic Idealize.ShloMosaic.TcCoe Idealize.ShloMosaic.Tactic
open Cert.KernelIdeal Cert.KernelIdeal.Gen
open Cert.Proof.Run Cert.Proof.Words

variable (m : (ℓ : Loc nD τ sig) → Buf (Elt Ideal) ℓ) (c : Dev nD)

/-- A row of the first half, and of the second. -/
abbrev lo (r : Fin 32) : Fin 64 := ⟨r.val, by omega⟩
@[inherit_doc lo] abbrev hi (r : Fin 32) : Fin 64 := ⟨32 + r.val, by omega⟩

theorem v457 (r : Fin 32) (j : Fin 32) : (V17 m c (Proc.devRef .tc main_v457) : S32x32.Idx → BitVec 32) (ix2 r j)
    = (V17 m c (Proc.devRef .tc main_v131) : S64x32.Idx → BitVec 32) (ix2 (lo r) j) := by
  unfold V17
  generalize V16 m c = V
  unfold hostOps0_16
  after_reads_at
  all_goals try after_reads_at
theorem v458 (r : Fin 32) (j : Fin 32) : (V17 m c (Proc.devRef .tc main_v458) : S32x32x1.Idx → BitVec 32) (ix3 r j 0)
    = (V17 m c (Proc.devRef .tc main_v195) : S64x32x1.Idx → BitVec 32) (ix3 (lo r) j 0) := by
  unfold V17
  generalize V16 m c = V
  unfold hostOps0_16
  after_reads_at
  all_goals try after_reads_at
theorem v459 (r : Fin 32) (j : Fin 32) : (V17 m c (Proc.devRef .tc main_v459) : S32x32x1.Idx → BitVec 32) (ix3 r j 0)
    = (V17 m c (Proc.devRef .tc main_v257) : S64x32x1.Idx → BitVec 32) (ix3 (lo r) j 0) := by
  unfold V17
  generalize V16 m c = V
  unfold hostOps0_16
  after_reads_at
  all_goals try after_reads_at
theorem v460 (r : Fin 32) (j : Fin 32) : (V17 m c (Proc.devRef .tc main_v460) : S32x32x1.Idx → BitVec 32) (ix3 r j 0)
    = (V17 m c (Proc.devRef .tc main_v319) : S64x32x1.Idx → BitVec 32) (ix3 (lo r) j 0) := by
  unfold V17
  generalize V16 m c = V
  unfold hostOps0_16
  after_reads_at
  all_goals try after_reads_at
theorem v461 (r : Fin 32) (j : Fin 32) : (V17 m c (Proc.devRef .tc main_v461) : S32x32x1.Idx → BitVec 32) (ix3 r j 0)
    = (V17 m c (Proc.devRef .tc main_v381) : S64x32x1.Idx → BitVec 32) (ix3 (lo r) j 0) := by
  unfold V17
  generalize V16 m c = V
  unfold hostOps0_16
  after_reads_at
  all_goals try after_reads_at
theorem v462 (r : Fin 32) (j : Fin 32) : (V17 m c (Proc.devRef .tc main_v462) : S32x32x1.Idx → EReal) (ix3 r j 0)
    = (V17 m c (Proc.devRef .tc main_v407) : S64x32x1.Idx → EReal) (ix3 (lo r) j 0) := by
  unfold V17
  generalize V16 m c = V
  unfold hostOps0_16
  after_reads_at
  all_goals try after_reads_at
theorem v463 (r : Fin 32) (j : Fin 32) : (V17 m c (Proc.devRef .tc main_v463) : S32x32x1.Idx → EReal) (ix3 r j 0)
    = (V17 m c (Proc.devRef .tc main_v425) : S64x32x1.Idx → EReal) (ix3 (lo r) j 0) := by
  unfold V17
  generalize V16 m c = V
  unfold hostOps0_16
  after_reads_at
  all_goals try after_reads_at
theorem v464 (r : Fin 32) (j : Fin 32) : (V17 m c (Proc.devRef .tc main_v464) : S32x32x1.Idx → EReal) (ix3 r j 0)
    = (V17 m c (Proc.devRef .tc main_v443) : S64x32x1.Idx → EReal) (ix3 (lo r) j 0) := by
  unfold V17
  generalize V16 m c = V
  unfold hostOps0_16
  after_reads_at
  all_goals try after_reads_at
theorem v465 (r : Fin 32) (j : Fin 32) : (V17 m c (Proc.devRef .tc main_v465) : S32x32x1.Idx → EReal) (ix3 r j 0)
    = (V17 m c (Proc.devRef .tc main_v453) : S64x32x1.Idx → EReal) (ix3 (lo r) j 0) := by
  unfold V17
  generalize V16 m c = V
  unfold hostOps0_16
  after_reads_at
  all_goals try after_reads_at
theorem v456 (r : Fin 32) (k : Fin 3136) (ch : Fin 256) : (V17 m c (Proc.devRef .tc main_v456) : S32x3136x256.Idx → EReal) (ix3 r k ch)
    = ft m c (ix4 (lo r) ch ⟨k.val / 56, by omega⟩ ⟨k.val % 56, by omega⟩) := by
  have h : V16 m c (Proc.devRef .tc main_arg0) = V0 m c (Proc.devRef .tc main_arg0) := ((V16_of m c _ (by decide)).trans ((V15_of m c _ (by decide)).trans ((V14_of m c _ (by decide)).trans ((V13_of m c _ (by decide)).trans ((V12_of m c _ (by decide)).trans ((V11_of m c _ (by decide)).trans ((V10_of m c _ (by decide)).trans ((V9_of m c _ (by decide)).trans ((V8_of m c _ (by decide)).trans ((V7_of m c _ (by decide)).trans ((V6_of m c _ (by decide)).trans ((V5_of m c _ (by decide)).trans ((V4_of m c _ (by decide)).trans ((V3_of m c _ (by decide)).trans ((V2_of m c _ (by decide)).trans (V1_of m c _ (by decide)))))))))))))))))
  unfold ft
  rw [← h]
  unfold V17
  generalize V16 m c = V
  unfold hostOps0_16
  after_reads_at

theorem V18_17 (r : Ref sig .tc) (h : r ≠ main_v466) (h' : r ≠ main_v456) : V18 m (outsA m) c (Proc.devRef .tc r) = V17 m c (Proc.devRef .tc r) :=
  (upd_ne _ _ h').trans (upd_ne _ _ h)

theorem v470 (r : Fin 32) (j : Fin 32) : (entry1 m c (Proc.devRef .tc main_v470) : S32x32.Idx → BitVec 32) (ix2 r j)
    = (V17 m c (Proc.devRef .tc main_v131) : S64x32.Idx → BitVec 32) (ix2 (hi r) j) := by
  rw [← V18_17 m c _ (by decide) (by decide)]
  unfold entry1 V19
  generalize V18 m (outsA m) c = V
  unfold hostOps1
  after_reads_at
theorem v471 (r : Fin 32) (j : Fin 32) : (entry1 m c (Proc.devRef .tc main_v471) : S32x32x1.Idx → BitVec 32) (ix3 r j 0)
    = (V17 m c (Proc.devRef .tc main_v195) : S64x32x1.Idx → BitVec 32) (ix3 (hi r) j 0) := by
  rw [← V18_17 m c _ (by decide) (by decide)]
  unfold entry1 V19
  generalize V18 m (outsA m) c = V
  unfold hostOps1
  after_reads_at
theorem v472 (r : Fin 32) (j : Fin 32) : (entry1 m c (Proc.devRef .tc main_v472) : S32x32x1.Idx → BitVec 32) (ix3 r j 0)
    = (V17 m c (Proc.devRef .tc main_v257) : S64x32x1.Idx → BitVec 32) (ix3 (hi r) j 0) := by
  rw [← V18_17 m c _ (by decide) (by decide)]
  unfold entry1 V19
  generalize V18 m (outsA m) c = V
  unfold hostOps1
  after_reads_at
theorem v473 (r : Fin 32) (j : Fin 32) : (entry1 m c (Proc.devRef .tc main_v473) : S32x32x1.Idx → BitVec 32) (ix3 r j 0)
    = (V17 m c (Proc.devRef .tc main_v319) : S64x32x1.Idx → BitVec 32) (ix3 (hi r) j 0) := by
  rw [← V18_17 m c _ (by decide) (by decide)]
  unfold entry1 V19
  generalize V18 m (outsA m) c = V
  unfold hostOps1
  after_reads_at
theorem v474 (r : Fin 32) (j : Fin 32) : (entry1 m c (Proc.devRef .tc main_v474) : S32x32x1.Idx → BitVec 32) (ix3 r j 0)
    = (V17 m c (Proc.devRef .tc main_v381) : S64x32x1.Idx → BitVec 32) (ix3 (hi r) j 0) := by
  rw [← V18_17 m c _ (by decide) (by decide)]
  unfold entry1 V19
  generalize V18 m (outsA m) c = V
  unfold hostOps1
  after_reads_at
theorem v475 (r : Fin 32) (j : Fin 32) : (entry1 m c (Proc.devRef .tc main_v475) : S32x32x1.Idx → EReal) (ix3 r j 0)
    = (V17 m c (Proc.devRef .tc main_v407) : S64x32x1.Idx → EReal) (ix3 (hi r) j 0) := by
  rw [← V18_17 m c _ (by decide) (by decide)]
  unfold entry1 V19
  generalize V18 m (outsA m) c = V
  unfold hostOps1
  after_reads_at
theorem v476 (r : Fin 32) (j : Fin 32) : (entry1 m c (Proc.devRef .tc main_v476) : S32x32x1.Idx → EReal) (ix3 r j 0)
    = (V17 m c (Proc.devRef .tc main_v425) : S64x32x1.Idx → EReal) (ix3 (hi r) j 0) := by
  rw [← V18_17 m c _ (by decide) (by decide)]
  unfold entry1 V19
  generalize V18 m (outsA m) c = V
  unfold hostOps1
  after_reads_at
theorem v477 (r : Fin 32) (j : Fin 32) : (entry1 m c (Proc.devRef .tc main_v477) : S32x32x1.Idx → EReal) (ix3 r j 0)
    = (V17 m c (Proc.devRef .tc main_v443) : S64x32x1.Idx → EReal) (ix3 (hi r) j 0) := by
  rw [← V18_17 m c _ (by decide) (by decide)]
  unfold entry1 V19
  generalize V18 m (outsA m) c = V
  unfold hostOps1
  after_reads_at
theorem v478 (r : Fin 32) (j : Fin 32) : (entry1 m c (Proc.devRef .tc main_v478) : S32x32x1.Idx → EReal) (ix3 r j 0)
    = (V17 m c (Proc.devRef .tc main_v453) : S64x32x1.Idx → EReal) (ix3 (hi r) j 0) := by
  rw [← V18_17 m c _ (by decide) (by decide)]
  unfold entry1 V19
  generalize V18 m (outsA m) c = V
  unfold hostOps1
  after_reads_at
theorem v469 (r : Fin 32) (k : Fin 3136) (ch : Fin 256) : (entry1 m c (Proc.devRef .tc main_v469) : S32x3136x256.Idx → EReal) (ix3 r k ch)
    = ft m c (ix4 (hi r) ch ⟨k.val / 56, by omega⟩ ⟨k.val % 56, by omega⟩) := by
  have h : V18 m (outsA m) c (Proc.devRef .tc main_arg0) = V0 m c (Proc.devRef .tc main_arg0) := (V18_17 m c _ (by decide) (by decide)).trans ((V17_of m c _ (by decide)).trans ((V16_of m c _ (by decide)).trans ((V15_of m c _ (by decide)).trans ((V14_of m c _ (by decide)).trans ((V13_of m c _ (by decide)).trans ((V12_of m c _ (by decide)).trans ((V11_of m c _ (by decide)).trans ((V10_of m c _ (by decide)).trans ((V9_of m c _ (by decide)).trans ((V8_of m c _ (by decide)).trans ((V7_of m c _ (by decide)).trans ((V6_of m c _ (by decide)).trans ((V5_of m c _ (by decide)).trans ((V4_of m c _ (by decide)).trans ((V3_of m c _ (by decide)).trans ((V2_of m c _ (by decide)).trans (V1_of m c _ (by decide))))))))))))))))))
  unfold ft
  rw [← h]
  unfold entry1 V19
  generalize V18 m (outsA m) c = V
  unfold hostOps1
  after_reads_at

end Cert.Proof.Halves
-- ==== Proof.Final0.lean ====
/-
  Hand-written, untrusted. The first pooling call's result: the model's rows of its half.
-/
module

public import proofs.«01_k».proof.Proof.Halves
public import Idealize.ShloMosaic.Lib.Pipeline.Value

@[expose] public section

set_option maxRecDepth 8192

noncomputable section

namespace Cert.Proof.Final0

open Idealize.ShloMosaic Idealize.ShloMosaic.TcCoe Idealize.ShloMosaic.Tactic
open Idealize.ShloMosaic.Pipeline (Dat)
open Cert.KernelIdeal Cert.KernelIdeal.Gen
open Cert.Proof.PoolRun Cert.Proof.PoolRegion Cert.Proof.Run Cert.Proof.Words Cert.Proof.PoolEq Cert.Proof.Halves

theorem idx_facts : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = t.val ∧ cc0_transform_2 (grid0.coords t) 1 = 0 ∧ cc0_transform_2 (grid0.coords t) 2 = 0)
    ∧ (cc0_transform_3 (grid0.coords t) 0 = t.val ∧ cc0_transform_3 (grid0.coords t) 1 = 0 ∧ cc0_transform_3 (grid0.coords t) 2 = 0)
    ∧ (cc0_transform_4 (grid0.coords t) 0 = t.val ∧ cc0_transform_4 (grid0.coords t) 1 = 0 ∧ cc0_transform_4 (grid0.coords t) 2 = 0)
    ∧ (cc0_transform_5 (grid0.coords t) 0 = t.val ∧ cc0_transform_5 (grid0.coords t) 1 = 0 ∧ cc0_transform_5 (grid0.coords t) 2 = 0)
    ∧ (cc0_transform_6 (grid0.coords t) 0 = t.val ∧ cc0_transform_6 (grid0.coords t) 1 = 0 ∧ cc0_transform_6 (grid0.coords t) 2 = 0)
    ∧ (cc0_transform_7 (grid0.coords t) 0 = t.val ∧ cc0_transform_7 (grid0.coords t) 1 = 0 ∧ cc0_transform_7 (grid0.coords t) 2 = 0)
    ∧ (cc0_transform_9 (grid0.coords t) 0 = t.val ∧ cc0_transform_9 (grid0.coords t) 1 = 0 ∧ cc0_transform_9 (grid0.coords t) 2 = 0) := by
  decide +kernel

theorem flush_all : ∀ t : Fin grid0.N, spec0_8.flushAt (G := grid0) cc0_transform_9 t = true := by
  decide +kernel

/-- A point's row. -/
abbrev row (t : Fin grid0.N) : Fin 32 := ⟨t.val, t.isLt.trans_eq N_0⟩

section General

variable (a : (pcfg0 (F := Ideal)).Adm) (X : Dev nD → Valuation τ sig (Elt Ideal)) (c : Dev nD)

theorem blk_0 (t : Fin grid0.N) (j : Fin 32) : (blk0 a X c 0 t : S1x32x1.Idx → BitVec 32) (ix3 0 j 0) = (X c (Proc.devRef .tc main_v458) : S32x32x1.Idx → BitVec 32) (ix3 (row t) j 0) := by
  obtain ⟨f0, f1, f2⟩ := (idx_facts t).1
  refine congrArg (X c (Proc.devRef .tc main_v458)) (funext fun k => Fin.ext ?_)
  match k with
  | ⟨0, _⟩ => show cc0_transform_0 (grid0.coords t) 0 * 1 + 1 * 0 = t.val; rw [f0]; omega
  | ⟨1, _⟩ => show cc0_transform_0 (grid0.coords t) 1 * 32 + 1 * j.val = j.val; rw [f1]; omega
  | ⟨2, _⟩ => show cc0_transform_0 (grid0.coords t) 2 * 1 + 1 * 0 = 0; rw [f2]
theorem blk_1 (t : Fin grid0.N) (j : Fin 32) : (blk0 a X c 1 t : S1x32x1.Idx → BitVec 32) (ix3 0 j 0) = (X c (Proc.devRef .tc main_v459) : S32x32x1.Idx → BitVec 32) (ix3 (row t) j 0) := by
  obtain ⟨f0, f1, f2⟩ := (idx_facts t).2.1
  refine congrArg (X c (Proc.devRef .tc main_v459)) (funext fun k => Fin.ext ?_)
  match k with
  | ⟨0, _⟩ => show cc0_transform_1 (grid0.coords t) 0 * 1 + 1 * 0 = t.val; rw [f0]; omega
  | ⟨1, _⟩ => show cc0_transform_1 (grid0.coords t) 1 * 32 + 1 * j.val = j.val; rw [f1]; omega
  | ⟨2, _⟩ => show cc0_transform_1 (grid0.coords t) 2 * 1 + 1 * 0 = 0; rw [f2]
theorem blk_2 (t : Fin grid0.N) (j : Fin 32) : (blk0 a X c 2 t : S1x32x1.Idx → BitVec 32) (ix3 0 j 0) = (X c (Proc.devRef .tc main_v460) : S32x32x1.Idx → BitVec 32) (ix3 (row t) j 0) := by
  obtain ⟨f0, f1, f2⟩ := (idx_facts t).2.2.1
  refine congrArg (X c (Proc.devRef .tc main_v460)) (funext fun k => Fin.ext ?_)
  match k with
  | ⟨0, _⟩ => show cc0_transform_2 (grid0.coords t) 0 * 1 + 1 * 0 = t.val; rw [f0]; omega
  | ⟨1, _⟩ => show cc0_transform_2 (grid0.coords t) 1 * 32 + 1 * j.val = j.val; rw [f1]; omega
  | ⟨2, _⟩ => show cc0_transform_2 (grid0.coords t) 2 * 1 + 1 * 0 = 0; rw [f2]
theorem blk_3 (t : Fin grid0.N) (j : Fin 32) : (blk0 a X c 3 t : S1x32x1.Idx → BitVec 32) (ix3 0 j 0) = (X c (Proc.devRef .tc main_v461) : S32x32x1.Idx → BitVec 32) (ix3 (row t) j 0) := by
  obtain ⟨f0, f1, f2⟩ := (idx_facts t).2.2.2.1
  refine congrArg (X c (Proc.devRef .tc main_v461)) (funext fun k => Fin.ext ?_)
  match k with
  | ⟨0, _⟩ => show cc0_transform_3 (grid0.coords t) 0 * 1 + 1 * 0 = t.val; rw [f0]; omega
  | ⟨1, _⟩ => show cc0_transform_3 (grid0.coords t) 1 * 32 + 1 * j.val = j.val; rw [f1]; omega
  | ⟨2, _⟩ => show cc0_transform_3 (grid0.coords t) 2 * 1 + 1 * 0 = 0; rw [f2]
theorem blk_4 (t : Fin grid0.N) (j : Fin 32) : (blk0 a X c 4 t : S1x32x1.Idx → EReal) (ix3 0 j 0) = (X c (Proc.devRef .tc main_v462) : S32x32x1.Idx → EReal) (ix3 (row t) j 0) := by
  obtain ⟨f0, f1, f2⟩ := (idx_facts t).2.2.2.2.1
  refine congrArg (X c (Proc.devRef .tc main_v462)) (funext fun k => Fin.ext ?_)
  match k with
  | ⟨0, _⟩ => show cc0_transform_4 (grid0.coords t) 0 * 1 + 1 * 0 = t.val; rw [f0]; omega
  | ⟨1, _⟩ => show cc0_transform_4 (grid0.coords t) 1 * 32 + 1 * j.val = j.val; rw [f1]; omega
  | ⟨2, _⟩ => show cc0_transform_4 (grid0.coords t) 2 * 1 + 1 * 0 = 0; rw [f2]
theorem blk_5 (t : Fin grid0.N) (j : Fin 32) : (blk0 a X c 5 t : S1x32x1.Idx → EReal) (ix3 0 j 0) = (X c (Proc.devRef .tc main_v463) : S32x32x1.Idx → EReal) (ix3 (row t) j 0) := by
  obtain ⟨f0, f1, f2⟩ := (idx_facts t).2.2.2.2.2.1
  refine congrArg (X c (Proc.devRef .tc main_v463)) (funext fun k => Fin.ext ?_)
  match k with
  | ⟨0, _⟩ => show cc0_transform_5 (grid0.coords t) 0 * 1 + 1 * 0 = t.val; rw [f0]; omega
  | ⟨1, _⟩ => show cc0_transform_5 (grid0.coords t) 1 * 32 + 1 * j.val = j.val; rw [f1]; omega
  | ⟨2, _⟩ => show cc0_transform_5 (grid0.coords t) 2 * 1 + 1 * 0 = 0; rw [f2]
theorem blk_6 (t : Fin grid0.N) (j : Fin 32) : (blk0 a X c 6 t : S1x32x1.Idx → EReal) (ix3 0 j 0) = (X c (Proc.devRef .tc main_v464) : S32x32x1.Idx → EReal) (ix3 (row t) j 0) := by
  obtain ⟨f0, f1, f2⟩ := (idx_facts t).2.2.2.2.2.2.1
  refine congrArg (X c (Proc.devRef .tc main_v464)) (funext fun k => Fin.ext ?_)
  match k with
  | ⟨0, _⟩ => show cc0_transform_6 (grid0.coords t) 0 * 1 + 1 * 0 = t.val; rw [f0]; omega
  | ⟨1, _⟩ => show cc0_transform_6 (grid0.coords t) 1 * 32 + 1 * j.val = j.val; rw [f1]; omega
  | ⟨2, _⟩ => show cc0_transform_6 (grid0.coords t) 2 * 1 + 1 * 0 = 0; rw [f2]
theorem blk_7 (t : Fin grid0.N) (j : Fin 32) : (blk0 a X c 7 t : S1x32x1.Idx → EReal) (ix3 0 j 0) = (X c (Proc.devRef .tc main_v465) : S32x32x1.Idx → EReal) (ix3 (row t) j 0) := by
  obtain ⟨f0, f1, f2⟩ := (idx_facts t).2.2.2.2.2.2.2.1
  refine congrArg (X c (Proc.devRef .tc main_v465)) (funext fun k => Fin.ext ?_)
  match k with
  | ⟨0, _⟩ => show cc0_transform_7 (grid0.coords t) 0 * 1 + 1 * 0 = t.val; rw [f0]; omega
  | ⟨1, _⟩ => show cc0_transform_7 (grid0.coords t) 1 * 32 + 1 * j.val = j.val; rw [f1]; omega
  | ⟨2, _⟩ => show cc0_transform_7 (grid0.coords t) 2 * 1 + 1 * 0 = 0; rw [f2]

theorem tab_at (r j : Fin 32) : tab0 a (ValueIdx.ix2 r j) = (a.1 0 : S32x32.Idx → BitVec 32) (ix2 r j) := by
  refine congrArg (a.1 0) (funext fun k => ?_)
  match k with
  | ⟨0, _⟩ => rfl
  | ⟨1, _⟩ => rfl

theorem adm_at (Y : Valuation τ sig (Elt Ideal)) (h) : (⟨fun k => Y (pre0.ref k), h⟩ : (pcfg0 (F := Ideal)).Adm).1 0 = Y (Proc.devRef .tc main_v457) := rfl

theorem slab_at (T : S32x32.Idx → BitVec 32) (ro : Fin 32) (ch : Fin 256) (k : Fin 768) :
    slab T ((Memref.whole main_v456).view.read (Elt Ideal) (X c main_v456)) ro (ix3 0 k ch)
      = (X c (Proc.devRef .tc main_v456) : S32x3136x256.Idx → EReal) (ix3 ro ⟨((T (ValueIdx.ix2 ro ⟨k.val / 24, by omega⟩)).toNat + k.val % 24) % 3136, Nat.mod_lt _ (by omega)⟩ ch) := by
  refine congrArg (X c (Proc.devRef .tc main_v456)) (funext fun k => ?_)
  match k with
  | ⟨0, _⟩ => rfl
  | ⟨1, _⟩ => rfl
  | ⟨2, _⟩ => rfl

variable (R : S32x8x256.Idx → EReal) (hR : ∀ (t : Fin grid0.N) (l : Fin 8) (ch : Fin 256), (out0 a X c t : S1x8x256.Idx → EReal) (ix3 0 l ch) = R (ix3 (row t) l ch))

set_option maxRecDepth 100000 in
include hR in
theorem flushed_eq (t : Fin grid0.N) :
    (dat0 a X c).flushed 8 t = ((win0 a 8).blk t).view.read (Elt Ideal) R := by
  obtain ⟨f0, f1, f2⟩ := (idx_facts t).2.2.2.2.2.2.2.2
  show ((cfg0 a).win 8).cut (grid0.coords t) (out0 a X c t) = _
  refine funext fun (i : S1x8x256.Idx) => ?_
  show out0 a X c t i = R (((win0 a 8).blk t).view.emb i)
  have i0 : (i 0).val < 1 := (i 0).isLt
  have e : i = ix3 (n0 := 1) (n1 := 8) (n2 := 256) 0 (i 1) (i 2) := funext fun k => match k with
    | ⟨0, _⟩ => Fin.ext (show (i 0).val = 0 by omega)
    | ⟨1, _⟩ => rfl
    | ⟨2, _⟩ => rfl
  refine Eq.trans (congrArg (out0 a X c t) e) ((hR t (i 1) (i 2)).trans ?_)
  refine congrArg R (funext fun k => Fin.ext ?_)
  match k with
  | ⟨0, _⟩ => show t.val = cc0_transform_9 (grid0.coords t) 0 * 1 + 1 * (i 0).val; rw [f0]; omega
  | ⟨1, _⟩ => show (i 1).val = cc0_transform_9 (grid0.coords t) 1 * 8 + 1 * (i 1).val; rw [f1]; omega
  | ⟨2, _⟩ => show (i 2).val = cc0_transform_9 (grid0.coords t) 2 * 256 + 1 * (i 2).val; rw [f2]; omega

theorem mem_blk (t : Fin grid0.N) (i : S32x8x256.Idx) : i ∈ ((win0 a 8).blk t).view.set ↔ t.val = (i 0).val := by
  show i ∈ ((View.whole main_v466).slice ((win0 a 8).rect t)).set ↔ _
  rw [View.set_slice_whole, Rect.mem_set_unit]
  have h1 : (i 1).val < 8 := (i 1).isLt
  have h2 : (i 2).val < 256 := (i 2).isLt
  obtain ⟨f0, f1, f2⟩ := (idx_facts t).2.2.2.2.2.2.2.2
  refine ⟨fun h => ?_, fun h k => ?_⟩
  · have := h 0
    change cc0_transform_9 (grid0.coords t) 0 * 1 ≤ (i 0).val ∧ (i 0).val < cc0_transform_9 (grid0.coords t) 0 * 1 + 1 at this
    rw [f0] at this; omega
  · match k with
    | ⟨0, _⟩ => show cc0_transform_9 (grid0.coords t) 0 * 1 ≤ (i 0).val ∧ (i 0).val < cc0_transform_9 (grid0.coords t) 0 * 1 + 1; rw [f0]; omega
    | ⟨1, _⟩ => show cc0_transform_9 (grid0.coords t) 1 * 8 ≤ (i 1).val ∧ (i 1).val < cc0_transform_9 (grid0.coords t) 1 * 8 + 8; rw [f1]; omega
    | ⟨2, _⟩ => show cc0_transform_9 (grid0.coords t) 2 * 256 ≤ (i 2).val ∧ (i 2).val < cc0_transform_9 (grid0.coords t) 2 * 256 + 256; rw [f2]; omega

theorem cover (i : S32x8x256.Idx) : ∃ t : Fin grid0.N, (win0 a 8).flush t = true ∧ i ∈ ((win0 a 8).blk t).view.set := by
  have h0 : (i 0).val < 32 := (i 0).isLt
  exact ⟨⟨(i 0).val, h0.trans_eq N_0.symm⟩, flush_all _, (mem_blk a _ i).2 rfl⟩

include hR in
theorem arr_eq : (dat0 a X c).arrAt 8 (cfg0 a).N = R :=
  (dat0 a X c).arrAt_eq_of_cover 8 R (fun t _ => flushed_eq a X c R hR t) (cover a)

end General

variable (m : (ℓ : Loc nD τ sig) → Buf (Elt Ideal) ℓ) (c : Dev nD)

theorem tab_eq (r j : Fin 32) : tab0 (adm0 m) (ValueIdx.ix2 r j) = tabR m c (lo r) j := by
  rw [dev_zero c]
  exact ((tab_at (adm0 m) r j).trans (congrFun (adm_at (V17 m 0) trivial) (ix2 r j))).trans (v457 m 0 r j)

theorem tabOk : TabOk (tab0 (adm0 m)) := by
  intro j
  have key : ∀ r s : Fin 32, 8 ∣ (tab0 (adm0 m) (ValueIdx.ix2 r s)).toNat ∧ (tab0 (adm0 m) (ValueIdx.ix2 r s)).toNat + 24 ≤ 3136 := fun r s => by
    rw [tab_eq m 0]
    exact tab_ok m 0 _ _
  have e : j = ValueIdx.ix2 (n0 := 32) (n1 := 32) (j 0) (j 1) := funext fun k => match k with
    | ⟨0, _⟩ => rfl
    | ⟨1, _⟩ => rfl
  exact (congrArg (fun j => 8 ∣ (tab0 (adm0 m) j).toNat ∧ (tab0 (adm0 m) j).toNat + 24 ≤ 3136) e).mpr (key _ _)

/-- The call's result. -/
def rows : S32x8x256.Idx → EReal := fun i => G m c (lo (i 0)) (i 1) (i 2)

theorem ft_congr (r : Fin 64) (ch : Fin 256) (a b : ℕ) (h : a = b) (ha : a / 56 < 56) (hb : b / 56 < 56) :
    ft m c (ix4 r ch ⟨a / 56, ha⟩ ⟨a % 56, Nat.mod_lt _ (by omega)⟩) = ft m c (ix4 r ch ⟨b / 56, hb⟩ ⟨b % 56, Nat.mod_lt _ (by omega)⟩) := by
  subst h; rfl

theorem slab_eq (t : Fin grid0.N) (ch : Fin 256) (k : Fin 768) (h : (((tabR m c (lo (row t)) ⟨k.val / 24, by omega⟩).toNat + k.val % 24) % 3136) / 56 < 56) :
    slab (tab0 (adm0 m)) ((Memref.whole main_v456).view.read (Elt Ideal) (V17 m c main_v456)) (row t) (ix3 0 k ch)
      = ft m c (ix4 (lo (row t)) ch ⟨(((tabR m c (lo (row t)) ⟨k.val / 24, by omega⟩).toNat + k.val % 24) % 3136) / 56, h⟩
        ⟨(((tabR m c (lo (row t)) ⟨k.val / 24, by omega⟩).toNat + k.val % 24) % 3136) % 56, Nat.mod_lt _ (by omega)⟩) :=
  (slab_at (V17 m) c (tab0 (adm0 m)) (row t) ch k).trans ((v456 m c (row t) _ ch).trans
    (ft_congr m c _ ch _ _ (by rw [tab_eq m c]) (by dsimp only; omega) h))

theorem out_eq (t : Fin grid0.N) (l : Fin 8) (ch : Fin 256) : (out0 (adm0 m) (V17 m) c t : S1x8x256.Idx → EReal) (ix3 0 l ch) = rows m c (ix3 (row t) l ch) :=
  pooled_eq m c (lo (row t)) (blk0 (adm0 m) (V17 m) c 0 t) (blk0 (adm0 m) (V17 m) c 1 t) (blk0 (adm0 m) (V17 m) c 2 t) (blk0 (adm0 m) (V17 m) c 3 t)
    (blk0 (adm0 m) (V17 m) c 4 t) (blk0 (adm0 m) (V17 m) c 5 t) (blk0 (adm0 m) (V17 m) c 6 t) (blk0 (adm0 m) (V17 m) c 7 t)
    (slab (tab0 (adm0 m)) ((Memref.whole main_v456).view.read (Elt Ideal) (V17 m c main_v456)) (row t))
    (fun j => (blk_0 (adm0 m) (V17 m) c t j).trans (v458 m c (row t) j))
    (fun j => (blk_1 (adm0 m) (V17 m) c t j).trans (v459 m c (row t) j))
    (fun j => (blk_2 (adm0 m) (V17 m) c t j).trans (v460 m c (row t) j))
    (fun j => (blk_3 (adm0 m) (V17 m) c t j).trans (v461 m c (row t) j))
    (fun j => (blk_4 (adm0 m) (V17 m) c t j).trans (v462 m c (row t) j))
    (fun j => (blk_5 (adm0 m) (V17 m) c t j).trans (v463 m c (row t) j))
    (fun j => (blk_6 (adm0 m) (V17 m) c t j).trans (v464 m c (row t) j))
    (fun j => (blk_7 (adm0 m) (V17 m) c t j).trans (v465 m c (row t) j))
    (slab_eq m c t) l ch

theorem final : final0 m c = rows m c := arr_eq (adm0 m) (V17 m) c (rows m c) (out_eq m c)

end Cert.Proof.Final0
-- ==== Proof.Final1.lean ====
/-
  Hand-written, untrusted. The second pooling call's result: the model's rows of its half.
-/
module

public import proofs.«01_k».proof.Proof.Halves
public import Idealize.ShloMosaic.Lib.Pipeline.Value

@[expose] public section

set_option maxRecDepth 8192

noncomputable section

namespace Cert.Proof.Final1

open Idealize.ShloMosaic Idealize.ShloMosaic.TcCoe Idealize.ShloMosaic.Tactic
open Idealize.ShloMosaic.Pipeline (Dat)
open Cert.KernelIdeal Cert.KernelIdeal.Gen
open Cert.Proof.PoolRun Cert.Proof.PoolRegion Cert.Proof.Run Cert.Proof.Words Cert.Proof.PoolEq Cert.Proof.Halves

theorem idx_facts : ∀ t : Fin grid1.N,
    (cc1_transform_0 (grid1.coords t) 0 = t.val ∧ cc1_transform_0 (grid1.coords t) 1 = 0 ∧ cc1_transform_0 (grid1.coords t) 2 = 0)
    ∧ (cc1_transform_1 (grid1.coords t) 0 = t.val ∧ cc1_transform_1 (grid1.coords t) 1 = 0 ∧ cc1_transform_1 (grid1.coords t) 2 = 0)
    ∧ (cc1_transform_2 (grid1.coords t) 0 = t.val ∧ cc1_transform_2 (grid1.coords t) 1 = 0 ∧ cc1_transform_2 (grid1.coords t) 2 = 0)
    ∧ (cc1_transform_3 (grid1.coords t) 0 = t.val ∧ cc1_transform_3 (grid1.coords t) 1 = 0 ∧ cc1_transform_3 (grid1.coords t) 2 = 0)
    ∧ (cc1_transform_4 (grid1.coords t) 0 = t.val ∧ cc1_transform_4 (grid1.coords t) 1 = 0 ∧ cc1_transform_4 (grid1.coords t) 2 = 0)
    ∧ (cc1_transform_5 (grid1.coords t) 0 = t.val ∧ cc1_transform_5 (grid1.coords t) 1 = 0 ∧ cc1_transform_5 (grid1.coords t) 2 = 0)
    ∧ (cc1_transform_6 (grid1.coords t) 0 = t.val ∧ cc1_transform_6 (grid1.coords t) 1 = 0 ∧ cc1_transform_6 (grid1.coords t) 2 = 0)
    ∧ (cc1_transform_7 (grid1.coords t) 0 = t.val ∧ cc1_transform_7 (grid1.coords t) 1 = 0 ∧ cc1_transform_7 (grid1.coords t) 2 = 0)
    ∧ (cc1_transform_9 (grid1.coords t) 0 = t.val ∧ cc1_transform_9 (grid1.coords t) 1 = 0 ∧ cc1_transform_9 (grid1.coords t) 2 = 0) := by
  decide +kernel

theorem flush_all : ∀ t : Fin grid1.N, spec1_8.flushAt (G := grid1) cc1_transform_9 t = true := by
  decide +kernel

/-- A point's row. -/
abbrev row (t : Fin grid1.N) : Fin 32 := ⟨t.val, t.isLt.trans_eq N_1⟩

section General

variable (a : (pcfg1 (F := Ideal)).Adm) (X : Dev nD → Valuation τ sig (Elt Ideal)) (c : Dev nD)

theorem blk_0 (t : Fin grid1.N) (j : Fin 32) : (blk1 a X c 0 t : S1x32x1.Idx → BitVec 32) (ix3 0 j 0) = (X c (Proc.devRef .tc main_v471) : S32x32x1.Idx → BitVec 32) (ix3 (row t) j 0) := by
  obtain ⟨f0, f1, f2⟩ := (idx_facts t).1
  refine congrArg (X c (Proc.devRef .tc main_v471)) (funext fun k => Fin.ext ?_)
  match k with
  | ⟨0, _⟩ => show cc1_transform_0 (grid1.coords t) 0 * 1 + 1 * 0 = t.val; rw [f0]; omega
  | ⟨1, _⟩ => show cc1_transform_0 (grid1.coords t) 1 * 32 + 1 * j.val = j.val; rw [f1]; omega
  | ⟨2, _⟩ => show cc1_transform_0 (grid1.coords t) 2 * 1 + 1 * 0 = 0; rw [f2]
theorem blk_1 (t : Fin grid1.N) (j : Fin 32) : (blk1 a X c 1 t : S1x32x1.Idx → BitVec 32) (ix3 0 j 0) = (X c (Proc.devRef .tc main_v472) : S32x32x1.Idx → BitVec 32) (ix3 (row t) j 0) := by
  obtain ⟨f0, f1, f2⟩ := (idx_facts t).2.1
  refine congrArg (X c (Proc.devRef .tc main_v472)) (funext fun k => Fin.ext ?_)
  match k with
  | ⟨0, _⟩ => show cc1_transform_1 (grid1.coords t) 0 * 1 + 1 * 0 = t.val; rw [f0]; omega
  | ⟨1, _⟩ => show cc1_transform_1 (grid1.coords t) 1 * 32 + 1 * j.val = j.val; rw [f1]; omega
  | ⟨2, _⟩ => show cc1_transform_1 (grid1.coords t) 2 * 1 + 1 * 0 = 0; rw [f2]
theorem blk_2 (t : Fin grid1.N) (j : Fin 32) : (blk1 a X c 2 t : S1x32x1.Idx → BitVec 32) (ix3 0 j 0) = (X c (Proc.devRef .tc main_v473) : S32x32x1.Idx → BitVec 32) (ix3 (row t) j 0) := by
  obtain ⟨f0, f1, f2⟩ := (idx_facts t).2.2.1
  refine congrArg (X c (Proc.devRef .tc main_v473)) (funext fun k => Fin.ext ?_)
  match k with
  | ⟨0, _⟩ => show cc1_transform_2 (grid1.coords t) 0 * 1 + 1 * 0 = t.val; rw [f0]; omega
  | ⟨1, _⟩ => show cc1_transform_2 (grid1.coords t) 1 * 32 + 1 * j.val = j.val; rw [f1]; omega
  | ⟨2, _⟩ => show cc1_transform_2 (grid1.coords t) 2 * 1 + 1 * 0 = 0; rw [f2]
theorem blk_3 (t : Fin grid1.N) (j : Fin 32) : (blk1 a X c 3 t : S1x32x1.Idx → BitVec 32) (ix3 0 j 0) = (X c (Proc.devRef .tc main_v474) : S32x32x1.Idx → BitVec 32) (ix3 (row t) j 0) := by
  obtain ⟨f0, f1, f2⟩ := (idx_facts t).2.2.2.1
  refine congrArg (X c (Proc.devRef .tc main_v474)) (funext fun k => Fin.ext ?_)
  match k with
  | ⟨0, _⟩ => show cc1_transform_3 (grid1.coords t) 0 * 1 + 1 * 0 = t.val; rw [f0]; omega
  | ⟨1, _⟩ => show cc1_transform_3 (grid1.coords t) 1 * 32 + 1 * j.val = j.val; rw [f1]; omega
  | ⟨2, _⟩ => show cc1_transform_3 (grid1.coords t) 2 * 1 + 1 * 0 = 0; rw [f2]
theorem blk_4 (t : Fin grid1.N) (j : Fin 32) : (blk1 a X c 4 t : S1x32x1.Idx → EReal) (ix3 0 j 0) = (X c (Proc.devRef .tc main_v475) : S32x32x1.Idx → EReal) (ix3 (row t) j 0) := by
  obtain ⟨f0, f1, f2⟩ := (idx_facts t).2.2.2.2.1
  refine congrArg (X c (Proc.devRef .tc main_v475)) (funext fun k => Fin.ext ?_)
  match k with
  | ⟨0, _⟩ => show cc1_transform_4 (grid1.coords t) 0 * 1 + 1 * 0 = t.val; rw [f0]; omega
  | ⟨1, _⟩ => show cc1_transform_4 (grid1.coords t) 1 * 32 + 1 * j.val = j.val; rw [f1]; omega
  | ⟨2, _⟩ => show cc1_transform_4 (grid1.coords t) 2 * 1 + 1 * 0 = 0; rw [f2]
theorem blk_5 (t : Fin grid1.N) (j : Fin 32) : (blk1 a X c 5 t : S1x32x1.Idx → EReal) (ix3 0 j 0) = (X c (Proc.devRef .tc main_v476) : S32x32x1.Idx → EReal) (ix3 (row t) j 0) := by
  obtain ⟨f0, f1, f2⟩ := (idx_facts t).2.2.2.2.2.1
  refine congrArg (X c (Proc.devRef .tc main_v476)) (funext fun k => Fin.ext ?_)
  match k with
  | ⟨0, _⟩ => show cc1_transform_5 (grid1.coords t) 0 * 1 + 1 * 0 = t.val; rw [f0]; omega
  | ⟨1, _⟩ => show cc1_transform_5 (grid1.coords t) 1 * 32 + 1 * j.val = j.val; rw [f1]; omega
  | ⟨2, _⟩ => show cc1_transform_5 (grid1.coords t) 2 * 1 + 1 * 0 = 0; rw [f2]
theorem blk_6 (t : Fin grid1.N) (j : Fin 32) : (blk1 a X c 6 t : S1x32x1.Idx → EReal) (ix3 0 j 0) = (X c (Proc.devRef .tc main_v477) : S32x32x1.Idx → EReal) (ix3 (row t) j 0) := by
  obtain ⟨f0, f1, f2⟩ := (idx_facts t).2.2.2.2.2.2.1
  refine congrArg (X c (Proc.devRef .tc main_v477)) (funext fun k => Fin.ext ?_)
  match k with
  | ⟨0, _⟩ => show cc1_transform_6 (grid1.coords t) 0 * 1 + 1 * 0 = t.val; rw [f0]; omega
  | ⟨1, _⟩ => show cc1_transform_6 (grid1.coords t) 1 * 32 + 1 * j.val = j.val; rw [f1]; omega
  | ⟨2, _⟩ => show cc1_transform_6 (grid1.coords t) 2 * 1 + 1 * 0 = 0; rw [f2]
theorem blk_7 (t : Fin grid1.N) (j : Fin 32) : (blk1 a X c 7 t : S1x32x1.Idx → EReal) (ix3 0 j 0) = (X c (Proc.devRef .tc main_v478) : S32x32x1.Idx → EReal) (ix3 (row t) j 0) := by
  obtain ⟨f0, f1, f2⟩ := (idx_facts t).2.2.2.2.2.2.2.1
  refine congrArg (X c (Proc.devRef .tc main_v478)) (funext fun k => Fin.ext ?_)
  match k with
  | ⟨0, _⟩ => show cc1_transform_7 (grid1.coords t) 0 * 1 + 1 * 0 = t.val; rw [f0]; omega
  | ⟨1, _⟩ => show cc1_transform_7 (grid1.coords t) 1 * 32 + 1 * j.val = j.val; rw [f1]; omega
  | ⟨2, _⟩ => show cc1_transform_7 (grid1.coords t) 2 * 1 + 1 * 0 = 0; rw [f2]

theorem tab_at (r j : Fin 32) : tab1 a (ValueIdx.ix2 r j) = (a.1 0 : S32x32.Idx → BitVec 32) (ix2 r j) := by
  refine congrArg (a.1 0) (funext fun k => ?_)
  match k with
  | ⟨0, _⟩ => rfl
  | ⟨1, _⟩ => rfl

theorem adm_at (Y : Valuation τ sig (Elt Ideal)) (h) : (⟨fun k => Y (pre1.ref k), h⟩ : (pcfg1 (F := Ideal)).Adm).1 0 = Y (Proc.devRef .tc main_v470) := rfl

theorem slab_at (T : S32x32.Idx → BitVec 32) (ro : Fin 32) (ch : Fin 256) (k : Fin 768) :
    slab T ((Memref.whole main_v469).view.read (Elt Ideal) (X c main_v469)) ro (ix3 0 k ch)
      = (X c (Proc.devRef .tc main_v469) : S32x3136x256.Idx → EReal) (ix3 ro ⟨((T (ValueIdx.ix2 ro ⟨k.val / 24, by omega⟩)).toNat + k.val % 24) % 3136, Nat.mod_lt _ (by omega)⟩ ch) := by
  refine congrArg (X c (Proc.devRef .tc main_v469)) (funext fun k => ?_)
  match k with
  | ⟨0, _⟩ => rfl
  | ⟨1, _⟩ => rfl
  | ⟨2, _⟩ => rfl

variable (R : S32x8x256.Idx → EReal) (hR : ∀ (t : Fin grid1.N) (l : Fin 8) (ch : Fin 256), (out1 a X c t : S1x8x256.Idx → EReal) (ix3 0 l ch) = R (ix3 (row t) l ch))

set_option maxRecDepth 100000 in
include hR in
theorem flushed_eq (t : Fin grid1.N) :
    (dat1 a X c).flushed 8 t = ((win1 a 8).blk t).view.read (Elt Ideal) R := by
  obtain ⟨f0, f1, f2⟩ := (idx_facts t).2.2.2.2.2.2.2.2
  show ((cfg1 a).win 8).cut (grid1.coords t) (out1 a X c t) = _
  refine funext fun (i : S1x8x256.Idx) => ?_
  show out1 a X c t i = R (((win1 a 8).blk t).view.emb i)
  have i0 : (i 0).val < 1 := (i 0).isLt
  have e : i = ix3 (n0 := 1) (n1 := 8) (n2 := 256) 0 (i 1) (i 2) := funext fun k => match k with
    | ⟨0, _⟩ => Fin.ext (show (i 0).val = 0 by omega)
    | ⟨1, _⟩ => rfl
    | ⟨2, _⟩ => rfl
  refine Eq.trans (congrArg (out1 a X c t) e) ((hR t (i 1) (i 2)).trans ?_)
  refine congrArg R (funext fun k => Fin.ext ?_)
  match k with
  | ⟨0, _⟩ => show t.val = cc1_transform_9 (grid1.coords t) 0 * 1 + 1 * (i 0).val; rw [f0]; omega
  | ⟨1, _⟩ => show (i 1).val = cc1_transform_9 (grid1.coords t) 1 * 8 + 1 * (i 1).val; rw [f1]; omega
  | ⟨2, _⟩ => show (i 2).val = cc1_transform_9 (grid1.coords t) 2 * 256 + 1 * (i 2).val; rw [f2]; omega

theorem mem_blk (t : Fin grid1.N) (i : S32x8x256.Idx) : i ∈ ((win1 a 8).blk t).view.set ↔ t.val = (i 0).val := by
  show i ∈ ((View.whole main_v479).slice ((win1 a 8).rect t)).set ↔ _
  rw [View.set_slice_whole, Rect.mem_set_unit]
  have h1 : (i 1).val < 8 := (i 1).isLt
  have h2 : (i 2).val < 256 := (i 2).isLt
  obtain ⟨f0, f1, f2⟩ := (idx_facts t).2.2.2.2.2.2.2.2
  refine ⟨fun h => ?_, fun h k => ?_⟩
  · have := h 0
    change cc1_transform_9 (grid1.coords t) 0 * 1 ≤ (i 0).val ∧ (i 0).val < cc1_transform_9 (grid1.coords t) 0 * 1 + 1 at this
    rw [f0] at this; omega
  · match k with
    | ⟨0, _⟩ => show cc1_transform_9 (grid1.coords t) 0 * 1 ≤ (i 0).val ∧ (i 0).val < cc1_transform_9 (grid1.coords t) 0 * 1 + 1; rw [f0]; omega
    | ⟨1, _⟩ => show cc1_transform_9 (grid1.coords t) 1 * 8 ≤ (i 1).val ∧ (i 1).val < cc1_transform_9 (grid1.coords t) 1 * 8 + 8; rw [f1]; omega
    | ⟨2, _⟩ => show cc1_transform_9 (grid1.coords t) 2 * 256 ≤ (i 2).val ∧ (i 2).val < cc1_transform_9 (grid1.coords t) 2 * 256 + 256; rw [f2]; omega

theorem cover (i : S32x8x256.Idx) : ∃ t : Fin grid1.N, (win1 a 8).flush t = true ∧ i ∈ ((win1 a 8).blk t).view.set := by
  have h0 : (i 0).val < 32 := (i 0).isLt
  exact ⟨⟨(i 0).val, h0.trans_eq N_1.symm⟩, flush_all _, (mem_blk a _ i).2 rfl⟩

include hR in
theorem arr_eq : (dat1 a X c).arrAt 8 (cfg1 a).N = R :=
  (dat1 a X c).arrAt_eq_of_cover 8 R (fun t _ => flushed_eq a X c R hR t) (cover a)

end General

variable (m : (ℓ : Loc nD τ sig) → Buf (Elt Ideal) ℓ) (c : Dev nD)

theorem tab_eq (r j : Fin 32) : tab1 (adm1 m) (ValueIdx.ix2 r j) = tabR m c (hi r) j := by
  rw [dev_zero c]
  exact ((tab_at (adm1 m) r j).trans (congrFun (adm_at (entry1 m 0) trivial) (ix2 r j))).trans (v470 m 0 r j)

theorem tabOk : TabOk (tab1 (adm1 m)) := by
  intro j
  have key : ∀ r s : Fin 32, 8 ∣ (tab1 (adm1 m) (ValueIdx.ix2 r s)).toNat ∧ (tab1 (adm1 m) (ValueIdx.ix2 r s)).toNat + 24 ≤ 3136 := fun r s => by
    rw [tab_eq m 0]
    exact tab_ok m 0 _ _
  have e : j = ValueIdx.ix2 (n0 := 32) (n1 := 32) (j 0) (j 1) := funext fun k => match k with
    | ⟨0, _⟩ => rfl
    | ⟨1, _⟩ => rfl
  exact (congrArg (fun j => 8 ∣ (tab1 (adm1 m) j).toNat ∧ (tab1 (adm1 m) j).toNat + 24 ≤ 3136) e).mpr (key _ _)

/-- The call's result. -/
def rows : S32x8x256.Idx → EReal := fun i => G m c (hi (i 0)) (i 1) (i 2)

theorem ft_congr (r : Fin 64) (ch : Fin 256) (a b : ℕ) (h : a = b) (ha : a / 56 < 56) (hb : b / 56 < 56) :
    ft m c (ix4 r ch ⟨a / 56, ha⟩ ⟨a % 56, Nat.mod_lt _ (by omega)⟩) = ft m c (ix4 r ch ⟨b / 56, hb⟩ ⟨b % 56, Nat.mod_lt _ (by omega)⟩) := by
  subst h; rfl

theorem slab_eq (t : Fin grid1.N) (ch : Fin 256) (k : Fin 768) (h : (((tabR m c (hi (row t)) ⟨k.val / 24, by omega⟩).toNat + k.val % 24) % 3136) / 56 < 56) :
    slab (tab1 (adm1 m)) ((Memref.whole main_v469).view.read (Elt Ideal) (entry1 m c main_v469)) (row t) (ix3 0 k ch)
      = ft m c (ix4 (hi (row t)) ch ⟨(((tabR m c (hi (row t)) ⟨k.val / 24, by omega⟩).toNat + k.val % 24) % 3136) / 56, h⟩
        ⟨(((tabR m c (hi (row t)) ⟨k.val / 24, by omega⟩).toNat + k.val % 24) % 3136) % 56, Nat.mod_lt _ (by omega)⟩) :=
  (slab_at (entry1 m) c (tab1 (adm1 m)) (row t) ch k).trans ((v469 m c (row t) _ ch).trans
    (ft_congr m c _ ch _ _ (by rw [tab_eq m c]) (by dsimp only; omega) h))

theorem out_eq (t : Fin grid1.N) (l : Fin 8) (ch : Fin 256) : (out1 (adm1 m) (entry1 m) c t : S1x8x256.Idx → EReal) (ix3 0 l ch) = rows m c (ix3 (row t) l ch) :=
  pooled_eq m c (hi (row t)) (blk1 (adm1 m) (entry1 m) c 0 t) (blk1 (adm1 m) (entry1 m) c 1 t) (blk1 (adm1 m) (entry1 m) c 2 t) (blk1 (adm1 m) (entry1 m) c 3 t)
    (blk1 (adm1 m) (entry1 m) c 4 t) (blk1 (adm1 m) (entry1 m) c 5 t) (blk1 (adm1 m) (entry1 m) c 6 t) (blk1 (adm1 m) (entry1 m) c 7 t)
    (slab (tab1 (adm1 m)) ((Memref.whole main_v469).view.read (Elt Ideal) (entry1 m c main_v469)) (row t))
    (fun j => (blk_0 (adm1 m) (entry1 m) c t j).trans (v471 m c (row t) j))
    (fun j => (blk_1 (adm1 m) (entry1 m) c t j).trans (v472 m c (row t) j))
    (fun j => (blk_2 (adm1 m) (entry1 m) c t j).trans (v473 m c (row t) j))
    (fun j => (blk_3 (adm1 m) (entry1 m) c t j).trans (v474 m c (row t) j))
    (fun j => (blk_4 (adm1 m) (entry1 m) c t j).trans (v475 m c (row t) j))
    (fun j => (blk_5 (adm1 m) (entry1 m) c t j).trans (v476 m c (row t) j))
    (fun j => (blk_6 (adm1 m) (entry1 m) c t j).trans (v477 m c (row t) j))
    (fun j => (blk_7 (adm1 m) (entry1 m) c t j).trans (v478 m c (row t) j))
    (slab_eq m c t) l ch

theorem final : final1 m c = rows m c := arr_eq (adm1 m) (entry1 m) c (rows m c) (out_eq m c)

end Cert.Proof.Final1
-- ==== Proof.RefVal.lean ====
/-
  Hand-written, untrusted. What the reference computes before its linear layer, at an index.
-/
module

public import proofs.«01_k».proof.Proof.Words
public import proofs.«01_k».proof.Proof.Gen.ReferenceIdeal.Run
public import Idealize.ShloMosaic.Lib.Pointwise

@[expose] public section

set_option maxRecDepth 8192

noncomputable section

namespace Cert.Proof.RefVal

open Idealize.ShloMosaic Idealize.ShloMosaic.TcCoe Idealize.ShloMosaic.Tactic
open Cert.ReferenceIdeal Cert.ReferenceIdeal.Value
open Cert.Proof.Scal Cert.Proof.Pre Cert.Proof.Words

/-! ## The gathers -/

theorem gather_apply (x : S64x56x56x256.Idx → EReal) (idx : IVec S64x8x2x2x3 32) (r : Fin 64) (l : Fin 8) (p q : Fin 2) (ch : Fin 256) :
    Host.gather gather_S64x56x56x256_S64x8x2x2x3_S64x8x2x2x256_4_012_n_n_012_4_111256 x idx (ix5 r l p q ch)
      = x (ix4 ⟨min (idx (ix5 r l p q 0)).toInt.toNat 63, by omega⟩ ⟨min (idx (ix5 r l p q 1)).toInt.toNat 55, by omega⟩
          ⟨min (idx (ix5 r l p q 2)).toInt.toNat 55, by omega⟩ ch) := by
  have hsi : ∀ k, gather_S64x56x56x256_S64x8x2x2x3_S64x8x2x2x256_4_012_n_n_012_4_111256.siIdx (ix5 r l p q ch) k = ix5 r l p q k := by
    intro k
    funext b
    refine Fin.ext ?_
    match b with
    | ⟨0, _⟩ => rfl
    | ⟨1, _⟩ => rfl
    | ⟨2, _⟩ => rfl
    | ⟨3, _⟩ => rfl
    | ⟨4, _⟩ => rfl
  unfold Host.gather
  refine congrArg x (funext fun a => Fin.ext ?_)
  show GatherDims.start _ _ _ a + GatherDims.batchCoord _ _ a + GatherDims.offCoord _ _ a = _
  match a with
  | ⟨0, _⟩ =>
    unfold GatherDims.start
    rw [dif_pos (show (⟨0, by decide⟩ : Fin S64x56x56x256.rank) ∈ gather_S64x56x56x256_S64x8x2x2x3_S64x8x2x2x256_4_012_n_n_012_4_111256.startIndexMap by decide), hsi]
    rfl
  | ⟨1, _⟩ =>
    unfold GatherDims.start
    rw [dif_pos (show (⟨1, by decide⟩ : Fin S64x56x56x256.rank) ∈ gather_S64x56x56x256_S64x8x2x2x3_S64x8x2x2x256_4_012_n_n_012_4_111256.startIndexMap by decide), hsi]
    rfl
  | ⟨2, _⟩ =>
    unfold GatherDims.start
    rw [dif_pos (show (⟨2, by decide⟩ : Fin S64x56x56x256.rank) ∈ gather_S64x56x56x256_S64x8x2x2x3_S64x8x2x2x256_4_012_n_n_012_4_111256.startIndexMap by decide), hsi]
    rfl
  | ⟨3, _⟩ =>
    unfold GatherDims.start
    rw [dif_neg (show (⟨3, by decide⟩ : Fin S64x56x56x256.rank) ∉ gather_S64x56x56x256_S64x8x2x2x3_S64x8x2x2x256_4_012_n_n_012_4_111256.startIndexMap by decide)]
    exact Nat.zero_add _

/-- The index vectors of one gather, negative indices wrapped: image, row and column. -/
abbrev cat (w1 : IVec S64x1x1x1 32) (w2 : IVec S64x8x2x1 32) (w3 : IVec S64x8x1x2 32) : IVec S64x8x2x2x3 32 :=
  concatenate S64x8x2x2x3 4
    [⟨S64x8x2x2x1, broadcastInDim S64x8x2x2x1 ![0, 1, 2, 3] Gen.bcast_S64x8x2x2_S64x8x2x2x1_0_1_2_3
        (broadcastInDim S64x8x2x2 ![0, 1, 2, 3] Gen.bcast_S64x1x1x1_S64x8x2x2_0_1_2_3
          (select (cmpi CmpIPredicate.slt w1 (broadcastInDim S64x1x1x1 ![] Gen.bcast_S_S64x1x1x1 (constantI S_ 32 0#32)))
            (addi w1 (broadcastInDim S64x1x1x1 ![] Gen.bcast_S_S64x1x1x1 (constantI S_ 32 64#32))) w1))⟩,
      ⟨S64x8x2x2x1, broadcastInDim S64x8x2x2x1 ![0, 1, 2, 3] Gen.bcast_S64x8x2x2_S64x8x2x2x1_0_1_2_3
        (broadcastInDim S64x8x2x2 ![0, 1, 2, 3] Gen.bcast_S64x8x2x1_S64x8x2x2_0_1_2_3
          (select (cmpi CmpIPredicate.slt w2 (broadcastInDim S64x8x2x1 ![] Gen.bcast_S_S64x8x2x1 (constantI S_ 32 0#32)))
            (addi w2 (broadcastInDim S64x8x2x1 ![] Gen.bcast_S_S64x8x2x1 (constantI S_ 32 56#32))) w2))⟩,
      ⟨S64x8x2x2x1, broadcastInDim S64x8x2x2x1 ![0, 1, 2, 3] Gen.bcast_S64x8x2x2_S64x8x2x2x1_0_1_2_3
        (broadcastInDim S64x8x2x2 ![0, 1, 2, 3] Gen.bcast_S64x8x1x2_S64x8x2x2_0_1_2_3
          (select (cmpi CmpIPredicate.slt w3 (broadcastInDim S64x8x1x2 ![] Gen.bcast_S_S64x8x1x2 (constantI S_ 32 0#32)))
            (addi w3 (broadcastInDim S64x8x1x2 ![] Gen.bcast_S_S64x8x1x2 (constantI S_ 32 56#32))) w3))⟩]
    Gen.concatenates_S64x8x2x2x1_S64x8x2x2x1_S64x8x2x2x1_S64x8x2x2x3_d4

/-- An index that is in range is not wrapped. -/
def wrap (n w : BitVec 32) : BitVec 32 := Scalar.select (IntOp.cmpi .slt w 0#32) (IntOp.addi w n) w
theorem wrap_batch (r : Fin 64) : min (wrap 64#32 (BitVec.ofNat 32 r.val)).toInt.toNat 63 = r.val := by
  have : ∀ r : Fin 64, min (wrap 64#32 (BitVec.ofNat 32 r.val)).toInt.toNat 63 = r.val := by decide +kernel
  exact this r
theorem wrap_cell (n : ℕ) (h : n ≤ 55) : min (wrap 56#32 (BitVec.ofNat 32 n)).toInt.toNat 55 = n := by
  have : ∀ n : Fin 56, min (wrap 56#32 (BitVec.ofNat 32 n.val)).toInt.toNat 55 = n.val := by decide +kernel
  exact this ⟨n, by omega⟩

theorem cat_0 (w1 w2 w3) (r : Fin 64) (l : Fin 8) (p q : Fin 2) : cat w1 w2 w3 (ix5 r l p q 0) = wrap 64#32 (w1 (ix4 r 0 0 0)) := by
  unfold cat wrap
  pointwise
theorem cat_1 (w1 w2 w3) (r : Fin 64) (l : Fin 8) (p q : Fin 2) : cat w1 w2 w3 (ix5 r l p q 1) = wrap 56#32 (w2 (ix4 r l p 0)) := by
  unfold cat wrap
  pointwise
theorem cat_2 (w1 w2 w3) (r : Fin 64) (l : Fin 8) (p q : Fin 2) : cat w1 w2 w3 (ix5 r l p q 2) = wrap 56#32 (w3 (ix4 r l 0 q)) := by
  unfold cat wrap
  pointwise

theorem read (x : S64x56x56x256.Idx → EReal) (w1 w2 w3) (r : Fin 64) (l : Fin 8) (p q : Fin 2) (ch : Fin 256) (a b : ℕ) (ha : a ≤ 55) (hb : b ≤ 55)
    (h1 : w1 (ix4 r 0 0 0) = BitVec.ofNat 32 r.val) (h2 : w2 (ix4 r l p 0) = BitVec.ofNat 32 a) (h3 : w3 (ix4 r l 0 q) = BitVec.ofNat 32 b) :
    Host.gather gather_S64x56x56x256_S64x8x2x2x3_S64x8x2x2x256_4_012_n_n_012_4_111256 x (cat w1 w2 w3) (ix5 r l p q ch)
      = x (ix4 r ⟨a, by omega⟩ ⟨b, by omega⟩ ch) := by
  rw [gather_apply]
  refine congrArg x (funext fun k => Fin.ext ?_)
  match k with
  | ⟨0, _⟩ =>
    show min (cat w1 w2 w3 (ix5 r l p q 0)).toInt.toNat 63 = r.val
    rw [cat_0, h1, wrap_batch]
  | ⟨1, _⟩ =>
    show min (cat w1 w2 w3 (ix5 r l p q 1)).toInt.toNat 55 = a
    rw [cat_1, h2, wrap_cell _ ha]
  | ⟨2, _⟩ =>
    show min (cat w1 w2 w3 (ix5 r l p q 2)).toInt.toNat 55 = b
    rw [cat_2, h3, wrap_cell _ hb]
  | ⟨3, _⟩ => rfl

/-! ## The positions -/

/-- The offset of sample `p` as the reference spells it: two sevenths of minus or plus one half. -/
theorem off_eq (p : Fin 2) : Ideal.ofBits .f32 0x3E924925#32 * (Ideal.div (Ideal.ofBits .f32 0x40000000#32 * FloatOps.sitofp (F := Ideal) .f32 (BitVec.ofNat 32 p.val) + 1) (Ideal.ofBits .f32 0x40000000#32) - 1) = off p := by
  have d : ∀ x : ℝ, Ideal.div (x : EReal) ((2 : ℝ) : EReal) = ((x / 2 : ℝ) : EReal) := by
    intro x
    unfold Ideal.div
    rw [if_neg (by norm_num)]
    norm_cast
  rw [lit_two, lit_two_sevenths]
  have h1 : (1 : EReal) = ((1 : ℝ) : EReal) := by norm_cast
  fin_cases p
  · show _ * (Ideal.div (_ * (((0#32 : BitVec 32).toInt : ℝ) : EReal) + 1) _ - 1) = off 0
    have e : (((0#32 : BitVec 32).toInt : ℝ)) = 0 := by norm_num
    rw [e, h1, ← EReal.coe_mul, ← EReal.coe_add, d, ← EReal.coe_sub, ← EReal.coe_mul]
    refine Eq.trans ?_ lit_neg_seventh.symm
    norm_num
  · show _ * (Ideal.div (_ * (((1#32 : BitVec 32).toInt : ℝ) : EReal) + 1) _ - 1) = off 1
    have e : (((1#32 : BitVec 32).toInt : ℝ)) = 1 := by norm_num
    rw [e, h1, ← EReal.coe_mul, ← EReal.coe_add, d, ← EReal.coe_sub, ← EReal.coe_mul]
    refine Eq.trans ?_ lit_seventh.symm
    norm_num

variable (m : (ℓ : Loc Cert.KernelIdeal.nD Cert.KernelIdeal.τ Cert.KernelIdeal.sig) → Buf (Elt Ideal) ℓ) (c : Dev Cert.KernelIdeal.nD)
variable (V : Valuation τ sig (Elt Ideal)) (hf : (V (Proc.devRef .tc main_arg0) : S64x256x56x56.Idx → EReal) = ft m c) (hl : (V (Proc.devRef .tc main_arg1) : S64x16.Idx → EReal) = lm m c)

theorem r4 (r : Fin 64) (l : Fin 8) (a : Fin 2) : (res_main_v4 V : S64x8x2.Idx → EReal) (ix3 r l a)
    = Ideal.div ((V (Proc.devRef .tc main_arg1) : S64x16.Idx → EReal) (ix2 r ⟨l.val * 2 + a.val, by omega⟩)) (Ideal.ofBits .f32 0x43600000#32) * Ideal.ofBits .f32 0x40E00000#32 := by
  unfold res_main_v4
  pointwise

include hl in
theorem r52 (r : Fin 64) (l : Fin 8) (p : Fin 2) : (res_main_v52 V : S64x8x1x2.Idx → EReal) (ix4 r l 0 p) = pos (off p) (tx m c r l) := by
  rw [← off_eq]
  unfold res_main_v52 tx unit pos
  rw [show (⟨2 * l.val, by omega⟩ : Fin 16) = ⟨l.val * 2 + (0 : Fin 2).val, by omega⟩ from Fin.ext (by show 2 * l.val = l.val * 2 + 0; omega), ← hl]
  pointwise
  rw [r4]
  unfold res_main_v29
  pointwise
  simp only [id, constant_apply, Ideal.ofBits_def, Ideal.ofBits_zero_f32]

include hl in
theorem r61 (r : Fin 64) (l : Fin 8) (p : Fin 2) : (res_main_v61 V : S64x8x2x1.Idx → EReal) (ix4 r l p 0) = pos (off p) (ty m c r l) := by
  rw [← off_eq]
  unfold res_main_v61 ty unit pos
  rw [show (⟨1 + 2 * l.val, by omega⟩ : Fin 16) = ⟨l.val * 2 + (1 : Fin 2).val, by omega⟩ from Fin.ext (by show 1 + 2 * l.val = l.val * 2 + 1; omega), ← hl]
  pointwise
  rw [r4]
  unfold res_main_v29
  pointwise
  simp only [id, constant_apply, Ideal.ofBits_def, Ideal.ofBits_zero_f32]

include hl in
theorem r66 (r : Fin 64) (l : Fin 8) (p : Fin 2) : (res_main_v66 V : S64x8x1x2.Idx → BitVec 32) (ix4 r l 0 p) = X m c r l p :=
  congrArg ci (r52 m c V hl r l p)
include hl in
theorem r67 (r : Fin 64) (l : Fin 8) (p : Fin 2) : (res_main_v67 V : S64x8x2x1.Idx → BitVec 32) (ix4 r l p 0) = Y m c r l p :=
  congrArg ci (r61 m c V hl r l p)
include hl in
theorem r71 (r : Fin 64) (l : Fin 8) (p : Fin 2) : (res_main_v71 V : S64x8x1x2.Idx → BitVec 32) (ix4 r l 0 p) = X' m c r l p :=
  congrArg ci1 (r52 m c V hl r l p)
include hl in
theorem r75 (r : Fin 64) (l : Fin 8) (p : Fin 2) : (res_main_v75 V : S64x8x2x1.Idx → BitVec 32) (ix4 r l p 0) = Y' m c r l p :=
  congrArg ci1 (r61 m c V hl r l p)
include hl in
theorem r171 (r : Fin 64) (l : Fin 8) (p : Fin 2) : (res_main_v171 V : S64x8x1x2x1.Idx → EReal) (ix5 r l 0 p 0) = FX m c r l p := by
  unfold res_main_v171
  pointwise
  exact congrArg fr (r52 m c V hl r l p)
include hl in
theorem r172 (r : Fin 64) (l : Fin 8) (p : Fin 2) : (res_main_v172 V : S64x8x2x1x1.Idx → EReal) (ix5 r l p 0 0) = FY m c r l p := by
  unfold res_main_v172
  pointwise
  exact congrArg fr (r61 m c V hl r l p)
theorem r78 (r : Fin 64) : (res_main_v78 V : S64x1x1x1.Idx → BitVec 32) (ix4 r 0 0 0) = BitVec.ofNat 32 r.val := by
  unfold res_main_v78
  pointwise

include hf in
theorem r76 (r : Fin 64) (ch : Fin 256) (a b : ℕ) (ha : a ≤ 55) (hb : b ≤ 55) :
    (res_main_v76 V : S64x56x56x256.Idx → EReal) (ix4 r ⟨a, by omega⟩ ⟨b, by omega⟩ ch) = at_ m c r ch (BitVec.ofNat 32 a) (BitVec.ofNat 32 b) := by
  rw [at_eq m c r ch a b (a * 56 + b) ha hb rfl (by omega), ← hf]
  unfold res_main_v76
  pointwise
  refine congrArg (V (Proc.devRef .tc main_arg0)) (funext fun k => Fin.ext ?_)
  match k with
  | ⟨0, _⟩ => rfl
  | ⟨1, _⟩ => rfl
  | ⟨2, _⟩ => show a = (a * 56 + b) / 56; omega
  | ⟨3, _⟩ => show b = (a * 56 + b) % 56; omega

include hf hl in
/-- One blended sample of the reference is the model's. -/
theorem r193 (r : Fin 64) (l : Fin 8) (p q : Fin 2) (ch : Fin 256) : (res_main_v193 V : S64x8x2x2x256.Idx → EReal) (ix5 r l p q ch) = sample m c r l p q ch := by
  obtain ⟨ny, nx, C⟩ := cells m c r l
  have yl := C.y_le p
  have xl := C.x_le q
  have e67 := (r67 m c V hl r l p).trans (C.y p)
  have e75 := (r75 m c V hl r l p).trans (C.y' p)
  have e66 := (r66 m c V hl r l q).trans (C.x q)
  have e71 := (r71 m c V hl r l q).trans (C.x' q)
  unfold res_main_v193
  pointwise
  rw [r171 m c V hl, r172 m c V hl]
  rw [read (res_main_v76 V) (res_main_v78 V) (res_main_v67 V) (res_main_v66 V) r l p q ch _ _ yl xl (r78 V r) e67 e66,
    read (res_main_v76 V) (res_main_v78 V) (res_main_v67 V) (res_main_v71 V) r l p q ch _ _ yl (by omega) (r78 V r) e67 e71,
    read (res_main_v76 V) (res_main_v78 V) (res_main_v75 V) (res_main_v66 V) r l p q ch _ _ (by omega) xl (r78 V r) e75 e66,
    read (res_main_v76 V) (res_main_v78 V) (res_main_v75 V) (res_main_v71 V) r l p q ch _ _ (by omega) (by omega) (r78 V r) e75 e71]
  rw [r76 m c V hf, r76 m c V hf, r76 m c V hf, r76 m c V hf, ← C.y, ← C.y', ← C.x, ← C.x', blend (C.fy p) (C.fx q)]
  · rfl
  all_goals omega

end Cert.Proof.RefVal
-- ==== Proof.Final2.lean ====
/-
  Hand-written, untrusted. The linear layer's call: its result is the layer of the model's pooled rows, and so is the reference's.
-/
module

public import proofs.«01_k».proof.Proof.Final0
public import proofs.«01_k».proof.Proof.Final1
public import proofs.«01_k».proof.Proof.RefVal
public import Idealize.ShloMosaic.Lib.StableHlo.ReadAt

@[expose] public section

set_option maxRecDepth 8192

noncomputable section

namespace Cert.Proof.Final2

open Idealize.ShloMosaic Idealize.ShloMosaic.TcCoe Idealize.ShloMosaic.Tactic
open Idealize.ShloMosaic.Pipeline (Dat)
open Cert.KernelIdeal Cert.KernelIdeal.Gen
open Cert.Proof.LinRegion Cert.Proof.Run Cert.Proof.Words Cert.Proof.Halves
open scoped BigOperators

/-- The linear layer with its rectifier, at one index. -/
def lin (x : S64x2048.Idx → EReal) (w : S4096x2048.Idx → EReal) (b : S1x4096.Idx → EReal) : S64x4096.Idx → EReal :=
  fun i => max ((∑ k : Fin 2048, x (ix2 (i 0) k) * w (ix2 (i 1) k)) + b (ix2 (0 : Fin 1) (i 1))) 0

/-- The body's payload at one index of its block. -/
theorem pay_apply (x : Vec Ideal S64x2048 .f32) (w : Vec Ideal S512x2048 .f32) (b : Vec Ideal S1x512 .f32) (i : S64x512.Idx) :
    k2_pay1 (F := Ideal) x w b i
      = max ((∑ k : Fin 2048, x (ix2 (i 0) k) * w (ix2 (i 1) k)) + b (ix2 (0 : Fin 1) (i 1)) : EReal) 0 := by
  unfold k2_pay1
  pointwise

section General

variable (X : Dev nD → Valuation τ sig (Elt Ideal)) (c : Dev nD)

/-- What the result array is shown to hold: the layer of the three arrays that the call finds. -/
abbrev L : S64x4096.Idx → EReal := lin (X c main_v481) (X c main_arg2) (X c main_v482)

/-- The block index of each window at a point: the features do not move, the others follow the point. -/
theorem idx_facts : ∀ t : Fin cfg2.N,
    (win2_0.index t 0 = 0 ∧ win2_0.index t 1 = 0) ∧ (win2_1.index t 0 = t.val ∧ win2_1.index t 1 = 0)
    ∧ (win2_2.index t 0 = 0 ∧ win2_2.index t 1 = t.val) ∧ (win2_3.index t 0 = 0 ∧ win2_3.index t 1 = t.val) :=
  (by decide +kernel : ∀ t : Fin grid2.N,
    (win2_0.index t 0 = 0 ∧ win2_0.index t 1 = 0) ∧ (win2_1.index t 0 = t.val ∧ win2_1.index t 1 = 0)
    ∧ (win2_2.index t 0 = 0 ∧ win2_2.index t 1 = t.val) ∧ (win2_3.index t 0 = 0 ∧ win2_3.index t 1 = t.val))

theorem flush_all : ∀ t : Fin cfg2.N, (cfg2.win 3).flush t = true :=
  (by decide +kernel : ∀ t : Fin grid2.N, win2_3.flush t = true)

set_option maxRecDepth 100000 in
/-- What point `t` writes back is block `t` of the layer. -/
theorem flushed_eq (t : Fin cfg2.N) :
    (dat2 X c).flushed 3 t = (win2_3.blk t).view.read (Elt Ideal) (L X c) := by
  show (cfg2.win 3).cut (grid2.coords t) (k2_pay1 (blkX X c t) (blkW X c t) (blkB X c t)) = _
  funext i
  obtain ⟨⟨a0, a1⟩, ⟨b0, b1⟩, ⟨c0, c1⟩, d0, d1⟩ := idx_facts t
  refine (pay_apply _ _ _ _).trans ?_
  refine congrArg (max · (0 : EReal)) (congrArg₂ (· + ·) (Finset.sum_congr rfl fun k _ => congrArg₂ (· * ·) ?_ ?_) ?_)
  · refine congrArg (X c main_v481) (funext fun a => Fin.ext ?_)
    match a with
    | ⟨0, _⟩ => show win2_0.index t 0 * 64 + 1 * (i 0).val = win2_3.index t 0 * 64 + 1 * (i 0).val; rw [a0, d0]
    | ⟨1, _⟩ => show win2_0.index t 1 * 2048 + 1 * k.val = k.val; rw [a1]; omega
  · refine congrArg (X c main_arg2) (funext fun a => Fin.ext ?_)
    match a with
    | ⟨0, _⟩ => show win2_1.index t 0 * 512 + 1 * (i 1).val = win2_3.index t 1 * 512 + 1 * (i 1).val; rw [b0, d1]
    | ⟨1, _⟩ => show win2_1.index t 1 * 2048 + 1 * k.val = k.val; rw [b1]; omega
  · refine congrArg (X c main_v482) (funext fun a => Fin.ext ?_)
    match a with
    | ⟨0, _⟩ => show win2_2.index t 0 * 1 + 1 * 0 = 0; rw [c0]
    | ⟨1, _⟩ => show win2_2.index t 1 * 512 + 1 * (i 1).val = win2_3.index t 1 * 512 + 1 * (i 1).val; rw [c1, d1]

/-- An index is in point `t`'s block exactly when its column is in the point's 512 columns. -/
theorem mem_blk (t : Fin cfg2.N) (i : S64x4096.Idx) :
    i ∈ ((cfg2.win 3).blk t).view.set ↔ t.val * 512 ≤ (i 1 : Nat) ∧ (i 1 : Nat) < t.val * 512 + 512 := by
  show i ∈ ((View.whole main_v483).slice (win2_3.rect t)).set ↔ _
  rw [View.set_slice_whole, Rect.mem_set_unit]
  have h0 : (i 0 : Nat) < 64 := (i 0).isLt
  obtain ⟨_, _, _, d0, d1⟩ := idx_facts t
  refine ⟨fun h => ?_, fun h a => ?_⟩
  · have := h 1
    change win2_3.index t 1 * 512 ≤ (i 1 : Nat) ∧ (i 1 : Nat) < win2_3.index t 1 * 512 + 512 at this
    rw [d1] at this; exact this
  · match a with
    | ⟨0, _⟩ => show win2_3.index t 0 * 64 ≤ (i 0 : Nat) ∧ (i 0 : Nat) < win2_3.index t 0 * 64 + 64
                rw [d0]; omega
    | ⟨1, _⟩ => show win2_3.index t 1 * 512 ≤ (i 1 : Nat) ∧ (i 1 : Nat) < win2_3.index t 1 * 512 + 512
                rw [d1]; exact h

/-- The eight blocks cover the result array. -/
theorem cover (i : S64x4096.Idx) :
    ∃ t : Fin cfg2.N, (cfg2.win 3).flush t = true ∧ i ∈ ((cfg2.win 3).blk t).view.set := by
  have h1 : (i 1 : Nat) < 4096 := (i 1).isLt
  have hN : cfg2.N = 8 := N_2
  refine ⟨⟨(i 1 : Nat) / 512, by omega⟩, flush_all _, ?_⟩
  rw [mem_blk]
  dsimp only
  omega

/-- So the result array ends holding the layer. -/
theorem arr_eq : (dat2 X c).arrAt 3 cfg2.N = L X c :=
  (dat2 X c).arrAt_eq_of_cover 3 (L X c) (fun t _ => flushed_eq X c t) cover

end General

/-! ## The three arrays that the call finds -/

variable (m : (ℓ : Loc nD τ sig) → Buf (Elt Ideal) ℓ) (c : Dev nD)

/-- The model's pooled rows, flattened. -/
def flat : S64x2048.Idx → EReal := fun i =>
  G m c (i 0) ⟨(i 1).val / 256, by have : (i 1).val < 2048 := (i 1).isLt; omega⟩ ⟨(i 1).val % 256, Nat.mod_lt _ (by decide)⟩

theorem read481 (V : Valuation τ sig (Elt Ideal)) (p q : S32x8x256.Idx → EReal)
    (hp : V (Proc.devRef .tc main_v466) = p) (hq : V (Proc.devRef .tc main_v479) = q) (r : Fin 64) (k : Fin 2048) :
    (StableHlo.after hostOps2 V main_v481 : S64x2048.Idx → EReal) (ix2 r k)
      = if h : r.val < 32 then p (ix3 ⟨r.val, h⟩ ⟨k.val / 256, by omega⟩ ⟨k.val % 256, Nat.mod_lt _ (by decide)⟩)
        else q (ix3 ⟨r.val - 32, by omega⟩ ⟨k.val / 256, by omega⟩ ⟨k.val % 256, Nat.mod_lt _ (by decide)⟩) := by
  subst hp hq
  unfold hostOps2
  after_reads_at
  all_goals try after_reads_at
  done

theorem read482 (V : Valuation τ sig (Elt Ideal)) (n : Fin 4096) :
    (StableHlo.after hostOps2 V main_v482 : S1x4096.Idx → EReal) (ix2 0 n) = (V main_arg3 : S4096.Idx → EReal) (ix1 n) := by
  unfold hostOps2
  after_reads_at
  all_goals try after_reads_at
  done

theorem arg_at (r : Ref sig .tc) (h21 : r ∉ hostOps2_W) (h19 : r ∉ hostOps1_W) (h : r ≠ main_v479) (h' : r ≠ main_v466) (h'' : r ≠ main_v456) :
    entry2 m c r = V17 m c r := by
  refine (V21_of m (outsB m) c r h21).trans ?_
  rw [← V20_eq]
  exact (after1_ne m c r h).trans ((V19_of m (outsA m) c r h19).trans (V18_17 m c r h' h''))

theorem v466_at : V20 m (outsB m) c main_v466 = Final0.rows m c := by
  rw [← V20_eq]
  refine (after1_ne m c main_v466 (by decide)).trans ((V19_of m (outsA m) c main_v466 (by decide)).trans ?_)
  rw [← V18_eq]
  exact (after0_at m c).trans (Final0.final m c)

theorem v479_at : V20 m (outsB m) c main_v479 = Final1.rows m c := by
  rw [← V20_eq]
  exact (after1_at m c).trans (Final1.final m c)

theorem arg2_at : entry2 m c main_arg2 = m ((c : Thread nD τ).loc main_arg2) :=
  (arg_at m c main_arg2 (by decide) (by decide) (by decide) (by decide) (by decide)).trans
    ((V17_of m c main_arg2 (by decide)).trans ((V16_of m c main_arg2 (by decide)).trans ((V15_of m c main_arg2 (by decide)).trans ((V14_of m c main_arg2 (by decide)).trans ((V13_of m c main_arg2 (by decide)).trans ((V12_of m c main_arg2 (by decide)).trans ((V11_of m c main_arg2 (by decide)).trans ((V10_of m c main_arg2 (by decide)).trans ((V9_of m c main_arg2 (by decide)).trans ((V8_of m c main_arg2 (by decide)).trans ((V7_of m c main_arg2 (by decide)).trans ((V6_of m c main_arg2 (by decide)).trans ((V5_of m c main_arg2 (by decide)).trans ((V4_of m c main_arg2 (by decide)).trans ((V3_of m c main_arg2 (by decide)).trans ((V2_of m c main_arg2 (by decide)).trans (V1_of m c main_arg2 (by decide))))))))))))))))))

theorem arg3_at : V20 m (outsB m) c main_arg3 = m ((c : Thread nD τ).loc main_arg3) :=
  (V21_of m (outsB m) c main_arg3 (by decide)).symm.trans
    ((arg_at m c main_arg3 (by decide) (by decide) (by decide) (by decide) (by decide)).trans
    ((V17_of m c main_arg3 (by decide)).trans ((V16_of m c main_arg3 (by decide)).trans ((V15_of m c main_arg3 (by decide)).trans ((V14_of m c main_arg3 (by decide)).trans ((V13_of m c main_arg3 (by decide)).trans ((V12_of m c main_arg3 (by decide)).trans ((V11_of m c main_arg3 (by decide)).trans ((V10_of m c main_arg3 (by decide)).trans ((V9_of m c main_arg3 (by decide)).trans ((V8_of m c main_arg3 (by decide)).trans ((V7_of m c main_arg3 (by decide)).trans ((V6_of m c main_arg3 (by decide)).trans ((V5_of m c main_arg3 (by decide)).trans ((V4_of m c main_arg3 (by decide)).trans ((V3_of m c main_arg3 (by decide)).trans ((V2_of m c main_arg3 (by decide)).trans (V1_of m c main_arg3 (by decide)))))))))))))))))))

/-- The bias row. -/
def row (b : S4096.Idx → EReal) : S1x4096.Idx → EReal := fun i => b (ix1 (i 1))

theorem v481_at : (entry2 m c main_v481 : S64x2048.Idx → EReal) = flat m c := by
  refine funext fun (i : S64x2048.Idx) => ?_
  have e : i = ix2 (n0 := 64) (n1 := 2048) (i 0) (i 1) := funext fun k => match k with
    | ⟨0, _⟩ => rfl
    | ⟨1, _⟩ => rfl
  have h1 : (i 1).val < 2048 := (i 1).isLt
  refine (congrArg (entry2 m c main_v481 : S64x2048.Idx → EReal) e).trans
    ((read481 (V20 m (outsB m) c) _ _ (v466_at m c) (v479_at m c) (i 0) (i 1)).trans ?_)
  have h0 : (i 0).val < 64 := (i 0).isLt
  by_cases h : (i 0).val < 32
  · rw [dif_pos h]
    exact congrArg (fun r => G m c r _ _) (Fin.ext rfl)
  · rw [dif_neg h]
    exact congrArg (fun r => G m c r _ _) (Fin.ext (show 32 + ((i 0).val - 32) = (i 0).val by omega))

theorem v482_at : (entry2 m c main_v482 : S1x4096.Idx → EReal) = row (m ((c : Thread nD τ).loc main_arg3)) := by
  refine funext fun (i : S1x4096.Idx) => ?_
  have h0 : (i 0).val < 1 := (i 0).isLt
  have e : i = ix2 (n0 := 1) (n1 := 4096) 0 (i 1) := funext fun k => match k with
    | ⟨0, _⟩ => Fin.ext (show (i 0).val = 0 by omega)
    | ⟨1, _⟩ => rfl
  refine (congrArg (entry2 m c main_v482 : S1x4096.Idx → EReal) e).trans
    ((read482 (V20 m (outsB m) c) (i 1)).trans ?_)
  exact congrFun (arg3_at m c) _

/-- The kernel's result: the layer of the model's pooled rows. -/
theorem final : final2 m c = lin (flat m c) (m ((c : Thread nD τ).loc main_arg2)) (row (m ((c : Thread nD τ).loc main_arg3))) := by
  refine (arr_eq (entry2 m) c).trans ?_
  unfold L
  rw [v481_at, arg2_at, v482_at]

end Cert.Proof.Final2

end
-- ==== Proof.RefLin.lean ====
/-
  Hand-written, untrusted. The reference's result: the same layer of the same pooled rows.
-/
module

public import proofs.«01_k».proof.Proof.Final2

@[expose] public section

set_option maxRecDepth 8192

noncomputable section

namespace Cert.Proof.RefLin

open Idealize.ShloMosaic Idealize.ShloMosaic.TcCoe Idealize.ShloMosaic.Tactic
open Cert.ReferenceIdeal Cert.ReferenceIdeal.Value
open Cert.Proof.Words Cert.Proof.RefVal
open scoped BigOperators

/-- The reference's pooling: the largest of a position's four samples. -/
theorem pool_apply (x : S64x8x2x2x256.Idx → EReal) (r : Fin 64) (l : Fin 8) (ch : Fin 256) :
    (Host.reduce (α := Ideal .f32) FloatOps.maximumf x (constant (F := Ideal) S_ .f32 0xFF800000#32) Facts₀.reducesTo_S64x8x2x2x256_S64x8x256_d2_3 Facts₀.h_S_ : S64x8x256.Idx → EReal) (ix3 r l ch)
      = Finset.univ.fold max (Ideal.ofBits .f32 0xFF800000#32) fun q : Fin 4 => x (ix5 r l ⟨q.val / 2, by omega⟩ ⟨q.val % 2, Nat.mod_lt _ (by decide)⟩ ch) := by
  pointwise
  refine (congrArg (Finset.fold max (Ideal.ofBits .f32 0xFF800000#32) (fun q : Fin 2 × Fin 2 => x (ix5 r l q.1 q.2 ch)))
    (Finset.map_univ_equiv (finProdFinEquiv (m := 2) (n := 2)).symm).symm).trans ?_
  rw [Finset.fold_map]
  rfl

variable (m : (ℓ : Loc Cert.KernelIdeal.nD Cert.KernelIdeal.τ Cert.KernelIdeal.sig) → Buf (Elt Ideal) ℓ) (c : Dev Cert.KernelIdeal.nD)
variable (V : Valuation τ sig (Elt Ideal))

/-- The layer as the reference's run spells it, of the pooled rows, the weights and the bias. -/
abbrev refTerm (x : FVec Ideal S64x8x256 .f32) (w : FVec Ideal S4096x2048 .f32) (b : FVec Ideal S4096 .f32) : FVec Ideal S64x4096 .f32 :=
  maximumf (addf (Host.dotGeneral (φ₁ := .f32) (φ₂ := .f32) dot_S64x2048_S2048x4096_S64x4096_1_0_0_1_n_n none
        (shapeCast S64x2048 x Facts₀.shapeCasts_S64x8x256_S64x2048)
        (transpose S2048x4096 [1, 0] w Facts₀.transposes_S4096x2048_S2048x4096_1_0))
        (broadcastInDim S64x4096 ![0, 1] Facts₀.bcast_S1x4096_S64x4096_0_1
          (broadcastInDim S1x4096 ![1] Facts₀.bcast_S4096_S1x4096_1 b)))
      (broadcastInDim S64x4096 ![] Facts₀.bcast_S_S64x4096 (constant (F := Ideal) S_ .f32 0x00000000#32))

/-- It is the layer of the flattened rows. -/
theorem ref_eq (x : FVec Ideal S64x8x256 .f32) (w : FVec Ideal S4096x2048 .f32) (b : FVec Ideal S4096 .f32) :
    refTerm x w b = Final2.lin (shapeCast S64x2048 x Facts₀.shapeCasts_S64x8x256_S64x2048) w (Final2.row b) := by
  funext i
  unfold Final2.lin Final2.row
  pointwise

/-- The reference's pooled rows, as its run spells them. -/
abbrev pooled : FVec Ideal S64x8x256 .f32 :=
  Host.reduce FloatOps.maximumf (res_main_v193 V) (constant (F := Ideal) S_ .f32 0xFF800000#32) Facts₀.reducesTo_S64x8x2x2x256_S64x8x256_d2_3 Facts₀.h_S_

/-- Flattened, they are the model's. -/
theorem flat_eq (hf : (V (Proc.devRef .tc main_arg0) : S64x256x56x56.Idx → EReal) = ft m c) (hl : (V (Proc.devRef .tc main_arg1) : S64x16.Idx → EReal) = Pre.lm m c) :
    shapeCast S64x2048 (pooled V) Facts₀.shapeCasts_S64x8x256_S64x2048 = Final2.flat m c := by
  refine funext fun (i : S64x2048.Idx) => ?_
  have h1 : (i 1).val < 2048 := (i 1).isLt
  refine Eq.trans (b := (pooled V : S64x8x256.Idx → EReal) (ix3 (n0 := 64) (n1 := 8) (n2 := 256) (i 0) ⟨(i 1).val / 256, by omega⟩ ⟨(i 1).val % 256, Nat.mod_lt _ (by decide)⟩)) ?_ ?_
  · generalize pooled V = y
    pointwise
    done
  · refine (pool_apply (res_main_v193 V) _ _ _).trans ?_
    unfold Final2.flat G
    refine congrArg (fun f => Finset.fold max (Ideal.ofBits .f32 0xFF800000#32) f Finset.univ) (funext fun q => ?_)
    exact r193 m c V hf hl _ _ _ _ _

end Cert.Proof.RefLin

end
-- ==== Proof.Claims.lean ====
/-
  Hand-written, untrusted. The claims of the whole kernel, from its run and from the reference's.
-/
module

public import proofs.«01_k».proof.Defs
public import proofs.«01_k».proof.Proof.RefLin
public import Idealize.ShloMosaic.Lib.Quiescent

@[expose] public section

set_option maxRecDepth 8192

noncomputable section

namespace Cert.Proof.Claims

open Idealize.ShloMosaic Idealize.ShloMosaic.TcCoe Idealize.SL.Sem

theorem frame_ki : Cert.quiescent_KernelIdeal := fun m ρ _ =>
  (θ_run Cert.KernelIdeal.defs _ _).mono (fun r h => ⟨fun c => (h.1 c).1, h.2⟩) (Run.run (F := Ideal) m (Final0.tabOk m) (Final1.tabOk m) ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The layer that the reference computes from arguments agreeing with the kernel's is the kernel's. -/
theorem same (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : V (Proc.devRef .tc Cert.ReferenceIdeal.main_arg0) = m ((c.tc : Thread _ _).loc Cert.KernelIdeal.main_arg0))
    (h1 : V (Proc.devRef .tc Cert.ReferenceIdeal.main_arg1) = m ((c.tc : Thread _ _).loc Cert.KernelIdeal.main_arg1))
    (h2 : V (Proc.devRef .tc Cert.ReferenceIdeal.main_arg2) = m ((c.tc : Thread _ _).loc Cert.KernelIdeal.main_arg2))
    (h3 : V (Proc.devRef .tc Cert.ReferenceIdeal.main_arg3) = m ((c.tc : Thread _ _).loc Cert.KernelIdeal.main_arg3)) :
    RefLin.refTerm (RefLin.pooled V) (V (Proc.devRef .tc Cert.ReferenceIdeal.main_arg2)) (V (Proc.devRef .tc Cert.ReferenceIdeal.main_arg3))
      = Run.final2 m c := by
  rw [Final2.final m c]
  refine (RefLin.ref_eq _ _ _).trans ?_
  rw [RefLin.flat_eq m c V h0 h1, h2, h3]

theorem algebraic : Cert.algebraic_KernelIdeal_ReferenceIdeal := by
  intro m ρ m' ρ' _ hagree
  refine ⟨fun c => Run.final2 m c,
    (θ_run Cert.KernelIdeal.defs _ _).mono (fun r h c => ⟨(h.1 c).2, (h.1 c).1⟩) (Run.run (F := Ideal) m (Final0.tabOk m) (Final1.tabOk m) ρ), ?_⟩
  refine (θ_run Cert.ReferenceIdeal.defs _ _).mono (fun _ h c => ⟨(h c).1.trans ?_, (h c).2⟩)
    (Cert.ReferenceIdeal.Value.run (F := Ideal) m' ρ')
  exact same m c (StableHlo.launchContents m' c) (hagree c).1 (hagree c).2.1 (hagree c).2.2.1 (hagree c).2.2.2

end Cert.Proof.Claims

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Linear
public import proofs.«01_k».proof.Proof.Gen.Linear.Skeleton
public import proofs.«01_k».proof.Proof.Gen.Linear.Launch
public import proofs.«01_k».proof.Proof.Gen.Linear.Points
public import proofs.«01_k».proof.Proof.Gen.Linear.Frame
public import proofs.«01_k».proof.Proof.Gen.LinearIdeal
public import proofs.«01_k».proof.Proof.Gen.LinearIdeal.Skeleton
public import proofs.«01_k».proof.Proof.Gen.LinearIdeal.Launch
public import proofs.«01_k».proof.Proof.Gen.LinearIdeal.Points
public import proofs.«01_k».proof.Proof.Gen.LinearIdeal.Frame
public import proofs.«01_k».proof.Proof.Gen.LinearReferenceIdeal
public import proofs.«01_k».proof.Proof.Gen.LinearIdeal.Value
public import proofs.«01_k».proof.Proof.Gen.LinearReferenceIdeal.Run
public import proofs.«01_k».proof.Proof.LinearValue
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim := ⟨Cert.KernelIdeal.Gen.facts, Cert.ReferenceIdeal.Gen.facts, Cert.Linear.Gen.facts, Cert.LinearIdeal.Gen.facts,
  Cert.LinearReferenceIdeal.Gen.facts,
  Claims.frame_ki, Claims.frame_ri, LinearClaims.frame_k, LinearClaims.frame_ki, LinearClaims.frame_ri, Claims.algebraic, trivial,
  LinearClaims.algebraic⟩

end Cert.Proof

end
